-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_InProjKv (m : (ℓ : Loc Cert.InProjKv.nD Cert.InProjKv.τ Cert.InProjKv.sig) → Buf (Elt Bits) ℓ) : Prop :=
  True

def Pre_InProjKvIdeal (m : (ℓ : Loc Cert.InProjKvIdeal.nD Cert.InProjKvIdeal.τ Cert.InProjKvIdeal.sig) → Buf (Elt Ideal) ℓ) : Prop :=
  True

def Pre_InProjKvRefIdeal (m : (ℓ : Loc Cert.InProjKvRefIdeal.nD Cert.InProjKvRefIdeal.τ Cert.InProjKvRefIdeal.sig) → Buf (Elt Ideal) ℓ) : Prop :=
  True

def Pre_Modulate (m : (ℓ : Loc Cert.Modulate.nD Cert.Modulate.τ Cert.Modulate.sig) → Buf (Elt Bits) ℓ) : Prop :=
  True

def Pre_ModulateIdeal (m : (ℓ : Loc Cert.ModulateIdeal.nD Cert.ModulateIdeal.τ Cert.ModulateIdeal.sig) → Buf (Elt Ideal) ℓ) : Prop :=
  True

def Pre_ModulateRefIdeal (m : (ℓ : Loc Cert.ModulateRefIdeal.nD Cert.ModulateRefIdeal.τ Cert.ModulateRefIdeal.sig) → Buf (Elt Ideal) ℓ) : Prop :=
  True

def Pre_PrepHy (m : (ℓ : Loc Cert.PrepHy.nD Cert.PrepHy.τ Cert.PrepHy.sig) → Buf (Elt Bits) ℓ) : Prop :=
  True

def Pre_PrepHyIdeal (m : (ℓ : Loc Cert.PrepHyIdeal.nD Cert.PrepHyIdeal.τ Cert.PrepHyIdeal.sig) → Buf (Elt Ideal) ℓ) : Prop :=
  True

def Pre_PrepHyRefIdeal (m : (ℓ : Loc Cert.PrepHyRefIdeal.nD Cert.PrepHyRefIdeal.τ Cert.PrepHyRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_PrepRet (m : (ℓ : Loc Cert.PrepRet.nD Cert.PrepRet.τ Cert.PrepRet.sig) → Buf (Elt Bits) ℓ) : Prop :=
  True

def Pre_PrepRetIdeal (m : (ℓ : Loc Cert.PrepRetIdeal.nD Cert.PrepRetIdeal.τ Cert.PrepRetIdeal.sig) → Buf (Elt Ideal) ℓ) : Prop :=
  True

def Pre_PrepRetRefIdeal (m : (ℓ : Loc Cert.PrepRetRefIdeal.nD Cert.PrepRetRefIdeal.τ Cert.PrepRetRefIdeal.sig) → Buf (Elt Ideal) ℓ) : Prop :=
  True

def Pre_CastKv (m : (ℓ : Loc Cert.CastKv.nD Cert.CastKv.τ Cert.CastKv.sig) → Buf (Elt Bits) ℓ) : Prop :=
  True

def Pre_CastKvIdeal (m : (ℓ : Loc Cert.CastKvIdeal.nD Cert.CastKvIdeal.τ Cert.CastKvIdeal.sig) → Buf (Elt Ideal) ℓ) : Prop :=
  True

def Pre_CastKvRefIdeal (m : (ℓ : Loc Cert.CastKvRefIdeal.nD Cert.CastKvRefIdeal.τ Cert.CastKvRefIdeal.sig) → Buf (Elt Ideal) ℓ) : Prop :=
  True

def Pre_CastOut (m : (ℓ : Loc Cert.CastOut.nD Cert.CastOut.τ Cert.CastOut.sig) → Buf (Elt Bits) ℓ) : Prop :=
  True

def Pre_CastOutIdeal (m : (ℓ : Loc Cert.CastOutIdeal.nD Cert.CastOutIdeal.τ Cert.CastOutIdeal.sig) → Buf (Elt Ideal) ℓ) : Prop :=
  True

def Pre_CastOutRefIdeal (m : (ℓ : Loc Cert.CastOutRefIdeal.nD Cert.CastOutRefIdeal.τ Cert.CastOutRefIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5)
      ∧ r.2.mem ((c.tc : Thread Cert.OutProj.nD Cert.OutProj.τ).loc Cert.OutProj.main_arg6) = m ((c.tc : Thread Cert.OutProj.nD Cert.OutProj.τ).loc Cert.OutProj.main_arg6)
      ∧ r.2.mem ((c.tc : Thread Cert.OutProj.nD Cert.OutProj.τ).loc Cert.OutProj.main_arg7) = m ((c.tc : Thread Cert.OutProj.nD Cert.OutProj.τ).loc Cert.OutProj.main_arg7)
      ∧ r.2.mem ((c.tc : Thread Cert.OutProj.nD Cert.OutProj.τ).loc Cert.OutProj.main_arg8) = m ((c.tc : Thread Cert.OutProj.nD Cert.OutProj.τ).loc Cert.OutProj.main_arg8))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
      ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
      ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
      ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5)
      ∧ r.2.mem ((c.tc : Thread Cert.OutProjRefIdeal.nD Cert.OutProjRefIdeal.τ).loc Cert.OutProjRefIdeal.main_arg6) = m ((c.tc : Thread Cert.OutProjRefIdeal.nD Cert.OutProjRefIdeal.τ).loc Cert.OutProjRefIdeal.main_arg6)
      ∧ r.2.mem ((c.tc : Thread Cert.OutProjRefIdeal.nD Cert.OutProjRefIdeal.τ).loc Cert.OutProjRefIdeal.main_arg7) = m ((c.tc : Thread Cert.OutProjRefIdeal.nD Cert.OutProjRefIdeal.τ).loc Cert.OutProjRefIdeal.main_arg7)
      ∧ r.2.mem ((c.tc : Thread Cert.OutProjRefIdeal.nD Cert.OutProjRefIdeal.τ).loc Cert.OutProjRefIdeal.main_arg8) = m ((c.tc : Thread Cert.OutProjRefIdeal.nD Cert.OutProjRefIdeal.τ).loc Cert.OutProjRefIdeal.main_arg8))
      ∧ r.2.sem = fun _ => 0)

def quiescent_InProjKv [hInProjKv : Cert.InProjKv.Facts] : Prop :=
  ∀ (m : (ℓ : Loc Cert.InProjKv.nD Cert.InProjKv.τ Cert.InProjKv.sig) → Buf (Elt Bits) ℓ) (g : Dev Cert.InProjKv.nD → PrngReg), Pre_InProjKv m →
    θ_run (Cert.InProjKv.defs (F := Bits)) (onTc (τ := Cert.InProjKv.τ) (Cert.InProjKv.main (F := Bits))) ⟨m, fun _ => 0, g⟩ (fun r => (∀ c : Dev Cert.InProjKv.nD,
      r.2.mem ((c.tc : Thread Cert.InProjKv.nD Cert.InProjKv.τ).loc Cert.InProjKv.main_arg0) = m ((c.tc : Thread Cert.InProjKv.nD Cert.InProjKv.τ).loc Cert.InProjKv.main_arg0)
      ∧ r.2.mem ((c.tc : Thread Cert.InProjKv.nD Cert.InProjKv.τ).loc Cert.InProjKv.main_arg1) = m ((c.tc : Thread Cert.InProjKv.nD Cert.InProjKv.τ).loc Cert.InProjKv.main_arg1))
      ∧ r.2.sem = fun _ => 0)

def quiescent_InProjKvIdeal [hInProjKvIdeal : Cert.InProjKvIdeal.Facts] : Prop :=
  ∀ (m : (ℓ : Loc Cert.InProjKvIdeal.nD Cert.InProjKvIdeal.τ Cert.InProjKvIdeal.sig) → Buf (Elt Ideal) ℓ) (g : Dev Cert.InProjKvIdeal.nD → PrngReg), Pre_InProjKvIdeal m →
    θ_run (Cert.InProjKvIdeal.defs (F := Ideal)) (onTc (τ := Cert.InProjKvIdeal.τ) (Cert.InProjKvIdeal.main (F := Ideal))) ⟨m, fun _ => 0, g⟩ (fun r => (∀ c : Dev Cert.InProjKvIdeal.nD,
      r.2.mem ((c.tc : Thread Cert.InProjKvIdeal.nD Cert.InProjKvIdeal.τ).loc Cert.InProjKvIdeal.main_arg0) = m ((c.tc : Thread Cert.InProjKvIdeal.nD Cert.InProjKvIdeal.τ).loc Cert.InProjKvIdeal.main_arg0)
      ∧ r.2.mem ((c.tc : Thread Cert.InProjKvIdeal.nD Cert.InProjKvIdeal.τ).loc Cert.InProjKvIdeal.main_arg1) = m ((c.tc : Thread Cert.InProjKvIdeal.nD Cert.InProjKvIdeal.τ).loc Cert.InProjKvIdeal.main_arg1))
      ∧ r.2.sem = fun _ => 0)

def quiescent_InProjKvRefIdeal [hInProjKvRefIdeal : Cert.InProjKvRefIdeal.Facts] : Prop :=
  ∀ (m : (ℓ : Loc Cert.InProjKvRefIdeal.nD Cert.InProjKvRefIdeal.τ Cert.InProjKvRefIdeal.sig) → Buf (Elt Ideal) ℓ) (g : Dev Cert.InProjKvRefIdeal.nD → PrngReg), Pre_InProjKvRefIdeal m →
    θ_run (Cert.InProjKvRefIdeal.defs (F := Ideal)) (onTc (τ := Cert.InProjKvRefIdeal.τ) (Cert.InProjKvRefIdeal.main (F := Ideal))) ⟨m, fun _ => 0, g⟩ (fun r => (∀ c : Dev Cert.InProjKvRefIdeal.nD,
      r.2.mem ((c.tc : Thread Cert.InProjKvRefIdeal.nD Cert.InProjKvRefIdeal.τ).loc Cert.InProjKvRefIdeal.main_arg0) = m ((c.tc : Thread Cert.InProjKvRefIdeal.nD Cert.InProjKvRefIdeal.τ).loc Cert.InProjKvRefIdeal.main_arg0)
      ∧ r.2.mem ((c.tc : Thread Cert.InProjKvRefIdeal.nD Cert.InProjKvRefIdeal.τ).loc Cert.InProjKvRefIdeal.main_arg1) = m ((c.tc : Thread Cert.InProjKvRefIdeal.nD Cert.InProjKvRefIdeal.τ).loc Cert.InProjKvRefIdeal.main_arg1))
      ∧ r.2.sem = fun _ => 0)

def quiescent_Modulate [hModulate : Cert.Modulate.Facts] : Prop :=
  ∀ (m : (ℓ : Loc Cert.Modulate.nD Cert.Modulate.τ Cert.Modulate.sig) → Buf (Elt Bits) ℓ) (g : Dev Cert.Modulate.nD → PrngReg), Pre_Modulate m →
    θ_run (Cert.Modulate.defs (F := Bits)) (onTc (τ := Cert.Modulate.τ) (Cert.Modulate.main (F := Bits))) ⟨m, fun _ => 0, g⟩ (fun r => (∀ c : Dev Cert.Modulate.nD,
      r.2.mem ((c.tc : Thread Cert.Modulate.nD Cert.Modulate.τ).loc Cert.Modulate.main_arg0) = m ((c.tc : Thread Cert.Modulate.nD Cert.Modulate.τ).loc Cert.Modulate.main_arg0)
      ∧ r.2.mem ((c.tc : Thread Cert.Modulate.nD Cert.Modulate.τ).loc Cert.Modulate.main_arg1) = m ((c.tc : Thread Cert.Modulate.nD Cert.Modulate.τ).loc Cert.Modulate.main_arg1)
      ∧ r.2.mem ((c.tc : Thread Cert.Modulate.nD Cert.Modulate.τ).loc Cert.Modulate.main_arg2) = m ((c.tc : Thread Cert.Modulate.nD Cert.Modulate.τ).loc Cert.Modulate.main_arg2))
      ∧ r.2.sem = fun _ => 0)

def quiescent_ModulateIdeal [hModulateIdeal : Cert.ModulateIdeal.Facts] : Prop :=
  ∀ (m : (ℓ : Loc Cert.ModulateIdeal.nD Cert.ModulateIdeal.τ Cert.ModulateIdeal.sig) → Buf (Elt Ideal) ℓ) (g : Dev Cert.ModulateIdeal.nD → PrngReg), Pre_ModulateIdeal m →
    θ_run (Cert.ModulateIdeal.defs (F := Ideal)) (onTc (τ := Cert.ModulateIdeal.τ) (Cert.ModulateIdeal.main (F := Ideal))) ⟨m, fun _ => 0, g⟩ (fun r => (∀ c : Dev Cert.ModulateIdeal.nD,
      r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
      ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
      ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ r.2.sem = fun _ => 0)

def quiescent_ModulateRefIdeal [hModulateRefIdeal : Cert.ModulateRefIdeal.Facts] : Prop :=
  ∀ (m : (ℓ : Loc Cert.ModulateRefIdeal.nD Cert.ModulateRefIdeal.τ Cert.ModulateRefIdeal.sig) → Buf (Elt Ideal) ℓ) (g : Dev Cert.ModulateRefIdeal.nD → PrngReg), Pre_ModulateRefIdeal m →
    θ_run (Cert.ModulateRefIdeal.defs (F := Ideal)) (onTc (τ := Cert.ModulateRefIdeal.τ) (Cert.ModulateRefIdeal.main (F := Ideal))) ⟨m, fun _ => 0, g⟩ (fun r => (∀ c : Dev Cert.ModulateRefIdeal.nD,
      r.2.mem ((c.tc : Thread Cert.ModulateRefIdeal.nD Cert.ModulateRefIdeal.τ).loc Cert.ModulateRefIdeal.main_arg0) = m ((c.tc : Thread Cert.ModulateRefIdeal.nD Cert.ModulateRefIdeal.τ).loc Cert.ModulateRefIdeal.main_arg0)
      ∧ r.2.mem ((c.tc : Thread Cert.ModulateRefIdeal.nD Cert.ModulateRefIdeal.τ).loc Cert.ModulateRefIdeal.main_arg1) = m ((c.tc : Thread Cert.ModulateRefIdeal.nD Cert.ModulateRefIdeal.τ).loc Cert.ModulateRefIdeal.main_arg1)
      ∧ r.2.mem ((c.tc : Thread Cert.ModulateRefIdeal.nD Cert.ModulateRefIdeal.τ).loc Cert.ModulateRefIdeal.main_arg2) = m ((c.tc : Thread Cert.ModulateRefIdeal.nD Cert.ModulateRefIdeal.τ).loc Cert.ModulateRefIdeal.main_arg2))
      ∧ r.2.sem = fun _ => 0)

def quiescent_PrepHy [hPrepHy : Cert.PrepHy.Facts] : Prop :=
  ∀ (m : (ℓ : Loc Cert.PrepHy.nD Cert.PrepHy.τ Cert.PrepHy.sig) → Buf (Elt Bits) ℓ) (g : Dev Cert.PrepHy.nD → PrngReg), Pre_PrepHy m →
    θ_run (Cert.PrepHy.defs (F := Bits)) (onTc (τ := Cert.PrepHy.τ) (Cert.PrepHy.main (F := Bits))) ⟨m, fun _ => 0, g⟩ (fun r => (∀ c : Dev Cert.PrepHy.nD,
      r.2.mem ((c.tc : Thread Cert.PrepHy.nD Cert.PrepHy.τ).loc Cert.PrepHy.main_arg0) = m ((c.tc : Thread Cert.PrepHy.nD Cert.PrepHy.τ).loc Cert.PrepHy.main_arg0)
      ∧ r.2.mem ((c.tc : Thread Cert.PrepHy.nD Cert.PrepHy.τ).loc Cert.PrepHy.main_arg1) = m ((c.tc : Thread Cert.PrepHy.nD Cert.PrepHy.τ).loc Cert.PrepHy.main_arg1)
      ∧ r.2.mem ((c.tc : Thread Cert.PrepHy.nD Cert.PrepHy.τ).loc Cert.PrepHy.main_arg2) = m ((c.tc : Thread Cert.PrepHy.nD Cert.PrepHy.τ).loc Cert.PrepHy.main_arg2))
      ∧ r.2.sem = fun _ => 0)

def quiescent_PrepHyIdeal [hPrepHyIdeal : Cert.PrepHyIdeal.Facts] : Prop :=
  ∀ (m : (ℓ : Loc Cert.PrepHyIdeal.nD Cert.PrepHyIdeal.τ Cert.PrepHyIdeal.sig) → Buf (Elt Ideal) ℓ) (g : Dev Cert.PrepHyIdeal.nD → PrngReg), Pre_PrepHyIdeal m →
    θ_run (Cert.PrepHyIdeal.defs (F := Ideal)) (onTc (τ := Cert.PrepHyIdeal.τ) (Cert.PrepHyIdeal.main (F := Ideal))) ⟨m, fun _ => 0, g⟩ (fun r => (∀ c : Dev Cert.PrepHyIdeal.nD,
      r.2.mem ((c.tc : Thread Cert.PrepHyIdeal.nD Cert.PrepHyIdeal.τ).loc Cert.PrepHyIdeal.main_arg0) = m ((c.tc : Thread Cert.PrepHyIdeal.nD Cert.PrepHyIdeal.τ).loc Cert.PrepHyIdeal.main_arg0)
      ∧ r.2.mem ((c.tc : Thread Cert.PrepHyIdeal.nD Cert.PrepHyIdeal.τ).loc Cert.PrepHyIdeal.main_arg1) = m ((c.tc : Thread Cert.PrepHyIdeal.nD Cert.PrepHyIdeal.τ).loc Cert.PrepHyIdeal.main_arg1)
      ∧ r.2.mem ((c.tc : Thread Cert.PrepHyIdeal.nD Cert.PrepHyIdeal.τ).loc Cert.PrepHyIdeal.main_arg2) = m ((c.tc : Thread Cert.PrepHyIdeal.nD Cert.PrepHyIdeal.τ).loc Cert.PrepHyIdeal.main_arg2))
      ∧ r.2.sem = fun _ => 0)

def quiescent_PrepHyRefIdeal [hPrepHyRefIdeal : Cert.PrepHyRefIdeal.Facts] : Prop :=
  ∀ (m : (ℓ : Loc Cert.PrepHyRefIdeal.nD Cert.PrepHyRefIdeal.τ Cert.PrepHyRefIdeal.sig) → Buf (Elt Ideal) ℓ) (g : Dev Cert.PrepHyRefIdeal.nD → PrngReg), Pre_PrepHyRefIdeal m →
    θ_run (Cert.PrepHyRefIdeal.defs (F := Ideal)) (onTc (τ := Cert.PrepHyRefIdeal.τ) (Cert.PrepHyRefIdeal.main (F := Ideal))) ⟨m, fun _ => 0, g⟩ (fun r => (∀ c : Dev Cert.PrepHyRefIdeal.nD,
      r.2.mem ((c.tc : Thread Cert.PrepHyRefIdeal.nD Cert.PrepHyRefIdeal.τ).loc Cert.PrepHyRefIdeal.main_arg0) = m ((c.tc : Thread Cert.PrepHyRefIdeal.nD Cert.PrepHyRefIdeal.τ).loc Cert.PrepHyRefIdeal.main_arg0)
      ∧ r.2.mem ((c.tc : Thread Cert.PrepHyRefIdeal.nD Cert.PrepHyRefIdeal.τ).loc Cert.PrepHyRefIdeal.main_arg1) = m ((c.tc : Thread Cert.PrepHyRefIdeal.nD Cert.PrepHyRefIdeal.τ).loc Cert.PrepHyRefIdeal.main_arg1)
      ∧ r.2.mem ((c.tc : Thread Cert.PrepHyRefIdeal.nD Cert.PrepHyRefIdeal.τ).loc Cert.PrepHyRefIdeal.main_arg2) = m ((c.tc : Thread Cert.PrepHyRefIdeal.nD Cert.PrepHyRefIdeal.τ).loc Cert.PrepHyRefIdeal.main_arg2))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_PrepRet [hPrepRet : Cert.PrepRet.Facts] : Prop :=
  ∀ (m : (ℓ : Loc Cert.PrepRet.nD Cert.PrepRet.τ Cert.PrepRet.sig) → Buf (Elt Bits) ℓ) (g : Dev Cert.PrepRet.nD → PrngReg), Pre_PrepRet m →
    θ_run (Cert.PrepRet.defs (F := Bits)) (onTc (τ := Cert.PrepRet.τ) (Cert.PrepRet.main (F := Bits))) ⟨m, fun _ => 0, g⟩ (fun r => (∀ c : Dev Cert.PrepRet.nD,
      r.2.mem ((c.tc : Thread Cert.PrepRet.nD Cert.PrepRet.τ).loc Cert.PrepRet.main_arg0) = m ((c.tc : Thread Cert.PrepRet.nD Cert.PrepRet.τ).loc Cert.PrepRet.main_arg0)
      ∧ r.2.mem ((c.tc : Thread Cert.PrepRet.nD Cert.PrepRet.τ).loc Cert.PrepRet.main_arg1) = m ((c.tc : Thread Cert.PrepRet.nD Cert.PrepRet.τ).loc Cert.PrepRet.main_arg1))
      ∧ r.2.sem = fun _ => 0)

def quiescent_PrepRetIdeal [hPrepRetIdeal : Cert.PrepRetIdeal.Facts] : Prop :=
  ∀ (m : (ℓ : Loc Cert.PrepRetIdeal.nD Cert.PrepRetIdeal.τ Cert.PrepRetIdeal.sig) → Buf (Elt Ideal) ℓ) (g : Dev Cert.PrepRetIdeal.nD → PrngReg), Pre_PrepRetIdeal m →
    θ_run (Cert.PrepRetIdeal.defs (F := Ideal)) (onTc (τ := Cert.PrepRetIdeal.τ) (Cert.PrepRetIdeal.main (F := Ideal))) ⟨m, fun _ => 0, g⟩ (fun r => (∀ c : Dev Cert.PrepRetIdeal.nD,
      r.2.mem ((c.tc : Thread Cert.PrepRetIdeal.nD Cert.PrepRetIdeal.τ).loc Cert.PrepRetIdeal.main_arg0) = m ((c.tc : Thread Cert.PrepRetIdeal.nD Cert.PrepRetIdeal.τ).loc Cert.PrepRetIdeal.main_arg0)
      ∧ r.2.mem ((c.tc : Thread Cert.PrepRetIdeal.nD Cert.PrepRetIdeal.τ).loc Cert.PrepRetIdeal.main_arg1) = m ((c.tc : Thread Cert.PrepRetIdeal.nD Cert.PrepRetIdeal.τ).loc Cert.PrepRetIdeal.main_arg1))
      ∧ r.2.sem = fun _ => 0)

def quiescent_PrepRetRefIdeal [hPrepRetRefIdeal : Cert.PrepRetRefIdeal.Facts] : Prop :=
  ∀ (m : (ℓ : Loc Cert.PrepRetRefIdeal.nD Cert.PrepRetRefIdeal.τ Cert.PrepRetRefIdeal.sig) → Buf (Elt Ideal) ℓ) (g : Dev Cert.PrepRetRefIdeal.nD → PrngReg), Pre_PrepRetRefIdeal m →
    θ_run (Cert.PrepRetRefIdeal.defs (F := Ideal)) (onTc (τ := Cert.PrepRetRefIdeal.τ) (Cert.PrepRetRefIdeal.main (F := Ideal))) ⟨m, fun _ => 0, g⟩ (fun r => (∀ c : Dev Cert.PrepRetRefIdeal.nD,
      r.2.mem ((c.tc : Thread Cert.PrepRetRefIdeal.nD Cert.PrepRetRefIdeal.τ).loc Cert.PrepRetRefIdeal.main_arg0) = m ((c.tc : Thread Cert.PrepRetRefIdeal.nD Cert.PrepRetRefIdeal.τ).loc Cert.PrepRetRefIdeal.main_arg0)
      ∧ r.2.mem ((c.tc : Thread Cert.PrepRetRefIdeal.nD Cert.PrepRetRefIdeal.τ).loc Cert.PrepRetRefIdeal.main_arg1) = m ((c.tc : Thread Cert.PrepRetRefIdeal.nD Cert.PrepRetRefIdeal.τ).loc Cert.PrepRetRefIdeal.main_arg1))
      ∧ r.2.sem = fun _ => 0)

def quiescent_CastKv [hCastKv : Cert.CastKv.Facts] : Prop :=
  ∀ (m : (ℓ : Loc Cert.CastKv.nD Cert.CastKv.τ Cert.CastKv.sig) → Buf (Elt Bits) ℓ) (g : Dev Cert.CastKv.nD → PrngReg), Pre_CastKv m →
    θ_run (Cert.CastKv.defs (F := Bits)) (onTc (τ := Cert.CastKv.τ) (Cert.CastKv.main (F := Bits))) ⟨m, fun _ => 0, g⟩ (fun r => (∀ c : Dev Cert.CastKv.nD,
      r.2.mem ((c.tc : Thread Cert.CastKv.nD Cert.CastKv.τ).loc Cert.CastKv.main_arg0) = m ((c.tc : Thread Cert.CastKv.nD Cert.CastKv.τ).loc Cert.CastKv.main_arg0))
      ∧ r.2.sem = fun _ => 0)

def quiescent_CastKvIdeal [hCastKvIdeal : Cert.CastKvIdeal.Facts] : Prop :=
  ∀ (m : (ℓ : Loc Cert.CastKvIdeal.nD Cert.CastKvIdeal.τ Cert.CastKvIdeal.sig) → Buf (Elt Ideal) ℓ) (g : Dev Cert.CastKvIdeal.nD → PrngReg), Pre_CastKvIdeal m →
    θ_run (Cert.CastKvIdeal.defs (F := Ideal)) (onTc (τ := Cert.CastKvIdeal.τ) (Cert.CastKvIdeal.main (F := Ideal))) ⟨m, fun _ => 0, g⟩ (fun r => (∀ c : Dev Cert.CastKvIdeal.nD,
      r.2.mem ((c.tc : Thread Cert.CastKvIdeal.nD Cert.CastKvIdeal.τ).loc Cert.CastKvIdeal.main_arg0) = m ((c.tc : Thread Cert.CastKvIdeal.nD Cert.CastKvIdeal.τ).loc Cert.CastKvIdeal.main_arg0))
      ∧ r.2.sem = fun _ => 0)

def quiescent_CastKvRefIdeal [hCastKvRefIdeal : Cert.CastKvRefIdeal.Facts] : Prop :=
  ∀ (m : (ℓ : Loc Cert.CastKvRefIdeal.nD Cert.CastKvRefIdeal.τ Cert.CastKvRefIdeal.sig) → Buf (Elt Ideal) ℓ) (g : Dev Cert.CastKvRefIdeal.nD → PrngReg), Pre_CastKvRefIdeal m →
    θ_run (Cert.CastKvRefIdeal.defs (F := Ideal)) (onTc (τ := Cert.CastKvRefIdeal.τ) (Cert.CastKvRefIdeal.main (F := Ideal))) ⟨m, fun _ => 0, g⟩ (fun r => (∀ c : Dev Cert.CastKvRefIdeal.nD,
      r.2.mem ((c.tc : Thread Cert.CastKvRefIdeal.nD Cert.CastKvRefIdeal.τ).loc Cert.CastKvRefIdeal.main_arg0) = m ((c.tc : Thread Cert.CastKvRefIdeal.nD Cert.CastKvRefIdeal.τ).loc Cert.CastKvRefIdeal.main_arg0))
      ∧ r.2.sem = fun _ => 0)

def quiescent_CastOut [hCastOut : Cert.CastOut.Facts] : Prop :=
  ∀ (m : (ℓ : Loc Cert.CastOut.nD Cert.CastOut.τ Cert.CastOut.sig) → Buf (Elt Bits) ℓ) (g : Dev Cert.CastOut.nD → PrngReg), Pre_CastOut m →
    θ_run (Cert.CastOut.defs (F := Bits)) (onTc (τ := Cert.CastOut.τ) (Cert.CastOut.main (F := Bits))) ⟨m, fun _ => 0, g⟩ (fun r => (∀ c : Dev Cert.CastOut.nD,
      r.2.mem ((c.tc : Thread Cert.CastOut.nD Cert.CastOut.τ).loc Cert.CastOut.main_arg0) = m ((c.tc : Thread Cert.CastOut.nD Cert.CastOut.τ).loc Cert.CastOut.main_arg0))
      ∧ r.2.sem = fun _ => 0)

def quiescent_CastOutIdeal [hCastOutIdeal : Cert.CastOutIdeal.Facts] : Prop :=
  ∀ (m : (ℓ : Loc Cert.CastOutIdeal.nD Cert.CastOutIdeal.τ Cert.CastOutIdeal.sig) → Buf (Elt Ideal) ℓ) (g : Dev Cert.CastOutIdeal.nD → PrngReg), Pre_CastOutIdeal m →
    θ_run (Cert.CastOutIdeal.defs (F := Ideal)) (onTc (τ := Cert.CastOutIdeal.τ) (Cert.CastOutIdeal.main (F := Ideal))) ⟨m, fun _ => 0, g⟩ (fun r => (∀ c : Dev Cert.CastOutIdeal.nD,
      r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ r.2.sem = fun _ => 0)

def quiescent_CastOutRefIdeal [hCastOutRefIdeal : Cert.CastOutRefIdeal.Facts] : Prop :=
  ∀ (m : (ℓ : Loc Cert.CastOutRefIdeal.nD Cert.CastOutRefIdeal.τ Cert.CastOutRefIdeal.sig) → Buf (Elt Ideal) ℓ) (g : Dev Cert.CastOutRefIdeal.nD → PrngReg), Pre_CastOutRefIdeal m →
    θ_run (Cert.CastOutRefIdeal.defs (F := Ideal)) (onTc (τ := Cert.CastOutRefIdeal.τ) (Cert.CastOutRefIdeal.main (F := Ideal))) ⟨m, fun _ => 0, g⟩ (fun r => (∀ c : Dev Cert.CastOutRefIdeal.nD,
      r.2.mem ((c.tc : Thread Cert.CastOutRefIdeal.nD Cert.CastOutRefIdeal.τ).loc Cert.CastOutRefIdeal.main_arg0) = m ((c.tc : Thread Cert.CastOutRefIdeal.nD Cert.CastOutRefIdeal.τ).loc Cert.CastOutRefIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)) (v1 : (c : Dev Cert.KernelIdeal.nD) → Buf (Elt Ideal) ((c.tc : Thread Cert.KernelIdeal.nD Cert.KernelIdeal.τ).loc Cert.KernelIdeal.main_v2_2)) (v2 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_v2_2) = v1 c
          ∧ r.2.mem ((c.tc : Thread Cert.KernelIdeal.nD Cert.KernelIdeal.τ).loc Cert.KernelIdeal.main_v2_3) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v95) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_v70) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)) →
    ∃ (v0 : (c : Dev Cert.InProjIdeal.nD) → Buf (Elt Ideal) ((c.tc : Thread Cert.InProjIdeal.nD Cert.InProjIdeal.τ).loc Cert.InProjIdeal.main_v1)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v1) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v5) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)
      ∧ m' ((c.tc : Thread Cert.OutProjRefIdeal.nD Cert.OutProjRefIdeal.τ).loc Cert.OutProjRefIdeal.main_arg6) = m ((c.tc : Thread Cert.OutProjIdeal.nD Cert.OutProjIdeal.τ).loc Cert.OutProjIdeal.main_arg6)
      ∧ m' ((c.tc : Thread Cert.OutProjRefIdeal.nD Cert.OutProjRefIdeal.τ).loc Cert.OutProjRefIdeal.main_arg7) = m ((c.tc : Thread Cert.OutProjIdeal.nD Cert.OutProjIdeal.τ).loc Cert.OutProjIdeal.main_arg7)
      ∧ m' ((c.tc : Thread Cert.OutProjRefIdeal.nD Cert.OutProjRefIdeal.τ).loc Cert.OutProjRefIdeal.main_arg8) = m ((c.tc : Thread Cert.OutProjIdeal.nD Cert.OutProjIdeal.τ).loc Cert.OutProjIdeal.main_arg8)) →
    ∃ (v0 : (c : Dev Cert.OutProjIdeal.nD) → Buf (Elt Ideal) ((c.tc : Thread Cert.OutProjIdeal.nD Cert.OutProjIdeal.τ).loc Cert.OutProjIdeal.main_v2)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v2) = v0 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5)
          ∧ r.2.mem ((c.tc : Thread Cert.OutProjIdeal.nD Cert.OutProjIdeal.τ).loc Cert.OutProjIdeal.main_arg6) = m ((c.tc : Thread Cert.OutProjIdeal.nD Cert.OutProjIdeal.τ).loc Cert.OutProjIdeal.main_arg6)
          ∧ r.2.mem ((c.tc : Thread Cert.OutProjIdeal.nD Cert.OutProjIdeal.τ).loc Cert.OutProjIdeal.main_arg7) = m ((c.tc : Thread Cert.OutProjIdeal.nD Cert.OutProjIdeal.τ).loc Cert.OutProjIdeal.main_arg7)
          ∧ r.2.mem ((c.tc : Thread Cert.OutProjIdeal.nD Cert.OutProjIdeal.τ).loc Cert.OutProjIdeal.main_arg8) = m ((c.tc : Thread Cert.OutProjIdeal.nD Cert.OutProjIdeal.τ).loc Cert.OutProjIdeal.main_arg8))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v34) = v0 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5)
          ∧ r.2.mem ((c.tc : Thread Cert.OutProjRefIdeal.nD Cert.OutProjRefIdeal.τ).loc Cert.OutProjRefIdeal.main_arg6) = m' ((c.tc : Thread Cert.OutProjRefIdeal.nD Cert.OutProjRefIdeal.τ).loc Cert.OutProjRefIdeal.main_arg6)
          ∧ r.2.mem ((c.tc : Thread Cert.OutProjRefIdeal.nD Cert.OutProjRefIdeal.τ).loc Cert.OutProjRefIdeal.main_arg7) = m' ((c.tc : Thread Cert.OutProjRefIdeal.nD Cert.OutProjRefIdeal.τ).loc Cert.OutProjRefIdeal.main_arg7)
          ∧ r.2.mem ((c.tc : Thread Cert.OutProjRefIdeal.nD Cert.OutProjRefIdeal.τ).loc Cert.OutProjRefIdeal.main_arg8) = m' ((c.tc : Thread Cert.OutProjRefIdeal.nD Cert.OutProjRefIdeal.τ).loc Cert.OutProjRefIdeal.main_arg8))

def preserves_InProjKv_InProjKvIdeal : Prop :=
  True

def algebraic_InProjKvIdeal_InProjKvRefIdeal [hInProjKvIdeal : Cert.InProjKvIdeal.Facts] [hInProjKvRefIdeal : Cert.InProjKvRefIdeal.Facts] : Prop :=
  ∀ (m : (ℓ : Loc Cert.InProjKvIdeal.nD Cert.InProjKvIdeal.τ Cert.InProjKvIdeal.sig) → Buf (Elt Ideal) ℓ) (g : Dev Cert.InProjKvIdeal.nD → PrngReg)
    (m' : (ℓ : Loc Cert.InProjKvRefIdeal.nD Cert.InProjKvRefIdeal.τ Cert.InProjKvRefIdeal.sig) → Buf (Elt Ideal) ℓ) (g' : Dev Cert.InProjKvRefIdeal.nD → PrngReg), Pre_InProjKvIdeal m →
    (∀ c : Dev Cert.InProjKvIdeal.nD,
      m' ((c.tc : Thread Cert.InProjKvRefIdeal.nD Cert.InProjKvRefIdeal.τ).loc Cert.InProjKvRefIdeal.main_arg0) = m ((c.tc : Thread Cert.InProjKvIdeal.nD Cert.InProjKvIdeal.τ).loc Cert.InProjKvIdeal.main_arg0)
      ∧ m' ((c.tc : Thread Cert.InProjKvRefIdeal.nD Cert.InProjKvRefIdeal.τ).loc Cert.InProjKvRefIdeal.main_arg1) = m ((c.tc : Thread Cert.InProjKvIdeal.nD Cert.InProjKvIdeal.τ).loc Cert.InProjKvIdeal.main_arg1)) →
    ∃ (v0 : (c : Dev Cert.InProjKvIdeal.nD) → Buf (Elt Ideal) ((c.tc : Thread Cert.InProjKvIdeal.nD Cert.InProjKvIdeal.τ).loc Cert.InProjKvIdeal.main_v0)),
      θ_run (Cert.InProjKvIdeal.defs (F := Ideal)) (onTc (τ := Cert.InProjKvIdeal.τ) (Cert.InProjKvIdeal.main (F := Ideal))) ⟨m, fun _ => 0, g⟩ (fun r => ∀ c : Dev Cert.InProjKvIdeal.nD,
          r.2.mem ((c.tc : Thread Cert.InProjKvIdeal.nD Cert.InProjKvIdeal.τ).loc Cert.InProjKvIdeal.main_v0) = v0 c
          ∧ r.2.mem ((c.tc : Thread Cert.InProjKvIdeal.nD Cert.InProjKvIdeal.τ).loc Cert.InProjKvIdeal.main_arg0) = m ((c.tc : Thread Cert.InProjKvIdeal.nD Cert.InProjKvIdeal.τ).loc Cert.InProjKvIdeal.main_arg0)
          ∧ r.2.mem ((c.tc : Thread Cert.InProjKvIdeal.nD Cert.InProjKvIdeal.τ).loc Cert.InProjKvIdeal.main_arg1) = m ((c.tc : Thread Cert.InProjKvIdeal.nD Cert.InProjKvIdeal.τ).loc Cert.InProjKvIdeal.main_arg1))
      ∧ θ_run (Cert.InProjKvRefIdeal.defs (F := Ideal)) (onTc (τ := Cert.InProjKvRefIdeal.τ) (Cert.InProjKvRefIdeal.main (F := Ideal))) ⟨m', fun _ => 0, g'⟩ (fun r => ∀ c : Dev Cert.InProjKvRefIdeal.nD,
          r.2.mem ((c.tc : Thread Cert.InProjKvRefIdeal.nD Cert.InProjKvRefIdeal.τ).loc Cert.InProjKvRefIdeal.main_v4) = v0 c
          ∧ r.2.mem ((c.tc : Thread Cert.InProjKvRefIdeal.nD Cert.InProjKvRefIdeal.τ).loc Cert.InProjKvRefIdeal.main_arg0) = m' ((c.tc : Thread Cert.InProjKvRefIdeal.nD Cert.InProjKvRefIdeal.τ).loc Cert.InProjKvRefIdeal.main_arg0)
          ∧ r.2.mem ((c.tc : Thread Cert.InProjKvRefIdeal.nD Cert.InProjKvRefIdeal.τ).loc Cert.InProjKvRefIdeal.main_arg1) = m' ((c.tc : Thread Cert.InProjKvRefIdeal.nD Cert.InProjKvRefIdeal.τ).loc Cert.InProjKvRefIdeal.main_arg1))

def preserves_Modulate_ModulateIdeal : Prop :=
  True

def algebraic_ModulateIdeal_ModulateRefIdeal [hModulateIdeal : Cert.ModulateIdeal.Facts] [hModulateRefIdeal : Cert.ModulateRefIdeal.Facts] : Prop :=
  ∀ (m : (ℓ : Loc Cert.ModulateIdeal.nD Cert.ModulateIdeal.τ Cert.ModulateIdeal.sig) → Buf (Elt Ideal) ℓ) (g : Dev Cert.ModulateIdeal.nD → PrngReg)
    (m' : (ℓ : Loc Cert.ModulateRefIdeal.nD Cert.ModulateRefIdeal.τ Cert.ModulateRefIdeal.sig) → Buf (Elt Ideal) ℓ) (g' : Dev Cert.ModulateRefIdeal.nD → PrngReg), Pre_ModulateIdeal m →
    (∀ c : Dev Cert.ModulateIdeal.nD,
      m' ((c.tc : Thread Cert.ModulateRefIdeal.nD Cert.ModulateRefIdeal.τ).loc Cert.ModulateRefIdeal.main_arg0) = m ((c.tc : Thread Cert.ModulateIdeal.nD Cert.ModulateIdeal.τ).loc Cert.ModulateIdeal.main_arg0)
      ∧ m' ((c.tc : Thread Cert.ModulateRefIdeal.nD Cert.ModulateRefIdeal.τ).loc Cert.ModulateRefIdeal.main_arg1) = m ((c.tc : Thread Cert.ModulateIdeal.nD Cert.ModulateIdeal.τ).loc Cert.ModulateIdeal.main_arg1)
      ∧ m' ((c.tc : Thread Cert.ModulateRefIdeal.nD Cert.ModulateRefIdeal.τ).loc Cert.ModulateRefIdeal.main_arg2) = m ((c.tc : Thread Cert.ModulateIdeal.nD Cert.ModulateIdeal.τ).loc Cert.ModulateIdeal.main_arg2)) →
    ∃ (v0 : (c : Dev Cert.ModulateIdeal.nD) → Buf (Elt Ideal) ((c.tc : Thread Cert.ModulateIdeal.nD Cert.ModulateIdeal.τ).loc Cert.ModulateIdeal.main_v0)),
      θ_run (Cert.ModulateIdeal.defs (F := Ideal)) (onTc (τ := Cert.ModulateIdeal.τ) (Cert.ModulateIdeal.main (F := Ideal))) ⟨m, fun _ => 0, g⟩ (fun r => ∀ c : Dev Cert.ModulateIdeal.nD,
          r.2.mem ((c.tc : Thread Cert.ModulateIdeal.nD Cert.ModulateIdeal.τ).loc Cert.ModulateIdeal.main_v0) = v0 c
          ∧ r.2.mem ((c.tc : Thread Cert.ModulateIdeal.nD Cert.ModulateIdeal.τ).loc Cert.ModulateIdeal.main_arg0) = m ((c.tc : Thread Cert.ModulateIdeal.nD Cert.ModulateIdeal.τ).loc Cert.ModulateIdeal.main_arg0)
          ∧ r.2.mem ((c.tc : Thread Cert.ModulateIdeal.nD Cert.ModulateIdeal.τ).loc Cert.ModulateIdeal.main_arg1) = m ((c.tc : Thread Cert.ModulateIdeal.nD Cert.ModulateIdeal.τ).loc Cert.ModulateIdeal.main_arg1)
          ∧ r.2.mem ((c.tc : Thread Cert.ModulateIdeal.nD Cert.ModulateIdeal.τ).loc Cert.ModulateIdeal.main_arg2) = m ((c.tc : Thread Cert.ModulateIdeal.nD Cert.ModulateIdeal.τ).loc Cert.ModulateIdeal.main_arg2))
      ∧ θ_run (Cert.ModulateRefIdeal.defs (F := Ideal)) (onTc (τ := Cert.ModulateRefIdeal.τ) (Cert.ModulateRefIdeal.main (F := Ideal))) ⟨m', fun _ => 0, g'⟩ (fun r => ∀ c : Dev Cert.ModulateRefIdeal.nD,
          r.2.mem ((c.tc : Thread Cert.ModulateRefIdeal.nD Cert.ModulateRefIdeal.τ).loc Cert.ModulateRefIdeal.main_v24) = v0 c
          ∧ r.2.mem ((c.tc : Thread Cert.ModulateRefIdeal.nD Cert.ModulateRefIdeal.τ).loc Cert.ModulateRefIdeal.main_arg0) = m' ((c.tc : Thread Cert.ModulateRefIdeal.nD Cert.ModulateRefIdeal.τ).loc Cert.ModulateRefIdeal.main_arg0)
          ∧ r.2.mem ((c.tc : Thread Cert.ModulateRefIdeal.nD Cert.ModulateRefIdeal.τ).loc Cert.ModulateRefIdeal.main_arg1) = m' ((c.tc : Thread Cert.ModulateRefIdeal.nD Cert.ModulateRefIdeal.τ).loc Cert.ModulateRefIdeal.main_arg1)
          ∧ r.2.mem ((c.tc : Thread Cert.ModulateRefIdeal.nD Cert.ModulateRefIdeal.τ).loc Cert.ModulateRefIdeal.main_arg2) = m' ((c.tc : Thread Cert.ModulateRefIdeal.nD Cert.ModulateRefIdeal.τ).loc Cert.ModulateRefIdeal.main_arg2))

def preserves_PrepHy_PrepHyIdeal : Prop :=
  True

def algebraic_PrepHyIdeal_PrepHyRefIdeal [hPrepHyIdeal : Cert.PrepHyIdeal.Facts] [hPrepHyRefIdeal : Cert.PrepHyRefIdeal.Facts] : Prop :=
  ∀ (m : (ℓ : Loc Cert.PrepHyIdeal.nD Cert.PrepHyIdeal.τ Cert.PrepHyIdeal.sig) → Buf (Elt Ideal) ℓ) (g : Dev Cert.PrepHyIdeal.nD → PrngReg)
    (m' : (ℓ : Loc Cert.PrepHyRefIdeal.nD Cert.PrepHyRefIdeal.τ Cert.PrepHyRefIdeal.sig) → Buf (Elt Ideal) ℓ) (g' : Dev Cert.PrepHyRefIdeal.nD → PrngReg), Pre_PrepHyIdeal m →
    (∀ c : Dev Cert.PrepHyIdeal.nD,
      m' ((c.tc : Thread Cert.PrepHyRefIdeal.nD Cert.PrepHyRefIdeal.τ).loc Cert.PrepHyRefIdeal.main_arg0) = m ((c.tc : Thread Cert.PrepHyIdeal.nD Cert.PrepHyIdeal.τ).loc Cert.PrepHyIdeal.main_arg0)
      ∧ m' ((c.tc : Thread Cert.PrepHyRefIdeal.nD Cert.PrepHyRefIdeal.τ).loc Cert.PrepHyRefIdeal.main_arg1) = m ((c.tc : Thread Cert.PrepHyIdeal.nD Cert.PrepHyIdeal.τ).loc Cert.PrepHyIdeal.main_arg1)
      ∧ m' ((c.tc : Thread Cert.PrepHyRefIdeal.nD Cert.PrepHyRefIdeal.τ).loc Cert.PrepHyRefIdeal.main_arg2) = m ((c.tc : Thread Cert.PrepHyIdeal.nD Cert.PrepHyIdeal.τ).loc Cert.PrepHyIdeal.main_arg2)) →
    ∃ (v0 : (c : Dev Cert.PrepHyIdeal.nD) → Buf (Elt Ideal) ((c.tc : Thread Cert.PrepHyIdeal.nD Cert.PrepHyIdeal.τ).loc Cert.PrepHyIdeal.main_v2_0)) (v1 : (c : Dev Cert.PrepHyIdeal.nD) → Buf (Elt Ideal) ((c.tc : Thread Cert.PrepHyIdeal.nD Cert.PrepHyIdeal.τ).loc Cert.PrepHyIdeal.main_v2_1)),
      θ_run (Cert.PrepHyIdeal.defs (F := Ideal)) (onTc (τ := Cert.PrepHyIdeal.τ) (Cert.PrepHyIdeal.main (F := Ideal))) ⟨m, fun _ => 0, g⟩ (fun r => ∀ c : Dev Cert.PrepHyIdeal.nD,
          r.2.mem ((c.tc : Thread Cert.PrepHyIdeal.nD Cert.PrepHyIdeal.τ).loc Cert.PrepHyIdeal.main_v2_0) = v0 c
          ∧ r.2.mem ((c.tc : Thread Cert.PrepHyIdeal.nD Cert.PrepHyIdeal.τ).loc Cert.PrepHyIdeal.main_v2_1) = v1 c
          ∧ r.2.mem ((c.tc : Thread Cert.PrepHyIdeal.nD Cert.PrepHyIdeal.τ).loc Cert.PrepHyIdeal.main_arg0) = m ((c.tc : Thread Cert.PrepHyIdeal.nD Cert.PrepHyIdeal.τ).loc Cert.PrepHyIdeal.main_arg0)
          ∧ r.2.mem ((c.tc : Thread Cert.PrepHyIdeal.nD Cert.PrepHyIdeal.τ).loc Cert.PrepHyIdeal.main_arg1) = m ((c.tc : Thread Cert.PrepHyIdeal.nD Cert.PrepHyIdeal.τ).loc Cert.PrepHyIdeal.main_arg1)
          ∧ r.2.mem ((c.tc : Thread Cert.PrepHyIdeal.nD Cert.PrepHyIdeal.τ).loc Cert.PrepHyIdeal.main_arg2) = m ((c.tc : Thread Cert.PrepHyIdeal.nD Cert.PrepHyIdeal.τ).loc Cert.PrepHyIdeal.main_arg2))
      ∧ θ_run (Cert.PrepHyRefIdeal.defs (F := Ideal)) (onTc (τ := Cert.PrepHyRefIdeal.τ) (Cert.PrepHyRefIdeal.main (F := Ideal))) ⟨m', fun _ => 0, g'⟩ (fun r => ∀ c : Dev Cert.PrepHyRefIdeal.nD,
          r.2.mem ((c.tc : Thread Cert.PrepHyRefIdeal.nD Cert.PrepHyRefIdeal.τ).loc Cert.PrepHyRefIdeal.main_v29) = v0 c
          ∧ r.2.mem ((c.tc : Thread Cert.PrepHyRefIdeal.nD Cert.PrepHyRefIdeal.τ).loc Cert.PrepHyRefIdeal.main_v32) = v1 c
          ∧ r.2.mem ((c.tc : Thread Cert.PrepHyRefIdeal.nD Cert.PrepHyRefIdeal.τ).loc Cert.PrepHyRefIdeal.main_arg0) = m' ((c.tc : Thread Cert.PrepHyRefIdeal.nD Cert.PrepHyRefIdeal.τ).loc Cert.PrepHyRefIdeal.main_arg0)
          ∧ r.2.mem ((c.tc : Thread Cert.PrepHyRefIdeal.nD Cert.PrepHyRefIdeal.τ).loc Cert.PrepHyRefIdeal.main_arg1) = m' ((c.tc : Thread Cert.PrepHyRefIdeal.nD Cert.PrepHyRefIdeal.τ).loc Cert.PrepHyRefIdeal.main_arg1)
          ∧ r.2.mem ((c.tc : Thread Cert.PrepHyRefIdeal.nD Cert.PrepHyRefIdeal.τ).loc Cert.PrepHyRefIdeal.main_arg2) = m' ((c.tc : Thread Cert.PrepHyRefIdeal.nD Cert.PrepHyRefIdeal.τ).loc Cert.PrepHyRefIdeal.main_arg2))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v2)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v2) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v143) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v1_0)) (v1 : (c : Dev Cert.MergeIdeal.nD) → Buf (Elt Ideal) ((c.tc : Thread Cert.MergeIdeal.nD Cert.MergeIdeal.τ).loc Cert.MergeIdeal.main_v1_1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1_0) = v0 c
          ∧ r.2.mem ((c.tc : Thread Cert.MergeIdeal.nD Cert.MergeIdeal.τ).loc Cert.MergeIdeal.main_v1_1) = v1 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v44) = v0 c
          ∧ r.2.mem ((c.tc : Thread Cert.MergeRefIdeal.nD Cert.MergeRefIdeal.τ).loc Cert.MergeRefIdeal.main_v45) = v1 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_PrepRet_PrepRetIdeal : Prop :=
  True

def algebraic_PrepRetIdeal_PrepRetRefIdeal [hPrepRetIdeal : Cert.PrepRetIdeal.Facts] [hPrepRetRefIdeal : Cert.PrepRetRefIdeal.Facts] : Prop :=
  ∀ (m : (ℓ : Loc Cert.PrepRetIdeal.nD Cert.PrepRetIdeal.τ Cert.PrepRetIdeal.sig) → Buf (Elt Ideal) ℓ) (g : Dev Cert.PrepRetIdeal.nD → PrngReg)
    (m' : (ℓ : Loc Cert.PrepRetRefIdeal.nD Cert.PrepRetRefIdeal.τ Cert.PrepRetRefIdeal.sig) → Buf (Elt Ideal) ℓ) (g' : Dev Cert.PrepRetRefIdeal.nD → PrngReg), Pre_PrepRetIdeal m →
    (∀ c : Dev Cert.PrepRetIdeal.nD,
      m' ((c.tc : Thread Cert.PrepRetRefIdeal.nD Cert.PrepRetRefIdeal.τ).loc Cert.PrepRetRefIdeal.main_arg0) = m ((c.tc : Thread Cert.PrepRetIdeal.nD Cert.PrepRetIdeal.τ).loc Cert.PrepRetIdeal.main_arg0)
      ∧ m' ((c.tc : Thread Cert.PrepRetRefIdeal.nD Cert.PrepRetRefIdeal.τ).loc Cert.PrepRetRefIdeal.main_arg1) = m ((c.tc : Thread Cert.PrepRetIdeal.nD Cert.PrepRetIdeal.τ).loc Cert.PrepRetIdeal.main_arg1)) →
    ∃ (v0 : (c : Dev Cert.PrepRetIdeal.nD) → Buf (Elt Ideal) ((c.tc : Thread Cert.PrepRetIdeal.nD Cert.PrepRetIdeal.τ).loc Cert.PrepRetIdeal.main_v31_0)) (v1 : (c : Dev Cert.PrepRetIdeal.nD) → Buf (Elt Ideal) ((c.tc : Thread Cert.PrepRetIdeal.nD Cert.PrepRetIdeal.τ).loc Cert.PrepRetIdeal.main_v31_1)) (v2 : (c : Dev Cert.PrepRetIdeal.nD) → Buf (Elt Ideal) ((c.tc : Thread Cert.PrepRetIdeal.nD Cert.PrepRetIdeal.τ).loc Cert.PrepRetIdeal.main_v31_2)),
      θ_run (Cert.PrepRetIdeal.defs (F := Ideal)) (onTc (τ := Cert.PrepRetIdeal.τ) (Cert.PrepRetIdeal.main (F := Ideal))) ⟨m, fun _ => 0, g⟩ (fun r => ∀ c : Dev Cert.PrepRetIdeal.nD,
          r.2.mem ((c.tc : Thread Cert.PrepRetIdeal.nD Cert.PrepRetIdeal.τ).loc Cert.PrepRetIdeal.main_v31_0) = v0 c
          ∧ r.2.mem ((c.tc : Thread Cert.PrepRetIdeal.nD Cert.PrepRetIdeal.τ).loc Cert.PrepRetIdeal.main_v31_1) = v1 c
          ∧ r.2.mem ((c.tc : Thread Cert.PrepRetIdeal.nD Cert.PrepRetIdeal.τ).loc Cert.PrepRetIdeal.main_v31_2) = v2 c
          ∧ r.2.mem ((c.tc : Thread Cert.PrepRetIdeal.nD Cert.PrepRetIdeal.τ).loc Cert.PrepRetIdeal.main_arg0) = m ((c.tc : Thread Cert.PrepRetIdeal.nD Cert.PrepRetIdeal.τ).loc Cert.PrepRetIdeal.main_arg0)
          ∧ r.2.mem ((c.tc : Thread Cert.PrepRetIdeal.nD Cert.PrepRetIdeal.τ).loc Cert.PrepRetIdeal.main_arg1) = m ((c.tc : Thread Cert.PrepRetIdeal.nD Cert.PrepRetIdeal.τ).loc Cert.PrepRetIdeal.main_arg1))
      ∧ θ_run (Cert.PrepRetRefIdeal.defs (F := Ideal)) (onTc (τ := Cert.PrepRetRefIdeal.τ) (Cert.PrepRetRefIdeal.main (F := Ideal))) ⟨m', fun _ => 0, g'⟩ (fun r => ∀ c : Dev Cert.PrepRetRefIdeal.nD,
          r.2.mem ((c.tc : Thread Cert.PrepRetRefIdeal.nD Cert.PrepRetRefIdeal.τ).loc Cert.PrepRetRefIdeal.main_v95) = v0 c
          ∧ r.2.mem ((c.tc : Thread Cert.PrepRetRefIdeal.nD Cert.PrepRetRefIdeal.τ).loc Cert.PrepRetRefIdeal.main_v97) = v1 c
          ∧ r.2.mem ((c.tc : Thread Cert.PrepRetRefIdeal.nD Cert.PrepRetRefIdeal.τ).loc Cert.PrepRetRefIdeal.main_v98) = v2 c
          ∧ r.2.mem ((c.tc : Thread Cert.PrepRetRefIdeal.nD Cert.PrepRetRefIdeal.τ).loc Cert.PrepRetRefIdeal.main_arg0) = m' ((c.tc : Thread Cert.PrepRetRefIdeal.nD Cert.PrepRetRefIdeal.τ).loc Cert.PrepRetRefIdeal.main_arg0)
          ∧ r.2.mem ((c.tc : Thread Cert.PrepRetRefIdeal.nD Cert.PrepRetRefIdeal.τ).loc Cert.PrepRetRefIdeal.main_arg1) = m' ((c.tc : Thread Cert.PrepRetRefIdeal.nD Cert.PrepRetRefIdeal.τ).loc Cert.PrepRetRefIdeal.main_arg1))

def preserves_CastKv_CastKvIdeal : Prop :=
  True

def algebraic_CastKvIdeal_CastKvRefIdeal [hCastKvIdeal : Cert.CastKvIdeal.Facts] [hCastKvRefIdeal : Cert.CastKvRefIdeal.Facts] : Prop :=
  ∀ (m : (ℓ : Loc Cert.CastKvIdeal.nD Cert.CastKvIdeal.τ Cert.CastKvIdeal.sig) → Buf (Elt Ideal) ℓ) (g : Dev Cert.CastKvIdeal.nD → PrngReg)
    (m' : (ℓ : Loc Cert.CastKvRefIdeal.nD Cert.CastKvRefIdeal.τ Cert.CastKvRefIdeal.sig) → Buf (Elt Ideal) ℓ) (g' : Dev Cert.CastKvRefIdeal.nD → PrngReg), Pre_CastKvIdeal m →
    (∀ c : Dev Cert.CastKvIdeal.nD,
      m' ((c.tc : Thread Cert.CastKvRefIdeal.nD Cert.CastKvRefIdeal.τ).loc Cert.CastKvRefIdeal.main_arg0) = m ((c.tc : Thread Cert.CastKvIdeal.nD Cert.CastKvIdeal.τ).loc Cert.CastKvIdeal.main_arg0)) →
    ∃ (v0 : (c : Dev Cert.CastKvIdeal.nD) → Buf (Elt Ideal) ((c.tc : Thread Cert.CastKvIdeal.nD Cert.CastKvIdeal.τ).loc Cert.CastKvIdeal.main_v1)),
      θ_run (Cert.CastKvIdeal.defs (F := Ideal)) (onTc (τ := Cert.CastKvIdeal.τ) (Cert.CastKvIdeal.main (F := Ideal))) ⟨m, fun _ => 0, g⟩ (fun r => ∀ c : Dev Cert.CastKvIdeal.nD,
          r.2.mem ((c.tc : Thread Cert.CastKvIdeal.nD Cert.CastKvIdeal.τ).loc Cert.CastKvIdeal.main_v1) = v0 c
          ∧ r.2.mem ((c.tc : Thread Cert.CastKvIdeal.nD Cert.CastKvIdeal.τ).loc Cert.CastKvIdeal.main_arg0) = m ((c.tc : Thread Cert.CastKvIdeal.nD Cert.CastKvIdeal.τ).loc Cert.CastKvIdeal.main_arg0))
      ∧ θ_run (Cert.CastKvRefIdeal.defs (F := Ideal)) (onTc (τ := Cert.CastKvRefIdeal.τ) (Cert.CastKvRefIdeal.main (F := Ideal))) ⟨m', fun _ => 0, g'⟩ (fun r => ∀ c : Dev Cert.CastKvRefIdeal.nD,
          r.2.mem ((c.tc : Thread Cert.CastKvRefIdeal.nD Cert.CastKvRefIdeal.τ).loc Cert.CastKvRefIdeal.main_v2) = v0 c
          ∧ r.2.mem ((c.tc : Thread Cert.CastKvRefIdeal.nD Cert.CastKvRefIdeal.τ).loc Cert.CastKvRefIdeal.main_arg0) = m' ((c.tc : Thread Cert.CastKvRefIdeal.nD Cert.CastKvRefIdeal.τ).loc Cert.CastKvRefIdeal.main_arg0))

def preserves_CastOut_CastOutIdeal : Prop :=
  True

def algebraic_CastOutIdeal_CastOutRefIdeal [hCastOutIdeal : Cert.CastOutIdeal.Facts] [hCastOutRefIdeal : Cert.CastOutRefIdeal.Facts] : Prop :=
  ∀ (m : (ℓ : Loc Cert.CastOutIdeal.nD Cert.CastOutIdeal.τ Cert.CastOutIdeal.sig) → Buf (Elt Ideal) ℓ) (g : Dev Cert.CastOutIdeal.nD → PrngReg)
    (m' : (ℓ : Loc Cert.CastOutRefIdeal.nD Cert.CastOutRefIdeal.τ Cert.CastOutRefIdeal.sig) → Buf (Elt Ideal) ℓ) (g' : Dev Cert.CastOutRefIdeal.nD → PrngReg), Pre_CastOutIdeal m →
    (∀ c : Dev Cert.CastOutIdeal.nD,
      m' ((c.tc : Thread Cert.CastOutRefIdeal.nD Cert.CastOutRefIdeal.τ).loc Cert.CastOutRefIdeal.main_arg0) = m ((c.tc : Thread Cert.CastOutIdeal.nD Cert.CastOutIdeal.τ).loc Cert.CastOutIdeal.main_arg0)) →
    ∃ (v0 : (c : Dev Cert.CastOutIdeal.nD) → Buf (Elt Ideal) ((c.tc : Thread Cert.CastOutIdeal.nD Cert.CastOutIdeal.τ).loc Cert.CastOutIdeal.main_v0)),
      θ_run (Cert.CastOutIdeal.defs (F := Ideal)) (onTc (τ := Cert.CastOutIdeal.τ) (Cert.CastOutIdeal.main (F := Ideal))) ⟨m, fun _ => 0, g⟩ (fun r => ∀ c : Dev Cert.CastOutIdeal.nD,
          r.2.mem ((c.tc : Thread Cert.CastOutIdeal.nD Cert.CastOutIdeal.τ).loc Cert.CastOutIdeal.main_v0) = v0 c
          ∧ r.2.mem ((c.tc : Thread Cert.CastOutIdeal.nD Cert.CastOutIdeal.τ).loc Cert.CastOutIdeal.main_arg0) = m ((c.tc : Thread Cert.CastOutIdeal.nD Cert.CastOutIdeal.τ).loc Cert.CastOutIdeal.main_arg0))
      ∧ θ_run (Cert.CastOutRefIdeal.defs (F := Ideal)) (onTc (τ := Cert.CastOutRefIdeal.τ) (Cert.CastOutRefIdeal.main (F := Ideal))) ⟨m', fun _ => 0, g'⟩ (fun r => ∀ c : Dev Cert.CastOutRefIdeal.nD,
          r.2.mem ((c.tc : Thread Cert.CastOutRefIdeal.nD Cert.CastOutRefIdeal.τ).loc Cert.CastOutRefIdeal.main_v1) = v0 c
          ∧ r.2.mem ((c.tc : Thread Cert.CastOutRefIdeal.nD Cert.CastOutRefIdeal.τ).loc Cert.CastOutRefIdeal.main_arg0) = m' ((c.tc : Thread Cert.CastOutRefIdeal.nD Cert.CastOutRefIdeal.τ).loc Cert.CastOutRefIdeal.main_arg0))

def Claim : Prop :=
  ∃ (hKernel : Cert.Kernel.Facts) (hKernelIdeal : Cert.KernelIdeal.Facts) (hReferenceIdeal : Cert.ReferenceIdeal.Facts) (hInProj : Cert.InProj.Facts) (hInProjIdeal : Cert.InProjIdeal.Facts) (hInProjRefIdeal : Cert.InProjRefIdeal.Facts) (hOutProj : Cert.OutProj.Facts) (hOutProjIdeal : Cert.OutProjIdeal.Facts) (hOutProjRefIdeal : Cert.OutProjRefIdeal.Facts) (hInProjKv : Cert.InProjKv.Facts) (hInProjKvIdeal : Cert.InProjKvIdeal.Facts) (hInProjKvRefIdeal : Cert.InProjKvRefIdeal.Facts) (hModulate : Cert.Modulate.Facts) (hModulateIdeal : Cert.ModulateIdeal.Facts) (hModulateRefIdeal : Cert.ModulateRefIdeal.Facts) (hPrepHy : Cert.PrepHy.Facts) (hPrepHyIdeal : Cert.PrepHyIdeal.Facts) (hPrepHyRefIdeal : Cert.PrepHyRefIdeal.Facts) (hPool : Cert.Pool.Facts) (hPoolIdeal : Cert.PoolIdeal.Facts) (hPoolRefIdeal : Cert.PoolRefIdeal.Facts) (hMerge : Cert.Merge.Facts) (hMergeIdeal : Cert.MergeIdeal.Facts) (hMergeRefIdeal : Cert.MergeRefIdeal.Facts) (hPrepRet : Cert.PrepRet.Facts) (hPrepRetIdeal : Cert.PrepRetIdeal.Facts) (hPrepRetRefIdeal : Cert.PrepRetRefIdeal.Facts) (hCastKv : Cert.CastKv.Facts) (hCastKvIdeal : Cert.CastKvIdeal.Facts) (hCastKvRefIdeal : Cert.CastKvRefIdeal.Facts) (hCastOut : Cert.CastOut.Facts) (hCastOutIdeal : Cert.CastOutIdeal.Facts) (hCastOutRefIdeal : Cert.CastOutRefIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_InProj (hInProj := hInProj)
    ∧ quiescent_InProjIdeal (hInProjIdeal := hInProjIdeal)
    ∧ quiescent_InProjRefIdeal (hInProjRefIdeal := hInProjRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_InProjKv (hInProjKv := hInProjKv)
    ∧ quiescent_InProjKvIdeal (hInProjKvIdeal := hInProjKvIdeal)
    ∧ quiescent_InProjKvRefIdeal (hInProjKvRefIdeal := hInProjKvRefIdeal)
    ∧ quiescent_Modulate (hModulate := hModulate)
    ∧ quiescent_ModulateIdeal (hModulateIdeal := hModulateIdeal)
    ∧ quiescent_ModulateRefIdeal (hModulateRefIdeal := hModulateRefIdeal)
    ∧ quiescent_PrepHy (hPrepHy := hPrepHy)
    ∧ quiescent_PrepHyIdeal (hPrepHyIdeal := hPrepHyIdeal)
    ∧ quiescent_PrepHyRefIdeal (hPrepHyRefIdeal := hPrepHyRefIdeal)
    ∧ quiescent_Pool (hPool := hPool)
    ∧ quiescent_PoolIdeal (hPoolIdeal := hPoolIdeal)
    ∧ quiescent_PoolRefIdeal (hPoolRefIdeal := hPoolRefIdeal)
    ∧ quiescent_Merge (hMerge := hMerge)
    ∧ quiescent_MergeIdeal (hMergeIdeal := hMergeIdeal)
    ∧ quiescent_MergeRefIdeal (hMergeRefIdeal := hMergeRefIdeal)
    ∧ quiescent_PrepRet (hPrepRet := hPrepRet)
    ∧ quiescent_PrepRetIdeal (hPrepRetIdeal := hPrepRetIdeal)
    ∧ quiescent_PrepRetRefIdeal (hPrepRetRefIdeal := hPrepRetRefIdeal)
    ∧ quiescent_CastKv (hCastKv := hCastKv)
    ∧ quiescent_CastKvIdeal (hCastKvIdeal := hCastKvIdeal)
    ∧ quiescent_CastKvRefIdeal (hCastKvRefIdeal := hCastKvRefIdeal)
    ∧ quiescent_CastOut (hCastOut := hCastOut)
    ∧ quiescent_CastOutIdeal (hCastOutIdeal := hCastOutIdeal)
    ∧ quiescent_CastOutRefIdeal (hCastOutRefIdeal := hCastOutRefIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_InProj_InProjIdeal
    ∧ algebraic_InProjIdeal_InProjRefIdeal (hInProjIdeal := hInProjIdeal) (hInProjRefIdeal := hInProjRefIdeal)
    ∧ preserves_OutProj_OutProjIdeal
    ∧ algebraic_OutProjIdeal_OutProjRefIdeal (hOutProjIdeal := hOutProjIdeal) (hOutProjRefIdeal := hOutProjRefIdeal)
    ∧ preserves_InProjKv_InProjKvIdeal
    ∧ algebraic_InProjKvIdeal_InProjKvRefIdeal (hInProjKvIdeal := hInProjKvIdeal) (hInProjKvRefIdeal := hInProjKvRefIdeal)
    ∧ preserves_Modulate_ModulateIdeal
    ∧ algebraic_ModulateIdeal_ModulateRefIdeal (hModulateIdeal := hModulateIdeal) (hModulateRefIdeal := hModulateRefIdeal)
    ∧ preserves_PrepHy_PrepHyIdeal
    ∧ algebraic_PrepHyIdeal_PrepHyRefIdeal (hPrepHyIdeal := hPrepHyIdeal) (hPrepHyRefIdeal := hPrepHyRefIdeal)
    ∧ preserves_Pool_PoolIdeal
    ∧ algebraic_PoolIdeal_PoolRefIdeal (hPoolIdeal := hPoolIdeal) (hPoolRefIdeal := hPoolRefIdeal)
    ∧ preserves_Merge_MergeIdeal
    ∧ algebraic_MergeIdeal_MergeRefIdeal (hMergeIdeal := hMergeIdeal) (hMergeRefIdeal := hMergeRefIdeal)
    ∧ preserves_PrepRet_PrepRetIdeal
    ∧ algebraic_PrepRetIdeal_PrepRetRefIdeal (hPrepRetIdeal := hPrepRetIdeal) (hPrepRetRefIdeal := hPrepRetRefIdeal)
    ∧ preserves_CastKv_CastKvIdeal
    ∧ algebraic_CastKvIdeal_CastKvRefIdeal (hCastKvIdeal := hCastKvIdeal) (hCastKvRefIdeal := hCastKvRefIdeal)
    ∧ preserves_CastOut_CastOutIdeal
    ∧ algebraic_CastOutIdeal_CastOutRefIdeal (hCastOutIdeal := hCastOutIdeal) (hCastOutRefIdeal := hCastOutRefIdeal)
-- ==== Pre_finite.lean ====
abbrev S8192x1024 : Shape := ⟨2, ![8192, 1024]⟩
abbrev S2x8 : Shape := ⟨2, ![2, 8]⟩
abbrev S8x128x128 : Shape := ⟨3, ![8, 128, 128]⟩
abbrev S_ : Shape := ⟨0, ![]⟩

class Facts : Prop where
  bitsLt_bf16_f32 : FTy.bits .bf16 < FTy.bits .f32
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S2x8 : S_.BroadcastsInDim S2x8 (![] : Fin 0 → Fin S2x8.rank)
  reducesTo_S2x8_S_d0_1 : S2x8.ReducesTo [0, 1] S_
  bcast_S_S8x128x128 : S_.BroadcastsInDim S8x128x128 (![] : Fin 0 → Fin S8x128x128.rank)
  reducesTo_S8x128x128_S_d0_1_2 : S8x128x128.ReducesTo [0, 1, 2] S_

variable [Facts]

def fn_part1 {F : FTy → Type} [FloatOps F] (main_arg4 : FVec F S8x128x128 .f32) (main_arg5 : FVec F S8x128x128 .f32) (main_v16 : IVec S_ 1) (main_v17 : FVec F S2x8 .f32) : IVec S_ 1 :=
  let main_cst_4 : FVec F S_ .f32 := constant S_ .f32 0x7F800000#32
  let main_v18 : FVec F S2x8 .f32 := broadcastInDim S2x8 ![] bcast_S_S2x8 main_cst_4
  let main_v19 : IVec S2x8 1 := cmpf .olt main_v17 main_v18
  let main_c_5 : IVec S_ 1 := constantI S_ 1 1#1
  let main_v20 : IVec S_ 1 := (fun x v => Host.reduce IntOp.andi x v reducesTo_S2x8_S_d0_1 h_S_) main_v19 main_c_5
  let main_v21 : IVec S_ 1 := andi main_v16 main_v20
  let main_v22 : FVec F S8x128x128 .f32 := Host.absf main_arg4
  let main_cst_6 : FVec F S_ .f32 := constant S_ .f32 0x7F800000#32
  let main_v23 : FVec F S8x128x128 .f32 := broadcastInDim S8x128x128 ![] bcast_S_S8x128x128 main_cst_6
  let main_v24 : IVec S8x128x128 1 := cmpf .olt main_v22 main_v23
  let main_c_7 : IVec S_ 1 := constantI S_ 1 1#1
  let main_v25 : IVec S_ 1 := (fun x v => Host.reduce IntOp.andi x v reducesTo_S8x128x128_S_d0_1_2 h_S_) main_v24 main_c_7
  let main_v26 : IVec S_ 1 := andi main_v21 main_v25
  let main_v27 : FVec F S8x128x128 .f32 := Host.absf main_arg5
  let main_cst_8 : FVec F S_ .f32 := constant S_ .f32 0x7F800000#32
  let main_v28 : FVec F S8x128x128 .f32 := broadcastInDim S8x128x128 ![] bcast_S_S8x128x128 main_cst_8
  let main_v29 : IVec S8x128x128 1 := cmpf .olt main_v27 main_v28
  let main_c_9 : IVec S_ 1 := constantI S_ 1 1#1
  let main_v30 : IVec S_ 1 := (fun x v => Host.reduce IntOp.andi x v reducesTo_S8x128x128_S_d0_1_2 h_S_) main_v29 main_c_9
  let main_v31 : IVec S_ 1 := andi main_v26 main_v30
  main_v31

def fn {F : FTy → Type} [FloatOps F] (main_arg0 : FVec F S8192x1024 .bf16) (main_arg1 : FVec F S8192x1024 .bf16) (main_arg2 : FVec F S8192x1024 .bf16) (main_arg3 : FVec F S2x8 .f32) (main_arg4 : FVec F S8x128x128 .f32) (main_arg5 : FVec F S8x128x128 .f32) : IVec S_ 1 :=
  let main_v0 : FVec F S8192x1024 .f32 := (extf .f32 · bitsLt_bf16_f32) main_arg0
  let main_v1 : FVec F S8192x1024 .f32 := Host.absf main_v0
  let main_cst : FVec F S_ .f32 := constant S_ .f32 0x7F800000#32
  let main_v2 : FVec F S8192x1024 .f32 := broadcastInDim S8192x1024 ![] bcast_S_S8192x1024 main_cst
  let main_v3 : IVec S8192x1024 1 := cmpf .olt main_v1 main_v2
  let main_c : IVec S_ 1 := constantI S_ 1 1#1
  let main_v4 : IVec S_ 1 := (fun x v => Host.reduce IntOp.andi x v reducesTo_S8192x1024_S_d0_1 h_S_) main_v3 main_c
  let main_v5 : FVec F S8192x1024 .f32 := (extf .f32 · bitsLt_bf16_f32) main_arg1
  let main_v6 : FVec F S8192x1024 .f32 := Host.absf main_v5
  let main_cst_0 : FVec F S_ .f32 := constant S_ .f32 0x7F800000#32
  let main_v7 : FVec F S8192x1024 .f32 := broadcastInDim S8192x1024 ![] bcast_S_S8192x1024 main_cst_0
  let main_v8 : IVec S8192x1024 1 := cmpf .olt main_v6 main_v7
  let main_c_1 : IVec S_ 1 := constantI S_ 1 1#1
  let main_v9 : IVec S_ 1 := (fun x v => Host.reduce IntOp.andi x v reducesTo_S8192x1024_S_d0_1 h_S_) main_v8 main_c_1
  let main_v10 : IVec S_ 1 := andi main_v4 main_v9
  let main_v11 : FVec F S8192x1024 .f32 := (extf .f32 · bitsLt_bf16_f32) main_arg2
  let main_v12 : FVec F S8192x1024 .f32 := Host.absf main_v11
  let main_cst_2 : FVec F S_ .f32 := constant S_ .f32 0x7F800000#32
  let main_v13 : FVec F S8192x1024 .f32 := broadcastInDim S8192x1024 ![] bcast_S_S8192x1024 main_cst_2
  let main_v14 : IVec S8192x1024 1 := cmpf .olt main_v12 main_v13
  let main_c_3 : IVec S_ 1 := constantI S_ 1 1#1
  let main_v15 : IVec S_ 1 := (fun x v => Host.reduce IntOp.andi x v reducesTo_S8192x1024_S_d0_1 h_S_) main_v14 main_c_3
  let main_v16 : IVec S_ 1 := andi main_v10 main_v15
  let main_v17 : FVec F S2x8 .f32 := Host.absf main_arg3
  fn_part1 (F := F) main_arg4 main_arg5 main_v16 main_v17
-- ==== Kernel.lean ====
abbrev S8192x1024 : Shape := ⟨2, ![8192, 1024]⟩
abbrev S2x8 : Shape := ⟨2, ![2, 8]⟩
abbrev S8x128x128 : Shape := ⟨3, ![8, 128, 128]⟩
abbrev S2x8x1x1 : Shape := ⟨4, ![2, 8, 1, 1]⟩
abbrev S2x8x8x128 : Shape := ⟨4, ![2, 8, 8, 128]⟩
abbrev S512x1024 : Shape := ⟨2, ![512, 1024]⟩
abbrev S128x128 : Shape := ⟨2, ![128, 128]⟩
abbrev S1x1x8x128 : Shape := ⟨4, ![1, 1, 8, 128]⟩
abbrev S8x128 : Shape := ⟨2, ![8, 128]⟩
abbrev S1x128 : Shape := ⟨2, ![1, 128]⟩
abbrev S1x128x128 : Shape := ⟨3, ![1, 128, 128]⟩
abbrev S128x256 : Shape := ⟨2, ![128, 256]⟩
abbrev S256x128 : Shape := ⟨2, ![256, 128]⟩

abbrev nBuf : Space → Nat
  | .hbm => 13
  | .vmem => 30
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x1024, .bf16⟩
  | .hbm, ⟨3, _⟩ => ⟨S2x8, .f32⟩
  | .hbm, ⟨4, _⟩ => ⟨S8x128x128, .f32⟩
  | .hbm, ⟨5, _⟩ => ⟨S8x128x128, .f32⟩
  | .hbm, ⟨6, _⟩ => ⟨S2x8x1x1, .f32⟩
  | .hbm, ⟨7, _⟩ => ⟨S2x8x8x128, .f32⟩
  | .hbm, ⟨8, _⟩ => ⟨S8192x1024, .f32⟩
  | .hbm, ⟨9, _⟩ => ⟨S8192x1024, .f32⟩
  | .hbm, ⟨10, _⟩ => ⟨S8x128x128, .f32⟩
  | .hbm, ⟨11, _⟩ => ⟨S8x128x128, .f32⟩
  | .hbm, ⟨12, _⟩ => ⟨S8192x1024, .f32⟩
  | .local _ .vmem, ⟨0, _⟩ => ⟨S2x8x8x128, .f32⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S8x128x128, .f32⟩
  | .local _ .vmem, ⟨14, _⟩ => ⟨S8x128x128, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | .local _ .vmem, ⟨18, _⟩ => ⟨S512x1024, .f32⟩
  | .local _ .vmem, ⟨19, _⟩ => ⟨S8x128x128, .f32⟩
  | .local _ .vmem, ⟨20, _⟩ => ⟨S8x128x128, .f32⟩
  | .local _ .vmem, ⟨21, _⟩ => ⟨S8x128x128, .f32⟩
  | .local _ .vmem, ⟨22, _⟩ => ⟨S8x128x128, .f32⟩
  | .local _ .vmem, ⟨23, _⟩ => ⟨S8x128x128, .f32⟩
  | .local _ .vmem, ⟨24, _⟩ => ⟨S8x128x128, .f32⟩
  | .local _ .vmem, ⟨25, _⟩ => ⟨S8x128x128, .f32⟩
  | .local _ .vmem, ⟨26, _⟩ => ⟨S8x128x128, .f32⟩
  | .local _ .vmem, ⟨27, _⟩ => ⟨S8x128x128, .f32⟩
  | .local _ .vmem, ⟨28, _⟩ => ⟨S8x128x128, .f32⟩
  | .local _ .vmem, ⟨29, _⟩ => ⟨S8x128x128, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2_0 : Ref sig .tc := ⟨.hbm, 8, rfl⟩
abbrev main_v2_1 : Ref sig .tc := ⟨.hbm, 9, rfl⟩
abbrev main_v2_2 : Ref sig .tc := ⟨.hbm, 10, rfl⟩
abbrev main_v2_3 : Ref sig .tc := ⟨.hbm, 11, rfl⟩
abbrev main_v3 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_stg10_1 : Ref sig .tc := ⟨.vmem, 18, rfl⟩
abbrev cc0_stg11_0 : Ref sig .tc := ⟨.vmem, 19, rfl⟩
abbrev cc0_stg12_0 : Ref sig .tc := ⟨.vmem, 20, rfl⟩
abbrev cc0_scratch0 : Ref sig .tc := ⟨.vmem, 21, rfl⟩
abbrev cc0_scratch1 : Ref sig .tc := ⟨.vmem, 22, rfl⟩
abbrev cc0_scratch2 : Ref sig .tc := ⟨.vmem, 23, rfl⟩
abbrev cc0_scratch3 : Ref sig .tc := ⟨.vmem, 24, rfl⟩
abbrev cc0_scratch4 : Ref sig .tc := ⟨.vmem, 25, rfl⟩
abbrev cc0_scratch5 : Ref sig .tc := ⟨.vmem, 26, rfl⟩
abbrev cc0_scratch6 : Ref sig .tc := ⟨.vmem, 27, rfl⟩
abbrev cc0_scratch7 : Ref sig .tc := ⟨.vmem, 28, rfl⟩
abbrev cc0_scratch8 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem9_1 : DmaSem sig := 16
abbrev cc0_sem10_0 : DmaSem sig := 17
abbrev cc0_sem10_1 : DmaSem sig := 18
abbrev cc0_sem11_0 : DmaSem sig := 19
abbrev cc0_sem12_0 : DmaSem sig := 20

abbrev nD : Nat := 1
abbrev τ : Topo := Topo.v7x

variable {F : FTy → Type} [FloatOps F]

abbrev grid0 : Pipeline.Grid := ⟨1, ![16], ![false]⟩

def k0_cond2 (i : grid0.Coords) : BitVec 1 :=
  let arg0 : BitVec 32 := BitVec.ofNat 32 (i 0).val
  let c15_i32 : BitVec 32 := 15#32
  let v2115 : BitVec 1 := Scalar.cmpi .eq arg0 c15_i32
  let v2116 : BitVec 32 := Scalar.extui v2115
  let c0_i32_2097 : BitVec 32 := 0#32
  let v2117 : BitVec 1 := Scalar.cmpi .ne v2116 c0_i32_2097
  v2117

def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c15_i32 : BitVec 32 := 15#32
  let v0 : BitVec 32 := Scalar.subi c15_i32 arg0
  let c0_i32 : BitVec 32 := 0#32
  let c0_i32_0 : BitVec 32 := 0#32
  ![v0.toNat, c0_i32.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .vmem S2x8x8x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S8x128x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S8x128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S8192x1024 : Shape := ⟨2, ![8192, 1024]⟩
abbrev S2x8 : Shape := ⟨2, ![2, 8]⟩
abbrev S8x128x128 : Shape := ⟨3, ![8, 128, 128]⟩
abbrev S8192x8x128 : Shape := ⟨3, ![8192, 8, 128]⟩
abbrev S_ : Shape := ⟨0, ![]⟩
abbrev S1x8 : Shape := ⟨2, ![1, 8]⟩
abbrev S8 : Shape := ⟨1, ![8]⟩
abbrev S8192x8 : Shape := ⟨2, ![8192, 8]⟩
abbrev S8x1x1 : Shape := ⟨3, ![8, 1, 1]⟩
abbrev S8192x8x1 : Shape := ⟨3, ![8192, 8, 1]⟩
abbrev S8192x1x8 : Shape := ⟨3, ![8192, 1, 8]⟩
abbrev S1x8192x8 : Shape := ⟨3, ![1, 8192, 8]⟩
abbrev S8192x8192x8 : Shape := ⟨3, ![8192, 8192, 8]⟩
abbrev S8192x8192 : Shape := ⟨2, ![8192, 8192]⟩
abbrev S8192x8192x1 : Shape := ⟨3, ![8192, 8192, 1]⟩
abbrev S8x8192x8192 : Shape := ⟨3, ![8, 8192, 8192]⟩
abbrev S8x128x8192 : Shape := ⟨3, ![8, 128, 8192]⟩

abbrev nBuf : Space → Nat
  | .hbm => 147
  | .vmem => 0
  | .smem => 0
  | _ => 0

abbrev hbmTy0_0 (i : Nat) : BufTy := match i % 128 with
  | 0 => ⟨S8192x1024, .bf16⟩
  | 1 => ⟨S8192x1024, .bf16⟩
  | 2 => ⟨S8192x1024, .bf16⟩
  | 3 => ⟨S2x8, .f32⟩
  | 4 => ⟨S8x128x128, .f32⟩
  | 5 => ⟨S8x128x128, .f32⟩
  | 6 => ⟨S8192x1024, .f32⟩
  | 7 => ⟨S8192x8x128, .f32⟩
  | 8 => ⟨S8192x1024, .f32⟩
  | 9 => ⟨S8192x8x128, .f32⟩
  | 10 => ⟨S8192x1024, .f32⟩
  | 11 => ⟨S8192x8x128, .f32⟩
  | 12 => ⟨S2x8, .f32⟩
  | 13 => ⟨S_, .f32⟩
  | 14 => ⟨S2x8, .f32⟩
  | 15 => ⟨S2x8, .f32⟩
  | 16 => ⟨S2x8, .f32⟩
  | 17 => ⟨S2x8, .f32⟩
  | 18 => ⟨S2x8, .i1⟩
  | 19 => ⟨S2x8, .f32⟩
  | 20 => ⟨S2x8, .f32⟩
  | 21 => ⟨S2x8, .f32⟩
  | 22 => ⟨S2x8, .f32⟩
  | 23 => ⟨S2x8, .f32⟩
  | 24 => ⟨S2x8, .f32⟩
  | 25 => ⟨S2x8, .f32⟩
  | 26 => ⟨S2x8, .f32⟩
  | 27 => ⟨S2x8, .f32⟩
  | 28 => ⟨S1x8, .f32⟩
  | 29 => ⟨S8, .f32⟩
  | 30 => ⟨S8192x8, .f32⟩
  | 31 => ⟨S1x8, .f32⟩
  | 32 => ⟨S8, .f32⟩
  | 33 => ⟨S8192x8, .f32⟩
  | 34 => ⟨S_, .f32⟩
  | 35 => ⟨S_, .f32⟩
  | 36 => ⟨S8192x8, .f32⟩
  | 37 => ⟨S1x8, .f32⟩
  | 38 => ⟨S8, .f32⟩
  | 39 => ⟨S8, .f32⟩
  | 40 => ⟨S8x1x1, .f32⟩
  | 41 => ⟨S8x128x128, .f32⟩
  | 42 => ⟨S8x128x128, .f32⟩
  | 43 => ⟨S1x8, .f32⟩
  | 44 => ⟨S8192x8, .f32⟩
  | 45 => ⟨S8192x8, .f32⟩
  | 46 => ⟨S8192x8, .f32⟩
  | 47 => ⟨S8192x8x1, .f32⟩
  | 48 => ⟨S8192x8x128, .f32⟩
  | 49 => ⟨S8192x8x128, .f32⟩
  | 50 => ⟨S8x128x128, .f32⟩
  | 51 => ⟨S8x128x128, .f32⟩
  | 52 => ⟨S8192x1x8, .f32⟩
  | 53 => ⟨S1x8192x8, .f32⟩
  | 54 => ⟨S8192x8192x8, .f32⟩
  | 55 => ⟨S8192x8192x8, .f32⟩
  | 56 => ⟨S8192x8192x8, .f32⟩
  | 57 => ⟨S_, .i1⟩
  | 58 => ⟨S8192x8192, .i1⟩
  | 59 => ⟨S8192x8192, .i32⟩
  | 60 => ⟨S_, .i32⟩
  | 61 => ⟨S8192x8192, .i32⟩
  | 62 => ⟨S8192x8192, .i32⟩
  | 63 => ⟨S8192x8192, .i32⟩
  | 64 => ⟨S8192x8192, .i1⟩
  | 65 => ⟨S_, .i1⟩
  | 66 => ⟨S8192x8192, .i1⟩
  | 67 => ⟨S8192x8192, .i1⟩
  | 68 => ⟨S8192x8192x1, .i1⟩
  | 69 => ⟨S_, .f32⟩
  | 70 => ⟨S_, .f32⟩
  | 71 => ⟨S8192x8192x8, .i1⟩
  | 72 => ⟨S8192x8192x8, .f32⟩
  | 73 => ⟨S8192x8192x8, .f32⟩
  | 74 => ⟨S8192x8192x8, .f32⟩
  | 75 => ⟨S8x8192x8192, .f32⟩
  | 76 => ⟨S8192x8192x8, .f32⟩
  | 77 => ⟨S8192x8192x8, .f32⟩
  | 78 => ⟨S8x128x8192, .f32⟩
  | 79 => ⟨S8192x8x128, .f32⟩
  | 80 => ⟨S8192x8, .f32⟩
  | 81 => ⟨S8192x8x1, .f32⟩
  | 82 => ⟨S8192x8x128, .f32⟩
  | 83 => ⟨S8192x8x128, .f32⟩
  | 84 => ⟨S8x128x8192, .f32⟩
  | 85 => ⟨S8192x8x128, .f32⟩
  | 86 => ⟨S8192x8x128, .f32⟩
  | 87 => ⟨S8192x8x128, .f32⟩
  | 88 => ⟨S8192x8x128, .f32⟩
  | 89 => ⟨S8192x8x128, .f32⟩
  | 90 => ⟨S8192x8, .f32⟩
  | 91 => ⟨S_, .f32⟩
  | 92 => ⟨S_, .f32⟩
  | 93 => ⟨S8192x8, .f32⟩
  | 94 => ⟨S1x8, .f32⟩
  | 95 => ⟨S8, .f32⟩
  | 96 => ⟨S8, .f32⟩
  | 97 => ⟨S8x1x1, .f32⟩
  | 98 => ⟨S8x128x128, .f32⟩
  | 99 => ⟨S8x128x128, .f32⟩
  | 100 => ⟨S1x8, .f32⟩
  | 101 => ⟨S8192x8, .f32⟩
  | 102 => ⟨S8192x8, .f32⟩
  | 103 => ⟨S8192x8, .f32⟩
  | 104 => ⟨S8192x8x1, .f32⟩
  | 105 => ⟨S8192x8x128, .f32⟩
  | 106 => ⟨S8192x8x128, .f32⟩
  | 107 => ⟨S8x128x128, .f32⟩
  | 108 => ⟨S8x128x128, .f32⟩
  | 109 => ⟨S8192x1x8, .f32⟩
  | 110 => ⟨S1x8192x8, .f32⟩
  | 111 => ⟨S8192x8192x8, .f32⟩
  | 112 => ⟨S8192x8192x8, .f32⟩
  | 113 => ⟨S8192x8192x8, .f32⟩
  | 114 => ⟨S_, .i1⟩
  | 115 => ⟨S8192x8192, .i1⟩
  | 116 => ⟨S8192x8192, .i32⟩
  | 117 => ⟨S_, .i32⟩
  | 118 => ⟨S8192x8192, .i32⟩
  | 119 => ⟨S8192x8192, .i32⟩
  | 120 => ⟨S8192x8192, .i32⟩
  | 121 => ⟨S8192x8192, .i1⟩
  | 122 => ⟨S_, .i1⟩
  | 123 => ⟨S8192x8192, .i1⟩
  | 124 => ⟨S8192x8192, .i1⟩
  | 125 => ⟨S8192x8192x1, .i1⟩
  | 126 => ⟨S_, .f32⟩
  | 127 => ⟨S_, .f32⟩
  | _ => ⟨S8192x1024, .bf16⟩

abbrev hbmTy0_1 (i : Nat) : BufTy := match i % 128 with
  | 0 => ⟨S8192x8192x8, .i1⟩
  | 1 => ⟨S8192x8192x8, .f32⟩
  | 2 => ⟨S8192x8192x8, .f32⟩
  | 3 => ⟨S8192x8192x8, .f32⟩
  | 4 => ⟨S8x8192x8192, .f32⟩
  | 5 => ⟨S8192x8192x8, .f32⟩
  | 6 => ⟨S8192x8192x8, .f32⟩
  | 7 => ⟨S8x128x8192, .f32⟩
  | 8 => ⟨S8192x8x128, .f32⟩
  | 9 => ⟨S8192x8, .f32⟩
  | 10 => ⟨S8192x8x1, .f32⟩
  | 11 => ⟨S8192x8x128, .f32⟩
  | 12 => ⟨S8192x8x128, .f32⟩
  | 13 => ⟨S8x128x8192, .f32⟩
  | 14 => ⟨S8192x8x128, .f32⟩
  | 15 => ⟨S8192x8x128, .f32⟩
  | 16 => ⟨S8192x8x128, .f32⟩
  | 17 => ⟨S8192x8x128, .f32⟩
  | 18 => ⟨S8192x1024, .f32⟩
  | _ => ⟨S8192x1024, .bf16⟩

abbrev hbmTy (i : Nat) : BufTy := match i / 128 with
  | 0 => hbmTy0_0 i
  | 1 => hbmTy0_1 i
  | _ => ⟨S8192x1024, .bf16⟩

abbrev bufTy : (tb : Table) → Fin (tcTables nBuf tb) → BufTy
  | .hbm, ⟨i, _⟩ => hbmTy i
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_v0 : Ref sig .tc := ⟨.hbm, 12, rfl⟩
abbrev main_call0_call0_cst : Ref sig .tc := ⟨.hbm, 13, rfl⟩
abbrev main_call0_call0_v0 : Ref sig .tc := ⟨.hbm, 14, rfl⟩
abbrev main_call0_call0_v1 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_v8 : Ref sig .tc := ⟨.hbm, 22, rfl⟩
abbrev main_call0_call0_v9 : Ref sig .tc := ⟨.hbm, 23, rfl⟩
abbrev main_call0_call0_v10 : Ref sig .tc := ⟨.hbm, 24, rfl⟩
abbrev main_call0_call0_v11 : Ref sig .tc := ⟨.hbm, 25, rfl⟩
abbrev main_call0_v1 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_call1_call0_cst : Ref sig .tc := ⟨.hbm, 34, rfl⟩
abbrev main_call1_call0_v0 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_c : Ref sig .tc := ⟨.hbm, 57, rfl⟩
abbrev main_v34 : Ref sig .tc := ⟨.hbm, 58, rfl⟩
abbrev main_call2_v0 : Ref sig .tc := ⟨.hbm, 59, rfl⟩
abbrev main_call2_c : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_call2_c_0 : Ref sig .tc := ⟨.hbm, 65, rfl⟩
abbrev main_call2_v5 : Ref sig .tc := ⟨.hbm, 66, rfl⟩
abbrev main_v35 : Ref sig .tc := ⟨.hbm, 67, rfl⟩
abbrev main_v36 : Ref sig .tc := ⟨.hbm, 68, rfl⟩
abbrev main_cst : Ref sig .tc := ⟨.hbm, 69, rfl⟩
abbrev main_call3_v0 : Ref sig .tc := ⟨.hbm, 70, rfl⟩
abbrev main_call3_v1 : Ref sig .tc := ⟨.hbm, 71, rfl⟩
abbrev main_call3_v2 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩
abbrev main_v47 : Ref sig .tc := ⟨.hbm, 83, rfl⟩
abbrev main_v48 : Ref sig .tc := ⟨.hbm, 84, rfl⟩
abbrev main_v49 : Ref sig .tc := ⟨.hbm, 85, rfl⟩
abbrev main_v50 : Ref sig .tc := ⟨.hbm, 86, rfl⟩
abbrev main_v51 : Ref sig .tc := ⟨.hbm, 87, rfl⟩
abbrev main_v52 : Ref sig .tc := ⟨.hbm, 88, rfl⟩
abbrev main_v53 : Ref sig .tc := ⟨.hbm, 89, rfl⟩
abbrev main_v54 : Ref sig .tc := ⟨.hbm, 90, rfl⟩
abbrev main_call8_call0_cst : Ref sig .tc := ⟨.hbm, 91, rfl⟩
abbrev main_call8_call0_v0 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_c_0 : Ref sig .tc := ⟨.hbm, 114, rfl⟩
abbrev main_v76 : Ref sig .tc := ⟨.hbm, 115, rfl⟩
abbrev main_call9_v0 : Ref sig .tc := ⟨.hbm, 116, rfl⟩
abbrev main_call9_c : Ref sig .tc := ⟨.hbm, 117, rfl⟩
abbrev main_call9_v1 : Ref sig .tc := ⟨.hbm, 118, rfl⟩
abbrev main_call9_v2 : Ref sig .tc := ⟨.hbm, 119, rfl⟩
abbrev main_call9_v3 : Ref sig .tc := ⟨.hbm, 120, rfl⟩
abbrev main_call9_v4 : Ref sig .tc := ⟨.hbm, 121, rfl⟩
abbrev main_call9_c_0 : Ref sig .tc := ⟨.hbm, 122, rfl⟩
abbrev main_call9_v5 : Ref sig .tc := ⟨.hbm, 123, rfl⟩
abbrev main_v77 : Ref sig .tc := ⟨.hbm, 124, rfl⟩
abbrev main_v78 : Ref sig .tc := ⟨.hbm, 125, rfl⟩
abbrev main_cst_1 : Ref sig .tc := ⟨.hbm, 126, rfl⟩
abbrev main_call10_v0 : Ref sig .tc := ⟨.hbm, 127, rfl⟩
abbrev main_call10_v1 : Ref sig .tc := ⟨.hbm, 128, rfl⟩
abbrev main_call10_v2 : Ref sig .tc := ⟨.hbm, 129, rfl⟩
abbrev main_v79 : Ref sig .tc := ⟨.hbm, 130, rfl⟩
abbrev main_v80 : Ref sig .tc := ⟨.hbm, 131, rfl⟩
abbrev main_v81 : Ref sig .tc := ⟨.hbm, 132, rfl⟩
abbrev main_v82 : Ref sig .tc := ⟨.hbm, 133, rfl⟩
abbrev main_v83 : Ref sig .tc := ⟨.hbm, 134, rfl⟩
abbrev main_v84 : Ref sig .tc := ⟨.hbm, 135, rfl⟩
abbrev main_v85 : Ref sig .tc := ⟨.hbm, 136, rfl⟩
abbrev main_v86 : Ref sig .tc := ⟨.hbm, 137, rfl⟩
abbrev main_v87 : Ref sig .tc := ⟨.hbm, 138, rfl⟩
abbrev main_v88 : Ref sig .tc := ⟨.hbm, 139, rfl⟩
abbrev main_v89 : Ref sig .tc := ⟨.hbm, 140, rfl⟩
abbrev main_v90 : Ref sig .tc := ⟨.hbm, 141, rfl⟩
abbrev main_v91 : Ref sig .tc := ⟨.hbm, 142, rfl⟩
abbrev main_v92 : Ref sig .tc := ⟨.hbm, 143, rfl⟩
abbrev main_v93 : Ref sig .tc := ⟨.hbm, 144, rfl⟩
abbrev main_v94 : Ref sig .tc := ⟨.hbm, 145, rfl⟩
abbrev main_v95 : Ref sig .tc := ⟨.hbm, 146, rfl⟩

abbrev nD : Nat := 1
abbrev τ : Topo := Topo.v7x

variable {F : FTy → Type} [FloatOps F]
-- ==== InProj.lean ====
abbrev S8192x4096 : Shape := ⟨2, ![8192, 4096]⟩
abbrev S2x4096x13344 : Shape := ⟨3, ![2, 4096, 13344]⟩
abbrev S2x13344x4096 : Shape := ⟨3, ![2, 13344, 4096]⟩
abbrev S8192x11264 : Shape := ⟨2, ![8192, 11264]⟩
abbrev S1024x4096 : Shape := ⟨2, ![1024, 4096]⟩
abbrev S1x512x4096 : Shape := ⟨3, ![1, 512, 4096]⟩
abbrev S1024x512 : Shape := ⟨2, ![1024, 512]⟩
abbrev S512x4096 : Shape := ⟨2, ![512, 4096]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S2x4096x13344, .f32⟩
  | .hbm, ⟨2, _⟩ => ⟨S2x13344x4096, .f32⟩
  | .hbm, ⟨3, _⟩ => ⟨S8192x11264, .bf16⟩
  | .local _ .vmem, ⟨0, _⟩ => ⟨S1024x4096, .bf16⟩
  | .local _ .vmem, ⟨1, _⟩ => ⟨S1024x4096, .bf16⟩
  | .local _ .vmem, ⟨2, _⟩ => ⟨S1x512x4096, .f32⟩
  | .local _ .vmem, ⟨3, _⟩ => ⟨S1x512x4096, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 22], ![false, false]⟩

def k0_mult1 (i : grid0.Coords) : BitVec 32 :=
  let c2080_i32 : BitVec 32 := 2080#32
  let arg1 : BitVec 32 := BitVec.ofNat 32 (i 1).val
  let c512_i32 : BitVec 32 := 512#32
  let v0 : BitVec 32 := Scalar.muli arg1 c512_i32
  let v1 : BitVec 32 := Scalar.addi c2080_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2080_i32 : BitVec 32 := 2080#32
  let v1 : BitVec 32 := Scalar.addi c2080_i32 v0
  let v2 : BitVec 32 := v1
  let c0_i32 : BitVec 32 := 0#32
  let c0_i32_0 : BitVec 32 := 0#32
  let c0_i32_1 : BitVec 32 := 0#32
  ![c0_i32.toNat, v2.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjRefIdeal.lean ====
abbrev S8192x4096 : Shape := ⟨2, ![8192, 4096]⟩
abbrev S2x4096x13344 : Shape := ⟨3, ![2, 4096, 13344]⟩
abbrev S1x4096x13344 : Shape := ⟨3, ![1, 4096, 13344]⟩
abbrev S4096x13344 : Shape := ⟨2, ![4096, 13344]⟩
abbrev S8192x13344 : Shape := ⟨2, ![8192, 13344]⟩
abbrev S8192x11264 : Shape := ⟨2, ![8192, 11264]⟩

abbrev nBuf : Space → Nat
  | .hbm => 8
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S2x4096x13344, .f32⟩
  | .hbm, ⟨2, _⟩ => ⟨S8192x4096, .f32⟩
  | .hbm, ⟨3, _⟩ => ⟨S1x4096x13344, .f32⟩
  | .hbm, ⟨4, _⟩ => ⟨S4096x13344, .f32⟩
  | .hbm, ⟨5, _⟩ => ⟨S8192x13344, .f32⟩
  | .hbm, ⟨6, _⟩ => ⟨S8192x11264, .f32⟩
  | .hbm, ⟨7, _⟩ => ⟨S8192x11264, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== OutProj.lean ====
abbrev S8192x1024 : Shape := ⟨2, ![8192, 1024]⟩
abbrev S4096x4096 : Shape := ⟨2, ![4096, 4096]⟩
abbrev S8192x4096 : Shape := ⟨2, ![8192, 4096]⟩
abbrev S1x4096 : Shape := ⟨2, ![1, 4096]⟩
abbrev S4096 : Shape := ⟨1, ![4096]⟩
abbrev S256x1024 : Shape := ⟨2, ![256, 1024]⟩
abbrev S256x4096 : Shape := ⟨2, ![256, 4096]⟩
abbrev S1024x4096 : Shape := ⟨2, ![1024, 4096]⟩
abbrev S256 : Shape := ⟨1, ![256]⟩
abbrev S256x1 : Shape := ⟨2, ![256, 1]⟩

abbrev nBuf : Space → Nat
  | .hbm => 12
  | .vmem => 16
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4096x4096, .bf16⟩
  | .hbm, ⟨5, _⟩ => ⟨S8192x4096, .f32⟩
  | .hbm, ⟨6, _⟩ => ⟨S1x4096, .f32⟩
  | .hbm, ⟨7, _⟩ => ⟨S4096, .f32⟩
  | .hbm, ⟨8, _⟩ => ⟨S4096, .f32⟩
  | .hbm, ⟨9, _⟩ => ⟨S1x4096, .f32⟩
  | .hbm, ⟨10, _⟩ => ⟨S1x4096, .f32⟩
  | .hbm, ⟨11, _⟩ => ⟨S8192x4096, .f32⟩
  | .local _ .vmem, ⟨0, _⟩ => ⟨S256x1024, .f32⟩
  | .local _ .vmem, ⟨1, _⟩ => ⟨S256x1024, .f32⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S4096x4096, .bf16⟩
  | .local _ .vmem, ⟨9, _⟩ => ⟨S256x4096, .f32⟩
  | .local _ .vmem, ⟨10, _⟩ => ⟨S256x4096, .f32⟩
  | .local _ .vmem, ⟨11, _⟩ => ⟨S1x4096, .f32⟩
  | .local _ .vmem, ⟨12, _⟩ => ⟨S1x4096, .f32⟩
  | .local _ .vmem, ⟨13, _⟩ => ⟨S1x4096, .f32⟩
  | .local _ .vmem, ⟨14, _⟩ => ⟨S256x4096, .f32⟩
  | .local _ .vmem, ⟨15, _⟩ => ⟨S256x4096, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x4096 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x4096 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S256x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OutProjRefIdeal.lean ====
abbrev S8192x1024 : Shape := ⟨2, ![8192, 1024]⟩
abbrev S4096x4096 : Shape := ⟨2, ![4096, 4096]⟩
abbrev S8192x4096 : Shape := ⟨2, ![8192, 4096]⟩
abbrev S1x4096 : Shape := ⟨2, ![1, 4096]⟩
abbrev S4096 : Shape := ⟨1, ![4096]⟩
abbrev S_ : Shape := ⟨0, ![]⟩
abbrev S8192 : Shape := ⟨1, ![8192]⟩
abbrev S8192x1 : Shape := ⟨2, ![8192, 1]⟩

abbrev nBuf : Space → Nat
  | .hbm => 50
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .bf16⟩
  | .hbm, ⟨2, _⟩ => ⟨S8192x1024, .bf16⟩
  | .hbm, ⟨3, _⟩ => ⟨S8192x1024, .bf16⟩
  | .hbm, ⟨4, _⟩ => ⟨S4096x4096, .bf16⟩
  | .hbm, ⟨5, _⟩ => ⟨S8192x4096, .f32⟩
  | .hbm, ⟨6, _⟩ => ⟨S1x4096, .f32⟩
  | .hbm, ⟨7, _⟩ => ⟨S4096, .f32⟩
  | .hbm, ⟨8, _⟩ => ⟨S4096, .f32⟩
  | .hbm, ⟨9, _⟩ => ⟨S8192x1024, .f32⟩
  | .hbm, ⟨10, _⟩ => ⟨S8192x1024, .f32⟩
  | .hbm, ⟨11, _⟩ => ⟨S8192x1024, .f32⟩
  | .hbm, ⟨12, _⟩ => ⟨S8192x4096, .f32⟩
  | .hbm, ⟨13, _⟩ => ⟨S4096x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S8192x4096, .f32⟩
  | .hbm, ⟨20, _⟩ => ⟨S8192x4096, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S_, .f32⟩
  | .hbm, ⟨25, _⟩ => ⟨S8192x1, .f32⟩
  | .hbm, ⟨26, _⟩ => ⟨S8192x1, .f32⟩
  | .hbm, ⟨27, _⟩ => ⟨S8192x4096, .f32⟩
  | .hbm, ⟨28, _⟩ => ⟨S8192x4096, .f32⟩
  | .hbm, ⟨29, _⟩ => ⟨S8192x4096, .f32⟩
  | .hbm, ⟨30, _⟩ => ⟨S_, .f32⟩
  | .hbm, ⟨31, _⟩ => ⟨S8192, .f32⟩
  | .hbm, ⟨32, _⟩ => ⟨S8192x1, .f32⟩
  | .hbm, ⟨33, _⟩ => ⟨S_, .f32⟩
  | .hbm, ⟨34, _⟩ => ⟨S8192x1, .f32⟩
  | .hbm, ⟨35, _⟩ => ⟨S8192x1, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S8192x1, .f32⟩
  | .hbm, ⟨40, _⟩ => ⟨S8192x1, .f32⟩
  | .hbm, ⟨41, _⟩ => ⟨S8192x1, .f32⟩
  | .hbm, ⟨42, _⟩ => ⟨S8192x4096, .f32⟩
  | .hbm, ⟨43, _⟩ => ⟨S8192x4096, .f32⟩
  | .hbm, ⟨44, _⟩ => ⟨S1x4096, .f32⟩
  | .hbm, ⟨45, _⟩ => ⟨S8192x4096, .f32⟩
  | .hbm, ⟨46, _⟩ => ⟨S8192x4096, .f32⟩
  | .hbm, ⟨47, _⟩ => ⟨S1x4096, .f32⟩
  | .hbm, ⟨48, _⟩ => ⟨S8192x4096, .f32⟩
  | .hbm, ⟨49, _⟩ => ⟨S8192x4096, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_cst : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== InProjKv.lean ====
abbrev S8192x4096 : Shape := ⟨2, ![8192, 4096]⟩
abbrev S1x2176x4096 : Shape := ⟨3, ![1, 2176, 4096]⟩
abbrev S8192x2176 : Shape := ⟨2, ![8192, 2176]⟩
abbrev S512x4096 : Shape := ⟨2, ![512, 4096]⟩
abbrev S512x2176 : Shape := ⟨2, ![512, 2176]⟩
abbrev S2176x4096 : Shape := ⟨2, ![2176, 4096]⟩

abbrev nBuf : Space → Nat
  | .hbm => 3
  | .vmem => 5
  | .smem => 0
  | _ => 0

abbrev bufTy : (tb : Table) → Fin (tcTables nBuf tb) → BufTy
  | .hbm, ⟨0, _⟩ => ⟨S8192x4096, .bf16⟩
  | .hbm, ⟨1, _⟩ => ⟨S1x2176x4096, .bf16⟩
  | .hbm, ⟨2, _⟩ => ⟨S8192x2176, .f32⟩
  | .local _ .vmem, ⟨0, _⟩ => ⟨S512x4096, .bf16⟩
  | .local _ .vmem, ⟨1, _⟩ => ⟨S512x4096, .bf16⟩
  | .local _ .vmem, ⟨2, _⟩ => ⟨S1x2176x4096, .bf16⟩
  | .local _ .vmem, ⟨3, _⟩ => ⟨S512x2176, .f32⟩
  | .local _ .vmem, ⟨4, _⟩ => ⟨S512x2176, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![16, 1], ![false, false]⟩

def k0_mult1 (i : grid0.Coords) : BitVec 32 :=
  let c0_i32 : BitVec 32 := 0#32
  let arg1 : BitVec 32 := BitVec.ofNat 32 (i 1).val
  let c2176_i32 : BitVec 32 := 2176#32
  let v0 : BitVec 32 := Scalar.muli arg1 c2176_i32
  let v1 : BitVec 32 := Scalar.addi c0_i32 v0
  v1
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2176_i32 : BitVec 32 := 2176#32
  let v0 : BitVec 32 := Scalar.muli arg1 c2176_i32
  let c0_i32 : BitVec 32 := 0#32
  let v1 : BitVec 32 := Scalar.addi c0_i32 v0
  let v2 : BitVec 32 := v1
  let c0_i32_0 : BitVec 32 := 0#32
  let c0_i32_1 : BitVec 32 := 0#32
  let c0_i32_2 : BitVec 32 := 0#32
  ![c0_i32_0.toNat, v2.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2176x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== InProjKvRefIdeal.lean ====
abbrev S8192x4096 : Shape := ⟨2, ![8192, 4096]⟩
abbrev S1x2176x4096 : Shape := ⟨3, ![1, 2176, 4096]⟩
abbrev S2176x4096 : Shape := ⟨2, ![2176, 4096]⟩
abbrev S4096x2176 : Shape := ⟨2, ![4096, 2176]⟩
abbrev S8192x2176 : Shape := ⟨2, ![8192, 2176]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S1x2176x4096, .bf16⟩
  | .hbm, ⟨2, _⟩ => ⟨S8192x4096, .f32⟩
  | .hbm, ⟨3, _⟩ => ⟨S2176x4096, .bf16⟩
  | .hbm, ⟨4, _⟩ => ⟨S2176x4096, .f32⟩
  | .hbm, ⟨5, _⟩ => ⟨S4096x2176, .f32⟩
  | .hbm, ⟨6, _⟩ => ⟨S8192x2176, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Modulate.lean ====
abbrev S8192x4096 : Shape := ⟨2, ![8192, 4096]⟩
abbrev S1x4096 : Shape := ⟨2, ![1, 4096]⟩
abbrev S512x4096 : Shape := ⟨2, ![512, 4096]⟩
abbrev S512 : Shape := ⟨1, ![512]⟩
abbrev S512x1 : Shape := ⟨2, ![512, 1]⟩

abbrev nBuf : Space → Nat
  | .hbm => 4
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S8192x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x4096, .f32⟩
  | .local _ .vmem, ⟨4, _⟩ => ⟨S512x4096, .bf16⟩
  | .local _ .vmem, ⟨5, _⟩ => ⟨S512x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ModulateRefIdeal.lean ====
abbrev S8192x4096 : Shape := ⟨2, ![8192, 4096]⟩
abbrev S1x4096 : Shape := ⟨2, ![1, 4096]⟩
abbrev S_ : Shape := ⟨0, ![]⟩
abbrev S8192 : Shape := ⟨1, ![8192]⟩
abbrev S8192x1 : Shape := ⟨2, ![8192, 1]⟩

abbrev nBuf : Space → Nat
  | .hbm => 34
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x4096, .f32⟩
  | .hbm, ⟨2, _⟩ => ⟨S1x4096, .f32⟩
  | .hbm, ⟨3, _⟩ => ⟨S_, .f32⟩
  | .hbm, ⟨4, _⟩ => ⟨S8192, .f32⟩
  | .hbm, ⟨5, _⟩ => ⟨S8192x1, .f32⟩
  | .hbm, ⟨6, _⟩ => ⟨S_, .f32⟩
  | .hbm, ⟨7, _⟩ => ⟨S8192x1, .f32⟩
  | .hbm, ⟨8, _⟩ => ⟨S8192x1, .f32⟩
  | .hbm, ⟨9, _⟩ => ⟨S8192x4096, .f32⟩
  | .hbm, ⟨10, _⟩ => ⟨S8192x4096, .f32⟩
  | .hbm, ⟨11, _⟩ => ⟨S8192x4096, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x4096, .f32⟩
  | .hbm, ⟨19, _⟩ => ⟨S8192x4096, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S8192x1, .f32⟩
  | .hbm, ⟨24, _⟩ => ⟨S8192x4096, .f32⟩
  | .hbm, ⟨25, _⟩ => ⟨S8192x4096, .f32⟩
  | .hbm, ⟨26, _⟩ => ⟨S_, .f32⟩
  | .hbm, ⟨27, _⟩ => ⟨S1x4096, .f32⟩
  | .hbm, ⟨28, _⟩ => ⟨S1x4096, .f32⟩
  | .hbm, ⟨29, _⟩ => ⟨S8192x4096, .f32⟩
  | .hbm, ⟨30, _⟩ => ⟨S8192x4096, .f32⟩
  | .hbm, ⟨31, _⟩ => ⟨S8192x4096, .f32⟩
  | .hbm, ⟨32, _⟩ => ⟨S8192x4096, .f32⟩
  | .hbm, ⟨33, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst_1 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_4 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩

abbrev nD : Nat := 1
abbrev τ : Topo := Topo.v7x

variable {F : FTy → Type} [FloatOps F]
-- ==== PrepHy.lean ====
abbrev S8192x11264 : Shape := ⟨2, ![8192, 11264]⟩
abbrev S3x3072 : Shape := ⟨2, ![3, 3072]⟩
abbrev S3072 : Shape := ⟨1, ![3072]⟩
abbrev S_ : Shape := ⟨0, ![]⟩
abbrev S8x3072 : Shape := ⟨2, ![8, 3072]⟩
abbrev S1x3072 : Shape := ⟨2, ![1, 3072]⟩
abbrev S8192x1024 : Shape := ⟨2, ![8192, 1024]⟩
abbrev S512x1024 : Shape := ⟨2, ![512, 1024]⟩
abbrev S16x1024 : Shape := ⟨2, ![16, 1024]⟩
abbrev S1x1024 : Shape := ⟨2, ![1, 1024]⟩
abbrev S8x1024 : Shape := ⟨2, ![8, 1024]⟩

abbrev nBuf : Space → Nat
  | .hbm => 9
  | .vmem => 26
  | .smem => 0
  | _ => 0

abbrev bufTy : (tb : Table) → Fin (tcTables nBuf tb) → BufTy
  | .hbm, ⟨0, _⟩ => ⟨S8192x11264, .bf16⟩
  | .hbm, ⟨1, _⟩ => ⟨S3x3072, .f32⟩
  | .hbm, ⟨2, _⟩ => ⟨S3072, .f32⟩
  | .hbm, ⟨3, _⟩ => ⟨S_, .i32⟩
  | .hbm, ⟨4, _⟩ => ⟨S_, .f32⟩
  | .hbm, ⟨5, _⟩ => ⟨S8x3072, .f32⟩
  | .hbm, ⟨6, _⟩ => ⟨S1x3072, .f32⟩
  | .hbm, ⟨7, _⟩ => ⟨S8192x1024, .f32⟩
  | .hbm, ⟨8, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .bf16⟩
  | .local _ .vmem, ⟨7, _⟩ => ⟨S512x1024, .bf16⟩
  | .local _ .vmem, ⟨8, _⟩ => ⟨S16x1024, .bf16⟩
  | .local _ .vmem, ⟨9, _⟩ => ⟨S16x1024, .bf16⟩
  | .local _ .vmem, ⟨10, _⟩ => ⟨S16x1024, .bf16⟩
  | .local _ .vmem, ⟨11, _⟩ => ⟨S16x1024, .bf16⟩
  | .local _ .vmem, ⟨12, _⟩ => ⟨S512x1024, .bf16⟩
  | .local _ .vmem, ⟨13, _⟩ => ⟨S512x1024, .bf16⟩
  | .local _ .vmem, ⟨14, _⟩ => ⟨S16x1024, .bf16⟩
  | .local _ .vmem, ⟨15, _⟩ => ⟨S16x1024, .bf16⟩
  | .local _ .vmem, ⟨16, _⟩ => ⟨S16x1024, .bf16⟩
  | .local _ .vmem, ⟨17, _⟩ => ⟨S16x1024, .bf16⟩
  | .local _ .vmem, ⟨18, _⟩ => ⟨S512x1024, .bf16⟩
  | .local _ .vmem, ⟨19, _⟩ => ⟨S512x1024, .bf16⟩
  | .local _ .vmem, ⟨20, _⟩ => ⟨S8x3072, .f32⟩
  | .local _ .vmem, ⟨21, _⟩ => ⟨S1x3072, .f32⟩
  | .local _ .vmem, ⟨22, _⟩ => ⟨S512x1024, .f32⟩
  | .local _ .vmem, ⟨23, _⟩ => ⟨S512x1024, .f32⟩
  | .local _ .vmem, ⟨24, _⟩ => ⟨S512x1024, .f32⟩
  | .local _ .vmem, ⟨25, _⟩ => ⟨S512x1024, .f32⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg11_0 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem11_0 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c3_i32 : BitVec 32 := 3#32
  let c0_i32_0 : BitVec 32 := 0#32
  ![v2.toNat, c3_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c3_i32 : BitVec 32 := 3#32
  let c0_i32 : BitVec 32 := 0#32
  ![v2.toNat, c3_i32.toNat]

def cc0_transform_3 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_4 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c4_i32 : BitVec 32 := 4#32
  let c0_i32_0 : BitVec 32 := 0#32
  ![v2.toNat, c4_i32.toNat]

def cc0_transform_5 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c4_i32 : BitVec 32 := 4#32
  let c0_i32 : BitVec 32 := 0#32
  ![v2.toNat, c4_i32.toNat]

def cc0_transform_6 (i : grid0.Coords) : Fin 2 → Nat :=
  let arg0 : BitVec 32 := BitVec.ofNat 32 (i 0).val
  let c5_i32 : BitVec 32 := 5#32
  let c0_i32 : BitVec 32 := 0#32
  ![arg0.toNat, c5_i32.toNat]

def cc0_transform_7 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c5_i32 : BitVec 32 := 5#32
  let c0_i32_0 : BitVec 32 := 0#32
  ![v2.toNat, c5_i32.toNat]

def cc0_transform_8 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c5_i32 : BitVec 32 := 5#32
  let c0_i32 : BitVec 32 := 0#32
  ![v2.toNat, c5_i32.toNat]

def cc0_transform_9 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x3072 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x3072 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S512x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x1024 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== PrepHyRefIdeal.lean ====
abbrev S8192x11264 : Shape := ⟨2, ![8192, 11264]⟩
abbrev S3x3072 : Shape := ⟨2, ![3, 3072]⟩
abbrev S3072 : Shape := ⟨1, ![3072]⟩
abbrev S8192x3072 : Shape := ⟨2, ![8192, 3072]⟩
abbrev S_ : Shape := ⟨0, ![]⟩
abbrev S8194x3072 : Shape := ⟨2, ![8194, 3072]⟩
abbrev S1x3072 : Shape := ⟨2, ![1, 3072]⟩
abbrev S8192x1024 : Shape := ⟨2, ![8192, 1024]⟩

abbrev nBuf : Space → Nat
  | .hbm => 46
  | .vmem => 0
  | .smem => 0
  | _ => 0

abbrev bufTy : (tb : Table) → Fin (tcTables nBuf tb) → BufTy
  | .hbm, ⟨0, _⟩ => ⟨S8192x11264, .bf16⟩
  | .hbm, ⟨1, _⟩ => ⟨S3x3072, .f32⟩
  | .hbm, ⟨2, _⟩ => ⟨S3072, .f32⟩
  | .hbm, ⟨3, _⟩ => ⟨S8192x11264, .f32⟩
  | .hbm, ⟨4, _⟩ => ⟨S8192x3072, .f32⟩
  | .hbm, ⟨5, _⟩ => ⟨S_, .i32⟩
  | .hbm, ⟨6, _⟩ => ⟨S_, .f32⟩
  | .hbm, ⟨7, _⟩ => ⟨S8194x3072, .f32⟩
  | .hbm, ⟨8, _⟩ => ⟨S8192x3072, .f32⟩
  | .hbm, ⟨9, _⟩ => ⟨S1x3072, .f32⟩
  | .hbm, ⟨10, _⟩ => ⟨S3072, .f32⟩
  | .hbm, ⟨11, _⟩ => ⟨S1x3072, .f32⟩
  | .hbm, ⟨12, _⟩ => ⟨S8192x3072, .f32⟩
  | .hbm, ⟨13, _⟩ => ⟨S8192x3072, .f32⟩
  | .hbm, ⟨14, _⟩ => ⟨S8192x3072, .f32⟩
  | .hbm, ⟨15, _⟩ => ⟨S1x3072, .f32⟩
  | .hbm, ⟨16, _⟩ => ⟨S3072, .f32⟩
  | .hbm, ⟨17, _⟩ => ⟨S1x3072, .f32⟩
  | .hbm, ⟨18, _⟩ => ⟨S8192x3072, .f32⟩
  | .hbm, ⟨19, _⟩ => ⟨S8192x3072, .f32⟩
  | .hbm, ⟨20, _⟩ => ⟨S8192x3072, .f32⟩
  | .hbm, ⟨21, _⟩ => ⟨S8192x3072, .f32⟩
  | .hbm, ⟨22, _⟩ => ⟨S1x3072, .f32⟩
  | .hbm, ⟨23, _⟩ => ⟨S3072, .f32⟩
  | .hbm, ⟨24, _⟩ => ⟨S1x3072, .f32⟩
  | .hbm, ⟨25, _⟩ => ⟨S8192x3072, .f32⟩
  | .hbm, ⟨26, _⟩ => ⟨S8192x3072, .f32⟩
  | .hbm, ⟨27, _⟩ => ⟨S8192x3072, .f32⟩
  | .hbm, ⟨28, _⟩ => ⟨S1x3072, .f32⟩
  | .hbm, ⟨29, _⟩ => ⟨S8192x3072, .f32⟩
  | .hbm, ⟨30, _⟩ => ⟨S8192x3072, .f32⟩
  | .hbm, ⟨31, _⟩ => ⟨S8192x1024, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S8192x1024, .f32⟩
  | .hbm, ⟨37, _⟩ => ⟨S8192x1024, .f32⟩
  | .hbm, ⟨38, _⟩ => ⟨S_, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev main_call1_v0 : Ref sig .tc := ⟨.hbm, 36, rfl⟩
abbrev main_call1_v1 : Ref sig .tc := ⟨.hbm, 37, rfl⟩
abbrev main_call1_cst : Ref sig .tc := ⟨.hbm, 38, rfl⟩
abbrev main_call1_v2 : Ref sig .tc := ⟨.hbm, 39, rfl⟩
abbrev main_call1_v3 : Ref sig .tc := ⟨.hbm, 40, rfl⟩
abbrev main_call1_cst_0 : Ref sig .tc := ⟨.hbm, 41, rfl⟩
abbrev main_call1_v4 : Ref sig .tc := ⟨.hbm, 42, rfl⟩
abbrev main_call1_v5 : Ref sig .tc := ⟨.hbm, 43, rfl⟩
abbrev main_v31 : Ref sig .tc := ⟨.hbm, 44, rfl⟩
abbrev main_v32 : Ref sig .tc := ⟨.hbm, 45, rfl⟩

abbrev nD : Nat := 1
abbrev τ : Topo := Topo.v7x

variable {F : FTy → Type} [FloatOps F]
-- ==== Pool.lean ====
abbrev S8192x11264 : Shape := ⟨2, ![8192, 11264]⟩
abbrev S4x256x256 : Shape := ⟨3, ![4, 256, 256]⟩
abbrev S1024 : Shape := ⟨1, ![1024]⟩
abbrev S1x1024 : Shape := ⟨2, ![1, 1024]⟩
abbrev S8192x1024 : Shape := ⟨2, ![8192, 1024]⟩
abbrev S512x1024 : Shape := ⟨2, ![512, 1024]⟩
abbrev S16x1024 : Shape := ⟨2, ![16, 1024]⟩
abbrev S512x1 : Shape := ⟨2, ![512, 1]⟩
abbrev S512x256 : Shape := ⟨2, ![512, 256]⟩
abbrev S16x256 : Shape := ⟨2, ![16, 256]⟩
abbrev S544x256 : Shape := ⟨2, ![544, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 6
  | .vmem => 12
  | .smem => 0
  | _ => 0

abbrev bufTy : (tb : Table) → Fin (tcTables nBuf tb) → BufTy
  | .hbm, ⟨0, _⟩ => ⟨S8192x11264, .bf16⟩
  | .hbm, ⟨1, _⟩ => ⟨S4x256x256, .f32⟩
  | .hbm, ⟨2, _⟩ => ⟨S1024, .f32⟩
  | .hbm, ⟨3, _⟩ => ⟨S4x256x256, .bf16⟩
  | .hbm, ⟨4, _⟩ => ⟨S1x1024, .f32⟩
  | .hbm, ⟨5, _⟩ => ⟨S8192x1024, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S16x1024, .bf16⟩
  | .local _ .vmem, ⟨5, _⟩ => ⟨S16x1024, .bf16⟩
  | .local _ .vmem, ⟨6, _⟩ => ⟨S512x1024, .bf16⟩
  | .local _ .vmem, ⟨7, _⟩ => ⟨S512x1024, .bf16⟩
  | .local _ .vmem, ⟨8, _⟩ => ⟨S4x256x256, .bf16⟩
  | .local _ .vmem, ⟨9, _⟩ => ⟨S1x1024, .f32⟩
  | .local _ .vmem, ⟨10, _⟩ => ⟨S512x1024, .bf16⟩
  | .local _ .vmem, ⟨11, _⟩ => ⟨S512x1024, .bf16⟩
  | _, _ => ⟨S8192x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c6_i32 : BitVec 32 := 6#32
  let c0_i32_0 : BitVec 32 := 0#32
  ![v2.toNat, c6_i32.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c32_i32 : BitVec 32 := 32#32
  let v1 : BitVec 32 := Scalar.muli v0 c32_i32
  let c511_i32 : BitVec 32 := 511#32
  let v2 : BitVec 32 := Scalar.minsi v1 c511_i32
  let c6_i32 : BitVec 32 := 6#32
  let c0_i32 : BitVec 32 := 0#32
  ![v2.toNat, c6_i32.toNat]

def cc0_transform_3 (i : grid0.Coords) : Fin 2 → Nat :=
  let arg0 : BitVec 32 := BitVec.ofNat 32 (i 0).val
  let c9_i32 : BitVec 32 := 9#32
  let c0_i32 : BitVec 32 := 0#32
  ![arg0.toNat, c9_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4x256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== PoolRefIdeal.lean ====
abbrev S8192x11264 : Shape := ⟨2, ![8192, 11264]⟩
abbrev S4x256x256 : Shape := ⟨3, ![4, 256, 256]⟩
abbrev S1024 : Shape := ⟨1, ![1024]⟩
abbrev S8192x1024 : Shape := ⟨2, ![8192, 1024]⟩
abbrev S8192x4x256 : Shape := ⟨3, ![8192, 4, 256]⟩
abbrev S8192 : Shape := ⟨1, ![8192]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S8192x1x256 : Shape := ⟨3, ![8192, 1, 256]⟩
abbrev S8192x256 : Shape := ⟨2, ![8192, 256]⟩
abbrev S4x256x8192 : Shape := ⟨3, ![4, 256, 8192]⟩
abbrev S1x1024 : Shape := ⟨2, ![1, 1024]⟩

abbrev nBuf : Space → Nat
  | .hbm => 223
  | .vmem => 0
  | .smem => 0
  | _ => 0

abbrev hbmTy0_0 (i : Nat) : BufTy := match i % 128 with
  | 0 => ⟨S8192x11264, .bf16⟩
  | 1 => ⟨S4x256x256, .f32⟩
  | 2 => ⟨S1024, .f32⟩
  | 3 => ⟨S8192x1024, .bf16⟩
  | 4 => ⟨S8192x1024, .f32⟩
  | 5 => ⟨S8192x4x256, .f32⟩
  | 6 => ⟨S8192, .i32⟩
  | 7 => ⟨S_, .i32⟩
  | 8 => ⟨S8192, .i32⟩
  | 9 => ⟨S8192, .i32⟩
  | 10 => ⟨S_, .i32⟩
  | 11 => ⟨S_, .i32⟩
  | 12 => ⟨S_, .i32⟩
  | 13 => ⟨S8192, .i32⟩
  | 14 => ⟨S8192, .i32⟩
  | 15 => ⟨S_, .i32⟩
  | 16 => ⟨S8192, .i32⟩
  | 17 => ⟨S8192, .i32⟩
  | 18 => ⟨S_, .i32⟩
  | 19 => ⟨S8192, .i32⟩
  | 20 => ⟨S8192, .i32⟩
  | 21 => ⟨S_, .i32⟩
  | 22 => ⟨S8192, .i32⟩
  | 23 => ⟨S8192, .i32⟩
  | 24 => ⟨S_, .i32⟩
  | 25 => ⟨S_, .i32⟩
  | 26 => ⟨S_, .i32⟩
  | 27 => ⟨S8192, .i32⟩
  | 28 => ⟨S8192, .i32⟩
  | 29 => ⟨S_, .i32⟩
  | 30 => ⟨S8192, .i32⟩
  | 31 => ⟨S8192, .i32⟩
  | 32 => ⟨S8192x1, .i32⟩
  | 33 => ⟨S1x8192, .i32⟩
  | 34 => ⟨S8192x8192, .i32⟩
  | 35 => ⟨S8192x8192, .i32⟩
  | 36 => ⟨S8192x8192, .i1⟩
  | 37 => ⟨S1x8192, .i32⟩
  | 38 => ⟨S8192x1, .i32⟩
  | 39 => ⟨S8192x8192, .i32⟩
  | 40 => ⟨S8192x8192, .i32⟩
  | 41 => ⟨S8192x8192, .i1⟩
  | 42 => ⟨S8192x8192, .i1⟩
  | 43 => ⟨S8192x8192, .f32⟩
  | 44 => ⟨S8192x1x256, .f32⟩
  | 45 => ⟨S8192x256, .f32⟩
  | 46 => ⟨S8192x256, .f32⟩
  | 47 => ⟨S8192, .i32⟩
  | 48 => ⟨S8192, .f32⟩
  | 49 => ⟨S8192x1, .f32⟩
  | 50 => ⟨S8192x256, .f32⟩
  | 51 => ⟨S8192x256, .f32⟩
  | 52 => ⟨S8192x1x256, .f32⟩
  | 53 => ⟨S8192x256, .f32⟩
  | 54 => ⟨S8192x256, .f32⟩
  | 55 => ⟨S_, .i32⟩
  | 56 => ⟨S8192, .i32⟩
  | 57 => ⟨S8192, .i32⟩
  | 58 => ⟨S_, .i32⟩
  | 59 => ⟨S_, .i32⟩
  | 60 => ⟨S_, .i32⟩
  | 61 => ⟨S8192, .i32⟩
  | 62 => ⟨S8192, .i32⟩
  | 63 => ⟨S_, .i32⟩
  | 64 => ⟨S8192, .i32⟩
  | 65 => ⟨S8192, .i32⟩
  | 66 => ⟨S_, .i32⟩
  | 67 => ⟨S8192, .i32⟩
  | 68 => ⟨S8192, .i32⟩
  | 69 => ⟨S_, .i32⟩
  | 70 => ⟨S8192, .i32⟩
  | 71 => ⟨S8192, .i32⟩
  | 72 => ⟨S_, .i32⟩
  | 73 => ⟨S_, .i32⟩
  | 74 => ⟨S_, .i32⟩
  | 75 => ⟨S8192, .i32⟩
  | 76 => ⟨S8192, .i32⟩
  | 77 => ⟨S_, .i32⟩
  | 78 => ⟨S8192, .i32⟩
  | 79 => ⟨S8192, .i32⟩
  | 80 => ⟨S8192x1, .i32⟩
  | 81 => ⟨S1x8192, .i32⟩
  | 82 => ⟨S8192x8192, .i32⟩
  | 83 => ⟨S8192x8192, .i32⟩
  | 84 => ⟨S8192x8192, .i1⟩
  | 85 => ⟨S1x8192, .i32⟩
  | 86 => ⟨S8192x1, .i32⟩
  | 87 => ⟨S8192x8192, .i32⟩
  | 88 => ⟨S8192x8192, .i32⟩
  | 89 => ⟨S8192x8192, .i1⟩
  | 90 => ⟨S8192x8192, .i1⟩
  | 91 => ⟨S8192x8192, .f32⟩
  | 92 => ⟨S8192x1x256, .f32⟩
  | 93 => ⟨S8192x256, .f32⟩
  | 94 => ⟨S8192x256, .f32⟩
  | 95 => ⟨S8192, .i32⟩
  | 96 => ⟨S8192, .f32⟩
  | 97 => ⟨S8192x1, .f32⟩
  | 98 => ⟨S8192x256, .f32⟩
  | 99 => ⟨S8192x256, .f32⟩
  | 100 => ⟨S8192x1x256, .f32⟩
  | 101 => ⟨S8192x256, .f32⟩
  | 102 => ⟨S8192x256, .f32⟩
  | 103 => ⟨S_, .i32⟩
  | 104 => ⟨S8192, .i32⟩
  | 105 => ⟨S8192, .i32⟩
  | 106 => ⟨S_, .i32⟩
  | 107 => ⟨S_, .i32⟩
  | 108 => ⟨S_, .i32⟩
  | 109 => ⟨S8192, .i32⟩
  | 110 => ⟨S8192, .i32⟩
  | 111 => ⟨S_, .i32⟩
  | 112 => ⟨S8192, .i32⟩
  | 113 => ⟨S8192, .i32⟩
  | 114 => ⟨S_, .i32⟩
  | 115 => ⟨S8192, .i32⟩
  | 116 => ⟨S8192, .i32⟩
  | 117 => ⟨S_, .i32⟩
  | 118 => ⟨S8192, .i32⟩
  | 119 => ⟨S8192, .i32⟩
  | 120 => ⟨S_, .i32⟩
  | 121 => ⟨S_, .i32⟩
  | 122 => ⟨S_, .i32⟩
  | 123 => ⟨S8192, .i32⟩
  | 124 => ⟨S8192, .i32⟩
  | 125 => ⟨S_, .i32⟩
  | 126 => ⟨S8192, .i32⟩
  | 127 => ⟨S8192, .i32⟩
  | _ => ⟨S8192x11264, .bf16⟩

abbrev hbmTy0_1 (i : Nat) : BufTy := match i % 128 with
  | 0 => ⟨S8192x1, .i32⟩
  | 1 => ⟨S1x8192, .i32⟩
  | 2 => ⟨S8192x8192, .i32⟩
  | 3 => ⟨S8192x8192, .i32⟩
  | 4 => ⟨S8192x8192, .i1⟩
  | 5 => ⟨S1x8192, .i32⟩
  | 6 => ⟨S8192x1, .i32⟩
  | 7 => ⟨S8192x8192, .i32⟩
  | 8 => ⟨S8192x8192, .i32⟩
  | 9 => ⟨S8192x8192, .i1⟩
  | 10 => ⟨S8192x8192, .i1⟩
  | 11 => ⟨S8192x8192, .f32⟩
  | 12 => ⟨S8192x1x256, .f32⟩
  | 13 => ⟨S8192x256, .f32⟩
  | 14 => ⟨S8192x256, .f32⟩
  | 15 => ⟨S8192, .i32⟩
  | 16 => ⟨S8192, .f32⟩
  | 17 => ⟨S8192x1, .f32⟩
  | 18 => ⟨S8192x256, .f32⟩
  | 19 => ⟨S8192x256, .f32⟩
  | 20 => ⟨S8192x1x256, .f32⟩
  | 21 => ⟨S8192x256, .f32⟩
  | 22 => ⟨S8192x256, .f32⟩
  | 23 => ⟨S_, .i32⟩
  | 24 => ⟨S8192, .i32⟩
  | 25 => ⟨S8192, .i32⟩
  | 26 => ⟨S_, .i32⟩
  | 27 => ⟨S_, .i32⟩
  | 28 => ⟨S_, .i32⟩
  | 29 => ⟨S8192, .i32⟩
  | 30 => ⟨S8192, .i32⟩
  | 31 => ⟨S_, .i32⟩
  | 32 => ⟨S8192, .i32⟩
  | 33 => ⟨S8192, .i32⟩
  | 34 => ⟨S_, .i32⟩
  | 35 => ⟨S8192, .i32⟩
  | 36 => ⟨S8192, .i32⟩
  | 37 => ⟨S_, .i32⟩
  | 38 => ⟨S8192, .i32⟩
  | 39 => ⟨S8192, .i32⟩
  | 40 => ⟨S_, .i32⟩
  | 41 => ⟨S_, .i32⟩
  | 42 => ⟨S_, .i32⟩
  | 43 => ⟨S8192, .i32⟩
  | 44 => ⟨S8192, .i32⟩
  | 45 => ⟨S_, .i32⟩
  | 46 => ⟨S8192, .i32⟩
  | 47 => ⟨S8192, .i32⟩
  | 48 => ⟨S8192x1, .i32⟩
  | 49 => ⟨S1x8192, .i32⟩
  | 50 => ⟨S8192x8192, .i32⟩
  | 51 => ⟨S8192x8192, .i32⟩
  | 52 => ⟨S8192x8192, .i1⟩
  | 53 => ⟨S1x8192, .i32⟩
  | 54 => ⟨S8192x1, .i32⟩
  | 55 => ⟨S8192x8192, .i32⟩
  | 56 => ⟨S8192x8192, .i32⟩
  | 57 => ⟨S8192x8192, .i1⟩
  | 58 => ⟨S8192x8192, .i1⟩
  | 59 => ⟨S8192x8192, .f32⟩
  | 60 => ⟨S8192x1x256, .f32⟩
  | 61 => ⟨S8192x256, .f32⟩
  | 62 => ⟨S8192x256, .f32⟩
  | 63 => ⟨S8192, .i32⟩
  | 64 => ⟨S8192, .f32⟩
  | 65 => ⟨S8192x1, .f32⟩
  | 66 => ⟨S8192x256, .f32⟩
  | 67 => ⟨S8192x256, .f32⟩
  | 68 => ⟨S8192x1x256, .f32⟩
  | 69 => ⟨S8192x256, .f32⟩
  | 70 => ⟨S8192x256, .f32⟩
  | 71 => ⟨S8192x1x256, .f32⟩
  | 72 => ⟨S8192x1x256, .f32⟩
  | 73 => ⟨S8192x1x256, .f32⟩
  | 74 => ⟨S8192x1x256, .f32⟩
  | 75 => ⟨S8192x4x256, .f32⟩
  | 76 => ⟨S4x256x8192, .f32⟩
  | 77 => ⟨S8192x4x256, .f32⟩
  | 78 => ⟨S8192x1024, .f32⟩
  | 79 => ⟨S1x1024, .f32⟩
  | 80 => ⟨S8192x1024, .f32⟩
  | 81 => ⟨S8192x1024, .f32⟩
  | 82 => ⟨S8192x1024, .bf16⟩
  | 83 => ⟨S8192x1024, .f32⟩
  | 84 => ⟨S8192x1024, .f32⟩
  | 85 => ⟨S8192x1024, .f32⟩
  | 86 => ⟨S_, .f32⟩
  | 87 => ⟨S8192x1024, .f32⟩
  | 88 => ⟨S8192x1024, .f32⟩
  | 89 => ⟨S_, .f32⟩
  | 90 => ⟨S8192x1024, .f32⟩
  | 91 => ⟨S8192x1024, .f32⟩
  | 92 => ⟨S8192x1024, .f32⟩
  | 93 => ⟨S8192x1024, .f32⟩
  | 94 => ⟨S8192x1024, .bf16⟩
  | _ => ⟨S8192x11264, .bf16⟩

abbrev hbmTy (i : Nat) : BufTy := match i / 128 with
  | 0 => hbmTy0_0 i
  | 1 => hbmTy0_1 i
  | _ => ⟨S8192x11264, .bf16⟩

abbrev bufTy : (tb : Table) → Fin (tcTables nBuf tb) → BufTy
  | .hbm, ⟨i, _⟩ => hbmTy i
  | _, _ => ⟨S8192x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_c : Ref sig .tc := ⟨.hbm, 7, rfl⟩
abbrev main_v4 : Ref sig .tc := ⟨.hbm, 8, rfl⟩
abbrev main_v5 : Ref sig .tc := ⟨.hbm, 9, rfl⟩
abbrev main_c_0 : Ref sig .tc := ⟨.hbm, 10, rfl⟩
abbrev main_c_1 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v6 : Ref sig .tc := ⟨.hbm, 17, rfl⟩
abbrev main_c_2 : Ref sig .tc := ⟨.hbm, 18, rfl⟩
abbrev main_v7 : Ref sig .tc := ⟨.hbm, 19, rfl⟩
abbrev main_v8 : Ref sig .tc := ⟨.hbm, 20, rfl⟩
abbrev main_c_3 : Ref sig .tc := ⟨.hbm, 21, rfl⟩
abbrev main_v9 : Ref sig .tc := ⟨.hbm, 22, rfl⟩
abbrev main_v10 : Ref sig .tc := ⟨.hbm, 23, rfl⟩
abbrev main_c_4 : Ref sig .tc := ⟨.hbm, 24, rfl⟩
abbrev main_c_5 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_6 : Ref sig .tc := ⟨.hbm, 55, rfl⟩
abbrev main_v35 : Ref sig .tc := ⟨.hbm, 56, rfl⟩
abbrev main_v36 : Ref sig .tc := ⟨.hbm, 57, rfl⟩
abbrev main_c_7 : Ref sig .tc := ⟨.hbm, 58, rfl⟩
abbrev main_c_8 : Ref sig .tc := ⟨.hbm, 59, rfl⟩
abbrev main_call2_v0 : Ref sig .tc := ⟨.hbm, 60, rfl⟩
abbrev main_call2_v1 : Ref sig .tc := ⟨.hbm, 61, rfl⟩
abbrev main_call2_v2 : Ref sig .tc := ⟨.hbm, 62, rfl⟩
abbrev main_call2_v3 : Ref sig .tc := ⟨.hbm, 63, rfl⟩
abbrev main_call2_v4 : Ref sig .tc := ⟨.hbm, 64, rfl⟩
abbrev main_v37 : Ref sig .tc := ⟨.hbm, 65, rfl⟩
abbrev main_c_9 : Ref sig .tc := ⟨.hbm, 66, rfl⟩
abbrev main_v38 : Ref sig .tc := ⟨.hbm, 67, rfl⟩
abbrev main_v39 : Ref sig .tc := ⟨.hbm, 68, rfl⟩
abbrev main_c_10 : Ref sig .tc := ⟨.hbm, 69, rfl⟩
abbrev main_v40 : Ref sig .tc := ⟨.hbm, 70, rfl⟩
abbrev main_v41 : Ref sig .tc := ⟨.hbm, 71, rfl⟩
abbrev main_c_11 : Ref sig .tc := ⟨.hbm, 72, rfl⟩
abbrev main_c_12 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_v56 : Ref sig .tc := ⟨.hbm, 93, rfl⟩
abbrev main_v57 : Ref sig .tc := ⟨.hbm, 94, rfl⟩
abbrev main_v58 : Ref sig .tc := ⟨.hbm, 95, rfl⟩
abbrev main_v59 : Ref sig .tc := ⟨.hbm, 96, rfl⟩
abbrev main_v60 : Ref sig .tc := ⟨.hbm, 97, rfl⟩
abbrev main_v61 : Ref sig .tc := ⟨.hbm, 98, rfl⟩
abbrev main_v62 : Ref sig .tc := ⟨.hbm, 99, rfl⟩
abbrev main_v63 : Ref sig .tc := ⟨.hbm, 100, rfl⟩
abbrev main_v64 : Ref sig .tc := ⟨.hbm, 101, rfl⟩
abbrev main_v65 : Ref sig .tc := ⟨.hbm, 102, rfl⟩
abbrev main_c_13 : Ref sig .tc := ⟨.hbm, 103, rfl⟩
abbrev main_v66 : Ref sig .tc := ⟨.hbm, 104, rfl⟩
abbrev main_v67 : Ref sig .tc := ⟨.hbm, 105, rfl⟩
abbrev main_c_14 : Ref sig .tc := ⟨.hbm, 106, rfl⟩
abbrev main_c_15 : Ref sig .tc := ⟨.hbm, 107, rfl⟩
abbrev main_call4_v0 : Ref sig .tc := ⟨.hbm, 108, rfl⟩
abbrev main_call4_v1 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_v68 : Ref sig .tc := ⟨.hbm, 113, rfl⟩
abbrev main_c_16 : Ref sig .tc := ⟨.hbm, 114, rfl⟩
abbrev main_v69 : Ref sig .tc := ⟨.hbm, 115, rfl⟩
abbrev main_v70 : Ref sig .tc := ⟨.hbm, 116, rfl⟩
abbrev main_c_17 : Ref sig .tc := ⟨.hbm, 117, rfl⟩
abbrev main_v71 : Ref sig .tc := ⟨.hbm, 118, rfl⟩
abbrev main_v72 : Ref sig .tc := ⟨.hbm, 119, rfl⟩
abbrev main_c_18 : Ref sig .tc := ⟨.hbm, 120, rfl⟩
abbrev main_c_19 : Ref sig .tc := ⟨.hbm, 121, rfl⟩
abbrev main_call5_v0 : Ref sig .tc := ⟨.hbm, 122, rfl⟩
abbrev main_call5_v1 : Ref sig .tc := ⟨.hbm, 123, rfl⟩
abbrev main_call5_v2 : Ref sig .tc := ⟨.hbm, 124, rfl⟩
abbrev main_call5_v3 : Ref sig .tc := ⟨.hbm, 125, rfl⟩
abbrev main_call5_v4 : Ref sig .tc := ⟨.hbm, 126, rfl⟩
abbrev main_v73 : Ref sig .tc := ⟨.hbm, 127, rfl⟩
abbrev main_v74 : Ref sig .tc := ⟨.hbm, 128, rfl⟩
abbrev main_v75 : Ref sig .tc := ⟨.hbm, 129, rfl⟩
abbrev main_v76 : Ref sig .tc := ⟨.hbm, 130, rfl⟩
abbrev main_v77 : Ref sig .tc := ⟨.hbm, 131, rfl⟩
abbrev main_v78 : Ref sig .tc := ⟨.hbm, 132, rfl⟩
abbrev main_v79 : Ref sig .tc := ⟨.hbm, 133, rfl⟩
abbrev main_v80 : Ref sig .tc := ⟨.hbm, 134, rfl⟩
abbrev main_v81 : Ref sig .tc := ⟨.hbm, 135, rfl⟩
abbrev main_v82 : Ref sig .tc := ⟨.hbm, 136, rfl⟩
abbrev main_v83 : Ref sig .tc := ⟨.hbm, 137, rfl⟩
abbrev main_v84 : Ref sig .tc := ⟨.hbm, 138, rfl⟩
abbrev main_v85 : Ref sig .tc := ⟨.hbm, 139, rfl⟩
abbrev main_v86 : Ref sig .tc := ⟨.hbm, 140, rfl⟩
abbrev main_v87 : Ref sig .tc := ⟨.hbm, 141, rfl⟩
abbrev main_v88 : Ref sig .tc := ⟨.hbm, 142, rfl⟩
abbrev main_v89 : Ref sig .tc := ⟨.hbm, 143, rfl⟩
abbrev main_v90 : Ref sig .tc := ⟨.hbm, 144, rfl⟩
abbrev main_v91 : Ref sig .tc := ⟨.hbm, 145, rfl⟩
abbrev main_v92 : Ref sig .tc := ⟨.hbm, 146, rfl⟩
abbrev main_v93 : Ref sig .tc := ⟨.hbm, 147, rfl⟩
abbrev main_v94 : Ref sig .tc := ⟨.hbm, 148, rfl⟩
abbrev main_v95 : Ref sig .tc := ⟨.hbm, 149, rfl⟩
abbrev main_v96 : Ref sig .tc := ⟨.hbm, 150, rfl⟩
abbrev main_c_20 : Ref sig .tc := ⟨.hbm, 151, rfl⟩
abbrev main_v97 : Ref sig .tc := ⟨.hbm, 152, rfl⟩
abbrev main_v98 : Ref sig .tc := ⟨.hbm, 153, rfl⟩
abbrev main_c_21 : Ref sig .tc := ⟨.hbm, 154, rfl⟩
abbrev main_c_22 : Ref sig .tc := ⟨.hbm, 155, rfl⟩
abbrev main_call6_v0 : Ref sig .tc := ⟨.hbm, 156, rfl⟩
abbrev main_call6_v1 : Ref sig .tc := ⟨.hbm, 157, rfl⟩
abbrev main_call6_v2 : Ref sig .tc := ⟨.hbm, 158, rfl⟩
abbrev main_call6_v3 : Ref sig .tc := ⟨.hbm, 159, rfl⟩
abbrev main_call6_v4 : Ref sig .tc := ⟨.hbm, 160, rfl⟩
abbrev main_v99 : Ref sig .tc := ⟨.hbm, 161, rfl⟩
abbrev main_c_23 : Ref sig .tc := ⟨.hbm, 162, rfl⟩
abbrev main_v100 : Ref sig .tc := ⟨.hbm, 163, rfl⟩
abbrev main_v101 : Ref sig .tc := ⟨.hbm, 164, rfl⟩
abbrev main_c_24 : Ref sig .tc := ⟨.hbm, 165, rfl⟩
abbrev main_v102 : Ref sig .tc := ⟨.hbm, 166, rfl⟩
abbrev main_v103 : Ref sig .tc := ⟨.hbm, 167, rfl⟩
abbrev main_c_25 : Ref sig .tc := ⟨.hbm, 168, rfl⟩
abbrev main_c_26 : Ref sig .tc := ⟨.hbm, 169, rfl⟩
abbrev main_call7_v0 : Ref sig .tc := ⟨.hbm, 170, rfl⟩
abbrev main_call7_v1 : Ref sig .tc := ⟨.hbm, 171, rfl⟩
abbrev main_call7_v2 : Ref sig .tc := ⟨.hbm, 172, rfl⟩
abbrev main_call7_v3 : Ref sig .tc := ⟨.hbm, 173, rfl⟩
abbrev main_call7_v4 : Ref sig .tc := ⟨.hbm, 174, rfl⟩
abbrev main_v104 : Ref sig .tc := ⟨.hbm, 175, rfl⟩
abbrev main_v105 : Ref sig .tc := ⟨.hbm, 176, rfl⟩
abbrev main_v106 : Ref sig .tc := ⟨.hbm, 177, rfl⟩
abbrev main_v107 : Ref sig .tc := ⟨.hbm, 178, rfl⟩
abbrev main_v108 : Ref sig .tc := ⟨.hbm, 179, rfl⟩
abbrev main_v109 : Ref sig .tc := ⟨.hbm, 180, rfl⟩
abbrev main_v110 : Ref sig .tc := ⟨.hbm, 181, rfl⟩
abbrev main_v111 : Ref sig .tc := ⟨.hbm, 182, rfl⟩
abbrev main_v112 : Ref sig .tc := ⟨.hbm, 183, rfl⟩
abbrev main_v113 : Ref sig .tc := ⟨.hbm, 184, rfl⟩
abbrev main_v114 : Ref sig .tc := ⟨.hbm, 185, rfl⟩
abbrev main_v115 : Ref sig .tc := ⟨.hbm, 186, rfl⟩
abbrev main_v116 : Ref sig .tc := ⟨.hbm, 187, rfl⟩
abbrev main_v117 : Ref sig .tc := ⟨.hbm, 188, rfl⟩
abbrev main_v118 : Ref sig .tc := ⟨.hbm, 189, rfl⟩
abbrev main_v119 : Ref sig .tc := ⟨.hbm, 190, rfl⟩
abbrev main_v120 : Ref sig .tc := ⟨.hbm, 191, rfl⟩
abbrev main_v121 : Ref sig .tc := ⟨.hbm, 192, rfl⟩
abbrev main_v122 : Ref sig .tc := ⟨.hbm, 193, rfl⟩
abbrev main_v123 : Ref sig .tc := ⟨.hbm, 194, rfl⟩
abbrev main_v124 : Ref sig .tc := ⟨.hbm, 195, rfl⟩
abbrev main_v125 : Ref sig .tc := ⟨.hbm, 196, rfl⟩
abbrev main_v126 : Ref sig .tc := ⟨.hbm, 197, rfl⟩
abbrev main_v127 : Ref sig .tc := ⟨.hbm, 198, rfl⟩
abbrev main_v128 : Ref sig .tc := ⟨.hbm, 199, rfl⟩
abbrev main_v129 : Ref sig .tc := ⟨.hbm, 200, rfl⟩
abbrev main_v130 : Ref sig .tc := ⟨.hbm, 201, rfl⟩
abbrev main_v131 : Ref sig .tc := ⟨.hbm, 202, rfl⟩
abbrev main_v132 : Ref sig .tc := ⟨.hbm, 203, rfl⟩
abbrev main_v133 : Ref sig .tc := ⟨.hbm, 204, rfl⟩
abbrev main_v134 : Ref sig .tc := ⟨.hbm, 205, rfl⟩
abbrev main_v135 : Ref sig .tc := ⟨.hbm, 206, rfl⟩
abbrev main_v136 : Ref sig .tc := ⟨.hbm, 207, rfl⟩
abbrev main_v137 : Ref sig .tc := ⟨.hbm, 208, rfl⟩
abbrev main_v138 : Ref sig .tc := ⟨.hbm, 209, rfl⟩
abbrev main_v139 : Ref sig .tc := ⟨.hbm, 210, rfl⟩
abbrev main_v140 : Ref sig .tc := ⟨.hbm, 211, rfl⟩
abbrev main_call8_v0 : Ref sig .tc := ⟨.hbm, 212, rfl⟩
abbrev main_call8_v1 : Ref sig .tc := ⟨.hbm, 213, rfl⟩
abbrev main_call8_cst : Ref sig .tc := ⟨.hbm, 214, rfl⟩
abbrev main_call8_v2 : Ref sig .tc := ⟨.hbm, 215, rfl⟩
abbrev main_call8_v3 : Ref sig .tc := ⟨.hbm, 216, rfl⟩
abbrev main_call8_cst_0 : Ref sig .tc := ⟨.hbm, 217, rfl⟩
abbrev main_call8_v4 : Ref sig .tc := ⟨.hbm, 218, rfl⟩
abbrev main_call8_v5 : Ref sig .tc := ⟨.hbm, 219, rfl⟩
abbrev main_v141 : Ref sig .tc := ⟨.hbm, 220, rfl⟩
abbrev main_v142 : Ref sig .tc := ⟨.hbm, 221, rfl⟩
abbrev main_v143 : Ref sig .tc := ⟨.hbm, 222, rfl⟩

abbrev nD : Nat := 1
abbrev τ : Topo := Topo.v7x

variable {F : FTy → Type} [FloatOps F]
-- ==== Merge.lean ====
abbrev S8192x1024 : Shape := ⟨2, ![8192, 1024]⟩
abbrev S8192x11264 : Shape := ⟨2, ![8192, 11264]⟩
abbrev S1024 : Shape := ⟨1, ![1024]⟩
abbrev S1x1024 : Shape := ⟨2, ![1, 1024]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩
abbrev S512x256 : Shape := ⟨2, ![512, 256]⟩
abbrev S1x256 : Shape := ⟨2, ![1, 256]⟩

abbrev nBuf : Space → Nat
  | .hbm => 9
  | .vmem => 17
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x11264, .bf16⟩
  | .hbm, ⟨5, _⟩ => ⟨S1024, .f32⟩
  | .hbm, ⟨6, _⟩ => ⟨S1x1024, .f32⟩
  | .hbm, ⟨7, _⟩ => ⟨S8192x1024, .bf16⟩
  | .hbm, ⟨8, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S1x1024, .f32⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1_0 : Ref sig .tc := ⟨.hbm, 7, rfl⟩
abbrev main_v1_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_5 (i : grid0.Coords) : Fin 2 → Nat :=
  let arg0 : BitVec 32 := BitVec.ofNat 32 (i 0).val
  let c10_i32 : BitVec 32 := 10#32
  let c0_i32 : BitVec 32 := 0#32
  ![arg0.toNat, c10_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== MergeRefIdeal.lean ====
abbrev S8192x1024 : Shape := ⟨2, ![8192, 1024]⟩
abbrev S8192x11264 : Shape := ⟨2, ![8192, 11264]⟩
abbrev S1024 : Shape := ⟨1, ![1024]⟩
abbrev S8192x4096 : Shape := ⟨2, ![8192, 4096]⟩
abbrev S_ : Shape := ⟨0, ![]⟩
abbrev S8192x8x128 : Shape := ⟨3, ![8192, 8, 128]⟩
abbrev S8192x8 : Shape := ⟨2, ![8192, 8]⟩
abbrev S8192x8x1 : Shape := ⟨3, ![8192, 8, 1]⟩
abbrev S8192x4x256 : Shape := ⟨3, ![8192, 4, 256]⟩
abbrev S8192x4 : Shape := ⟨2, ![8192, 4]⟩
abbrev S8192x4x1 : Shape := ⟨3, ![8192, 4, 1]⟩
abbrev S1x1024 : Shape := ⟨2, ![1, 1024]⟩

abbrev nBuf : Space → Nat
  | .hbm => 68
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S8192x1024, .f32⟩
  | .hbm, ⟨4, _⟩ => ⟨S8192x11264, .bf16⟩
  | .hbm, ⟨5, _⟩ => ⟨S1024, .f32⟩
  | .hbm, ⟨6, _⟩ => ⟨S8192x4096, .bf16⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S_, .f32⟩
  | .hbm, ⟨11, _⟩ => ⟨S8192x4096, .f32⟩
  | .hbm, ⟨12, _⟩ => ⟨S8192x4096, .f32⟩
  | .hbm, ⟨13, _⟩ => ⟨S_, .f32⟩
  | .hbm, ⟨14, _⟩ => ⟨S8192x4096, .f32⟩
  | .hbm, ⟨15, _⟩ => ⟨S8192x4096, .f32⟩
  | .hbm, ⟨16, _⟩ => ⟨S8192x4096, .f32⟩
  | .hbm, ⟨17, _⟩ => ⟨S8192x1024, .f32⟩
  | .hbm, ⟨18, _⟩ => ⟨S8192x8x128, .f32⟩
  | .hbm, ⟨19, _⟩ => ⟨S_, .f32⟩
  | .hbm, ⟨20, _⟩ => ⟨S8192x8, .f32⟩
  | .hbm, ⟨21, _⟩ => ⟨S8192x8x1, .f32⟩
  | .hbm, ⟨22, _⟩ => ⟨S_, .f32⟩
  | .hbm, ⟨23, _⟩ => ⟨S8192x8x1, .f32⟩
  | .hbm, ⟨24, _⟩ => ⟨S8192x8x1, .f32⟩
  | .hbm, ⟨25, _⟩ => ⟨S8192x8x128, .f32⟩
  | .hbm, ⟨26, _⟩ => ⟨S8192x8x128, .f32⟩
  | .hbm, ⟨27, _⟩ => ⟨S8192x8x128, .f32⟩
  | .hbm, ⟨28, _⟩ => ⟨S_, .f32⟩
  | .hbm, ⟨29, _⟩ => ⟨S8192x8, .f32⟩
  | .hbm, ⟨30, _⟩ => ⟨S8192x8x1, .f32⟩
  | .hbm, ⟨31, _⟩ => ⟨S_, .f32⟩
  | .hbm, ⟨32, _⟩ => ⟨S8192x8x1, .f32⟩
  | .hbm, ⟨33, _⟩ => ⟨S8192x8x1, .f32⟩
  | .hbm, ⟨34, _⟩ => ⟨S8192x8x128, .f32⟩
  | .hbm, ⟨35, _⟩ => ⟨S8192x8x128, .f32⟩
  | .hbm, ⟨36, _⟩ => ⟨S_, .f32⟩
  | .hbm, ⟨37, _⟩ => ⟨S8192x8x1, .f32⟩
  | .hbm, ⟨38, _⟩ => ⟨S8192x8x1, .f32⟩
  | .hbm, ⟨39, _⟩ => ⟨S8192x8x1, .f32⟩
  | .hbm, ⟨40, _⟩ => ⟨S8192x8x128, .f32⟩
  | .hbm, ⟨41, _⟩ => ⟨S8192x8x128, .f32⟩
  | .hbm, ⟨42, _⟩ => ⟨S8192x1024, .f32⟩
  | .hbm, ⟨43, _⟩ => ⟨S8192x1024, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x4x256, .f32⟩
  | .hbm, ⟨49, _⟩ => ⟨S8192x4x256, .f32⟩
  | .hbm, ⟨50, _⟩ => ⟨S_, .f32⟩
  | .hbm, ⟨51, _⟩ => ⟨S8192x4, .f32⟩
  | .hbm, ⟨52, _⟩ => ⟨S8192x4x1, .f32⟩
  | .hbm, ⟨53, _⟩ => ⟨S_, .f32⟩
  | .hbm, ⟨54, _⟩ => ⟨S8192x4x1, .f32⟩
  | .hbm, ⟨55, _⟩ => ⟨S8192x4x1, .f32⟩
  | .hbm, ⟨56, _⟩ => ⟨S_, .f32⟩
  | .hbm, ⟨57, _⟩ => ⟨S8192x4x1, .f32⟩
  | .hbm, ⟨58, _⟩ => ⟨S8192x4x1, .f32⟩
  | .hbm, ⟨59, _⟩ => ⟨S8192x4x1, .f32⟩
  | .hbm, ⟨60, _⟩ => ⟨S8192x4x256, .f32⟩
  | .hbm, ⟨61, _⟩ => ⟨S8192x4x256, .f32⟩
  | .hbm, ⟨62, _⟩ => ⟨S8192x1024, .f32⟩
  | .hbm, ⟨63, _⟩ => ⟨S1x1024, .f32⟩
  | .hbm, ⟨64, _⟩ => ⟨S8192x1024, .f32⟩
  | .hbm, ⟨65, _⟩ => ⟨S8192x1024, .f32⟩
  | .hbm, ⟨66, _⟩ => ⟨S8192x1024, .bf16⟩
  | .hbm, ⟨67, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_call0_v0 : Ref sig .tc := ⟨.hbm, 8, rfl⟩
abbrev main_call0_v1 : Ref sig .tc := ⟨.hbm, 9, rfl⟩
abbrev main_call0_cst : Ref sig .tc := ⟨.hbm, 10, rfl⟩
abbrev main_call0_v2 : Ref sig .tc := ⟨.hbm, 11, rfl⟩
abbrev main_call0_v3 : Ref sig .tc := ⟨.hbm, 12, rfl⟩
abbrev main_call0_cst_0 : Ref sig .tc := ⟨.hbm, 13, rfl⟩
abbrev main_call0_v4 : Ref sig .tc := ⟨.hbm, 14, rfl⟩
abbrev main_call0_v5 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_cst : Ref sig .tc := ⟨.hbm, 19, rfl⟩
abbrev main_v5 : Ref sig .tc := ⟨.hbm, 20, rfl⟩
abbrev main_v6 : Ref sig .tc := ⟨.hbm, 21, rfl⟩
abbrev main_cst_0 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_cst_1 : Ref sig .tc := ⟨.hbm, 28, rfl⟩
abbrev main_v12 : Ref sig .tc := ⟨.hbm, 29, rfl⟩
abbrev main_v13 : Ref sig .tc := ⟨.hbm, 30, rfl⟩
abbrev main_cst_2 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_cst_3 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_cst_5 : Ref sig .tc := ⟨.hbm, 53, rfl⟩
abbrev main_v33 : Ref sig .tc := ⟨.hbm, 54, rfl⟩
abbrev main_v34 : Ref sig .tc := ⟨.hbm, 55, rfl⟩
abbrev main_cst_6 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩

abbrev nD : Nat := 1
abbrev τ : Topo := Topo.v7x

variable {F : FTy → Type} [FloatOps F]
-- ==== PrepRet.lean ====
abbrev S8192x2176 : Shape := ⟨2, ![8192, 2176]⟩
abbrev S8192x11264 : Shape := ⟨2, ![8192, 11264]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x128 : Shape := ⟨2, ![8192, 128]⟩
abbrev S8192x1024 : Shape := ⟨2, ![8192, 1024]⟩
abbrev S512x512 : Shape := ⟨2, ![512, 512]⟩
abbrev S512x1024 : Shape := ⟨2, ![512, 1024]⟩
abbrev S512x128 : Shape := ⟨2, ![512, 128]⟩

abbrev nBuf : Space → Nat
  | .hbm => 38
  | .vmem => 18
  | .smem => 0
  | _ => 0

abbrev bufTy : (tb : Table) → Fin (tcTables nBuf tb) → BufTy
  | .hbm, ⟨0, _⟩ => ⟨S8192x2176, .f32⟩
  | .hbm, ⟨1, _⟩ => ⟨S8192x11264, .bf16⟩
  | .hbm, ⟨2, _⟩ => ⟨S128, .i32⟩
  | .hbm, ⟨3, _⟩ => ⟨S128x64, .i32⟩
  | .hbm, ⟨4, _⟩ => ⟨S8192, .i32⟩
  | .hbm, ⟨5, _⟩ => ⟨S8192, .f32⟩
  | .hbm, ⟨6, _⟩ => ⟨S64, .i32⟩
  | .hbm, ⟨7, _⟩ => ⟨S1x64, .i32⟩
  | .hbm, ⟨8, _⟩ => ⟨S128x64, .i32⟩
  | .hbm, ⟨9, _⟩ => ⟨S8192, .i32⟩
  | .hbm, ⟨10, _⟩ => ⟨S8192, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S8192x1, .f32⟩
  | .hbm, ⟨20, _⟩ => ⟨S1x32, .f32⟩
  | .hbm, ⟨21, _⟩ => ⟨S8192x32, .f32⟩
  | .hbm, ⟨22, _⟩ => ⟨S8192x32, .f32⟩
  | .hbm, ⟨23, _⟩ => ⟨S8192x32, .f32⟩
  | .hbm, ⟨24, _⟩ => ⟨S8192x1, .f32⟩
  | .hbm, ⟨25, _⟩ => ⟨S1x32, .f32⟩
  | .hbm, ⟨26, _⟩ => ⟨S8192x32, .f32⟩
  | .hbm, ⟨27, _⟩ => ⟨S8192x32, .f32⟩
  | .hbm, ⟨28, _⟩ => ⟨S8192x32, .f32⟩
  | .hbm, ⟨29, _⟩ => ⟨S8192x64, .f32⟩
  | .hbm, ⟨30, _⟩ => ⟨S8192x64, .f32⟩
  | .hbm, ⟨31, _⟩ => ⟨S8192x64, .f32⟩
  | .hbm, ⟨32, _⟩ => ⟨S8192x128, .f32⟩
  | .hbm, ⟨33, _⟩ => ⟨S8192x64, .f32⟩
  | .hbm, ⟨34, _⟩ => ⟨S8192x128, .f32⟩
  | .hbm, ⟨35, _⟩ => ⟨S8192x1024, .bf16⟩
  | .hbm, ⟨36, _⟩ => ⟨S8192x1024, .bf16⟩
  | .hbm, ⟨37, _⟩ => ⟨S8192x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S512x1024, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S512x1024, .bf16⟩
  | .local _ .vmem, ⟨17, _⟩ => ⟨S512x1024, .bf16⟩
  | _, _ => ⟨S8192x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst : Ref sig .tc := ⟨.hbm, 13, rfl⟩
abbrev main_v11 : Ref sig .tc := ⟨.hbm, 14, rfl⟩
abbrev main_v12 : Ref sig .tc := ⟨.hbm, 15, rfl⟩
abbrev main_cst_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31_0 : Ref sig .tc := ⟨.hbm, 35, rfl⟩
abbrev main_v31_1 : Ref sig .tc := ⟨.hbm, 36, rfl⟩
abbrev main_v31_2 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_1 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== PrepRetRefIdeal.lean ====
abbrev S8192x2176 : Shape := ⟨2, ![8192, 2176]⟩
abbrev S8192x11264 : Shape := ⟨2, ![8192, 11264]⟩
abbrev S8192x1024 : Shape := ⟨2, ![8192, 1024]⟩
abbrev S8192x8x128 : Shape := ⟨3, ![8192, 8, 128]⟩
abbrev S128 : Shape := ⟨1, ![128]⟩
abbrev S128x64 : Shape := ⟨2, ![128, 64]⟩
abbrev S8192 : Shape := ⟨1, ![8192]⟩
abbrev S64 : Shape := ⟨1, ![64]⟩
abbrev S1x64 : Shape := ⟨2, ![1, 64]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S8192x64 : Shape := ⟨2, ![8192, 64]⟩
abbrev S8192x1x64 : Shape := ⟨3, ![8192, 1, 64]⟩
abbrev S8192x8x64 : Shape := ⟨3, ![8192, 8, 64]⟩

abbrev nBuf : Space → Nat
  | .hbm => 106
  | .vmem => 0
  | .smem => 0
  | _ => 0

abbrev bufTy : (tb : Table) → Fin (tcTables nBuf tb) → BufTy
  | .hbm, ⟨0, _⟩ => ⟨S8192x2176, .f32⟩
  | .hbm, ⟨1, _⟩ => ⟨S8192x11264, .bf16⟩
  | .hbm, ⟨2, _⟩ => ⟨S8192x1024, .bf16⟩
  | .hbm, ⟨3, _⟩ => ⟨S8192x1024, .f32⟩
  | .hbm, ⟨4, _⟩ => ⟨S8192x8x128, .f32⟩
  | .hbm, ⟨5, _⟩ => ⟨S128, .i32⟩
  | .hbm, ⟨6, _⟩ => ⟨S128x64, .i32⟩
  | .hbm, ⟨7, _⟩ => ⟨S8192, .i32⟩
  | .hbm, ⟨8, _⟩ => ⟨S8192, .f32⟩
  | .hbm, ⟨9, _⟩ => ⟨S64, .i32⟩
  | .hbm, ⟨10, _⟩ => ⟨S1x64, .i32⟩
  | .hbm, ⟨11, _⟩ => ⟨S128x64, .i32⟩
  | .hbm, ⟨12, _⟩ => ⟨S8192, .i32⟩
  | .hbm, ⟨13, _⟩ => ⟨S8192, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S8192x1, .f32⟩
  | .hbm, ⟨23, _⟩ => ⟨S1x32, .f32⟩
  | .hbm, ⟨24, _⟩ => ⟨S8192x32, .f32⟩
  | .hbm, ⟨25, _⟩ => ⟨S8192x32, .f32⟩
  | .hbm, ⟨26, _⟩ => ⟨S8192x32, .f32⟩
  | .hbm, ⟨27, _⟩ => ⟨S8192x1, .f32⟩
  | .hbm, ⟨28, _⟩ => ⟨S1x32, .f32⟩
  | .hbm, ⟨29, _⟩ => ⟨S8192x32, .f32⟩
  | .hbm, ⟨30, _⟩ => ⟨S8192x32, .f32⟩
  | .hbm, ⟨31, _⟩ => ⟨S8192x32, .f32⟩
  | .hbm, ⟨32, _⟩ => ⟨S8192x64, .f32⟩
  | .hbm, ⟨33, _⟩ => ⟨S8192x64, .f32⟩
  | .hbm, ⟨34, _⟩ => ⟨S8192x1x64, .f32⟩
  | .hbm, ⟨35, _⟩ => ⟨S8192x64, .f32⟩
  | .hbm, ⟨36, _⟩ => ⟨S8192x1x64, .f32⟩
  | .hbm, ⟨37, _⟩ => ⟨S8192x8x64, .f32⟩
  | .hbm, ⟨38, _⟩ => ⟨S8192x8x64, .f32⟩
  | .hbm, ⟨39, _⟩ => ⟨S8192x8x64, .f32⟩
  | .hbm, ⟨40, _⟩ => ⟨S8192x8x64, .f32⟩
  | .hbm, ⟨41, _⟩ => ⟨S8192x8x64, .f32⟩
  | .hbm, ⟨42, _⟩ => ⟨S8192x8x64, .f32⟩
  | .hbm, ⟨43, _⟩ => ⟨S8192x8x64, .f32⟩
  | .hbm, ⟨44, _⟩ => ⟨S8192x8x64, .f32⟩
  | .hbm, ⟨45, _⟩ => ⟨S8192x8x64, .f32⟩
  | .hbm, ⟨46, _⟩ => ⟨S8192x8x64, .f32⟩
  | .hbm, ⟨47, _⟩ => ⟨S8192x8x64, .f32⟩
  | .hbm, ⟨48, _⟩ => ⟨S8192x8x64, .f32⟩
  | .hbm, ⟨49, _⟩ => ⟨S8192x8x128, .f32⟩
  | .hbm, ⟨50, _⟩ => ⟨S8192x1024, .f32⟩
  | .hbm, ⟨51, _⟩ => ⟨S8192x8x128, .f32⟩
  | .hbm, ⟨52, _⟩ => ⟨S_, .f32⟩
  | .hbm, ⟨53, _⟩ => ⟨S8192x8x128, .f32⟩
  | .hbm, ⟨54, _⟩ => ⟨S8192x8x128, .f32⟩
  | .hbm, ⟨55, _⟩ => ⟨S128, .i32⟩
  | .hbm, ⟨56, _⟩ => ⟨S128x64, .i32⟩
  | .hbm, ⟨57, _⟩ => ⟨S8192, .i32⟩
  | .hbm, ⟨58, _⟩ => ⟨S8192, .f32⟩
  | .hbm, ⟨59, _⟩ => ⟨S64, .i32⟩
  | .hbm, ⟨60, _⟩ => ⟨S1x64, .i32⟩
  | .hbm, ⟨61, _⟩ => ⟨S128x64, .i32⟩
  | .hbm, ⟨62, _⟩ => ⟨S8192, .i32⟩
  | .hbm, ⟨63, _⟩ => ⟨S8192, .f32⟩
  | .hbm, ⟨64, _⟩ => ⟨S32, .f32⟩
  | .hbm, ⟨65, _⟩ => ⟨S32, .f32⟩
  | .hbm, ⟨66, _⟩ => ⟨S_, .f32⟩
  | .hbm, ⟨67, _⟩ => ⟨S32, .f32⟩
  | .hbm, ⟨68, _⟩ => ⟨S32, .f32⟩
  | .hbm, ⟨69, _⟩ => ⟨S_, .f32⟩
  | .hbm, ⟨70, _⟩ => ⟨S32, .f32⟩
  | .hbm, ⟨71, _⟩ => ⟨S32, .f32⟩
  | .hbm, ⟨72, _⟩ => ⟨S8192x1, .f32⟩
  | .hbm, ⟨73, _⟩ => ⟨S1x32, .f32⟩
  | .hbm, ⟨74, _⟩ => ⟨S8192x32, .f32⟩
  | .hbm, ⟨75, _⟩ => ⟨S8192x32, .f32⟩
  | .hbm, ⟨76, _⟩ => ⟨S8192x32, .f32⟩
  | .hbm, ⟨77, _⟩ => ⟨S8192x1, .f32⟩
  | .hbm, ⟨78, _⟩ => ⟨S1x32, .f32⟩
  | .hbm, ⟨79, _⟩ => ⟨S8192x32, .f32⟩
  | .hbm, ⟨80, _⟩ => ⟨S8192x32, .f32⟩
  | .hbm, ⟨81, _⟩ => ⟨S8192x32, .f32⟩
  | .hbm, ⟨82, _⟩ => ⟨S8192x64, .f32⟩
  | .hbm, ⟨83, _⟩ => ⟨S8192x64, .f32⟩
  | .hbm, ⟨84, _⟩ => ⟨S8192x1x64, .f32⟩
  | .hbm, ⟨85, _⟩ => ⟨S8192x64, .f32⟩
  | .hbm, ⟨86, _⟩ => ⟨S8192x1x64, .f32⟩
  | .hbm, ⟨87, _⟩ => ⟨S8192x8x64, .f32⟩
  | .hbm, ⟨88, _⟩ => ⟨S8192x8x64, .f32⟩
  | .hbm, ⟨89, _⟩ => ⟨S8192x8x64, .f32⟩
  | .hbm, ⟨90, _⟩ => ⟨S8192x8x64, .f32⟩
  | .hbm, ⟨91, _⟩ => ⟨S8192x8x64, .f32⟩
  | .hbm, ⟨92, _⟩ => ⟨S8192x8x64, .f32⟩
  | .hbm, ⟨93, _⟩ => ⟨S8192x8x64, .f32⟩
  | .hbm, ⟨94, _⟩ => ⟨S8192x8x64, .f32⟩
  | .hbm, ⟨95, _⟩ => ⟨S8192x8x64, .f32⟩
  | .hbm, ⟨96, _⟩ => ⟨S8192x8x64, .f32⟩
  | .hbm, ⟨97, _⟩ => ⟨S8192x8x64, .f32⟩
  | .hbm, ⟨98, _⟩ => ⟨S8192x8x64, .f32⟩
  | .hbm, ⟨99, _⟩ => ⟨S8192x8x128, .f32⟩
  | .hbm, ⟨100, _⟩ => ⟨S8192x1024, .f32⟩
  | .hbm, ⟨101, _⟩ => ⟨S8192x1024, .f32⟩
  | .hbm, ⟨102, _⟩ => ⟨S8192x1024, .bf16⟩
  | .hbm, ⟨103, _⟩ => ⟨S8192x1024, .f32⟩
  | .hbm, ⟨104, _⟩ => ⟨S8192x1024, .bf16⟩
  | .hbm, ⟨105, _⟩ => ⟨S8192x1024, .bf16⟩
  | _, _ => ⟨S8192x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_cst : Ref sig .tc := ⟨.hbm, 16, rfl⟩
abbrev main_v14 : Ref sig .tc := ⟨.hbm, 17, rfl⟩
abbrev main_v15 : Ref sig .tc := ⟨.hbm, 18, rfl⟩
abbrev main_cst_0 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_cst_1 : Ref sig .tc := ⟨.hbm, 52, rfl⟩
abbrev main_v48 : Ref sig .tc := ⟨.hbm, 53, rfl⟩
abbrev main_v49 : Ref sig .tc := ⟨.hbm, 54, rfl⟩
abbrev main_v50 : Ref sig .tc := ⟨.hbm, 55, rfl⟩
abbrev main_v51 : Ref sig .tc := ⟨.hbm, 56, rfl⟩
abbrev main_v52 : Ref sig .tc := ⟨.hbm, 57, rfl⟩
abbrev main_v53 : Ref sig .tc := ⟨.hbm, 58, rfl⟩
abbrev main_v54 : Ref sig .tc := ⟨.hbm, 59, rfl⟩
abbrev main_v55 : Ref sig .tc := ⟨.hbm, 60, rfl⟩
abbrev main_v56 : Ref sig .tc := ⟨.hbm, 61, rfl⟩
abbrev main_v57 : Ref sig .tc := ⟨.hbm, 62, rfl⟩
abbrev main_v58 : Ref sig .tc := ⟨.hbm, 63, rfl⟩
abbrev main_v59 : Ref sig .tc := ⟨.hbm, 64, rfl⟩
abbrev main_v60 : Ref sig .tc := ⟨.hbm, 65, rfl⟩
abbrev main_cst_2 : Ref sig .tc := ⟨.hbm, 66, rfl⟩
abbrev main_v61 : Ref sig .tc := ⟨.hbm, 67, rfl⟩
abbrev main_v62 : Ref sig .tc := ⟨.hbm, 68, rfl⟩
abbrev main_cst_3 : Ref sig .tc := ⟨.hbm, 69, rfl⟩
abbrev main_v63 : Ref sig .tc := ⟨.hbm, 70, rfl⟩
abbrev main_v64 : Ref sig .tc := ⟨.hbm, 71, rfl⟩
abbrev main_v65 : Ref sig .tc := ⟨.hbm, 72, rfl⟩
abbrev main_v66 : Ref sig .tc := ⟨.hbm, 73, rfl⟩
abbrev main_v67 : Ref sig .tc := ⟨.hbm, 74, rfl⟩
abbrev main_v68 : Ref sig .tc := ⟨.hbm, 75, rfl⟩
abbrev main_v69 : Ref sig .tc := ⟨.hbm, 76, rfl⟩
abbrev main_v70 : Ref sig .tc := ⟨.hbm, 77, rfl⟩
abbrev main_v71 : Ref sig .tc := ⟨.hbm, 78, rfl⟩
abbrev main_v72 : Ref sig .tc := ⟨.hbm, 79, rfl⟩
abbrev main_v73 : Ref sig .tc := ⟨.hbm, 80, rfl⟩
abbrev main_v74 : Ref sig .tc := ⟨.hbm, 81, rfl⟩
abbrev main_v75 : Ref sig .tc := ⟨.hbm, 82, rfl⟩
abbrev main_v76 : Ref sig .tc := ⟨.hbm, 83, rfl⟩
abbrev main_v77 : Ref sig .tc := ⟨.hbm, 84, rfl⟩
abbrev main_v78 : Ref sig .tc := ⟨.hbm, 85, rfl⟩
abbrev main_v79 : Ref sig .tc := ⟨.hbm, 86, rfl⟩
abbrev main_v80 : Ref sig .tc := ⟨.hbm, 87, rfl⟩
abbrev main_v81 : Ref sig .tc := ⟨.hbm, 88, rfl⟩
abbrev main_v82 : Ref sig .tc := ⟨.hbm, 89, rfl⟩
abbrev main_v83 : Ref sig .tc := ⟨.hbm, 90, rfl⟩
abbrev main_v84 : Ref sig .tc := ⟨.hbm, 91, rfl⟩
abbrev main_v85 : Ref sig .tc := ⟨.hbm, 92, rfl⟩
abbrev main_v86 : Ref sig .tc := ⟨.hbm, 93, rfl⟩
abbrev main_v87 : Ref sig .tc := ⟨.hbm, 94, rfl⟩
abbrev main_v88 : Ref sig .tc := ⟨.hbm, 95, rfl⟩
abbrev main_v89 : Ref sig .tc := ⟨.hbm, 96, rfl⟩
abbrev main_v90 : Ref sig .tc := ⟨.hbm, 97, rfl⟩
abbrev main_v91 : Ref sig .tc := ⟨.hbm, 98, rfl⟩
abbrev main_v92 : Ref sig .tc := ⟨.hbm, 99, rfl⟩
abbrev main_v93 : Ref sig .tc := ⟨.hbm, 100, rfl⟩
abbrev main_v94 : Ref sig .tc := ⟨.hbm, 101, rfl⟩
abbrev main_v95 : Ref sig .tc := ⟨.hbm, 102, rfl⟩
abbrev main_v96 : Ref sig .tc := ⟨.hbm, 103, rfl⟩
abbrev main_v97 : Ref sig .tc := ⟨.hbm, 104, rfl⟩
abbrev main_v98 : Ref sig .tc := ⟨.hbm, 105, rfl⟩

abbrev nD : Nat := 1
abbrev τ : Topo := Topo.v7x

variable {F : FTy → Type} [FloatOps F]
-- ==== CastKv.lean ====
abbrev S2x4096x13344 : Shape := ⟨3, ![2, 4096, 13344]⟩
abbrev S2x13344x4096 : Shape := ⟨3, ![2, 13344, 4096]⟩
abbrev S1x2176x4096 : Shape := ⟨3, ![1, 2176, 4096]⟩
abbrev S1x1088x512 : Shape := ⟨3, ![1, 1088, 512]⟩

abbrev nBuf : Space → Nat
  | .hbm => 3
  | .vmem => 4
  | .smem => 0
  | _ => 0

abbrev bufTy : (tb : Table) → Fin (tcTables nBuf tb) → BufTy
  | .hbm, ⟨0, _⟩ => ⟨S2x4096x13344, .f32⟩
  | .hbm, ⟨1, _⟩ => ⟨S2x13344x4096, .f32⟩
  | .hbm, ⟨2, _⟩ => ⟨S1x2176x4096, .bf16⟩
  | .local _ .vmem, ⟨0, _⟩ => ⟨S1x1088x512, .f32⟩
  | .local _ .vmem, ⟨1, _⟩ => ⟨S1x1088x512, .f32⟩
  | .local _ .vmem, ⟨2, _⟩ => ⟨S1x1088x512, .bf16⟩
  | .local _ .vmem, ⟨3, _⟩ => ⟨S1x1088x512, .bf16⟩
  | _, _ => ⟨S2x4096x13344, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![2, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x1088x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1088x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastKvRefIdeal.lean ====
abbrev S2x4096x13344 : Shape := ⟨3, ![2, 4096, 13344]⟩
abbrev S1x4096x2176 : Shape := ⟨3, ![1, 4096, 2176]⟩
abbrev S1x2176x4096 : Shape := ⟨3, ![1, 2176, 4096]⟩

abbrev nBuf : Space → Nat
  | .hbm => 4
  | .vmem => 0
  | .smem => 0
  | _ => 0

abbrev bufTy : (tb : Table) → Fin (tcTables nBuf tb) → BufTy
  | .hbm, ⟨0, _⟩ => ⟨S2x4096x13344, .f32⟩
  | .hbm, ⟨1, _⟩ => ⟨S1x4096x2176, .f32⟩
  | .hbm, ⟨2, _⟩ => ⟨S1x2176x4096, .f32⟩
  | .hbm, ⟨3, _⟩ => ⟨S1x2176x4096, .bf16⟩
  | _, _ => ⟨S2x4096x13344, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩

abbrev nD : Nat := 1
abbrev τ : Topo := Topo.v7x

variable {F : FTy → Type} [FloatOps F]
-- ==== CastOut.lean ====
abbrev S2x4096x4096 : Shape := ⟨3, ![2, 4096, 4096]⟩
abbrev S1x4096x4096 : Shape := ⟨3, ![1, 4096, 4096]⟩
abbrev S1x1024x2048 : Shape := ⟨3, ![1, 1024, 2048]⟩

abbrev nBuf : Space → Nat
  | .hbm => 2
  | .vmem => 4
  | .smem => 0
  | _ => 0

abbrev bufTy : (tb : Table) → Fin (tcTables nBuf tb) → BufTy
  | .hbm, ⟨0, _⟩ => ⟨S2x4096x4096, .f32⟩
  | .hbm, ⟨1, _⟩ => ⟨S1x4096x4096, .bf16⟩
  | .local _ .vmem, ⟨0, _⟩ => ⟨S1x1024x2048, .f32⟩
  | .local _ .vmem, ⟨1, _⟩ => ⟨S1x1024x2048, .f32⟩
  | .local _ .vmem, ⟨2, _⟩ => ⟨S1x1024x2048, .bf16⟩
  | .local _ .vmem, ⟨3, _⟩ => ⟨S1x1024x2048, .bf16⟩
  | _, _ => ⟨S2x4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat, arg1.toNat]

abbrev stage0_0 : Fin 2 → Memref sig .tc .vmem S1x1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]
-- ==== CastOutRefIdeal.lean ====
abbrev S2x4096x4096 : Shape := ⟨3, ![2, 4096, 4096]⟩
abbrev S1x4096x4096 : Shape := ⟨3, ![1, 4096, 4096]⟩

abbrev nBuf : Space → Nat
  | .hbm => 3
  | .vmem => 0
  | .smem => 0
  | _ => 0

abbrev bufTy : (tb : Table) → Fin (tcTables nBuf tb) → BufTy
  | .hbm, ⟨0, _⟩ => ⟨S2x4096x4096, .f32⟩
  | .hbm, ⟨1, _⟩ => ⟨S1x4096x4096, .f32⟩
  | .hbm, ⟨2, _⟩ => ⟨S1x4096x4096, .bf16⟩
  | _, _ => ⟨S2x4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩

abbrev nD : Nat := 1
abbrev τ : Topo := Topo.v7x

variable {F : FTy → Type} [FloatOps F]
-- ==== Proof.ProjIn.lean ====
/-
  The input projection's bfloat16 columns: each grid point stores a block of the product, whose weights it takes by rows of the transposed
  weights from row 2080 on, and the blocks tile the result.
-/
module

public import proofs.«01_k».proof.Defs
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import Idealize.ShloMosaic.Lib.Pipeline.ValueKit
public import Idealize.ShloMosaic.Lib.Pointwise

@[expose] public section

set_option maxRecDepth 16384

noncomputable section

namespace Cert.InProjIdeal.Columns

open Idealize.ShloMosaic Idealize.ShloMosaic.TcCoe Idealize.ShloMosaic.Tactic Idealize.SL.Sem Cert.InProjIdeal.Gen

/-- A row of activations against a column of the first layer's weights, the columns counted from 2080. -/
def dot (u : S8192x4096.Idx → EReal) (w : S2x4096x13344.Idx → EReal) (r : Fin 8192) (k : Fin 11264) : EReal :=
  ∑ j : Fin 4096, u (ix2 r j) * w (ix3 0 j (⟨2080 + k.val, by omega⟩ : Fin 13344))

theorem block_apply (x : Vec Ideal S1024x4096 .bf16) (w : Vec Ideal S1x512x4096 .f32) (r : Fin 1024) (k : Fin 512) :
    k0_pay1 (F := Ideal) x w (ix2 r k) = ∑ j : Fin 4096, x (ix2 r j) * w (ix3 0 k j) := by
  unfold k0_pay1
  pointwise

theorem idx : ∀ t : Fin grid0.N, win0_0.index t = ![t.val / 22, 0] ∧ win0_1.index t = ![0, 2080 + t.val % 22 * 512, 0]
    ∧ win0_2.index t = ![t.val / 22, t.val % 22] := by
  decide +kernel

theorem weights_emb (t : Fin grid0.N) (k : Fin 512) (j : Fin 4096) :
    (win0_1.rect t).emb (ix3 (0 : Fin 1) k j)
      = ix3 (0 : Fin 2) (⟨2080 + (512 * (t.val % 22) + k.val), by omega⟩ : Fin 13344) j := by
  have e := (idx t).2.1
  funext a
  refine Fin.ext ((win0_1.rect_emb_val_off t _ a).trans ?_)
  rw [e]
  fin_cases a
  · rfl
  · show 2080 + t.val % 22 * 512 + k.val = 2080 + (512 * (t.val % 22) + k.val)
    omega
  · exact Nat.zero_add _

theorem weights_read (m : (ℓ : Loc nD τ sig) → Buf (Elt Ideal) ℓ) (c : Dev nD) (a : Fin 2) (b : Fin 13344) (j : Fin 4096) :
    V m c main_v0 (ix3 a b j) = m ((c.tc : Thread nD τ).loc main_arg1) (ix3 a j b) := by
  entry_read
  pointwise

theorem arr (m : (ℓ : Loc nD τ sig) → Buf (Elt Ideal) ℓ) (c : Dev nD) :
    (dats m 0 c).arrAt 2 cfg0.N
      = fun i : S8192x11264.Idx => dot (m ((c.tc : Thread nD τ).loc main_arg0)) (m ((c.tc : Thread nD τ).loc main_arg1)) (i 0) (i 1) := by
  refine Pipeline.Dat.arrAt_eq_of_covers _ 2 _ (by decide +kernel) fun t _ y => ?_
  blk_simp
  rw [after0_2]
  frame_out
  obtain ⟨r, k, rfl⟩ : ∃ (r : Fin 1024) (k : Fin 512), y = ix2 r k := ⟨y 0, y 1, by funext a; fin_cases a <;> rfl⟩
  refine (block_apply _ _ r k).trans (Finset.sum_congr rfl fun j _ => congrArg₂ (· * ·) ?_ ?_)
  · blk_ext! [iblk, V, idx t]
  · refine (congrArg (V m c main_v0) (weights_emb t k j)).trans ((weights_read m c _ _ _).trans ?_)
    blk_ext! [idx t]

theorem ref_apply (u : Vec Ideal S8192x4096 .bf16) (w : Vec Ideal S2x4096x13344 .f32) (r : Fin 8192) (k : Fin 11264) :
    InProjRefIdeal.Read.val_main_v5 (F := Ideal) u w (ix2 r k) = dot u w r k := by
  unfold InProjRefIdeal.Read.val_main_v5 InProjRefIdeal.Read.val_main_v4 InProjRefIdeal.Read.val_main_v3 InProjRefIdeal.Read.val_main_v2
    InProjRefIdeal.Read.val_main_v1 InProjRefIdeal.Read.val_main_v0
  pointwise
  rfl

attribute [local instance] Cert.InProjIdeal.Gen.facts Cert.InProjRefIdeal.Gen.facts

theorem algebraic : algebraic_InProjIdeal_InProjRefIdeal := by
  intro m g m' g' _ harg
  refine ⟨_, θ_run_mono (Value.run_blocks m g) fun r hr c => ⟨(hr c).1.trans (arr m c), (hr c).2⟩,
    θ_run_mono (InProjRefIdeal.Value.run m' g') fun r hr c => ?_⟩
  obtain ⟨e0, e1⟩ := harg c
  obtain ⟨r0, ra⟩ := hr c
  refine ⟨r0.trans ?_, ra⟩
  rw [InProjRefIdeal.Read.val_main_v5_eq, e0, e1]
  funext i
  obtain ⟨r, k, rfl⟩ : ∃ (r : Fin 8192) (k : Fin 11264), i = ix2 r k := ⟨i 0, i 1, by funext a; fin_cases a <;> rfl⟩
  exact ref_apply _ _ r k

/-- The reference leaves its arguments and declares no semaphore. -/
theorem frameRef (m : (ℓ : Loc InProjRefIdeal.nD InProjRefIdeal.τ InProjRefIdeal.sig) → Buf (Elt Ideal) ℓ) (g : Dev InProjRefIdeal.nD → PrngReg) :
    θ_run (InProjRefIdeal.defs (F := Ideal)) (onTc (τ := InProjRefIdeal.τ) (InProjRefIdeal.main (F := Ideal))) ⟨m, fun _ => 0, g⟩ (fun r => (∀ c : Dev InProjRefIdeal.nD,
      r.2.mem ((c.tc : Thread InProjRefIdeal.nD InProjRefIdeal.τ).loc InProjRefIdeal.main_arg0) = m ((c.tc : Thread InProjRefIdeal.nD InProjRefIdeal.τ).loc InProjRefIdeal.main_arg0)
      ∧ r.2.mem ((c.tc : Thread InProjRefIdeal.nD InProjRefIdeal.τ).loc InProjRefIdeal.main_arg1) = m ((c.tc : Thread InProjRefIdeal.nD InProjRefIdeal.τ).loc InProjRefIdeal.main_arg1))
      ∧ r.2.sem = fun _ => 0) :=
  θ_run_mono (InProjRefIdeal.Value.run m g) fun r h => And.intro (fun c => (h c).2) (sem_eq_zero_of_no_sems (by decide) r.2)

end Cert.InProjIdeal.Columns

end
-- ==== Proof.Norm.lean ====
/-
  A row's layer normalisation and the sums it takes, over the extended reals: what the kernels and their references both compute.
-/
module

public import proofs.«01_k».proof.Defs
public import Idealize.ShloMosaic.Lib.Pointwise

@[expose] public section

noncomputable section

namespace Cert.Layer

open Idealize.ShloMosaic

/-- A row's mean: its sum over its length, 4096. -/
def mean (z : Fin 4096 → EReal) : EReal := Ideal.div (∑ j, z j) (Ideal.ofBits .f32 0x45800000#32)

/-- A row less its mean. -/
def centred (z : Fin 4096 → EReal) (k : Fin 4096) : EReal := z k - mean z

/-- A row normalised: less its mean, over the root of its variance. -/
def norm (z : Fin 4096 → EReal) (k : Fin 4096) : EReal :=
  centred z k * Ideal.rsqrt (mean (fun j => centred z j * centred z j) + Ideal.ofBits .f32 0x3727C5AC#32)

/-- A sum over 4096 places is the sum of its four quarters' sums. -/
theorem sum_quarters (f : Fin 4096 → EReal) :
    ∑ k, f k = ∑ k : Fin 1024, f ⟨k.val, by omega⟩ + ∑ k : Fin 1024, f ⟨1024 + k.val, by omega⟩
      + ∑ k : Fin 1024, f ⟨2048 + k.val, by omega⟩ + ∑ k : Fin 1024, f ⟨3072 + k.val, by omega⟩ := by
  refine (Fin.sum_univ_add (a := 3072) (b := 1024) f).trans (congrArg₂ (· + ·) ?_ rfl)
  refine (Fin.sum_univ_add (a := 2048) (b := 1024) fun i => f (Fin.castAdd 1024 i)).trans (congrArg₂ (· + ·) ?_ rfl)
  exact Fin.sum_univ_add (a := 1024) (b := 1024) fun i => f (Fin.castAdd 1024 (Fin.castAdd 1024 i))

end Cert.Layer

end
-- ==== Proof.ProjOut.lean ====
/-
  The output projection: each grid point adds the four mixers' products for a block of rows, adds the residual and normalises the rows,
  and the blocks tile the result.
-/
module

public import proofs.«01_k».proof.Proof.Norm
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import Idealize.ShloMosaic.Lib.Pipeline.ValueKit

@[expose] public section

set_option maxRecDepth 16384

noncomputable section

namespace Cert.OutProjIdeal.Layer

open Idealize.ShloMosaic Idealize.ShloMosaic.TcCoe Idealize.ShloMosaic.Tactic Idealize.SL.Sem Cert.OutProjIdeal.Gen Cert.Layer

/-- What a row of the layer's result comes from: the row of each mixer's output and of the residual, the weights, and the gate, scale and shift. -/
structure Row where
  y0 : Fin 1024 → EReal
  y1 : Fin 1024 → EReal
  y2 : Fin 1024 → EReal
  y3 : Fin 1024 → EReal
  w : Fin 4096 → Fin 4096 → EReal
  h : Fin 4096 → EReal
  gate : Fin 4096 → EReal
  g : Fin 4096 → EReal
  b : Fin 4096 → EReal

namespace Row

variable (R : Row)

/-- The projection of the four mixers' outputs, side by side. -/
def out (k : Fin 4096) : EReal :=
  ∑ j : Fin 1024, R.y0 j * R.w ⟨j.val, by omega⟩ k + ∑ j : Fin 1024, R.y1 j * R.w ⟨1024 + j.val, by omega⟩ k
    + ∑ j : Fin 1024, R.y2 j * R.w ⟨2048 + j.val, by omega⟩ k + ∑ j : Fin 1024, R.y3 j * R.w ⟨3072 + j.val, by omega⟩ k

/-- The residual, scaled, and the gated projection. -/
def z (k : Fin 4096) : EReal := Ideal.ofBits .f32 0x3FB504F3#32 * R.h k + R.gate k * R.out k

/-- The row of the result. -/
def res (k : Fin 4096) : EReal := norm R.z k * R.g k + R.b k

end Row

/-- The stored block, from the four quarters of the weights that the body loads. -/
theorem payload_apply (v0 : Vec Ideal S256x1024 .f32) (v2 : Vec Ideal S1024x4096 .bf16) (v4 : Vec Ideal S256x1024 .bf16)
    (v5 : Vec Ideal S1024x4096 .bf16) (v8 : Vec Ideal S256x1024 .bf16) (v9 : Vec Ideal S1024x4096 .bf16) (v12 : Vec Ideal S256x1024 .bf16)
    (v13 : Vec Ideal S1024x4096 .bf16) (v16 : Vec Ideal S256x4096 .f32) (v19 v39 v43 : Vec Ideal S1x4096 .f32)
    (w : Vec Ideal S4096x4096 .bf16)
    (q0 : ∀ (i : Fin 1024) (j : Fin 4096), v2 (ix2 i j) = w (ix2 (⟨i.val, by omega⟩ : Fin 4096) j))
    (q1 : ∀ (i : Fin 1024) (j : Fin 4096), v5 (ix2 i j) = w (ix2 (⟨1024 + i.val, by omega⟩ : Fin 4096) j))
    (q2 : ∀ (i : Fin 1024) (j : Fin 4096), v9 (ix2 i j) = w (ix2 (⟨2048 + i.val, by omega⟩ : Fin 4096) j))
    (q3 : ∀ (i : Fin 1024) (j : Fin 4096), v13 (ix2 i j) = w (ix2 (⟨3072 + i.val, by omega⟩ : Fin 4096) j)) (r : Fin 256) (k : Fin 4096) :
    k0_pay1 (F := Ideal) (k0_pay2 v0 v2 v4 v5 v8 v9 v12 v13 v16 v19) (k0_pay3 v0 v2 v4 v5 v8 v9 v12 v13 v16 v19) v39 v43 (ix2 r k)
      = Row.res ⟨fun j => v0 (ix2 r j), fun j => v4 (ix2 r j), fun j => v8 (ix2 r j), fun j => v12 (ix2 r j), fun i j => w (ix2 i j),
          fun j => v16 (ix2 r j), fun j => v19 (ix2 0 j), fun j => v39 (ix2 0 j), fun j => v43 (ix2 0 j)⟩ k := by
  unfold k0_pay1 k0_pay3 k0_pay2
  pointwise
  simp only [q0, q1, q2, q3]
  rfl

theorem block_apply (x0 : Vec Ideal S256x1024 .f32) (x1 x2 x3 : Vec Ideal S256x1024 .bf16) (x4 : Vec Ideal S4096x4096 .bf16)
    (x5 : Vec Ideal S256x4096 .f32) (x6 x7 x8 : Vec Ideal S1x4096 .f32) (r : Fin 256) (k : Fin 4096) :
    out0_9 (F := Ideal) x0 x1 x2 x3 x4 x5 x6 x7 x8 (ix2 r k)
      = Row.res ⟨fun j => x0 (ix2 r j), fun j => x1 (ix2 r j), fun j => x2 (ix2 r j), fun j => x3 (ix2 r j), fun i j => x4 (ix2 i j),
          fun j => x5 (ix2 r j), fun j => x6 (ix2 0 j), fun j => x7 (ix2 0 j), fun j => x8 (ix2 0 j)⟩ k := by
  have q0 (i : Fin 1024) (j : Fin 4096) : View.ld x4 r0_1 (ix2 i j) = x4 (ix2 (⟨i.val, by omega⟩ : Fin 4096) j) := by
    blk_ext! [View.ld]
    · exact (Nat.zero_add _).trans (Nat.one_mul i.val)
    · exact (Nat.zero_add _).trans (Nat.one_mul j.val)
  have q1 (i : Fin 1024) (j : Fin 4096) : View.ld x4 r0_2 (ix2 i j) = x4 (ix2 (⟨1024 + i.val, by omega⟩ : Fin 4096) j) := by
    blk_ext! [View.ld]
    · exact congrArg (1024 + ·) (Nat.one_mul i.val)
    · exact (Nat.zero_add _).trans (Nat.one_mul j.val)
  have q2 (i : Fin 1024) (j : Fin 4096) : View.ld x4 r0_3 (ix2 i j) = x4 (ix2 (⟨2048 + i.val, by omega⟩ : Fin 4096) j) := by
    blk_ext! [View.ld]
    · exact congrArg (2048 + ·) (Nat.one_mul i.val)
    · exact (Nat.zero_add _).trans (Nat.one_mul j.val)
  have q3 (i : Fin 1024) (j : Fin 4096) : View.ld x4 r0_4 (ix2 i j) = x4 (ix2 (⟨3072 + i.val, by omega⟩ : Fin 4096) j) := by
    blk_ext! [View.ld]
    · exact congrArg (3072 + ·) (Nat.one_mul i.val)
    · exact (Nat.zero_add _).trans (Nat.one_mul j.val)
  frame_out
  exact payload_apply _ _ _ _ _ _ _ _ _ _ _ _ x4 q0 q1 q2 q3 r k

theorem idx : ∀ t : Fin grid0.N, win0_0.index t = ![t.val, 0] ∧ win0_1.index t = ![t.val, 0] ∧ win0_2.index t = ![t.val, 0]
    ∧ win0_3.index t = ![t.val, 0] ∧ win0_4.index t = ![0, 0] ∧ win0_5.index t = ![t.val, 0] ∧ win0_6.index t = ![0, 0]
    ∧ win0_7.index t = ![0, 0] ∧ win0_8.index t = ![0, 0] ∧ win0_9.index t = ![t.val, 0] := by
  decide +kernel

/-- The result's row of the arrays' rows. -/
def row (x0 : S8192x1024.Idx → EReal) (x1 x2 x3 : S8192x1024.Idx → EReal) (x4 : S4096x4096.Idx → EReal) (x5 : S8192x4096.Idx → EReal)
    (x6 : S1x4096.Idx → EReal) (x7 x8 : S4096.Idx → EReal) (r : Fin 8192) : Row :=
  ⟨fun j => x0 (ix2 r j), fun j => x1 (ix2 r j), fun j => x2 (ix2 r j), fun j => x3 (ix2 r j), fun i j => x4 (ix2 i j),
    fun j => x5 (ix2 r j), fun j => x6 (ix2 0 j), fun j => x7 (ix1 j), fun j => x8 (ix1 j)⟩

theorem arr (m : (ℓ : Loc nD τ sig) → Buf (Elt Ideal) ℓ) (c : Dev nD) :
    (dats m 0 c).arrAt 9 cfg0.N
      = fun i : S8192x4096.Idx => (row (m ((c.tc : Thread nD τ).loc main_arg0)) (m ((c.tc : Thread nD τ).loc main_arg1))
          (m ((c.tc : Thread nD τ).loc main_arg2)) (m ((c.tc : Thread nD τ).loc main_arg3)) (m ((c.tc : Thread nD τ).loc main_arg4))
          (m ((c.tc : Thread nD τ).loc main_arg5)) (m ((c.tc : Thread nD τ).loc main_arg6)) (m ((c.tc : Thread nD τ).loc main_arg7))
          (m ((c.tc : Thread nD τ).loc main_arg8)) (i 0)).res (i 1) := by
  refine Pipeline.Dat.arrAt_eq_of_covers _ 9 _ (by decide +kernel) fun t _ y => ?_
  blk_simp
  rw [after0_9]
  obtain ⟨r, k, rfl⟩ : ∃ (r : Fin 256) (k : Fin 4096), y = ix2 r k := ⟨y 0, y 1, by funext a; fin_cases a <;> rfl⟩
  refine (block_apply _ _ _ _ _ _ _ _ _ r k).trans (congrArg₂ Row.res ?_ ?_)
  · obtain ⟨e0, e1, e2, e3, e4, e5, e6, e7, e8, e9⟩ := idx t
    unfold row
    congr 1
    · funext j; blk_ext! [iblk, V, e0, e9]
    · funext j; blk_ext! [iblk, V, e1, e9]
    · funext j; blk_ext! [iblk, V, e2, e9]
    · funext j; blk_ext! [iblk, V, e3, e9]
    · funext i j; blk_ext! [iblk, V, e4]
    · funext j; blk_ext! [iblk, V, e5, e9]
    · funext j; blk_ext! [iblk, V, e6]
    · funext j; blk_ext! [iblk, V, e7]
    · funext j; blk_ext! [iblk, V, e8]
  · exact Fin.ext (by blk_simp [idx t])

section

open OutProjRefIdeal.Read

variable (x0 : Vec Ideal S8192x1024 .f32) (x1 x2 x3 : Vec Ideal S8192x1024 .bf16) (x4 : Vec Ideal S4096x4096 .bf16) (x5 : Vec Ideal S8192x4096 .f32)
  (x6 : Vec Ideal S1x4096 .f32) (x7 x8 : Vec Ideal S4096 .f32)

/-- The four mixers' outputs side by side, at a column of each quarter. -/
theorem quarters (r : Fin 8192) (j : Fin 1024) :
    val_main_v3 (F := Ideal) x0 x1 x2 x3 (ix2 r (⟨j.val, by omega⟩ : Fin 4096)) = x0 (ix2 r j)
    ∧ val_main_v3 (F := Ideal) x0 x1 x2 x3 (ix2 r (⟨1024 + j.val, by omega⟩ : Fin 4096)) = x1 (ix2 r j)
    ∧ val_main_v3 (F := Ideal) x0 x1 x2 x3 (ix2 r (⟨2048 + j.val, by omega⟩ : Fin 4096)) = x2 (ix2 r j)
    ∧ val_main_v3 (F := Ideal) x0 x1 x2 x3 (ix2 r (⟨3072 + j.val, by omega⟩ : Fin 4096)) = x3 (ix2 r j) := by
  unfold val_main_v3 val_main_v2 val_main_v1 val_main_v0
  refine ⟨?_, ?_, ?_, ?_⟩
  · pointwise
  · pointwise
  · pointwise
    rw [dif_neg (by omega), dif_neg (by omega), dif_pos (by omega)]
    blk_ext!
  · pointwise
    rw [dif_neg (by omega), dif_neg (by omega), dif_neg (by omega)]
    blk_ext!

theorem ref_out (r : Fin 8192) (k : Fin 4096) :
    val_main_v5 (F := Ideal) x0 x1 x2 x3 x4 (ix2 r k) = (row x0 x1 x2 x3 x4 x5 x6 x7 x8 r).out k := by
  have q := quarters x0 x1 x2 x3 r
  unfold val_main_v5 val_main_v4
  generalize val_main_v3 (F := Ideal) x0 x1 x2 x3 = y at q
  pointwise
  refine (sum_quarters _).trans ?_
  unfold Row.out row
  refine congrArg₂ (· + ·) (congrArg₂ (· + ·) (congrArg₂ (· + ·) ?_ ?_) ?_) ?_ <;> refine Finset.sum_congr rfl fun j _ => congrArg₂ (· * ·) ?_ rfl
  · exact (q j).1
  · exact (q j).2.1
  · exact (q j).2.2.1
  · exact (q j).2.2.2

theorem ref_z (r : Fin 8192) (k : Fin 4096) :
    val_main_v10 (F := Ideal) x0 x1 x2 x3 x4 x5 x6 (ix2 r k) = (row x0 x1 x2 x3 x4 x5 x6 x7 x8 r).z k := by
  have q := ref_out x0 x1 x2 x3 x4 x5 x6 x7 x8 r k
  unfold val_main_v10 val_main_v9 val_main_v8 val_main_v7 val_main_v6 val_main_cst
  generalize val_main_v5 (F := Ideal) x0 x1 x2 x3 x4 = y at q
  pointwise
  rw [q]
  rfl

theorem ref_res (r : Fin 8192) (k : Fin 4096) :
    val_main_v34 (F := Ideal) x0 x1 x2 x3 x4 x5 x6 x7 x8 (ix2 r k) = (row x0 x1 x2 x3 x4 x5 x6 x7 x8 r).res k := by
  have q := ref_z x0 x1 x2 x3 x4 x5 x6 x7 x8 r
  unfold val_main_v34 val_main_v33 val_main_v32 val_main_v31 val_main_v30 val_main_v29 val_main_v28 val_main_v27 val_main_v26 val_main_v25
    val_main_v24 val_main_v23 val_main_v22 val_main_v21 val_main_v20 val_main_v19 val_main_v18 val_main_v17 val_main_v16 val_main_v15
    val_main_v14 val_main_v13 val_main_v12 val_main_v11 val_main_cst_0 val_main_cst_1 val_main_cst_2 val_main_cst_3 val_main_cst_4
  generalize val_main_v10 (F := Ideal) x0 x1 x2 x3 x4 x5 x6 = z at q
  pointwise
  simp only [q]
  rfl

end

attribute [local instance] Cert.OutProjIdeal.Gen.facts Cert.OutProjRefIdeal.Gen.facts

theorem algebraic : algebraic_OutProjIdeal_OutProjRefIdeal := by
  intro m g m' g' _ harg
  refine ⟨_, θ_run_mono (Value.run_blocks m g) fun r hr c => ⟨(hr c).1.trans (arr m c), (hr c).2⟩,
    θ_run_mono (OutProjRefIdeal.Value.run m' g') fun r hr c => ?_⟩
  obtain ⟨e0, e1, e2, e3, e4, e5, e6, e7, e8⟩ := harg c
  obtain ⟨r0, ra⟩ := hr c
  refine ⟨r0.trans ?_, ra⟩
  rw [OutProjRefIdeal.Read.val_main_v34_eq, e0, e1, e2, e3, e4, e5, e6, e7, e8]
  funext i
  obtain ⟨r, k, rfl⟩ : ∃ (r : Fin 8192) (k : Fin 4096), i = ix2 r k := ⟨i 0, i 1, by funext a; fin_cases a <;> rfl⟩
  exact ref_res _ _ _ _ _ _ _ _ _ r k

/-- The reference leaves its arguments and declares no semaphore. -/
theorem frameRef (m : (ℓ : Loc OutProjRefIdeal.nD OutProjRefIdeal.τ OutProjRefIdeal.sig) → Buf (Elt Ideal) ℓ) (g : Dev OutProjRefIdeal.nD → PrngReg) :
    θ_run (OutProjRefIdeal.defs (F := Ideal)) (onTc (τ := OutProjRefIdeal.τ) (OutProjRefIdeal.main (F := Ideal))) ⟨m, fun _ => 0, g⟩ (fun r => (∀ c : Dev OutProjRefIdeal.nD,
      r.2.mem ((c.tc : Thread OutProjRefIdeal.nD OutProjRefIdeal.τ).loc OutProjRefIdeal.main_arg0) = m ((c.tc : Thread OutProjRefIdeal.nD OutProjRefIdeal.τ).loc OutProjRefIdeal.main_arg0)
      ∧ r.2.mem ((c.tc : Thread OutProjRefIdeal.nD OutProjRefIdeal.τ).loc OutProjRefIdeal.main_arg1) = m ((c.tc : Thread OutProjRefIdeal.nD OutProjRefIdeal.τ).loc OutProjRefIdeal.main_arg1)
      ∧ r.2.mem ((c.tc : Thread OutProjRefIdeal.nD OutProjRefIdeal.τ).loc OutProjRefIdeal.main_arg2) = m ((c.tc : Thread OutProjRefIdeal.nD OutProjRefIdeal.τ).loc OutProjRefIdeal.main_arg2)
      ∧ r.2.mem ((c.tc : Thread OutProjRefIdeal.nD OutProjRefIdeal.τ).loc OutProjRefIdeal.main_arg3) = m ((c.tc : Thread OutProjRefIdeal.nD OutProjRefIdeal.τ).loc OutProjRefIdeal.main_arg3)
      ∧ r.2.mem ((c.tc : Thread OutProjRefIdeal.nD OutProjRefIdeal.τ).loc OutProjRefIdeal.main_arg4) = m ((c.tc : Thread OutProjRefIdeal.nD OutProjRefIdeal.τ).loc OutProjRefIdeal.main_arg4)
      ∧ r.2.mem ((c.tc : Thread OutProjRefIdeal.nD OutProjRefIdeal.τ).loc OutProjRefIdeal.main_arg5) = m ((c.tc : Thread OutProjRefIdeal.nD OutProjRefIdeal.τ).loc OutProjRefIdeal.main_arg5)
      ∧ r.2.mem ((c.tc : Thread OutProjRefIdeal.nD OutProjRefIdeal.τ).loc OutProjRefIdeal.main_arg6) = m ((c.tc : Thread OutProjRefIdeal.nD OutProjRefIdeal.τ).loc OutProjRefIdeal.main_arg6)
      ∧ r.2.mem ((c.tc : Thread OutProjRefIdeal.nD OutProjRefIdeal.τ).loc OutProjRefIdeal.main_arg7) = m ((c.tc : Thread OutProjRefIdeal.nD OutProjRefIdeal.τ).loc OutProjRefIdeal.main_arg7)
      ∧ r.2.mem ((c.tc : Thread OutProjRefIdeal.nD OutProjRefIdeal.τ).loc OutProjRefIdeal.main_arg8) = m ((c.tc : Thread OutProjRefIdeal.nD OutProjRefIdeal.τ).loc OutProjRefIdeal.main_arg8))
      ∧ r.2.sem = fun _ => 0) :=
  θ_run_mono (OutProjRefIdeal.Value.run m g) fun r h => And.intro (fun c => (h c).2) (sem_eq_zero_of_no_sems (by decide) r.2)

end Cert.OutProjIdeal.Layer

end
-- ==== Proof.ProjKv.lean ====
/-
  The input projection's float32 columns: each grid point stores a block of rows of the product, and the blocks tile the result.
-/
module

public import proofs.«01_k».proof.Defs
public import proofs.«01_k».proof.Proof.Gen.InProjKvIdeal.Value
public import proofs.«01_k».proof.Proof.Gen.InProjKvRefIdeal
public import proofs.«01_k».proof.Proof.Gen.InProjKvRefIdeal.Run
public import proofs.«01_k».proof.Proof.Gen.InProjKvRefIdeal.Read
public import Idealize.ShloMosaic.Lib.Pipeline.ValueKit
public import Idealize.ShloMosaic.Lib.Pointwise

@[expose] public section

set_option maxRecDepth 16384

noncomputable section

namespace Cert.InProjKvIdeal.Columns

open Idealize.ShloMosaic Idealize.ShloMosaic.TcCoe Idealize.ShloMosaic.Tactic Idealize.SL.Sem Cert.InProjKvIdeal.Gen

/-- A row of activations against a row of weights. -/
def dot (u : S8192x4096.Idx → EReal) (w : S1x2176x4096.Idx → EReal) (i : S8192x2176.Idx) : EReal :=
  ∑ k : Fin 4096, u (ix2 (i 0) k) * w (ix3 0 (i 1) k)

theorem block_apply (x : Vec Ideal S512x4096 .bf16) (w : Vec Ideal S1x2176x4096 .bf16) (r : Fin 512) (k : Fin 2176) :
    k0_pay1 (F := Ideal) x w (ix2 r k) = ∑ j : Fin 4096, x (ix2 r j) * w (ix3 0 k j) := by
  unfold k0_pay1
  pointwise

theorem idx : ∀ t : Fin grid0.N, win0_0.index t = ![t.val, 0] ∧ win0_1.index t = ![0, 0, 0] ∧ win0_2.index t = ![t.val, 0] := by
  decide +kernel

theorem arr (m : (ℓ : Loc nD τ sig) → Buf (Elt Ideal) ℓ) (c : Dev nD) :
    (dats m 0 c).arrAt 2 cfg0.N = dot (m ((c.tc : Thread nD τ).loc main_arg0)) (m ((c.tc : Thread nD τ).loc main_arg1)) := by
  refine Pipeline.Dat.arrAt_eq_of_covers _ 2 _ (by decide +kernel) fun t _ y => ?_
  blk_simp
  rw [after0_2]
  frame_out
  obtain ⟨r, k, rfl⟩ : ∃ (r : Fin 512) (k : Fin 2176), y = ix2 r k := ⟨y 0, y 1, by funext a; fin_cases a <;> rfl⟩
  refine (block_apply _ _ r k).trans (Finset.sum_congr rfl fun j _ => congrArg₂ (· * ·) ?_ ?_)
  · blk_ext! [iblk, V, idx t]
  · blk_ext! [iblk, V, idx t]
    · exact (win0_1.rect_emb_val_off t _ 1).trans (by rw [(idx t).2.1]; exact Nat.zero_add _)
    · exact (win0_1.rect_emb_val_off t _ 2).trans (by rw [(idx t).2.1]; exact Nat.zero_add _)

theorem ref_apply (u : Vec Ideal S8192x4096 .bf16) (w : Vec Ideal S1x2176x4096 .bf16) (r : Fin 8192) (k : Fin 2176) :
    InProjKvRefIdeal.Read.val_main_v4 (F := Ideal) u w (ix2 r k) = dot u w (ix2 r k) := by
  unfold InProjKvRefIdeal.Read.val_main_v4 InProjKvRefIdeal.Read.val_main_v3 InProjKvRefIdeal.Read.val_main_v2
    InProjKvRefIdeal.Read.val_main_v1 InProjKvRefIdeal.Read.val_main_v0
  pointwise
  rfl

attribute [local instance] Cert.InProjKvIdeal.Gen.facts Cert.InProjKvRefIdeal.Gen.facts

theorem algebraic : algebraic_InProjKvIdeal_InProjKvRefIdeal := by
  intro m g m' g' _ harg
  refine ⟨_, θ_run_mono (Value.run_blocks m g) fun r hr c => ⟨(hr c).1.trans (arr m c), (hr c).2⟩,
    θ_run_mono (InProjKvRefIdeal.Value.run m' g') fun r hr c => ?_⟩
  obtain ⟨e0, e1⟩ := harg c
  obtain ⟨r0, ra⟩ := hr c
  refine ⟨r0.trans ?_, ra⟩
  rw [InProjKvRefIdeal.Read.val_main_v4_eq, e0, e1]
  funext i
  obtain ⟨r, k, rfl⟩ : ∃ (r : Fin 8192) (k : Fin 2176), i = ix2 r k := ⟨i 0, i 1, by funext a; fin_cases a <;> rfl⟩
  exact ref_apply _ _ r k

/-- The reference leaves its arguments and declares no semaphore. -/
theorem frameRef (m : (ℓ : Loc InProjKvRefIdeal.nD InProjKvRefIdeal.τ InProjKvRefIdeal.sig) → Buf (Elt Ideal) ℓ) (g : Dev InProjKvRefIdeal.nD → PrngReg) :
    θ_run (InProjKvRefIdeal.defs (F := Ideal)) (onTc (τ := InProjKvRefIdeal.τ) (InProjKvRefIdeal.main (F := Ideal))) ⟨m, fun _ => 0, g⟩ (fun r => (∀ c : Dev InProjKvRefIdeal.nD,
      r.2.mem ((c.tc : Thread InProjKvRefIdeal.nD InProjKvRefIdeal.τ).loc InProjKvRefIdeal.main_arg0) = m ((c.tc : Thread InProjKvRefIdeal.nD InProjKvRefIdeal.τ).loc InProjKvRefIdeal.main_arg0)
      ∧ r.2.mem ((c.tc : Thread InProjKvRefIdeal.nD InProjKvRefIdeal.τ).loc InProjKvRefIdeal.main_arg1) = m ((c.tc : Thread InProjKvRefIdeal.nD InProjKvRefIdeal.τ).loc InProjKvRefIdeal.main_arg1))
      ∧ r.2.sem = fun _ => 0) :=
  θ_run_mono (InProjKvRefIdeal.Value.run m g) fun r h => And.intro (fun c => (h c).2) (sem_eq_zero_of_no_sems (by decide) r.2)

end Cert.InProjKvIdeal.Columns

end
-- ==== Proof.Modulated.lean ====
/-
  The modulation before the input projection: each grid point normalises a block of rows, scales and shifts it, and the blocks tile the
  result.
-/
module

public import proofs.«01_k».proof.Proof.Norm
public import proofs.«01_k».proof.Proof.Gen.ModulateIdeal.Value
public import proofs.«01_k».proof.Proof.Gen.ModulateRefIdeal
public import proofs.«01_k».proof.Proof.Gen.ModulateRefIdeal.Run
public import proofs.«01_k».proof.Proof.Gen.ModulateRefIdeal.Read
public import Idealize.ShloMosaic.Lib.Pipeline.ValueKit

@[expose] public section

set_option maxRecDepth 16384

noncomputable section

namespace Cert.ModulateIdeal.Layer

open Idealize.ShloMosaic Idealize.ShloMosaic.TcCoe Idealize.ShloMosaic.Tactic Idealize.SL.Sem Cert.ModulateIdeal.Gen Cert.Layer

/-- A row normalised, scaled by one more than the scale, and shifted. -/
def modulated (h shift scale : Fin 4096 → EReal) (k : Fin 4096) : EReal :=
  norm h k * (1 + scale k) + shift k

theorem block_apply (x0 : Vec Ideal S512x4096 .f32) (x1 x2 : Vec Ideal S1x4096 .f32) (r : Fin 512) (k : Fin 4096) :
    out0_3 (F := Ideal) x0 x1 x2 (ix2 r k) = modulated (fun j => x0 (ix2 r j)) (fun j => x1 (ix2 0 j)) (fun j => x2 (ix2 0 j)) k := by
  frame_out
  unfold k0_pay1
  pointwise
  rfl

theorem idx : ∀ t : Fin grid0.N, win0_0.index t = ![t.val, 0] ∧ win0_1.index t = ![0, 0] ∧ win0_2.index t = ![0, 0]
    ∧ win0_3.index t = ![t.val, 0] := by
  decide +kernel

theorem arr (m : (ℓ : Loc nD τ sig) → Buf (Elt Ideal) ℓ) (c : Dev nD) :
    (dats m 0 c).arrAt 3 cfg0.N
      = fun i : S8192x4096.Idx => modulated (fun j => m ((c.tc : Thread nD τ).loc main_arg0) (ix2 (i 0) j))
          (fun j => m ((c.tc : Thread nD τ).loc main_arg1) (ix2 0 j)) (fun j => m ((c.tc : Thread nD τ).loc main_arg2) (ix2 0 j)) (i 1) := by
  refine Pipeline.Dat.arrAt_eq_of_covers _ 3 _ (by decide +kernel) fun t _ y => ?_
  blk_simp
  rw [after0_3]
  obtain ⟨e0, e1, e2, e3⟩ := idx t
  obtain ⟨r, k, rfl⟩ : ∃ (r : Fin 512) (k : Fin 4096), y = ix2 r k := ⟨y 0, y 1, by funext a; fin_cases a <;> rfl⟩
  refine (block_apply _ _ _ r k).trans (congr (congr (congrArg₂ modulated ?_ ?_) ?_) ?_)
  · funext j; blk_ext! [iblk, V, e0, e3]
  · funext j; blk_ext! [iblk, V, e1]
  · funext j; blk_ext! [iblk, V, e2]
  · exact Fin.ext (by blk_simp [e3])

open ModulateRefIdeal.Read in
theorem ref_apply (x0 : Vec Ideal S8192x4096 .f32) (x1 x2 : Vec Ideal S1x4096 .f32) (r : Fin 8192) (k : Fin 4096) :
    val_main_v24 (F := Ideal) x0 x1 x2 (ix2 r k)
      = modulated (fun j => x0 (ix2 r j)) (fun j => x1 (ix2 0 j)) (fun j => x2 (ix2 0 j)) k := by
  unfold val_main_v24 val_main_v23 val_main_v22 val_main_v21 val_main_v20 val_main_v19 val_main_v18 val_main_v17 val_main_v16 val_main_v15
    val_main_v14 val_main_v13 val_main_v12 val_main_v11 val_main_v10 val_main_v9 val_main_v8 val_main_v7 val_main_v6 val_main_v5 val_main_v4
    val_main_v3 val_main_v2 val_main_v1 val_main_v0 val_main_cst val_main_cst_0 val_main_cst_1 val_main_cst_2 val_main_cst_3 val_main_cst_4
  pointwise
  rfl

attribute [local instance] Cert.ModulateIdeal.Gen.facts Cert.ModulateRefIdeal.Gen.facts

theorem algebraic : algebraic_ModulateIdeal_ModulateRefIdeal := by
  intro m g m' g' _ harg
  refine ⟨_, θ_run_mono (Value.run_blocks m g) fun r hr c => ⟨(hr c).1.trans (arr m c), (hr c).2⟩,
    θ_run_mono (ModulateRefIdeal.Value.run m' g') fun r hr c => ?_⟩
  obtain ⟨e0, e1, e2⟩ := harg c
  obtain ⟨r0, ra⟩ := hr c
  refine ⟨r0.trans ?_, ra⟩
  rw [ModulateRefIdeal.Read.val_main_v24_eq, e0, e1, e2]
  funext i
  obtain ⟨r, k, rfl⟩ : ∃ (r : Fin 8192) (k : Fin 4096), i = ix2 r k := ⟨i 0, i 1, by funext a; fin_cases a <;> rfl⟩
  exact ref_apply _ _ _ r k

/-- The reference leaves its arguments and declares no semaphore. -/
theorem frameRef (m : (ℓ : Loc ModulateRefIdeal.nD ModulateRefIdeal.τ ModulateRefIdeal.sig) → Buf (Elt Ideal) ℓ) (g : Dev ModulateRefIdeal.nD → PrngReg) :
    θ_run (ModulateRefIdeal.defs (F := Ideal)) (onTc (τ := ModulateRefIdeal.τ) (ModulateRefIdeal.main (F := Ideal))) ⟨m, fun _ => 0, g⟩ (fun r => (∀ c : Dev ModulateRefIdeal.nD,
      r.2.mem ((c.tc : Thread ModulateRefIdeal.nD ModulateRefIdeal.τ).loc ModulateRefIdeal.main_arg0) = m ((c.tc : Thread ModulateRefIdeal.nD ModulateRefIdeal.τ).loc ModulateRefIdeal.main_arg0)
      ∧ r.2.mem ((c.tc : Thread ModulateRefIdeal.nD ModulateRefIdeal.τ).loc ModulateRefIdeal.main_arg1) = m ((c.tc : Thread ModulateRefIdeal.nD ModulateRefIdeal.τ).loc ModulateRefIdeal.main_arg1)
      ∧ r.2.mem ((c.tc : Thread ModulateRefIdeal.nD ModulateRefIdeal.τ).loc ModulateRefIdeal.main_arg2) = m ((c.tc : Thread ModulateRefIdeal.nD ModulateRefIdeal.τ).loc ModulateRefIdeal.main_arg2))
      ∧ r.2.sem = fun _ => 0) :=
  θ_run_mono (ModulateRefIdeal.Value.run m g) fun r h => And.intro (fun c => (h c).2) (sem_eq_zero_of_no_sems (by decide) r.2)

end Cert.ModulateIdeal.Layer

end
-- ==== Proof.ShortConv.lean ====
/-
  The short convolution: each grid point takes a block of rows with 16 rows of its neighbours; three sections of columns are convolved with
  three taps along the rows; two of them are multiplied together and the third by the gate.
-/
module

public import proofs.«01_k».proof.Proof.Norm
public import proofs.«01_k».proof.Proof.Gen.PrepHyIdeal.Value
public import proofs.«01_k».proof.Proof.Gen.PrepHyRefIdeal
public import proofs.«01_k».proof.Proof.Gen.PrepHyRefIdeal.Run
public import proofs.«01_k».proof.Proof.Gen.PrepHyRefIdeal.Read
public import Idealize.ShloMosaic.Lib.Pipeline.ValueKit
public import Idealize.ShloMosaic.Lib.Pipeline.ReadBack

@[expose] public section

set_option maxRecDepth 16384

noncomputable section

namespace Cert.PrepHyIdeal.Conv

open Idealize.ShloMosaic Idealize.ShloMosaic.TcCoe Idealize.ShloMosaic.Tactic Idealize.SL.Sem Cert.PrepHyIdeal.Gen

/-- A column's rows with a zero row before and after them. -/
def line (u : Fin 8192 → EReal) (q : ℕ) : EReal := if h : 1 ≤ q ∧ q < 8193 then u ⟨q - 1, by omega⟩ else 0

/-- The convolution of a column with three taps, at a row, and the bias. -/
def conv (u : Fin 8192 → EReal) (w : Fin 3 → EReal) (b : EReal) (R : Fin 8192) : EReal :=
  line u R.val * w 0 + line u (R.val + 1) * w 1 + line u (R.val + 2) * w 2 + b

/-- The row before a block's row: the previous block's last row before the first. -/
def before (i : grid0.Coords) (x : Vec Ideal S512x1024 .bf16) (p : Vec Ideal S16x1024 .bf16) (r : Fin 512) (j : Fin 1024) : EReal :=
  if r.val = 0 then p (ix2 15 j) * k0_pay3 (F := Ideal) i else x (ix2 (⟨r.val - 1, by omega⟩ : Fin 512) j)

/-- The row behind a block's row: the next block's first row behind the last. -/
def behind (i : grid0.Coords) (x : Vec Ideal S512x1024 .bf16) (n : Vec Ideal S16x1024 .bf16) (r : Fin 512) (j : Fin 1024) : EReal :=
  if h : r.val = 511 then n (ix2 0 j) * k0_pay4 (F := Ideal) i else x (ix2 (⟨r.val + 1, by omega⟩ : Fin 512) j)

/-- The kernel's convolution. -/
def kconv (i : grid0.Coords) (x : Vec Ideal S512x1024 .bf16) (p n : Vec Ideal S16x1024 .bf16) (a0 a1 a2 b : Vec Ideal S1x1024 .f32) (r : Fin 512) (j : Fin 1024) : EReal :=
  before i x p r j * a0 (ix2 0 j) + x (ix2 r j) * a1 (ix2 0 j) + behind i x n r j * a2 (ix2 0 j) + b (ix2 0 j)

theorem turned_on (x : FVec Ideal S512x1024 .f32) (r : Fin 512) (j : Fin 1024) (h : r.val ≠ 0) :
    dynamicRotate 0 1#32 none x rotates_S512x1024_d0 (ix2 r j) = x (ix2 (⟨r.val - 1, by omega⟩ : Fin 512) j) := by
  pointwise
  refine congrArg x (congrArg (fun k => ix2 k j) (Fin.ext ?_))
  dsimp only
  omega

theorem turned_back (x : FVec Ideal S512x1024 .f32) (r : Fin 512) (j : Fin 1024) (h : r.val ≠ 511) :
    dynamicRotate 0 511#32 none x rotates_S512x1024_d0 (ix2 r j) = x (ix2 (⟨r.val + 1, by omega⟩ : Fin 512) j) := by
  pointwise
  refine congrArg x (congrArg (fun k => ix2 k j) (Fin.ext ?_))
  dsimp only
  omega

theorem first_row : ∀ r : Fin 512, IntOp.cmpi .eq (BitVec.ofNat 32 r.val) 0#32 = if r.val = 0 then 1#1 else 0#1 := by decide +kernel
theorem last_row : ∀ r : Fin 512, IntOp.cmpi .eq (BitVec.ofNat 32 r.val) 511#32 = if r.val = 511 then 1#1 else 0#1 := by decide +kernel

section Payloads

variable (i : grid0.Coords) (x : Vec Ideal S512x1024 .bf16) (p n : Vec Ideal S16x1024 .bf16) (r : Fin 512) (j : Fin 1024)

theorem pay16 : k0_pay16 (F := Ideal) (k0_pay3 (F := Ideal) i) x p (ix2 r j) = before i x p r j := by
  unfold k0_pay16
  dsimp only
  generalize hy : dynamicRotate 0 1#32 none (k0_pay14 x) rotates_S512x1024_d0 = y
  unfold before
  pointwise
  rw [first_row]
  split_ifs with h
  · rfl
  · show y (ix2 r j) = _
    rw [← hy, turned_on _ r j h]
    rfl

theorem pay12 : k0_pay12 (F := Ideal) (k0_pay4 (F := Ideal) i) x n (ix2 r j) = behind i x n r j := by
  unfold k0_pay12
  dsimp only
  generalize hy : dynamicRotate 0 511#32 none (k0_pay10 x) rotates_S512x1024_d0 = y
  unfold behind
  pointwise
  rw [last_row]
  split_ifs with h
  · rfl
  · show y (ix2 r j) = _
    rw [← hy, turned_back _ r j h]
    rfl

theorem pay13 (a0 a1 a2 b : Vec Ideal S1x1024 .f32) :
    k0_pay13 (F := Ideal) (k0_pay10 x) (k0_pay16 (k0_pay3 (F := Ideal) i) x p) (k0_pay12 (k0_pay4 (F := Ideal) i) x n) a0 a1 a2 b (ix2 r j)
      = kconv i x p n a0 a1 a2 b r j := by
  unfold kconv
  rw [← pay16, ← pay12]
  generalize k0_pay16 (F := Ideal) (k0_pay3 (F := Ideal) i) x p = u
  generalize k0_pay12 (F := Ideal) (k0_pay4 (F := Ideal) i) x n = d
  unfold k0_pay13 k0_pay10
  pointwise

theorem pay2 (v : FVec Ideal S512x1024 .f32) (g : Vec Ideal S512x1024 .bf16) :
    k0_pay2 (F := Ideal) v g (ix2 r j) = v (ix2 r j) * (g (ix2 r j) * Ideal.logistic (g (ix2 r j))) := by
  unfold k0_pay2
  pointwise

theorem pay9_eq (a0 a1 a2 b : Vec Ideal S1x1024 .f32) :
    k0_pay9 (F := Ideal) (k0_pay5 x) (k0_pay6 i x n) (k0_pay7 i x p a0) (k0_pay8 a1) a2 b
      = k0_pay13 (k0_pay10 x) (k0_pay16 (k0_pay3 (F := Ideal) i) x p) (k0_pay12 (k0_pay4 (F := Ideal) i) x n) a0 a1 a2 b := rfl

theorem pay1_eq (a0 a1 a2 b : Vec Ideal S1x1024 .f32) (u v : FVec Ideal S512x1024 .f32) :
    k0_pay1 (F := Ideal) v (k0_pay14 x) (k0_pay15 (k0_pay4 (F := Ideal) i) n) u k0_pay17 511#32 a0 a1 a2 b
      = mulf (k0_pay13 (k0_pay10 x) u (k0_pay12 (k0_pay4 (F := Ideal) i) x n) a0 a1 a2 b) v := rfl

theorem flag3 : k0_pay3 (F := Ideal) i = if (i 0).val = 0 then (0 : EReal) else 1 := by
  have key : ∀ t : Fin 16, (Scalar.extui (Scalar.cmpi .sgt (BitVec.ofNat 32 t.val) 0#32)).toInt = if t.val = 0 then 0 else 1 := by decide +kernel
  show (((Scalar.extui (Scalar.cmpi .sgt (BitVec.ofNat 32 (i 0).val) 0#32)).toInt : ℝ) : EReal) = _
  rw [key (i 0)]
  split_ifs <;> norm_num

theorem flag4 : k0_pay4 (F := Ideal) i = if (i 0).val = 15 then (0 : EReal) else 1 := by
  have key : ∀ t : Fin 16, (Scalar.extui (Scalar.cmpi .slt (BitVec.ofNat 32 t.val) 15#32)).toInt = if t.val = 15 then 0 else 1 := by decide +kernel
  show (((Scalar.extui (Scalar.cmpi .slt (BitVec.ofNat 32 (i 0).val) 15#32)).toInt : ℝ) : EReal) = _
  rw [key (i 0)]
  split_ifs <;> norm_num

end Payloads

section Rows

variable (i : grid0.Coords) (x : Vec Ideal S512x1024 .bf16) (p n : Vec Ideal S16x1024 .bf16) (j : Fin 1024) (u : Fin 8192 → EReal)
  (hx : ∀ (r : Fin 512) (R : Fin 8192), R.val = 512 * (i 0).val + r.val → x (ix2 r j) = u R)
  (hp : ∀ (ρ : Fin 16) (R : Fin 8192), R.val + 16 = 512 * (i 0).val + ρ.val → p (ix2 ρ j) = u R)
  (hn : ∀ (ρ : Fin 16) (R : Fin 8192), R.val = 512 * (i 0).val + 512 + ρ.val → n (ix2 ρ j) = u R)
  (r : Fin 512) (R : Fin 8192) (hR : R.val = 512 * (i 0).val + r.val)

include hx hp hR in
theorem before_eq : before i x p r j = line u R.val := by
  have hr := r.isLt
  have hi : (i 0).val < 16 := (i 0).isLt
  unfold before line
  rw [flag3]
  by_cases h0 : r.val = 0
  · rw [if_pos h0]
    by_cases h1 : (i 0).val = 0
    · rw [if_pos h1, mul_zero, dif_neg (by omega)]
    · rw [if_neg h1, mul_one, dif_pos (by omega)]
      exact hp 15 _ (by dsimp only; omega)
  · rw [if_neg h0, dif_pos (by omega)]
    exact hx _ _ (by dsimp only; omega)

include hx hn hR in
theorem behind_eq : behind i x n r j = line u (R.val + 2) := by
  have hr := r.isLt
  have hi : (i 0).val < 16 := (i 0).isLt
  unfold behind line
  rw [flag4]
  by_cases h0 : r.val = 511
  · rw [dif_pos h0]
    by_cases h1 : (i 0).val = 15
    · rw [if_pos h1, mul_zero, dif_neg (by omega)]
    · rw [if_neg h1, mul_one, dif_pos (by omega)]
      exact hn 0 _ (by dsimp only; omega)
  · rw [dif_neg h0, dif_pos (by omega)]
    exact hx _ _ (by dsimp only; omega)

include hx hp hn hR in
theorem kconv_eq (a0 a1 a2 b : Vec Ideal S1x1024 .f32) (w : Fin 3 → EReal) (β : EReal) (h0 : a0 (ix2 0 j) = w 0) (h1 : a1 (ix2 0 j) = w 1)
    (h2 : a2 (ix2 0 j) = w 2) (hb : b (ix2 0 j) = β) : kconv i x p n a0 a1 a2 b r j = conv u w β R := by
  have hm : x (ix2 r j) = line u (R.val + 1) := by
    unfold line
    rw [dif_pos (by have := R.isLt; omega)]
    exact hx _ _ (by dsimp only; omega)
  unfold kconv conv
  rw [before_eq i x p j u hx hp r R hR, behind_eq i x n j u hx hn r R hR, hm, h0, h1, h2, hb]

end Rows

/-! ## A block -/

/-- The convolution of a section's column. -/
def hy (U : S8192x11264.Idx → EReal) (W : S3x3072.Idx → EReal) (B : S3072.Idx → EReal) (n : Fin 3) (R : Fin 8192) (j : Fin 1024) : EReal :=
  conv (fun s => U (ix2 s (⟨3072 + (n.val * 1024 + j.val), by omega⟩ : Fin 11264))) (fun k => W (ix2 k (⟨n.val * 1024 + j.val, by omega⟩ : Fin 3072)))
    (B (ix1 (⟨n.val * 1024 + j.val, by omega⟩ : Fin 3072))) R

/-- The gate. -/
def gate (U : S8192x11264.Idx → EReal) (R : Fin 8192) (j : Fin 1024) : EReal :=
  U (ix2 R (⟨7168 + j.val, by omega⟩ : Fin 11264)) * Ideal.logistic (U (ix2 R (⟨7168 + j.val, by omega⟩ : Fin 11264)))

/-- A block's row in the array. -/
abbrev row (i : grid0.Coords) (r : Fin 512) : Fin 8192 := ⟨512 * (i 0).val + r.val, by have h : (i 0).val < 16 := (i 0).isLt; omega⟩

/-- A section's block and the rows about it are the array's. -/
def Holds (i : grid0.Coords) (U : S8192x11264.Idx → EReal) (n : Fin 3) (x : Vec Ideal S512x1024 .bf16) (p q : Vec Ideal S16x1024 .bf16) : Prop :=
  ∀ j : Fin 1024, (∀ (r : Fin 512) (R : Fin 8192), R.val = 512 * (i 0).val + r.val → x (ix2 r j) = U (ix2 R (⟨3072 + (n.val * 1024 + j.val), by omega⟩ : Fin 11264)))
    ∧ (∀ (ρ : Fin 16) (R : Fin 8192), R.val + 16 = 512 * (i 0).val + ρ.val → p (ix2 ρ j) = U (ix2 R (⟨3072 + (n.val * 1024 + j.val), by omega⟩ : Fin 11264)))
    ∧ (∀ (ρ : Fin 16) (R : Fin 8192), R.val = 512 * (i 0).val + 512 + ρ.val → q (ix2 ρ j) = U (ix2 R (⟨3072 + (n.val * 1024 + j.val), by omega⟩ : Fin 11264)))

theorem hy_at (i : grid0.Coords) (U : S8192x11264.Idx → EReal) (W : S3x3072.Idx → EReal) (B : S3072.Idx → EReal) (n : Fin 3)
    (x : Vec Ideal S512x1024 .bf16) (p q : Vec Ideal S16x1024 .bf16) (h : Holds i U n x p q) (a0 a1 a2 b : Vec Ideal S1x1024 .f32) (r : Fin 512) (j : Fin 1024)
    (h0 : a0 (ix2 0 j) = W (ix2 0 (⟨n.val * 1024 + j.val, by omega⟩ : Fin 3072))) (h1 : a1 (ix2 0 j) = W (ix2 1 (⟨n.val * 1024 + j.val, by omega⟩ : Fin 3072)))
    (h2 : a2 (ix2 0 j) = W (ix2 2 (⟨n.val * 1024 + j.val, by omega⟩ : Fin 3072))) (hb : b (ix2 0 j) = B (ix1 (⟨n.val * 1024 + j.val, by omega⟩ : Fin 3072))) :
    kconv i x p q a0 a1 a2 b r j = hy U W B n (row i r) j :=
  kconv_eq i x p q j _ (h j).1 (h j).2.1 (h j).2.2 r (row i r) rfl a0 a1 a2 b _ _ h0 h1 h2 hb

theorem ld_rows (x : Vec Ideal S512x1024 .bf16) : View.ld x (Rect.unit (s := S512x1024) ![0, 0] ![512, 1024] inb_S512x1024_S512x1024_0_0) = x :=
  View.ld_unit_zero (S := S512x1024) (off := ![0, 0]) (by funext a; fin_cases a <;> rfl) inb_S512x1024_S512x1024_0_0 x

theorem ld_halo (x : Vec Ideal S16x1024 .bf16) : View.ld x (Rect.unit (s := S16x1024) ![0, 0] ![16, 1024] inb_S16x1024_S16x1024_0_0) = x :=
  View.ld_unit_zero (S := S16x1024) (off := ![0, 0]) (by funext a; fin_cases a <;> rfl) inb_S16x1024_S16x1024_0_0 x

theorem emb_rows (y : S512x1024.Idx) : (Rect.unit (s := S512x1024) ![0, 0] ![512, 1024] inb_S512x1024_S512x1024_0_0).emb y = y := by
  funext a
  fin_cases a
  · exact Fin.ext (by show 0 + 1 * (y 0).val = (y 0).val; omega)
  · exact Fin.ext (by show 0 + 1 * (y 1).val = (y 1).val; omega)

section Blocks

variable (c : Dev nD) (i : grid0.Coords) (arg1 : Memref sig .tc .vmem S512x1024 .bf16) (harg1 : arg1.IsWhole)
  (arg2 : Memref sig .tc .vmem S16x1024 .bf16) (harg2 : arg2.IsWhole)
  (arg3 : Memref sig .tc .vmem S16x1024 .bf16) (harg3 : arg3.IsWhole)
  (arg4 : Memref sig .tc .vmem S512x1024 .bf16) (harg4 : arg4.IsWhole)
  (arg5 : Memref sig .tc .vmem S16x1024 .bf16) (harg5 : arg5.IsWhole)
  (arg6 : Memref sig .tc .vmem S16x1024 .bf16) (harg6 : arg6.IsWhole)
  (arg7 : Memref sig .tc .vmem S512x1024 .bf16) (harg7 : arg7.IsWhole)
  (arg8 : Memref sig .tc .vmem S16x1024 .bf16) (harg8 : arg8.IsWhole)
  (arg9 : Memref sig .tc .vmem S16x1024 .bf16) (harg9 : arg9.IsWhole)
  (arg10 : Memref sig .tc .vmem S512x1024 .bf16) (harg10 : arg10.IsWhole)
  (arg11 : Memref sig .tc .vmem S8x3072 .f32) (harg11 : arg11.IsWhole)
  (arg12 : Memref sig .tc .vmem S1x3072 .f32) (harg12 : arg12.IsWhole)
  (arg13 : Memref sig .tc .vmem S512x1024 .f32) (harg13 : arg13.IsWhole)
  (arg14 : Memref sig .tc .vmem S512x1024 .f32) (harg14 : arg14.IsWhole)
  (x0 : Vec Ideal S512x1024 .bf16) (x1 : Vec Ideal S16x1024 .bf16) (x2 : Vec Ideal S16x1024 .bf16) (x3 : Vec Ideal S512x1024 .bf16) (x4 : Vec Ideal S16x1024 .bf16) (x5 : Vec Ideal S16x1024 .bf16) (x6 : Vec Ideal S512x1024 .bf16) (x7 : Vec Ideal S16x1024 .bf16) (x8 : Vec Ideal S16x1024 .bf16) (x9 : Vec Ideal S512x1024 .bf16) (x10 : Vec Ideal S8x3072 .f32) (x11 : Vec Ideal S1x3072 .f32)
  (U : S8192x11264.Idx → EReal) (W : S3x3072.Idx → EReal) (B : S3072.Idx → EReal)
  (s0 : Holds i U 0 x0 x1 x2) (s1 : Holds i U 1 x3 x4 x5) (s2 : Holds i U 2 x6 x7 x8)
  (hg : ∀ (r : Fin 512) (j : Fin 1024), x9 (ix2 r j) = U (ix2 (row i r) (⟨7168 + j.val, by omega⟩ : Fin 11264)))
  (hw : ∀ (k : Fin 3) (q : Fin 3072), x10 (ix2 (⟨k.val, by omega⟩ : Fin 8) q) = W (ix2 k q)) (hb : ∀ q : Fin 3072, x11 (ix2 0 q) = B (ix1 q))

/-- A block of the first result. -/
def G12 (y : S512x1024.Idx) : EReal := hy U W B 2 (row i (y 0)) (y 1) * hy U W B 0 (row i (y 0)) (y 1)

/-- A block of the second result. -/
def G13 (y : S512x1024.Idx) : EReal := hy U W B 1 (row i (y 0)) (y 1) * gate U (row i (y 0)) (y 1)

include s0 s2 hw hb in
theorem block12 (y : S512x1024.Idx) : out0_A_12 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y
    = G12 i U W B y := by
  have w : ∀ R : LoadRect S8x3072, View.readAt (Elt Ideal) arg11.view R (harg11.unread x10) = fun y => x10 (R.idx y) :=
    fun R => funext fun y => congrFun (harg11.read_unread x10) _
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11), ← List.append_nil (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).1]
  refine View.canon_append_of_piecesOf (Val := Elt Ideal) (e := .f32) (G12 i U W B) [] _ ?_ y (cover0_A_12 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, w, ld_rows, ld_halo]
  refine ⟨fun y => ?_, trivial⟩
  obtain ⟨r, j, rfl⟩ : ∃ (r : Fin 512) (j : Fin 1024), y = ix2 r j := ⟨y 0, y 1, by funext a; fin_cases a <;> rfl⟩
  refine Eq.trans ?_ (congrArg (G12 i U W B) (emb_rows (ix2 r j)).symm)
  refine (congrFun (pay1_eq i _ _ _ _ _ _ _ _) _).trans ?_
  refine congrArg₂ (· * ·) ((pay13 i _ _ _ r j _ _ _ _).trans (hy_at i U W B 2 _ _ _ s2 _ _ _ _ r j ?_ ?_ ?_ ?_)) ((congrFun (pay9_eq i _ _ _ _ _ _ _) _).trans <| (pay13 i _ _ _ r j _ _ _ _).trans (hy_at i U W B 0 _ _ _ s0 _ _ _ _ r j ?_ ?_ ?_ ?_))
  · exact (congrArg x10 (by
        funext a
        fin_cases a
        · exact Fin.ext (by show 0 + 0 + 1 * 0 = 0; omega)
        · exact Fin.ext (by show 2048 + 0 + 1 * j.val = 2 * 1024 + j.val; omega))).trans (hw 0 ⟨2 * 1024 + j.val, by omega⟩)
  · exact (congrArg x10 (by
        funext a
        fin_cases a
        · exact Fin.ext (by show 0 + 1 + 1 * 0 = 1; omega)
        · exact Fin.ext (by show 2048 + 0 + 1 * j.val = 2 * 1024 + j.val; omega))).trans (hw 1 ⟨2 * 1024 + j.val, by omega⟩)
  · exact (congrArg x10 (by
        funext a
        fin_cases a
        · exact Fin.ext (by show 0 + 2 + 1 * 0 = 2; omega)
        · exact Fin.ext (by show 2048 + 0 + 1 * j.val = 2 * 1024 + j.val; omega))).trans (hw 2 ⟨2 * 1024 + j.val, by omega⟩)
  · exact (congrArg x11 (by
        funext a
        fin_cases a
        · exact Fin.ext (by show 0 + 1 * 0 = 0; omega)
        · exact Fin.ext (by show 2048 + 1 * j.val = 2 * 1024 + j.val; omega))).trans (hb ⟨2 * 1024 + j.val, by omega⟩)
  · exact (congrArg x10 (by
        funext a
        fin_cases a
        · exact Fin.ext (by show 0 + 0 + 1 * 0 = 0; omega)
        · exact Fin.ext (by show 0 + 0 + 1 * j.val = 0 * 1024 + j.val; omega))).trans (hw 0 ⟨0 * 1024 + j.val, by omega⟩)
  · exact (congrArg x10 (by
        funext a
        fin_cases a
        · exact Fin.ext (by show 0 + 1 + 1 * 0 = 1; omega)
        · exact Fin.ext (by show 0 + 0 + 1 * j.val = 0 * 1024 + j.val; omega))).trans (hw 1 ⟨0 * 1024 + j.val, by omega⟩)
  · exact (congrArg x10 (by
        funext a
        fin_cases a
        · exact Fin.ext (by show 0 + 2 + 1 * 0 = 2; omega)
        · exact Fin.ext (by show 0 + 0 + 1 * j.val = 0 * 1024 + j.val; omega))).trans (hw 2 ⟨0 * 1024 + j.val, by omega⟩)
  · exact (congrArg x11 (by
        funext a
        fin_cases a
        · exact Fin.ext (by show 0 + 1 * 0 = 0; omega)
        · exact Fin.ext (by show 0 + 1 * j.val = 0 * 1024 + j.val; omega))).trans (hb ⟨0 * 1024 + j.val, by omega⟩)

include s1 hg hw hb in
theorem block13 (y : S512x1024.Idx) : out0_A_13 (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y
    = G13 i U W B y := by
  have w : ∀ R : LoadRect S8x3072, View.readAt (Elt Ideal) arg11.view R (harg11.unread x10) = fun y => x10 (R.idx y) :=
    fun R => funext fun y => congrFun (harg11.read_unread x10) _
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11), ← List.append_nil (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11).2.1]
  refine View.canon_append_of_piecesOf (Val := Elt Ideal) (e := .f32) (G13 i U W B) [] _ ?_ y (cover0_A_13 c i arg1 harg1 arg2 harg2 arg3 harg3 arg4 harg4 arg5 harg5 arg6 harg6 arg7 harg7 arg8 harg8 arg9 harg9 arg10 harg10 arg11 harg11 arg12 harg12 arg13 harg13 arg14 harg14 x0 x1 x2 x3 x4 x5 x6 x7 x8 x9 x10 x11 y)
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, w, ld_rows, ld_halo]
  refine ⟨fun y => ?_, trivial⟩
  obtain ⟨r, j, rfl⟩ : ∃ (r : Fin 512) (j : Fin 1024), y = ix2 r j := ⟨y 0, y 1, by funext a; fin_cases a <;> rfl⟩
  refine Eq.trans ?_ (congrArg (G13 i U W B) (emb_rows (ix2 r j)).symm)
  refine (pay2 r j _ _).trans ?_
  refine congrArg₂ (· * ·) ((pay13 i _ _ _ r j _ _ _ _).trans (hy_at i U W B 1 _ _ _ s1 _ _ _ _ r j ?_ ?_ ?_ ?_)) ?_
  · exact (congrArg x10 (by
        funext a
        fin_cases a
        · exact Fin.ext (by show 0 + 0 + 1 * 0 = 0; omega)
        · exact Fin.ext (by show 1024 + 0 + 1 * j.val = 1 * 1024 + j.val; omega))).trans (hw 0 ⟨1 * 1024 + j.val, by omega⟩)
  · exact (congrArg x10 (by
        funext a
        fin_cases a
        · exact Fin.ext (by show 0 + 1 + 1 * 0 = 1; omega)
        · exact Fin.ext (by show 1024 + 0 + 1 * j.val = 1 * 1024 + j.val; omega))).trans (hw 1 ⟨1 * 1024 + j.val, by omega⟩)
  · exact (congrArg x10 (by
        funext a
        fin_cases a
        · exact Fin.ext (by show 0 + 2 + 1 * 0 = 2; omega)
        · exact Fin.ext (by show 1024 + 0 + 1 * j.val = 1 * 1024 + j.val; omega))).trans (hw 2 ⟨1 * 1024 + j.val, by omega⟩)
  · exact (congrArg x11 (by
        funext a
        fin_cases a
        · exact Fin.ext (by show 0 + 1 * 0 = 0; omega)
        · exact Fin.ext (by show 1024 + 1 * j.val = 1 * 1024 + j.val; omega))).trans (hb ⟨1 * 1024 + j.val, by omega⟩)
  · rw [hg]
    rfl

end Blocks

theorem idx : ∀ t : Fin grid0.N, win0_0.index t = ![t.val, 3] ∧ win0_1.index t = ![t.val * 32 - 1, 3] ∧ win0_2.index t = ![min ((t.val + 1) * 32) 511, 3]
    ∧ win0_3.index t = ![t.val, 4] ∧ win0_4.index t = ![t.val * 32 - 1, 4] ∧ win0_5.index t = ![min ((t.val + 1) * 32) 511, 4]
    ∧ win0_6.index t = ![t.val, 5] ∧ win0_7.index t = ![t.val * 32 - 1, 5] ∧ win0_8.index t = ![min ((t.val + 1) * 32) 511, 5]
    ∧ win0_9.index t = ![t.val, 7] ∧ win0_10.index t = ![0, 0] ∧ win0_11.index t = ![0, 0]
    ∧ win0_12.index t = ![t.val, 0] ∧ win0_13.index t = ![t.val, 0] ∧ (grid0.coords t 0).val = t.val := by
  decide +kernel

theorem taps_read (m : (ℓ : Loc nD τ sig) → Buf (Elt Ideal) ℓ) (c : Dev nD) (k : Fin 3) (q : Fin 3072) :
    V m c main_v0 (ix2 (⟨k.val, by omega⟩ : Fin 8) q) = m ((c.tc : Thread nD τ).loc main_arg1) (ix2 k q) := by
  simp only [V, hostOps0, hostOps0_1, hostOps0_2, List.flatten_cons, List.flatten_nil, List.append_nil, List.cons_append, List.nil_append]
  entry_read
  simp only [StableHlo.TRef.toBuf, StableHlo.TRef.ofBuf, cast_eq]
  pointwise

theorem bias_read (m : (ℓ : Loc nD τ sig) → Buf (Elt Ideal) ℓ) (c : Dev nD) (q : Fin 3072) :
    V m c main_v1 (ix2 0 q) = m ((c.tc : Thread nD τ).loc main_arg2) (ix1 q) := by
  simp only [V, hostOps0, hostOps0_1, hostOps0_2, List.flatten_cons, List.flatten_nil, List.append_nil, List.cons_append, List.nil_append]
  entry_read
  pointwise

theorem outs12 (m : (ℓ : Loc nD τ sig) → Buf (Elt Ideal) ℓ) (c : Dev nD) (t : Fin cfg0.N) :
    (outsAt0 (F := Ideal) m c t).1 = out0_A_12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

theorem outs13 (m : (ℓ : Loc nD τ sig) → Buf (Elt Ideal) ℓ) (c : Dev nD) (t : Fin cfg0.N) :
    (outsAt0 (F := Ideal) m c t).2 = out0_A_13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) := by
  simp only [outsAt0]

theorem holds0 (m : (ℓ : Loc nD τ sig) → Buf (Elt Ideal) ℓ) (c : Dev nD) (t : Fin cfg0.N) :
    Holds (grid0.coords t) (m ((c.tc : Thread nD τ).loc main_arg0)) 0 (iblk m c 0 t) (iblk m c 1 t) (iblk m c 2 t) := by
  obtain ⟨e0, e1, e2, e3, e4, e5, e6, e7, e8, e9, e10, e11, e12, e13, et⟩ := idx t
  intro k
  refine ⟨?_, ?_, ?_⟩
  · intro r R hR
    blk_ext! [iblk, V, e0]
  · intro r R hR
    blk_ext! [iblk, V, e1]
  · intro r R hR
    blk_ext! [iblk, V, e2]

theorem holds1 (m : (ℓ : Loc nD τ sig) → Buf (Elt Ideal) ℓ) (c : Dev nD) (t : Fin cfg0.N) :
    Holds (grid0.coords t) (m ((c.tc : Thread nD τ).loc main_arg0)) 1 (iblk m c 3 t) (iblk m c 4 t) (iblk m c 5 t) := by
  obtain ⟨e0, e1, e2, e3, e4, e5, e6, e7, e8, e9, e10, e11, e12, e13, et⟩ := idx t
  intro k
  refine ⟨?_, ?_, ?_⟩
  · intro r R hR
    blk_ext! [iblk, V, e3]
  · intro r R hR
    blk_ext! [iblk, V, e4]
  · intro r R hR
    blk_ext! [iblk, V, e5]

theorem holds2 (m : (ℓ : Loc nD τ sig) → Buf (Elt Ideal) ℓ) (c : Dev nD) (t : Fin cfg0.N) :
    Holds (grid0.coords t) (m ((c.tc : Thread nD τ).loc main_arg0)) 2 (iblk m c 6 t) (iblk m c 7 t) (iblk m c 8 t) := by
  obtain ⟨e0, e1, e2, e3, e4, e5, e6, e7, e8, e9, e10, e11, e12, e13, et⟩ := idx t
  intro k
  refine ⟨?_, ?_, ?_⟩
  · intro r R hR
    blk_ext! [iblk, V, e6]
  · intro r R hR
    blk_ext! [iblk, V, e7]
  · intro r R hR
    blk_ext! [iblk, V, e8]

theorem arr12 (m : (ℓ : Loc nD τ sig) → Buf (Elt Ideal) ℓ) (c : Dev nD) :
    (dats m 0 c).arrAt 12 cfg0.N
      = fun i : S8192x1024.Idx => hy (m ((c.tc : Thread nD τ).loc main_arg0)) (m ((c.tc : Thread nD τ).loc main_arg1)) (m ((c.tc : Thread nD τ).loc main_arg2)) 2 (i 0) (i 1)
          * hy (m ((c.tc : Thread nD τ).loc main_arg0)) (m ((c.tc : Thread nD τ).loc main_arg1)) (m ((c.tc : Thread nD τ).loc main_arg2)) 0 (i 0) (i 1) := by
  refine Pipeline.Dat.arrAt_eq_of_covers _ 12 _ (by decide +kernel) fun t _ y => ?_
  blk_simp
  rw [after0_12]
  rw [outs12]
  obtain ⟨e0, e1, e2, e3, e4, e5, e6, e7, e8, e9, e10, e11, e12, e13, et⟩ := idx t
  obtain ⟨r, k, rfl⟩ : ∃ (r : Fin 512) (k : Fin 1024), y = ix2 r k := ⟨y 0, y 1, by funext a; fin_cases a <;> rfl⟩
  refine (block12 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (m ((c.tc : Thread nD τ).loc main_arg0)) (m ((c.tc : Thread nD τ).loc main_arg1))
    (m ((c.tc : Thread nD τ).loc main_arg2)) (holds0 m c t) (holds2 m c t) ?_ ?_ _).trans ?_
  · intro k q
    refine Eq.trans ?_ (taps_read m c k q)
    blk_ext! [iblk, e10]
  · intro q
    refine Eq.trans ?_ (bias_read m c q)
    blk_ext! [iblk, e11]
  · unfold G12
    have a : row (grid0.coords t) r = (win0_12.blk t).view.emb (ix2 r k) 0 := Fin.ext (by blk_simp [e12]; dsimp only; omega)
    have b : k = (win0_12.blk t).view.emb (ix2 r k) 1 := Fin.ext (by blk_simp [e12])
    exact congrArg₂ (fun R k => hy (m ((c.tc : Thread nD τ).loc main_arg0)) (m ((c.tc : Thread nD τ).loc main_arg1)) (m ((c.tc : Thread nD τ).loc main_arg2)) 2 R k
          * hy (m ((c.tc : Thread nD τ).loc main_arg0)) (m ((c.tc : Thread nD τ).loc main_arg1)) (m ((c.tc : Thread nD τ).loc main_arg2)) 0 R k) a b

theorem arr13 (m : (ℓ : Loc nD τ sig) → Buf (Elt Ideal) ℓ) (c : Dev nD) :
    (dats m 0 c).arrAt 13 cfg0.N
      = fun i : S8192x1024.Idx => hy (m ((c.tc : Thread nD τ).loc main_arg0)) (m ((c.tc : Thread nD τ).loc main_arg1)) (m ((c.tc : Thread nD τ).loc main_arg2)) 1 (i 0) (i 1)
          * gate (m ((c.tc : Thread nD τ).loc main_arg0)) (i 0) (i 1) := by
  refine Pipeline.Dat.arrAt_eq_of_covers _ 13 _ (by decide +kernel) fun t _ y => ?_
  blk_simp
  rw [after0_13]
  rw [outs13]
  obtain ⟨e0, e1, e2, e3, e4, e5, e6, e7, e8, e9, e10, e11, e12, e13, et⟩ := idx t
  obtain ⟨r, k, rfl⟩ : ∃ (r : Fin 512) (k : Fin 1024), y = ix2 r k := ⟨y 0, y 1, by funext a; fin_cases a <;> rfl⟩
  refine (block13 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (m ((c.tc : Thread nD τ).loc main_arg0)) (m ((c.tc : Thread nD τ).loc main_arg1))
    (m ((c.tc : Thread nD τ).loc main_arg2)) (holds1 m c t) ?_ ?_ ?_ _).trans ?_
  · intro r j
    blk_ext! [iblk, V, e9]
  · intro k q
    refine Eq.trans ?_ (taps_read m c k q)
    blk_ext! [iblk, e10]
  · intro q
    refine Eq.trans ?_ (bias_read m c q)
    blk_ext! [iblk, e11]
  · unfold G13
    have a : row (grid0.coords t) r = (win0_13.blk t).view.emb (ix2 r k) 0 := Fin.ext (by blk_simp [e13]; dsimp only; omega)
    have b : k = (win0_13.blk t).view.emb (ix2 r k) 1 := Fin.ext (by blk_simp [e13])
    exact congrArg₂ (fun R k => hy (m ((c.tc : Thread nD τ).loc main_arg0)) (m ((c.tc : Thread nD τ).loc main_arg1)) (m ((c.tc : Thread nD τ).loc main_arg2)) 1 R k
          * gate (m ((c.tc : Thread nD τ).loc main_arg0)) R k) a b

section Reference

open PrepHyRefIdeal.Read

variable (x0 : Vec Ideal S8192x11264 .bf16) (x1 : Vec Ideal S3x3072 .f32) (x2 : Vec Ideal S3072 .f32) (R : Fin 8192)

theorem padded (q : Fin 8194) (k : Fin 3072) :
    val_main_v2 (F := Ideal) x0 (ix2 q k) = line (fun s => x0 (ix2 s (⟨3072 + k.val, by omega⟩ : Fin 11264))) q.val := by
  unfold val_main_v2 val_main_call0_v0 val_main_c val_main_v1 val_main_v0
  pointwise
  unfold line
  by_cases h : 1 ≤ q.val ∧ q.val < 8193
  · rw [dif_pos h, dif_pos (by omega)]
  · rw [dif_neg h, dif_neg (by omega)]
    show (((0#32 : BitVec 32).toInt : ℝ) : EReal) = 0
    norm_num

theorem ref25 (k : Fin 3072) : val_main_v25 (F := Ideal) x0 x1 x2 (ix2 R k)
    = conv (fun s => x0 (ix2 s (⟨3072 + k.val, by omega⟩ : Fin 11264))) (fun a => x1 (ix2 a k)) (x2 (ix1 k)) R := by
  unfold val_main_v25 val_main_v24 val_main_v23 val_main_v22 val_main_v21 val_main_v20 val_main_v19 val_main_v18 val_main_v17 val_main_v16
    val_main_v15 val_main_v14 val_main_v13 val_main_v12 val_main_v11 val_main_v10 val_main_v9 val_main_v8 val_main_v7 val_main_v6 val_main_v5
    val_main_v4 val_main_v3
  have h := padded x0
  generalize val_main_v2 (F := Ideal) x0 = y at h
  unfold conv
  pointwise
  simp only [h]
  rw [Nat.add_comm 1 R.val, Nat.add_comm 2 R.val]

theorem at_section (j : Fin 1024) (n : Fin 3) : ∀ k : Fin 3072, k.val = n.val * 1024 + j.val →
    conv (fun s => x0 (ix2 s (⟨3072 + k.val, by omega⟩ : Fin 11264))) (fun a => x1 (ix2 a k)) (x2 (ix1 k)) R = hy x0 x1 x2 n R j := by
  have hk : n.val * 1024 + j.val < 3072 := by omega
  intro k h
  obtain rfl : k = ⟨n.val * 1024 + j.val, hk⟩ := Fin.ext h
  rfl

theorem ref29 (j : Fin 1024) : val_main_v29 (F := Ideal) x0 x1 x2 (ix2 R j) = hy x0 x1 x2 2 R j * hy x0 x1 x2 0 R j := by
  unfold val_main_v29 val_main_v28 val_main_v26
  have h := ref25 x0 x1 x2 R
  generalize val_main_v25 (F := Ideal) x0 x1 x2 = y at h
  pointwise
  simp only [h]
  rw [← at_section x0 x1 x2 R j 2 ⟨2048 + j.val, by omega⟩ (by show 2048 + j.val = 2 * 1024 + j.val; omega),
    ← at_section x0 x1 x2 R j 0 ⟨j.val, by omega⟩ (by show j.val = 0 * 1024 + j.val; omega)]

theorem ref32 (j : Fin 1024) : val_main_v32 (F := Ideal) x0 x1 x2 (ix2 R j) = hy x0 x1 x2 1 R j * gate x0 R j := by
  unfold val_main_v32 val_main_v31 val_main_call1_v5 val_main_call1_v4 val_main_call1_cst_0 val_main_call1_v3 val_main_call1_v2
    val_main_call1_cst val_main_call1_v1 val_main_call1_v0 val_main_v30 val_main_v27 val_main_v0
  have h := ref25 x0 x1 x2 R
  generalize val_main_v25 (F := Ideal) x0 x1 x2 = y at h
  pointwise
  simp only [h]
  rw [← at_section x0 x1 x2 R j 1 ⟨1024 + j.val, by omega⟩ (by show 1024 + j.val = 1 * 1024 + j.val; omega)]
  unfold gate
  rfl

end Reference

attribute [local instance] Cert.PrepHyIdeal.Gen.facts Cert.PrepHyRefIdeal.Gen.facts

theorem algebraic : algebraic_PrepHyIdeal_PrepHyRefIdeal := by
  intro m g m' g' _ harg
  refine ⟨_, _, θ_run_mono (Value.run_blocks m g) fun r hr c => ⟨(hr c).1.trans (arr12 m c), (hr c).2.1.trans (arr13 m c), (hr c).2.2⟩,
    θ_run_mono (PrepHyRefIdeal.Value.run m' g') fun r hr c => ?_⟩
  obtain ⟨e0, e1, e2⟩ := harg c
  obtain ⟨r0, r1, ra⟩ := hr c
  refine ⟨r0.trans ?_, r1.trans ?_, ra⟩
  · rw [PrepHyRefIdeal.Read.val_main_v29_eq, e0, e1, e2]
    funext i
    obtain ⟨r, k, rfl⟩ : ∃ (r : Fin 8192) (k : Fin 1024), i = ix2 r k := ⟨i 0, i 1, by funext a; fin_cases a <;> rfl⟩
    exact ref29 _ _ _ r k
  · rw [PrepHyRefIdeal.Read.val_main_v32_eq, e0, e1, e2]
    funext i
    obtain ⟨r, k, rfl⟩ : ∃ (r : Fin 8192) (k : Fin 1024), i = ix2 r k := ⟨i 0, i 1, by funext a; fin_cases a <;> rfl⟩
    exact ref32 _ _ _ r k

/-- The reference leaves its arguments and declares no semaphore. -/
theorem frameRef (m : (ℓ : Loc PrepHyRefIdeal.nD PrepHyRefIdeal.τ PrepHyRefIdeal.sig) → Buf (Elt Ideal) ℓ) (g : Dev PrepHyRefIdeal.nD → PrngReg) :
    θ_run (PrepHyRefIdeal.defs (F := Ideal)) (onTc (τ := PrepHyRefIdeal.τ) (PrepHyRefIdeal.main (F := Ideal))) ⟨m, fun _ => 0, g⟩ (fun r => (∀ c : Dev PrepHyRefIdeal.nD,
      r.2.mem ((c.tc : Thread PrepHyRefIdeal.nD PrepHyRefIdeal.τ).loc PrepHyRefIdeal.main_arg0) = m ((c.tc : Thread PrepHyRefIdeal.nD PrepHyRefIdeal.τ).loc PrepHyRefIdeal.main_arg0)
      ∧ r.2.mem ((c.tc : Thread PrepHyRefIdeal.nD PrepHyRefIdeal.τ).loc PrepHyRefIdeal.main_arg1) = m ((c.tc : Thread PrepHyRefIdeal.nD PrepHyRefIdeal.τ).loc PrepHyRefIdeal.main_arg1)
      ∧ r.2.mem ((c.tc : Thread PrepHyRefIdeal.nD PrepHyRefIdeal.τ).loc PrepHyRefIdeal.main_arg2) = m ((c.tc : Thread PrepHyRefIdeal.nD PrepHyRefIdeal.τ).loc PrepHyRefIdeal.main_arg2))
      ∧ r.2.sem = fun _ => 0) :=
  θ_run_mono (PrepHyRefIdeal.Value.run m g) fun r h => And.intro (fun c => (h c).2.2) (sem_eq_zero_of_no_sems (by decide) r.2)

end Cert.PrepHyIdeal.Conv

end
-- ==== Proof.PoolWindow.lean ====
/-
  The pooling windows: the sum of a window of rows by rotations of a slab of rows, the same sum over all rows of which those outside the
  window count for nothing, and the window's bounds in 32 bits.
-/
module

public import proofs.«01_k».proof.Proof.Norm
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import Idealize.ShloMosaic.Lib.Pipeline.ValueKit
public import Idealize.ShloMosaic.Lib.Pipeline.ReadBack

@[expose] public section

set_option maxRecDepth 16384

noncomputable section

namespace Cert.PoolIdeal.Windows

open Idealize.ShloMosaic Idealize.ShloMosaic.TcCoe Idealize.ShloMosaic.Tactic Idealize.SL.Sem Cert.PoolIdeal.Gen

/-! ## Sums over a window of rows -/

/-- The sum of `k` successive values. -/
def win (f : ℕ → EReal) (k ρ : ℕ) : EReal := ∑ n ∈ Finset.range k, f (ρ + n)

theorem win_double (f : ℕ → EReal) (k ρ : ℕ) : win f k ρ + win f k (ρ + k) = win f (2 * k) ρ := by
  unfold win
  rw [two_mul, Finset.sum_range_add]
  simp only [Nat.add_assoc]

theorem win_congr {f g : ℕ → EReal} {k ρ σ : ℕ} (h : ∀ n, n < k → f (ρ + n) = g (σ + n)) : win f k ρ = win g k σ :=
  Finset.sum_congr rfl fun n hn => h n (Finset.mem_range.1 hn)

/-- A column's rows with 16 rows of zeros before and after them. -/
def ext (u : Fin 8192 → EReal) (q : ℕ) : EReal := if h : 16 ≤ q ∧ q < 8208 then u ⟨q - 16, by omega⟩ else 0

/-- The number of rows of the window of half-width `h` about row `R`. -/
def cnt (h R : ℕ) : EReal := (((min (R + h) 8192 - (R - h) : ℕ) : ℝ) : EReal)

/-- The mean over the window, less the row itself. -/
def diff (h : ℕ) (u : Fin 8192 → EReal) (R : Fin 8192) : EReal :=
  Ideal.div (win (ext u) (2 * h) (R.val + 16 - h)) (cnt h R.val) - u R

/-- The window's sum as a sum over all rows, of which those outside the window count for nothing. -/
theorem masked (h : ℕ) (hh : h ≤ 16) (u : Fin 8192 → EReal) (R : Fin 8192) :
    ∑ s : Fin 8192, (if R.val ≤ s.val + h ∧ s.val < R.val + h then (1 : EReal) else 0) * u s = win (ext u) (2 * h) (R.val + 16 - h) := by
  have hR := R.isLt
  let f : ℕ → EReal := fun q => if R.val + 16 - h ≤ q ∧ q < R.val + 16 + h then ext u q else 0
  have l : ∑ s : Fin 8192, (if R.val ≤ s.val + h ∧ s.val < R.val + h then (1 : EReal) else 0) * u s = ∑ q ∈ Finset.range (16 + (8192 + 32)), f q := by
    rw [Finset.sum_range_add, Finset.sum_range_add, Finset.sum_eq_zero (s := Finset.range 16), Finset.sum_eq_zero (s := Finset.range 32), zero_add, add_zero,
      Finset.sum_range]
    · refine Finset.sum_congr rfl fun s _ => ?_
      have hs := s.isLt
      have he : ext u (16 + s.val) = u s := by
        unfold ext
        rw [dif_pos (by omega)]
        exact congrArg u (Fin.ext (by dsimp only; omega))
      show _ = if _ then _ else _
      rw [he]
      by_cases hc : R.val ≤ s.val + h ∧ s.val < R.val + h
      · rw [if_pos hc, if_pos (by omega), one_mul]
      · rw [if_neg hc, if_neg (by omega), zero_mul]
    · intro q _
      show (if _ then ext u _ else 0) = 0
      unfold ext
      rw [dif_neg (by omega), ite_self]
    · intro q hq
      have := Finset.mem_range.1 hq
      show (if _ then ext u _ else 0) = 0
      unfold ext
      rw [dif_neg (by omega), ite_self]
  rw [l, ← Finset.sum_filter]
  have hf : (Finset.range (16 + (8192 + 32))).filter (fun q => R.val + 16 - h ≤ q ∧ q < R.val + 16 + h) = Finset.Ico (R.val + 16 - h) (R.val + 16 + h) := by
    ext q
    simp only [Finset.mem_filter, Finset.mem_range, Finset.mem_Ico]
    omega
  rw [hf, Finset.sum_Ico_eq_sum_range]
  unfold win
  rw [show R.val + 16 + h - (R.val + 16 - h) = 2 * h by omega]

/-! ## The window's bounds in 32 bits -/

theorem toInt_small (n : ℕ) (h : n < 2 ^ 31) : (BitVec.ofNat 32 n).toInt = n := by
  rw [BitVec.toInt_eq_toNat_cond, BitVec.toNat_ofNat, Nat.mod_eq_of_lt (by omega), if_pos (by omega)]

theorem slt_small (a b : ℕ) (ha : a < 2 ^ 31) (hb : b < 2 ^ 31) : (BitVec.ofNat 32 a).slt (BitVec.ofNat 32 b) = decide (a < b) := by
  rw [BitVec.slt, toInt_small a ha, toInt_small b hb]
  exact decide_eq_decide.2 (by exact_mod_cast Iff.rfl)

theorem sle_small (a b : ℕ) (ha : a < 2 ^ 31) (hb : b < 2 ^ 31) : (BitVec.ofNat 32 a).sle (BitVec.ofNat 32 b) = decide (a ≤ b) := by
  rw [BitVec.sle, toInt_small a ha, toInt_small b hb]
  exact decide_eq_decide.2 (by exact_mod_cast Iff.rfl)

theorem add_small (a b : ℕ) : IntOp.addi (BitVec.ofNat 32 a) (BitVec.ofNat 32 b) = BitVec.ofNat 32 (a + b) := (BitVec.ofNat_add a b).symm

theorem sub_small (a b : ℕ) (h : b ≤ a) (ha : a < 2 ^ 31) : IntOp.subi (BitVec.ofNat 32 a) (BitVec.ofNat 32 b) = BitVec.ofNat 32 (a - b) := by
  apply BitVec.eq_of_toNat_eq
  show (BitVec.ofNat 32 a - BitVec.ofNat 32 b).toNat = _
  simp only [BitVec.toNat_sub, BitVec.toNat_ofNat]
  omega

/-- A difference below zero. -/
theorem sub_neg (a b : ℕ) (h : a < b) (hb : b < 2 ^ 31) : (IntOp.subi (BitVec.ofNat 32 a) (BitVec.ofNat 32 b)).toInt < 0 := by
  show (BitVec.ofNat 32 a - BitVec.ofNat 32 b).toInt < 0
  rw [BitVec.toInt_eq_toNat_cond]
  simp only [BitVec.toNat_sub, BitVec.toNat_ofNat]
  split <;> omega

section Bounds

variable (R h : ℕ) (hR : R < 8192) (hh : h ≤ 16)
include hR hh

/-- The lower bound, as the kernel takes it. -/
theorem low_kernel : IntOp.maxsi (IntOp.subi (BitVec.ofNat 32 R) (BitVec.ofNat 32 h)) 0#32 = BitVec.ofNat 32 (R - h) := by
  unfold IntOp.maxsi
  by_cases hc : h ≤ R
  · rw [sub_small R h hc (by omega)]
    split_ifs with hs
    · rfl
    · have := (slt_small 0 (R - h) (by omega) (by omega)).symm.trans (Bool.eq_false_iff.2 hs)
      have : ¬ 0 < R - h := of_decide_eq_false this
      rw [show R - h = 0 by omega]
  · have := sub_neg R h (by omega) (by omega)
    rw [if_neg, show R - h = 0 by omega]
    intro hs
    have := of_decide_eq_true hs
    have h0 : (0#32 : BitVec 32).toInt = 0 := rfl
    omega

/-- The lower bound, as the reference takes it. -/
theorem low_ref : IntOp.minsi 8192#32 (IntOp.maxsi 0#32 (IntOp.subi (BitVec.ofNat 32 R) (BitVec.ofNat 32 h))) = BitVec.ofNat 32 (R - h) := by
  have e : IntOp.maxsi 0#32 (IntOp.subi (BitVec.ofNat 32 R) (BitVec.ofNat 32 h)) = BitVec.ofNat 32 (R - h) := by
    unfold IntOp.maxsi
    by_cases hc : h ≤ R
    · rw [sub_small R h hc (by omega), if_neg]
      intro hs
      have := (slt_small (R - h) 0 (by omega) (by omega)).symm.trans hs
      have : R - h < 0 := of_decide_eq_true this
      omega
    · have := sub_neg R h (by omega) (by omega)
      rw [if_pos, show R - h = 0 by omega]
      have h0 : (0#32 : BitVec 32).toInt = 0 := rfl
      exact decide_eq_true (by omega)
  rw [e, IntOp.minsi, if_neg]
  intro hs
  have := (slt_small 8192 (R - h) (by omega) (by omega)).symm.trans hs
  have : 8192 < R - h := of_decide_eq_true this
  omega

/-- The upper bound, as the kernel takes it. -/
theorem high_kernel : IntOp.minsi (IntOp.addi (BitVec.ofNat 32 R) (BitVec.ofNat 32 h)) 8192#32 = BitVec.ofNat 32 (min (R + h) 8192) := by
  rw [add_small, IntOp.minsi]
  by_cases hc : R + h < 8192
  · rw [if_pos ((slt_small (R + h) 8192 (by omega) (by omega)).trans (decide_eq_true hc)), min_eq_left (by omega)]
  · rw [if_neg, min_eq_right (by omega)]
    intro hs
    exact hc (of_decide_eq_true ((slt_small (R + h) 8192 (by omega) (by omega)).symm.trans hs))

/-- The upper bound, as the reference takes it. -/
theorem high_ref (w : ℕ) (hw : w = 2 * h) (h0 : 0 < h) :
    IntOp.minsi 8192#32 (IntOp.maxsi 0#32 (IntOp.addi (IntOp.subi (BitVec.ofNat 32 R) (BitVec.ofNat 32 h)) (BitVec.ofNat 32 w)))
      = BitVec.ofNat 32 (min (R + h) 8192) := by
  have e : IntOp.addi (IntOp.subi (BitVec.ofNat 32 R) (BitVec.ofNat 32 h)) (BitVec.ofNat 32 w) = BitVec.ofNat 32 (R + h) := by
    apply BitVec.eq_of_toNat_eq
    show (BitVec.ofNat 32 R - BitVec.ofNat 32 h + BitVec.ofNat 32 w).toNat = _
    simp only [BitVec.toNat_add, BitVec.toNat_sub, BitVec.toNat_ofNat]
    omega
  have e2 : IntOp.maxsi 0#32 (BitVec.ofNat 32 (R + h)) = BitVec.ofNat 32 (R + h) := by
    rw [IntOp.maxsi, if_neg]
    intro hs
    have : R + h < 0 := of_decide_eq_true ((slt_small (R + h) 0 (by omega) (by omega)).symm.trans hs)
    omega
  rw [e, e2, IntOp.minsi]
  by_cases hc : 8192 < R + h
  · rw [if_pos ((slt_small 8192 (R + h) (by omega) (by omega)).trans (decide_eq_true hc)), min_eq_right (by omega)]
  · rw [if_neg, min_eq_left (by omega)]
    intro hs
    exact hc (of_decide_eq_true ((slt_small 8192 (R + h) (by omega) (by omega)).symm.trans hs))

/-- The number of the window's rows. -/
theorem count : FloatOps.sitofp (F := Ideal) .f32 (IntOp.subi (BitVec.ofNat 32 (min (R + h) 8192)) (BitVec.ofNat 32 (R - h))) = cnt h R := by
  rw [sub_small _ _ (by omega) (by omega)]
  show (((BitVec.ofNat 32 (min (R + h) 8192 - (R - h))).toInt : ℝ) : EReal) = _
  rw [toInt_small _ (by omega)]
  unfold cnt
  norm_cast

/-- Whether a row lies in the window, as a number. -/
theorem mask (s : ℕ) (hs : s < 8192) :
    FloatOps.uitofp (F := Ideal) .f32 (IntOp.andi (IntOp.cmpi .sle (BitVec.ofNat 32 (R - h)) (BitVec.ofNat 32 s))
      (IntOp.cmpi .slt (BitVec.ofNat 32 s) (BitVec.ofNat 32 (min (R + h) 8192)))) = if R ≤ s + h ∧ s < R + h then (1 : EReal) else 0 := by
  show (((BitVec.ofBool ((BitVec.ofNat 32 (R - h)).sle (BitVec.ofNat 32 s)) &&& BitVec.ofBool ((BitVec.ofNat 32 s).slt (BitVec.ofNat 32 (min (R + h) 8192)))).toNat : ℝ) : EReal) = _
  rw [sle_small _ _ (by omega) (by omega), slt_small _ _ (by omega) (by omega)]
  by_cases h1 : R ≤ s + h <;> by_cases h2 : s < R + h
  · rw [decide_eq_true (by omega), decide_eq_true (by omega), if_pos ⟨h1, h2⟩]
    show (((1 : ℕ) : ℝ) : EReal) = 1
    norm_num
  · rw [decide_eq_true (by omega), decide_eq_false (by omega), if_neg (by omega)]; norm_num
  · rw [decide_eq_false (by omega), decide_eq_true (by omega), if_neg (by omega)]; norm_num
  · omega

end Bounds

/-! ## The kernel's window sums, by rotations of the rows -/

/-- A row of the slab, counted round. -/
def rd (s : FVec Ideal S544x256 .f32) (j : Fin 256) (ρ : ℕ) : EReal := s (ix2 (⟨ρ % 544, by omega⟩ : Fin 544) j)

/-- The slab turned by the complement of `w` reads `w` rows on. -/
theorem rd_rot (n : BitVec 32) (w : ℕ) (hn : n.toNat + w = 544) (hw : 0 < w) (s : FVec Ideal S544x256 .f32) (j : Fin 256) (ρ : ℕ) :
    rd (dynamicRotate 0 n none s rotates_S544x256_d0) j ρ = rd s j (ρ + w) := by
  unfold rd
  pointwise
  congr 2
  apply Fin.ext
  dsimp only
  omega

/-- The slab and the slab turned together sum twice as many rows. -/
theorem rd_double (n : BitVec 32) (k : ℕ) (hn : n.toNat + k = 544) (hk : 0 < k) (s : FVec Ideal S544x256 .f32) (f : ℕ → EReal) (j : Fin 256)
    (h : ∀ ρ, rd s j ρ = win f k ρ) (ρ : ℕ) : rd (addf s (dynamicRotate 0 n none s rotates_S544x256_d0)) j ρ = win f (2 * k) ρ := by
  rw [← win_double, ← h, ← h, ← rd_rot n k hn hk s j ρ]
  rfl

theorem rd_slice (s : FVec Ideal S544x256 .f32) (r : Fin 512) (j : Fin 256) : s (ix2 (⟨r.val, by omega⟩ : Fin 544) j) = rd s j r.val := by
  unfold rd
  congr 2
  exact Fin.ext (by dsimp only; omega)

theorem flag1 (i : grid0.Coords) : k0_pay1 (F := Ideal) i = if (i 0).val = 0 then (0 : EReal) else 1 := by
  have key : ∀ t : Fin 16, (Scalar.extui (Scalar.cmpi .sgt (BitVec.ofNat 32 t.val) 0#32)).toInt = if t.val = 0 then 0 else 1 := by decide +kernel
  show (((Scalar.extui (Scalar.cmpi .sgt (BitVec.ofNat 32 (i 0).val) 0#32)).toInt : ℝ) : EReal) = _
  rw [key (i 0)]
  split_ifs <;> norm_num

theorem flag2 (i : grid0.Coords) : k0_pay2 (F := Ideal) i = if (i 0).val = 15 then (0 : EReal) else 1 := by
  have key : ∀ t : Fin 16, (Scalar.extui (Scalar.cmpi .slt (BitVec.ofNat 32 t.val) 15#32)).toInt = if t.val = 15 then 0 else 1 := by decide +kernel
  show (((Scalar.extui (Scalar.cmpi .slt (BitVec.ofNat 32 (i 0).val) 15#32)).toInt : ℝ) : EReal) = _
  rw [key (i 0)]
  split_ifs <;> norm_num

theorem pos (i : grid0.Coords) (r : Fin 512) : k0_pay3 i (ix2 r 0) = BitVec.ofNat 32 (512 * (i 0).val + r.val) := by
  unfold k0_pay3
  pointwise
  apply BitVec.eq_of_toNat_eq
  show (BitVec.ofNat 32 (i 0).val * 512#32 + BitVec.ofNat 32 r.val).toNat = _
  simp only [BitVec.toNat_add, BitVec.toNat_mul, BitVec.toNat_ofNat]
  omega

/-- The slab of a grid point: the point's rows with 16 rows of its neighbours on either side. -/
abbrev slab (i : grid0.Coords) (x : Vec Ideal S512x256 .bf16) (p n : Vec Ideal S16x256 .bf16) : FVec Ideal S544x256 .f32 :=
  k0_pay16 (k0_pay1 (F := Ideal) i) (k0_pay2 (F := Ideal) i) x p n

section Slab

variable (i : grid0.Coords) (x : Vec Ideal S512x256 .bf16) (p n : Vec Ideal S16x256 .bf16) (j : Fin 256) (u : Fin 8192 → EReal)
  (hx : ∀ (r : Fin 512) (R : Fin 8192), R.val = 512 * (i 0).val + r.val → x (ix2 r j) = u R)
  (hp : ∀ (ρ : Fin 16) (R : Fin 8192), R.val + 16 = 512 * (i 0).val + ρ.val → p (ix2 ρ j) = u R)
  (hn : ∀ (ρ : Fin 16) (R : Fin 8192), R.val = 512 * (i 0).val + 512 + ρ.val → n (ix2 ρ j) = u R)
include hx hp hn

theorem slab_at (ρ : ℕ) (hρ : ρ < 544) : rd (slab i x p n) j ρ = ext u (512 * (i 0).val + ρ) := by
  have hi : (i 0).val < 16 := (i 0).isLt
  unfold rd slab k0_pay16 k0_pay15
  rw [flag1, flag2]
  pointwise
  have e : ρ % 544 = ρ := Nat.mod_eq_of_lt hρ
  simp only [e]
  unfold ext
  by_cases h1 : ρ < 16
  · rw [dif_pos h1]
    by_cases h0 : (i 0).val = 0
    · rw [if_pos h0, mul_zero, dif_neg (by omega)]
    · rw [if_neg h0, mul_one, dif_pos (by omega)]
      exact hp _ _ (by dsimp only; omega)
  · rw [dif_neg h1]
    by_cases h2 : ρ - 16 < 512
    · rw [dif_pos h2, dif_pos (by omega)]
      exact hx _ _ (by dsimp only; omega)
    · rw [dif_neg h2]
      by_cases h0 : (i 0).val = 15
      · rw [if_pos h0, mul_zero, dif_neg (by omega)]
      · rw [if_neg h0, mul_one, dif_pos (by omega)]
        exact hn _ _ (by dsimp only; omega)

/-- A window's sum over the slab is the one over the column. -/
theorem slab_win (h : ℕ) (hh : h ≤ 8) (r : Fin 512) (R : Fin 8192) (hR : R.val = 512 * (i 0).val + r.val) :
    win (rd (slab i x p n) j) (2 * h) (r.val + (16 - h)) = win (ext u) (2 * h) (R.val + 16 - h) :=
  win_congr fun k hk => (slab_at i x p n j u hx hp hn (r.val + (16 - h) + k) (by have := r.isLt; omega)).trans
    (congrArg (ext u) (by have := r.isLt; omega))

end Slab

end Cert.PoolIdeal.Windows

end
-- ==== Proof.Pooled.lean ====
/-
  The pooling: each grid point takes a block of rows with 16 rows of its neighbours; one group of columns at a time, the mean over a window
  of rows less the row goes through the group's weights and the gate; the groups tile a block and the blocks tile the result.
-/
module

public import proofs.«01_k».proof.Proof.Norm
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import Idealize.ShloMosaic.Lib.Pipeline.ValueKit
public import Idealize.ShloMosaic.Lib.Pipeline.ReadBack
public import proofs.«01_k».proof.Proof.PoolWindow

@[expose] public section

set_option maxRecDepth 16384

noncomputable section

namespace Cert.PoolIdeal.Windows

open Idealize.ShloMosaic Idealize.ShloMosaic.TcCoe Idealize.ShloMosaic.Tactic Idealize.SL.Sem Cert.PoolIdeal.Gen

/-- A row's gated entry: the pooled column times the group's weights, scaled, gated. -/
def entry (d : Fin 256 → EReal) (w : Fin 256 → EReal) (s g : EReal) : EReal := (∑ x, d x * w x) * s * (g * Ideal.logistic g)

section Payloads

variable (w : Vec Ideal S1x256x256 .bf16) (s : Vec Ideal S1x256 .f32) (g : Vec Ideal S512x256 .bf16) (r : Fin 512) (j : Fin 256)

theorem pay6 (d : FVec Ideal S512x256 .bf16) :
    k0_pay6 (F := Ideal) d (k0_pay5 w) s g (ix2 r j) = entry (fun x => d (ix2 r x)) (fun x => w (ix3 0 x j)) (s (ix2 0 j)) (g (ix2 r j)) := by
  unfold k0_pay6 k0_pay5
  pointwise
  rfl

theorem pay10 (x z : FVec Ideal S512x256 .f32) (q : FVec Ideal S512x1 .f32) :
    k0_pay10 (F := Ideal) x z q w s g (ix2 r j)
      = entry (fun k => Ideal.div (z (ix2 r k)) (q (ix2 r 0)) - x (ix2 r k)) (fun x => w (ix3 0 x j)) (s (ix2 0 j)) (g (ix2 r j)) := by
  unfold k0_pay10
  pointwise
  rfl

theorem pay14 (p b : IVec S512x1 32) (x : FVec Ideal S512x256 .f32) (z : FVec Ideal S544x256 .f32) :
    k0_pay14 (F := Ideal) p x z b w s g (ix2 r j)
      = entry (fun k => Ideal.div (rd z k r.val) (FloatOps.sitofp (F := Ideal) .f32 (IntOp.subi (IntOp.minsi (b (ix2 r 0)) 8192#32)
          (IntOp.maxsi (IntOp.subi (p (ix2 r 0)) 4#32) 0#32))) - x (ix2 r k)) (fun x => w (ix3 0 x j)) (s (ix2 0 j)) (g (ix2 r j)) := by
  unfold k0_pay14
  pointwise
  simp only [rd_slice]
  rfl

theorem pay18 (p : IVec S512x1 32) (x : FVec Ideal S512x256 .f32) (a : FVec Ideal S544x256 .f32) (z : FVec Ideal S544x256 .f32) (f : Fin 256 → ℕ → EReal)
    (h : ∀ k ρ, rd a k ρ = win (f k) 1 ρ) (hz : z = dynamicRotate 0 543#32 none a rotates_S544x256_d0) :
    k0_pay18 (F := Ideal) p x a z w s g (ix2 r j)
      = entry (fun k => Ideal.div (win (f k) 16 (r.val + 8)) (FloatOps.sitofp (F := Ideal) .f32 (IntOp.subi (IntOp.minsi (IntOp.addi (p (ix2 r 0)) 8#32) 8192#32)
          (IntOp.maxsi (IntOp.subi (p (ix2 r 0)) 8#32) 0#32))) - x (ix2 r k)) (fun x => w (ix3 0 x j)) (s (ix2 0 j)) (g (ix2 r j)) := by
  subst hz
  unfold k0_pay18
  dsimp only
  generalize hb : addf a (dynamicRotate 0 543#32 none a rotates_S544x256_d0) = b
  have h2 : ∀ k ρ, rd b k ρ = win (f k) 2 ρ := fun k ρ => hb ▸ rd_double 543#32 1 rfl (by omega) a (f k) k (h k) ρ
  generalize hc : addf b (dynamicRotate 0 542#32 none b rotates_S544x256_d0) = c
  have h4 : ∀ k ρ, rd c k ρ = win (f k) 4 ρ := fun k ρ => hc ▸ rd_double 542#32 2 rfl (by omega) b (f k) k (h2 k) ρ
  generalize hd : addf c (dynamicRotate 0 540#32 none c rotates_S544x256_d0) = d
  have h8 : ∀ k ρ, rd d k ρ = win (f k) 8 ρ := fun k ρ => hd ▸ rd_double 540#32 4 rfl (by omega) c (f k) k (h4 k) ρ
  generalize he : addf d (dynamicRotate 0 536#32 none d rotates_S544x256_d0) = e
  have h16 : ∀ k ρ, rd e k ρ = win (f k) 16 ρ := fun k ρ => he ▸ rd_double 536#32 8 rfl (by omega) d (f k) k (h8 k) ρ
  generalize hy : dynamicRotate 0 536#32 none e rotates_S544x256_d0 = y
  have hr : ∀ k, rd y k r.val = win (f k) 16 (r.val + 8) := fun k => by rw [← hy, rd_rot 536#32 8 rfl (by omega), h16]
  pointwise
  simp only [rd_slice, hr]
  rfl

theorem pay12 (v2 v5 : EReal) (x : Vec Ideal S512x256 .bf16) (p n : Vec Ideal S16x256 .bf16) (f : ℕ → EReal)
    (h : ∀ ρ, rd (k0_pay16 (F := Ideal) v2 v5 x p n) j ρ = win f 1 ρ) (ρ : ℕ) : rd (k0_pay12 (F := Ideal) v2 v5 x p n) j ρ = win f 8 (ρ + 12) := by
  rw [← rd_double 540#32 4 rfl (by omega) _ f j (rd_double 542#32 2 rfl (by omega) _ f j (rd_double 543#32 1 rfl (by omega) _ f j h)) (ρ + 12),
    ← rd_rot 532#32 12 rfl (by omega)]
  rfl

theorem pay8_eq (v2 v5 : EReal) (x : Vec Ideal S512x256 .bf16) (p n : Vec Ideal S16x256 .bf16) :
    k0_pay8 (F := Ideal) v2 v5 x p n = extractStridedSlice S512x256 ![0, 0] (dynamicRotate 0 530#32 none
      (addf (addf (k0_pay16 (F := Ideal) v2 v5 x p n) (dynamicRotate 0 543#32 none (k0_pay16 (F := Ideal) v2 v5 x p n) rotates_S544x256_d0))
        (dynamicRotate 0 542#32 none
          (addf (k0_pay16 (F := Ideal) v2 v5 x p n) (dynamicRotate 0 543#32 none (k0_pay16 (F := Ideal) v2 v5 x p n) rotates_S544x256_d0))
          rotates_S544x256_d0)) rotates_S544x256_d0) slices_S544x256_o0_0_S512x256 := rfl

theorem pay8 (v2 v5 : EReal) (x : Vec Ideal S512x256 .bf16) (p n : Vec Ideal S16x256 .bf16) (f : ℕ → EReal)
    (h : ∀ ρ, rd (k0_pay16 (F := Ideal) v2 v5 x p n) j ρ = win f 1 ρ) : k0_pay8 (F := Ideal) v2 v5 x p n (ix2 r j) = win f 4 (r.val + 14) := by
  rw [pay8_eq]
  generalize k0_pay16 (F := Ideal) v2 v5 x p n = a at h ⊢
  rw [← rd_double 542#32 2 rfl (by omega) _ f j (rd_double 543#32 1 rfl (by omega) _ f j h) (r.val + 14), ← rd_rot 530#32 14 rfl (by omega), ← rd_slice]
  generalize dynamicRotate 0 530#32 none _ rotates_S544x256_d0 = y
  pointwise

theorem pay4 (i : grid0.Coords) (x : Vec Ideal S512x256 .bf16) (p n : Vec Ideal S16x256 .bf16) (f : ℕ → EReal)
    (h : ∀ ρ, rd (slab i x p n) j ρ = win f 1 ρ) :
    k0_pay4 (F := Ideal) i x p n (ix2 r j) = Ideal.div (win f 2 (r.val + 15)) (FloatOps.sitofp (F := Ideal) .f32
      (IntOp.subi (IntOp.minsi (IntOp.addi (k0_pay3 i (ix2 r 0)) 1#32) 8192#32) (IntOp.maxsi (IntOp.subi (k0_pay3 i (ix2 r 0)) 1#32) 0#32))) - x (ix2 r j) := by
  unfold slab k0_pay16 k0_pay15 at h
  dsimp only at h
  unfold k0_pay4
  dsimp only
  generalize concatenate S544x256 0 [⟨S16x256, _⟩, ⟨S512x256, _⟩, ⟨S16x256, _⟩] concatenates_S16x256_S512x256_S16x256_S544x256_d0 = a at h ⊢
  rw [← rd_double 543#32 1 rfl (by omega) _ f j h (r.val + 15), ← rd_rot 529#32 15 rfl (by omega), ← rd_slice]
  generalize dynamicRotate 0 529#32 none _ rotates_S544x256_d0 = y
  generalize k0_pay3 i = q
  pointwise

end Payloads

theorem refDiff (h w : ℕ) (h0 : 0 < h) (hh : h ≤ 16) (hw : w = 2 * h) (u : Fin 8192 → EReal) (R : Fin 8192) (f : Fin 8192 → EReal) (x : EReal)
    (hf : ∀ s : Fin 8192, f s = FloatOps.uitofp (F := Ideal) .f32 (IntOp.andi
      (IntOp.cmpi .sle (IntOp.minsi 8192#32 (IntOp.maxsi 0#32 (IntOp.subi (BitVec.ofNat 32 R.val) (BitVec.ofNat 32 h)))) (BitVec.ofNat 32 s.val))
      (IntOp.cmpi .slt (BitVec.ofNat 32 s.val)
        (IntOp.minsi 8192#32 (IntOp.maxsi 0#32 (IntOp.addi (IntOp.subi (BitVec.ofNat 32 R.val) (BitVec.ofNat 32 h)) (BitVec.ofNat 32 w)))))) * u s)
    (hx : x = u R) :
    Ideal.div (∑ s : Fin 8192, f s) (FloatOps.sitofp (F := Ideal) .f32 (IntOp.subi
      (IntOp.minsi 8192#32 (IntOp.maxsi 0#32 (IntOp.addi (IntOp.subi (BitVec.ofNat 32 R.val) (BitVec.ofNat 32 h)) (BitVec.ofNat 32 w))))
      (IntOp.minsi 8192#32 (IntOp.maxsi 0#32 (IntOp.subi (BitVec.ofNat 32 R.val) (BitVec.ofNat 32 h)))))) - x = diff h u R := by
  rw [high_ref _ _ R.isLt hh w hw h0, low_ref _ _ R.isLt hh] at *
  rw [count _ _ R.isLt hh, hx, diff, ← masked h hh]
  refine congrArg (fun a => Ideal.div a _ - _) (Finset.sum_congr rfl fun s _ => ?_)
  rw [hf, mask _ _ R.isLt hh _ s.isLt]

open PoolRefIdeal.Read in
theorem ref34 (x0 : Vec Ideal S8192x11264 .bf16) (R : Fin 8192) (j : Fin 256) :
    val_main_v34 (F := Ideal) x0 (ix2 R j) = diff 1 (fun s => x0 (ix2 s (⟨6144 + (0 * 256 + j.val), by omega⟩ : Fin 11264))) R := by
  unfold val_main_v34 val_main_v33 val_main_v32 val_main_v31 val_main_v30 val_main_v29 val_main_v28 val_main_v27 val_main_v26 val_main_v25
    val_main_v24 val_main_v23 val_main_v22 val_main_v21 val_main_v20 val_main_v19 val_main_v18 val_main_v17 val_main_v16 val_main_v15
    val_main_v14 val_main_v13 val_main_v12 val_main_v11 val_main_call1_v4 val_main_call1_v3 val_main_call1_v2 val_main_call1_v1
    val_main_call1_v0 val_main_c_5 val_main_c_4 val_main_v10 val_main_v9 val_main_c_3 val_main_v8 val_main_v7 val_main_c_2 val_main_v6
    val_main_call0_v4 val_main_call0_v3 val_main_call0_v2 val_main_call0_v1 val_main_call0_v0 val_main_c_1 val_main_c_0 val_main_v5
    val_main_v4 val_main_c val_main_v3 val_main_v2 val_main_v1 val_main_v0
  pointwise
  refine refDiff 1 2 (by omega) (by omega) rfl _ R _ _ ?_ ?_
  · intro s
    refine congrArg₂ (· * ·) rfl (congrArg x0 ?_)
    exact congrArg (ix2 s) rfl
  · exact congrArg x0 (congrArg (ix2 R) rfl)

open PoolRefIdeal.Read in
theorem ref65 (x0 : Vec Ideal S8192x11264 .bf16) (R : Fin 8192) (j : Fin 256) :
    val_main_v65 (F := Ideal) x0 (ix2 R j) = diff 2 (fun s => x0 (ix2 s (⟨6144 + (1 * 256 + j.val), by omega⟩ : Fin 11264))) R := by
  unfold val_main_v65 val_main_v64 val_main_v63 val_main_v62 val_main_v61 val_main_v60 val_main_v59 val_main_v58 val_main_v57 val_main_v56
    val_main_v55 val_main_v54 val_main_v53 val_main_v52 val_main_v51 val_main_v50 val_main_v49 val_main_v48 val_main_v47 val_main_v46
    val_main_v45 val_main_v44 val_main_v43 val_main_v42 val_main_call3_v4 val_main_call3_v3 val_main_call3_v2 val_main_call3_v1
    val_main_call3_v0 val_main_c_12 val_main_c_11 val_main_v41 val_main_v40 val_main_c_10 val_main_v39 val_main_v38 val_main_c_9 val_main_v37
    val_main_call2_v4 val_main_call2_v3 val_main_call2_v2 val_main_call2_v1 val_main_call2_v0 val_main_c_8 val_main_c_7 val_main_v36
    val_main_v35 val_main_c_6 val_main_v3 val_main_v2 val_main_v1 val_main_v0
  pointwise
  refine refDiff 2 4 (by omega) (by omega) rfl _ R _ _ ?_ ?_
  · intro s
    refine congrArg₂ (· * ·) rfl (congrArg x0 ?_)
    exact congrArg (ix2 s) rfl
  · exact congrArg x0 (congrArg (ix2 R) rfl)

open PoolRefIdeal.Read in
theorem ref96 (x0 : Vec Ideal S8192x11264 .bf16) (R : Fin 8192) (j : Fin 256) :
    val_main_v96 (F := Ideal) x0 (ix2 R j) = diff 4 (fun s => x0 (ix2 s (⟨6144 + (2 * 256 + j.val), by omega⟩ : Fin 11264))) R := by
  unfold val_main_v96 val_main_v95 val_main_v94 val_main_v93 val_main_v92 val_main_v91 val_main_v90 val_main_v89 val_main_v88 val_main_v87
    val_main_v86 val_main_v85 val_main_v84 val_main_v83 val_main_v82 val_main_v81 val_main_v80 val_main_v79 val_main_v78 val_main_v77
    val_main_v76 val_main_v75 val_main_v74 val_main_v73 val_main_call5_v4 val_main_call5_v3 val_main_call5_v2 val_main_call5_v1
    val_main_call5_v0 val_main_c_19 val_main_c_18 val_main_v72 val_main_v71 val_main_c_17 val_main_v70 val_main_v69 val_main_c_16
    val_main_v68 val_main_call4_v4 val_main_call4_v3 val_main_call4_v2 val_main_call4_v1 val_main_call4_v0 val_main_c_15 val_main_c_14
    val_main_v67 val_main_v66 val_main_c_13 val_main_v3 val_main_v2 val_main_v1 val_main_v0
  pointwise
  refine refDiff 4 8 (by omega) (by omega) rfl _ R _ _ ?_ ?_
  · intro s
    refine congrArg₂ (· * ·) rfl (congrArg x0 ?_)
    exact congrArg (ix2 s) rfl
  · exact congrArg x0 (congrArg (ix2 R) rfl)

open PoolRefIdeal.Read in
theorem ref127 (x0 : Vec Ideal S8192x11264 .bf16) (R : Fin 8192) (j : Fin 256) :
    val_main_v127 (F := Ideal) x0 (ix2 R j) = diff 8 (fun s => x0 (ix2 s (⟨6144 + (3 * 256 + j.val), by omega⟩ : Fin 11264))) R := by
  unfold val_main_v127 val_main_v126 val_main_v125 val_main_v124 val_main_v123 val_main_v122 val_main_v121 val_main_v120 val_main_v119
    val_main_v118 val_main_v117 val_main_v116 val_main_v115 val_main_v114 val_main_v113 val_main_v112 val_main_v111 val_main_v110
    val_main_v109 val_main_v108 val_main_v107 val_main_v106 val_main_v105 val_main_v104 val_main_call7_v4 val_main_call7_v3 val_main_call7_v2
    val_main_call7_v1 val_main_call7_v0 val_main_c_26 val_main_c_25 val_main_v103 val_main_v102 val_main_c_24 val_main_v101 val_main_v100
    val_main_c_23 val_main_v99 val_main_call6_v4 val_main_call6_v3 val_main_call6_v2 val_main_call6_v1 val_main_call6_v0 val_main_c_22
    val_main_c_21 val_main_v98 val_main_v97 val_main_c_20 val_main_v3 val_main_v2 val_main_v1 val_main_v0
  pointwise
  refine refDiff 8 16 (by omega) (by omega) rfl _ R _ _ ?_ ?_
  · intro s
    refine congrArg₂ (· * ·) rfl (congrArg x0 ?_)
    exact congrArg (ix2 s) rfl
  · exact congrArg x0 (congrArg (ix2 R) rfl)

/-! ## A block -/

/-- An entry of the result, by its row and its group and place. -/
def pooled (U : S8192x11264.Idx → EReal) (W : S4x256x256.Idx → EReal) (S : Fin 1024 → EReal) (R : Fin 8192) (h : Fin 4) (j : Fin 256) : EReal :=
  entry (fun x => diff (2 ^ h.val) (fun s => U (ix2 s (⟨6144 + (h.val * 256 + x.val), by omega⟩ : Fin 11264))) R) (fun x => W (ix3 h x j))
    (S ⟨h.val * 256 + j.val, by omega⟩) (U (ix2 R (⟨9216 + (h.val * 256 + j.val), by omega⟩ : Fin 11264)))

/-- An entry of the result, by its row and column. -/
def result (U : S8192x11264.Idx → EReal) (W : S4x256x256.Idx → EReal) (S : Fin 1024 → EReal) (R : Fin 8192) (k : Fin 1024) : EReal :=
  pooled U W S R ⟨k.val / 256, by omega⟩ ⟨k.val % 256, by omega⟩

theorem result_at (U : S8192x11264.Idx → EReal) (W : S4x256x256.Idx → EReal) (S : Fin 1024 → EReal) (R : Fin 8192) (h : Fin 4) (j : Fin 256) :
    result U W S R ⟨h.val * 256 + j.val, by omega⟩ = pooled U W S R h j := by
  have h1 : (⟨(h.val * 256 + j.val) / 256, by omega⟩ : Fin 4) = h := Fin.ext (by dsimp only; omega)
  have h2 : (⟨(h.val * 256 + j.val) % 256, by omega⟩ : Fin 256) = j := Fin.ext (by dsimp only; omega)
  simp only [result, h1, h2]

abbrev rowsR (h : Fin 4) : Rect S512x1024 :=
  Rect.unit (s := S512x1024) ![0, h.val * 256] S512x256.size (by
    have hh := h.isLt
    intro a
    fin_cases a
    · show 0 + 512 ≤ 512; omega
    · show h.val * 256 + 256 ≤ 1024; omega)

theorem rowsR_emb (h : Fin 4) (r : Fin 512) (j : Fin 256) :
    (rowsR h).emb (ix2 r j) = ix2 r (⟨h.val * 256 + j.val, by omega⟩ : Fin 1024) := by
  funext a
  fin_cases a
  · exact Fin.ext (by show 0 + 1 * r.val = r.val; omega)
  · exact Fin.ext (by show h.val * 256 + 1 * j.val = h.val * 256 + j.val; omega)

abbrev haloR (h : Fin 4) : Rect S16x1024 :=
  Rect.unit (s := S16x1024) ![0, h.val * 256] S16x256.size (by
    have hh := h.isLt
    intro a
    fin_cases a
    · show 0 + 16 ≤ 16; omega
    · show h.val * 256 + 256 ≤ 1024; omega)

theorem haloR_emb (h : Fin 4) (r : Fin 16) (j : Fin 256) :
    (haloR h).emb (ix2 r j) = ix2 r (⟨h.val * 256 + j.val, by omega⟩ : Fin 1024) := by
  funext a
  fin_cases a
  · exact Fin.ext (by show 0 + 1 * r.val = r.val; omega)
  · exact Fin.ext (by show h.val * 256 + 1 * j.val = h.val * 256 + j.val; omega)

abbrev scaleR (h : Fin 4) : Rect S1x1024 :=
  Rect.unit (s := S1x1024) ![0, h.val * 256] S1x256.size (by
    have hh := h.isLt
    intro a
    fin_cases a
    · show 0 + 1 ≤ 1; omega
    · show h.val * 256 + 256 ≤ 1024; omega)

theorem scaleR_emb (h : Fin 4) (r : Fin 1) (j : Fin 256) :
    (scaleR h).emb (ix2 r j) = ix2 r (⟨h.val * 256 + j.val, by omega⟩ : Fin 1024) := by
  funext a
  fin_cases a
  · exact Fin.ext (by show 0 + 1 * r.val = r.val; omega)
  · exact Fin.ext (by show h.val * 256 + 1 * j.val = h.val * 256 + j.val; omega)

abbrev weightR (h : Fin 4) : Rect S4x256x256 :=
  Rect.unit (s := S4x256x256) ![h.val, 0, 0] S1x256x256.size (by
    have hh := h.isLt
    intro a
    fin_cases a
    · show h.val + 1 ≤ 4; omega
    · show 0 + 256 ≤ 256; omega
    · show 0 + 256 ≤ 256; omega)

theorem weightR_emb (h : Fin 4) (x j : Fin 256) : (weightR h).emb (ix3 (0 : Fin 1) x j) = ix3 h x j := by
  funext a
  fin_cases a
  · exact Fin.ext (by show h.val + 1 * 0 = h.val; omega)
  · exact Fin.ext (by show 0 + 1 * x.val = x.val; omega)
  · exact Fin.ext (by show 0 + 1 * j.val = j.val; omega)

/-- The kernel's mean over a window less the row. -/
def kdiff (h : ℕ) (i : grid0.Coords) (x : Vec Ideal S512x256 .bf16) (p n : Vec Ideal S16x256 .bf16) (r : Fin 512) (k : Fin 256) : EReal :=
  Ideal.div (win (rd (slab i x p n) k) (2 * h) (r.val + (16 - h))) (FloatOps.sitofp (F := Ideal) .f32
    (IntOp.subi (IntOp.minsi (IntOp.addi (k0_pay3 i (ix2 r 0)) (BitVec.ofNat 32 h)) 8192#32)
      (IntOp.maxsi (IntOp.subi (k0_pay3 i (ix2 r 0)) (BitVec.ofNat 32 h)) 0#32))) - x (ix2 r k)

theorem kdiff_eq (h : ℕ) (hh : h ≤ 8) (i : grid0.Coords) (x : Vec Ideal S512x256 .bf16) (p n : Vec Ideal S16x256 .bf16) (j : Fin 256) (u : Fin 8192 → EReal)
    (hx : ∀ (r : Fin 512) (R : Fin 8192), R.val = 512 * (i 0).val + r.val → x (ix2 r j) = u R)
    (hp : ∀ (ρ : Fin 16) (R : Fin 8192), R.val + 16 = 512 * (i 0).val + ρ.val → p (ix2 ρ j) = u R)
    (hn : ∀ (ρ : Fin 16) (R : Fin 8192), R.val = 512 * (i 0).val + 512 + ρ.val → n (ix2 ρ j) = u R)
    (r : Fin 512) (R : Fin 8192) (hR : R.val = 512 * (i 0).val + r.val) : kdiff h i x p n r j = diff h u R := by
  unfold kdiff diff
  rw [slab_win i x p n j u hx hp hn h hh r R hR, pos, ← hR, high_kernel _ _ R.isLt (by omega), low_kernel _ _ R.isLt (by omega),
    count _ _ R.isLt (by omega), hx r R hR]

theorem win_one (f : ℕ → EReal) (ρ : ℕ) : f ρ = win f 1 ρ := by simp [win]

section Blocks

variable (i : grid0.Coords) (x0 : Vec Ideal S512x1024 .bf16) (x1 x2 : Vec Ideal S16x1024 .bf16) (x3 : Vec Ideal S512x1024 .bf16)
  (x4 : Vec Ideal S4x256x256 .bf16) (x5 : Vec Ideal S1x1024 .f32) (U : S8192x11264.Idx → EReal) (W : S4x256x256.Idx → EReal) (S : Fin 1024 → EReal)
  (h0 : ∀ (r : Fin 512) (k : Fin 1024) (R : Fin 8192), R.val = 512 * (i 0).val + r.val → x0 (ix2 r k) = U (ix2 R (⟨6144 + k.val, by omega⟩ : Fin 11264)))
  (h1 : ∀ (ρ : Fin 16) (k : Fin 1024) (R : Fin 8192), R.val + 16 = 512 * (i 0).val + ρ.val → x1 (ix2 ρ k) = U (ix2 R (⟨6144 + k.val, by omega⟩ : Fin 11264)))
  (h2 : ∀ (ρ : Fin 16) (k : Fin 1024) (R : Fin 8192), R.val = 512 * (i 0).val + 512 + ρ.val → x2 (ix2 ρ k) = U (ix2 R (⟨6144 + k.val, by omega⟩ : Fin 11264)))
  (h3 : ∀ (r : Fin 512) (k : Fin 1024) (R : Fin 8192), R.val = 512 * (i 0).val + r.val → x3 (ix2 r k) = U (ix2 R (⟨9216 + k.val, by omega⟩ : Fin 11264)))
  (h4 : ∀ g x j, x4 (ix3 g x j) = W (ix3 g x j)) (h5 : ∀ k, x5 (ix2 0 k) = S k)

/-- A block of the result. -/
def G (y : S512x1024.Idx) : EReal :=
  result U W S ⟨512 * (i 0).val + (y 0).val, by have h : (i 0).val < 16 := (i 0).isLt; have h' : (y 0).val < 512 := (y 0).isLt; omega⟩ (y 1)

include h0 h1 h2 in
theorem diff_at (h : Fin 4) (r : Fin 512) (x : Fin 256) (R : Fin 8192) (hR : R.val = 512 * (i 0).val + r.val) :
    kdiff (2 ^ h.val) i (View.ld x0 (rowsR h)) (View.ld x1 (haloR h)) (View.ld x2 (haloR h)) r x
      = diff (2 ^ h.val) (fun s => U (ix2 s (⟨6144 + (h.val * 256 + x.val), by omega⟩ : Fin 11264))) R := by
  refine kdiff_eq _ ?_ _ _ _ _ _ _ (fun r R hR => ?_) (fun ρ R hR => ?_) (fun ρ R hR => ?_) r R hR
  · exact Nat.pow_le_pow_right (n := 2) (by omega) (show h.val ≤ 3 by omega)
  · exact (congrArg x0 (rowsR_emb h r x)).trans (h0 _ _ R hR)
  · exact (congrArg x1 (haloR_emb h ρ x)).trans (h1 _ _ R hR)
  · exact (congrArg x2 (haloR_emb h ρ x)).trans (h2 _ _ R hR)

include h0 h1 h2 h3 h4 h5 in
theorem groupPiece (h : Fin 4) (p : Vec Ideal S512x256 .bf16)
    (hp : ∀ r j, p (ix2 r j) = entry (kdiff (2 ^ h.val) i (View.ld x0 (rowsR h)) (View.ld x1 (haloR h)) (View.ld x2 (haloR h)) r)
      (fun x => View.ld x4 (weightR h) (ix3 0 x j)) (View.ld x5 (scaleR h) (ix2 0 j)) (View.ld x3 (rowsR h) (ix2 r j)))
    (x : S512x256.Idx) : p x = G i U W S ((rowsR h).emb x) := by
  obtain ⟨r, j, rfl⟩ : ∃ (r : Fin 512) (j : Fin 256), x = ix2 r j := ⟨x 0, x 1, by funext a; fin_cases a <;> rfl⟩
  rw [hp, rowsR_emb]
  refine Eq.trans ?_ (result_at U W S _ h j).symm
  unfold pooled
  congr 1
  · funext x
    exact diff_at i x0 x1 x2 U h0 h1 h2 h r x _ rfl
  · funext x
    exact (congrArg x4 (weightR_emb h x j)).trans (h4 _ _ _)
  · exact (congrArg x5 (scaleR_emb h 0 j)).trans (h5 _)
  · exact (congrArg x3 (rowsR_emb h r j)).trans (h3 _ _ _ rfl)

include h0 h1 h2 h3 h4 h5 in
theorem block (y : S512x1024.Idx) : out0_6 (F := Ideal) i x0 x1 x2 x3 x4 x5 y = G i U W S y := by
  have piece := groupPiece i x0 x1 x2 x3 x4 x5 U W S h0 h1 h2 h3 h4 h5
  unfold out0_6
  refine View.canon_append_of_piecesOf (Val := Elt Ideal) (e := .bf16) (G i U W S) [] _ ?_ y (cover0_6 _ _ _ _ y)
  exact ⟨piece 3 _ fun r j => pay18 _ _ _ r j (k0_pay3 i) _ _ _ (fun k => rd (slab i _ _ _) k) (fun k ρ => win_one _ ρ) rfl,
    piece 2 _ fun r j => (pay14 _ _ _ r j _ _ _ _).trans (congrArg (fun d => entry d _ _ _) (funext fun k =>
      congrArg (fun a => Ideal.div a _ - _) (pay12 k _ _ _ _ _ (rd (slab i _ _ _) k) (fun ρ => win_one _ ρ) r.val))),
    piece 1 _ fun r j => (pay10 _ _ _ r j _ _ _).trans (congrArg (fun d => entry d _ _ _) (funext fun k =>
      congrArg (fun a => Ideal.div a _ - _) (pay8 r k _ _ _ _ _ (rd (slab i _ _ _) k) (fun ρ => win_one _ ρ)))),
    piece 0 _ fun r j => (pay6 _ _ _ r j _).trans (congrArg (fun d => entry d _ _ _) (funext fun k =>
      pay4 r k i _ _ _ (rd (slab i _ _ _) k) (fun ρ => win_one _ ρ))), trivial⟩

end Blocks

theorem idx : ∀ t : Fin grid0.N, win0_0.index t = ![t.val, 6] ∧ win0_1.index t = ![t.val * 32 - 1, 6] ∧ win0_2.index t = ![min ((t.val + 1) * 32) 511, 6]
    ∧ win0_3.index t = ![t.val, 9] ∧ win0_4.index t = ![0, 0, 0] ∧ win0_5.index t = ![0, 0]
    ∧ win0_6.index t = ![t.val, 0] ∧ (grid0.coords t 0).val = t.val := by
  decide +kernel

theorem weights_read (m : (ℓ : Loc nD τ sig) → Buf (Elt Ideal) ℓ) (c : Dev nD) (g : Fin 4) (x j : Fin 256) :
    V m c main_v0 (ix3 g x j) = m ((c.tc : Thread nD τ).loc main_arg1) (ix3 g x j) := by
  entry_read
  pointwise

theorem scale_read (m : (ℓ : Loc nD τ sig) → Buf (Elt Ideal) ℓ) (c : Dev nD) (k : Fin 1024) :
    V m c main_v1 (ix2 0 k) = m ((c.tc : Thread nD τ).loc main_arg2) (ix1 k) := by
  entry_read
  pointwise

theorem arr (m : (ℓ : Loc nD τ sig) → Buf (Elt Ideal) ℓ) (c : Dev nD) :
    (dats m 0 c).arrAt 6 cfg0.N
      = fun i : S8192x1024.Idx => result (m ((c.tc : Thread nD τ).loc main_arg0)) (m ((c.tc : Thread nD τ).loc main_arg1))
          (fun k => m ((c.tc : Thread nD τ).loc main_arg2) (ix1 k)) (i 0) (i 1) := by
  refine Pipeline.Dat.arrAt_eq_of_covers _ 6 _ (by decide +kernel) fun t _ y => ?_
  blk_simp
  rw [after0_6]
  obtain ⟨e0, e1, e2, e3, e4, e5, e6, et⟩ := idx t
  obtain ⟨r, k, rfl⟩ : ∃ (r : Fin 512) (k : Fin 1024), y = ix2 r k := ⟨y 0, y 1, by funext a; fin_cases a <;> rfl⟩
  refine (block (grid0.coords t) _ _ _ _ _ _ (m ((c.tc : Thread nD τ).loc main_arg0)) (m ((c.tc : Thread nD τ).loc main_arg1))
    (fun k => m ((c.tc : Thread nD τ).loc main_arg2) (ix1 k)) ?_ ?_ ?_ ?_ ?_ ?_ _).trans ?_
  · intro r k R hR
    blk_ext! [iblk, V, e0]
  · intro r k R hR
    blk_ext! [iblk, V, e1]
  · intro r k R hR
    blk_ext! [iblk, V, e2]
  · intro r k R hR
    blk_ext! [iblk, V, e3]
  · intro g x j
    refine Eq.trans ?_ (weights_read m c g x j)
    blk_ext! [iblk, e4]
  · intro k
    refine Eq.trans ?_ (scale_read m c k)
    blk_ext! [iblk, e5]
  · unfold G
    refine congr (congrArg (result _ _ _) ?_) ?_
    · exact Fin.ext (by blk_simp [e6]; dsimp only; omega)
    · exact Fin.ext (by blk_simp [e6])

open PoolRefIdeal.Read in
theorem ref143 (x0 : Vec Ideal S8192x11264 .bf16) (x1 : Vec Ideal S4x256x256 .f32) (x2 : Vec Ideal S1024 .f32) (R : Fin 8192) (h : Fin 4) (j : Fin 256) :
    val_main_v143 (F := Ideal) x0 x1 x2 (ix2 R (⟨h.val * 256 + j.val, by omega⟩ : Fin 1024)) = pooled x0 x1 (fun k => x2 (ix1 k)) R h j := by
  have e1 : (h.val * 256 + j.val) / 256 = h.val := by omega
  have e2 : (h.val * 256 + j.val) % 256 = j.val := by omega
  unfold val_main_v143 val_main_v142 val_main_v141 val_main_call8_v5 val_main_call8_v4 val_main_call8_cst_0 val_main_call8_v3
    val_main_call8_v2 val_main_call8_cst val_main_call8_v1 val_main_call8_v0 val_main_v140 val_main_v139 val_main_v138 val_main_v137
    val_main_v136 val_main_v135 val_main_v134 val_main_v133 val_main_v132 val_main_v131 val_main_v130 val_main_v129 val_main_v128
  generalize q0 : val_main_v34 (F := Ideal) x0 = d0
  generalize q1 : val_main_v65 (F := Ideal) x0 = d1
  generalize q2 : val_main_v96 (F := Ideal) x0 = d2
  generalize q3 : val_main_v127 (F := Ideal) x0 = d3
  pointwise
  unfold pooled entry
  refine congrArg (fun a => a * _ * _) (Finset.sum_congr rfl fun x _ => ?_)
  rw [mul_comm]
  refine congrArg (· * _) ?_
  subst q0 q1 q2 q3
  fin_cases h
  · exact ref34 x0 R x
  · exact ref65 x0 R x
  · exact ref96 x0 R x
  · exact ref127 x0 R x

/-- A column of the result is a place of a group. -/
theorem of_group (k : Fin 1024) : ∃ (h : Fin 4) (j : Fin 256), k = ⟨h.val * 256 + j.val, by omega⟩ :=
  ⟨⟨k.val / 256, by omega⟩, ⟨k.val % 256, by omega⟩, Fin.ext (by dsimp only; omega)⟩

attribute [local instance] Cert.PoolIdeal.Gen.facts Cert.PoolRefIdeal.Gen.facts

theorem algebraic : algebraic_PoolIdeal_PoolRefIdeal := by
  intro m g m' g' _ harg
  refine ⟨_, θ_run_mono (Value.run_blocks m g) fun r hr c => ⟨(hr c).1.trans (arr m c), (hr c).2⟩,
    θ_run_mono (PoolRefIdeal.Value.run m' g') fun r hr c => ?_⟩
  obtain ⟨e0, e1, e2⟩ := harg c
  refine ⟨(hr c).1.trans ?_, (hr c).2⟩
  refine (PoolRefIdeal.Read.val_main_v143_eq _).trans ?_
  show PoolRefIdeal.Read.val_main_v143 (F := Ideal) (m' ((c.tc : Thread PoolRefIdeal.nD PoolRefIdeal.τ).loc PoolRefIdeal.main_arg0))
    (m' ((c.tc : Thread PoolRefIdeal.nD PoolRefIdeal.τ).loc PoolRefIdeal.main_arg1))
    (m' ((c.tc : Thread PoolRefIdeal.nD PoolRefIdeal.τ).loc PoolRefIdeal.main_arg2)) = _
  rw [e0, e1, e2]
  funext i
  obtain ⟨r, k, rfl⟩ : ∃ (r : Fin 8192) (k : Fin 1024), i = ix2 r k := ⟨i 0, i 1, by funext a; fin_cases a <;> rfl⟩
  obtain ⟨h, j, rfl⟩ := of_group k
  exact (ref143 _ _ _ r h j).trans (result_at _ _ _ _ h j).symm

/-- The reference leaves its arguments and declares no semaphore. -/
theorem frameRef (m : (ℓ : Loc PoolRefIdeal.nD PoolRefIdeal.τ PoolRefIdeal.sig) → Buf (Elt Ideal) ℓ) (g : Dev PoolRefIdeal.nD → PrngReg) :
    θ_run (PoolRefIdeal.defs (F := Ideal)) (onTc (τ := PoolRefIdeal.τ) (PoolRefIdeal.main (F := Ideal))) ⟨m, fun _ => 0, g⟩ (fun r => (∀ c : Dev PoolRefIdeal.nD,
      r.2.mem ((c.tc : Thread PoolRefIdeal.nD PoolRefIdeal.τ).loc PoolRefIdeal.main_arg0) = m ((c.tc : Thread PoolRefIdeal.nD PoolRefIdeal.τ).loc PoolRefIdeal.main_arg0)
      ∧ r.2.mem ((c.tc : Thread PoolRefIdeal.nD PoolRefIdeal.τ).loc PoolRefIdeal.main_arg1) = m ((c.tc : Thread PoolRefIdeal.nD PoolRefIdeal.τ).loc PoolRefIdeal.main_arg1)
      ∧ r.2.mem ((c.tc : Thread PoolRefIdeal.nD PoolRefIdeal.τ).loc PoolRefIdeal.main_arg2) = m ((c.tc : Thread PoolRefIdeal.nD PoolRefIdeal.τ).loc PoolRefIdeal.main_arg2))
      ∧ r.2.sem = fun _ => 0) :=
  θ_run_mono (PoolRefIdeal.Value.run m g) fun r h => And.intro (fun c => (h c).2) (sem_eq_zero_of_no_sems (by decide) r.2)

end Cert.PoolIdeal.Windows

end
-- ==== Proof.Merged.lean ====
/-
  The norms and gates after the two scans: each grid point takes a block of rows and, one head or one group at a time, normalises it and
  gates it; the heads and groups tile a block and the blocks tile the two results.
-/
module

public import proofs.«01_k».proof.Proof.Norm
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import Idealize.ShloMosaic.Lib.Pipeline.ValueKit
public import Idealize.ShloMosaic.Lib.Pipeline.ReadBack

@[expose] public section

set_option maxRecDepth 16384

noncomputable section

namespace Cert.MergeIdeal.Heads

open Idealize.ShloMosaic Idealize.ShloMosaic.TcCoe Idealize.ShloMosaic.Tactic Idealize.SL.Sem Cert.MergeIdeal.Gen

/-- The gate: a number times its logistic. -/
def gate (x : EReal) : EReal := x * Ideal.logistic x

/-- A head's mean over its 128 places. -/
def mean (z : Fin 128 → EReal) : EReal := Ideal.div (∑ j, z j) (Ideal.ofBits .f32 0x43000000#32)

/-- A head's row normalised: less its mean, over the root of its variance. -/
def norm (z : Fin 128 → EReal) (j : Fin 128) : EReal :=
  (z j - mean z) * Ideal.rsqrt (mean (fun i => (z i - mean z) * (z i - mean z)) + Ideal.ofBits .f32 0x3727C5AC#32)

/-- A group's row over the root of its mean square, times the weight. -/
def rms (z : Fin 256 → EReal) (w : EReal) (j : Fin 256) : EReal :=
  z j * Ideal.rsqrt (Ideal.div (∑ i, z i * z i) (Ideal.ofBits .f32 0x43800000#32) + Ideal.ofBits .f32 0x3727C5AC#32) * w

/-- The retention's entry: its head normalised, gated. -/
def head (a b g : Fin 1024 → EReal) (h : Fin 8) (j : Fin 128) : EReal :=
  norm (fun i => a ⟨h.val * 128 + i.val, by omega⟩ + b ⟨h.val * 128 + i.val, by omega⟩) j * gate (g ⟨h.val * 128 + j.val, by omega⟩)

/-- The state space mixer's entry: gated, its group normalised. -/
def group (a b g w : Fin 1024 → EReal) (h : Fin 4) (j : Fin 256) : EReal :=
  rms (fun i => (a ⟨h.val * 256 + i.val, by omega⟩ + b ⟨h.val * 256 + i.val, by omega⟩) * gate (g ⟨h.val * 256 + i.val, by omega⟩))
    (w ⟨h.val * 256 + j.val, by omega⟩) j

section Payloads

variable (a b : Vec Ideal S512x128 .f32) (g : Vec Ideal S512x128 .bf16) (r : Fin 512) (j : Fin 128)

theorem pay1 : k0_pay1 (F := Ideal) a b g (ix2 r j) = norm (fun i => a (ix2 r i) + b (ix2 r i)) j * gate (g (ix2 r j)) := by
  unfold k0_pay1
  pointwise
  rfl

theorem pay4 : k0_pay4 (F := Ideal) (k0_pay2 a b) (k0_pay3 a b) g (ix2 r j) = norm (fun i => a (ix2 r i) + b (ix2 r i)) j * gate (g (ix2 r j)) := by
  unfold k0_pay4 k0_pay3 k0_pay2
  pointwise
  rfl

theorem pay5 : k0_pay5 (F := Ideal) a b g = k0_pay1 (F := Ideal) a b g := rfl
theorem pay6 : k0_pay6 (F := Ideal) a b g = k0_pay1 (F := Ideal) a b g := rfl
theorem pay10 : k0_pay10 (F := Ideal) a b g = k0_pay1 (F := Ideal) a b g := rfl
theorem pay11 : k0_pay11 (F := Ideal) a b g = k0_pay1 (F := Ideal) a b g := rfl
theorem pay9 : k0_pay9 (F := Ideal) (k0_pay7 a b) (k0_pay8 a b) g = k0_pay4 (F := Ideal) (k0_pay2 a b) (k0_pay3 a b) g := rfl
theorem pay14 : k0_pay14 (F := Ideal) (k0_pay12 a b) (k0_pay13 a b) g = k0_pay4 (F := Ideal) (k0_pay2 a b) (k0_pay3 a b) g := rfl

end Payloads

section Payloads

variable (a b : Vec Ideal S512x256 .f32) (g : Vec Ideal S512x256 .bf16) (w : Vec Ideal S1x256 .f32) (r : Fin 512) (j : Fin 256)

theorem pay15 : k0_pay15 (F := Ideal) a b g w (ix2 r j)
    = rms (fun i => (a (ix2 r i) + b (ix2 r i)) * gate (g (ix2 r i))) (w (ix2 0 j)) j := by
  unfold k0_pay15
  pointwise
  rfl

theorem pay20 : k0_pay20 (F := Ideal) (k0_pay17 a b g) (k0_pay18 a b g) (k0_pay19 (F := Ideal)) w (ix2 r j)
    = rms (fun i => (a (ix2 r i) + b (ix2 r i)) * gate (g (ix2 r i))) (w (ix2 0 j)) j := by
  unfold k0_pay20 k0_pay19 k0_pay18 k0_pay17
  pointwise
  rfl

theorem pay16 : k0_pay16 (F := Ideal) a b g w = k0_pay15 (F := Ideal) a b g w := rfl
theorem pay21 : k0_pay21 (F := Ideal) a b g w = k0_pay15 (F := Ideal) a b g w := rfl

end Payloads

/-- A row's 128 columns of one head. -/
abbrev headR (h : Fin 8) : Rect S512x1024 :=
  Rect.unit (s := S512x1024) ![0, h.val * 128] S512x128.size (by
    have hh := h.isLt
    intro a
    fin_cases a
    · show 0 + 512 ≤ 512; omega
    · show h.val * 128 + 128 ≤ 1024; omega)

/-- A row's 256 columns of one group. -/
abbrev groupR (h : Fin 4) : Rect S512x1024 :=
  Rect.unit (s := S512x1024) ![0, h.val * 256] S512x256.size (by
    have hh := h.isLt
    intro a
    fin_cases a
    · show 0 + 512 ≤ 512; omega
    · show h.val * 256 + 256 ≤ 1024; omega)

/-- The weights' 256 columns of one group. -/
abbrev weightR (h : Fin 4) : Rect S1x1024 :=
  Rect.unit (s := S1x1024) ![0, h.val * 256] S1x256.size (by
    have hh := h.isLt
    intro a
    fin_cases a
    · show 0 + 1 ≤ 1; omega
    · show h.val * 256 + 256 ≤ 1024; omega)

theorem headR_emb (h : Fin 8) (r : Fin 512) (j : Fin 128) :
    (headR h).emb (ix2 r j) = ix2 r (⟨h.val * 128 + j.val, by omega⟩ : Fin 1024) := by
  funext a
  fin_cases a
  · exact Fin.ext (by show 0 + 1 * r.val = r.val; omega)
  · exact Fin.ext (by show h.val * 128 + 1 * j.val = h.val * 128 + j.val; omega)

theorem groupR_emb (h : Fin 4) (r : Fin 512) (j : Fin 256) :
    (groupR h).emb (ix2 r j) = ix2 r (⟨h.val * 256 + j.val, by omega⟩ : Fin 1024) := by
  funext a
  fin_cases a
  · exact Fin.ext (by show 0 + 1 * r.val = r.val; omega)
  · exact Fin.ext (by show h.val * 256 + 1 * j.val = h.val * 256 + j.val; omega)

theorem weightR_emb (h : Fin 4) (j : Fin 256) :
    (weightR h).emb (ix2 (0 : Fin 1) j) = ix2 (0 : Fin 1) (⟨h.val * 256 + j.val, by omega⟩ : Fin 1024) := by
  funext a
  fin_cases a
  · rfl
  · exact Fin.ext (by show h.val * 256 + 1 * j.val = h.val * 256 + j.val; omega)

/-- An entry of the retention's result, by its column. -/
def retained (a b g : Fin 1024 → EReal) (k : Fin 1024) : EReal :=
  head a b g ⟨k.val / 128, by omega⟩ ⟨k.val % 128, by omega⟩

theorem retained_at (a b g : Fin 1024 → EReal) (h : Fin 8) (j : Fin 128) :
    retained a b g ⟨h.val * 128 + j.val, by omega⟩ = head a b g h j := by
  have h1 : (⟨(h.val * 128 + j.val) / 128, by omega⟩ : Fin 8) = h := Fin.ext (by dsimp only; omega)
  have h2 : (⟨(h.val * 128 + j.val) % 128, by omega⟩ : Fin 128) = j := Fin.ext (by dsimp only; omega)
  simp only [retained, h1, h2]

/-- An entry of the state space mixer's result, by its column. -/
def mixed (a b g w : Fin 1024 → EReal) (k : Fin 1024) : EReal :=
  group a b g w ⟨k.val / 256, by omega⟩ ⟨k.val % 256, by omega⟩

theorem mixed_at (a b g w : Fin 1024 → EReal) (h : Fin 4) (j : Fin 256) :
    mixed a b g w ⟨h.val * 256 + j.val, by omega⟩ = group a b g w h j := by
  have h1 : (⟨(h.val * 256 + j.val) / 256, by omega⟩ : Fin 4) = h := Fin.ext (by dsimp only; omega)
  have h2 : (⟨(h.val * 256 + j.val) % 256, by omega⟩ : Fin 256) = j := Fin.ext (by dsimp only; omega)
  simp only [mixed, h1, h2]

section Blocks

variable (x0 x1 x2 x3 : Vec Ideal S512x1024 .f32) (x4 x5 : Vec Ideal S512x1024 .bf16) (x6 : Vec Ideal S1x1024 .f32)

/-- A block of the retention's result. -/
def G7 (y : S512x1024.Idx) : EReal :=
  retained (fun k => x0 (ix2 (y 0) k)) (fun k => x1 (ix2 (y 0) k)) (fun k => x4 (ix2 (y 0) k)) (y 1)

/-- A block of the state space mixer's result. -/
def G8 (y : S512x1024.Idx) : EReal :=
  mixed (fun k => x2 (ix2 (y 0) k)) (fun k => x3 (ix2 (y 0) k)) (fun k => x5 (ix2 (y 0) k)) (fun k => x6 (ix2 0 k)) (y 1)

theorem headPiece (h : Fin 8) (p : Vec Ideal S512x128 .bf16)
    (hp : ∀ r j, p (ix2 r j) = norm (fun i => x0 ((headR h).emb (ix2 r i)) + x1 ((headR h).emb (ix2 r i))) j * gate (x4 ((headR h).emb (ix2 r j))))
    (x : S512x128.Idx) : p x = G7 x0 x1 x4 ((headR h).emb x) := by
  obtain ⟨r, j, rfl⟩ : ∃ (r : Fin 512) (j : Fin 128), x = ix2 r j := ⟨x 0, x 1, by funext a; fin_cases a <;> rfl⟩
  simp only [hp, headR_emb]
  exact (retained_at (fun k => x0 (ix2 r k)) (fun k => x1 (ix2 r k)) (fun k => x4 (ix2 r k)) h j).symm

theorem groupPiece (h : Fin 4) (p : Vec Ideal S512x256 .bf16)
    (hp : ∀ r j, p (ix2 r j) = rms (fun i => (x2 ((groupR h).emb (ix2 r i)) + x3 ((groupR h).emb (ix2 r i))) * gate (x5 ((groupR h).emb (ix2 r i))))
      (x6 ((weightR h).emb (ix2 0 j))) j)
    (x : S512x256.Idx) : p x = G8 x2 x3 x5 x6 ((groupR h).emb x) := by
  obtain ⟨r, j, rfl⟩ : ∃ (r : Fin 512) (j : Fin 256), x = ix2 r j := ⟨x 0, x 1, by funext a; fin_cases a <;> rfl⟩
  simp only [hp, groupR_emb, weightR_emb]
  exact (mixed_at (fun k => x2 (ix2 r k)) (fun k => x3 (ix2 r k)) (fun k => x5 (ix2 r k)) (fun k => x6 (ix2 0 k)) h j).symm

theorem block7 (y : S512x1024.Idx) : out0_7 (F := Ideal) x0 x1 x2 x3 x4 x5 x6 y = G7 x0 x1 x4 y := by
  unfold out0_7
  refine View.canon_append_of_piecesOf (Val := Elt Ideal) (e := .bf16) (G7 x0 x1 x4) [] _ ?_ y (cover0_7 _ _ _ _ _ _ _ _ y)
  exact ⟨headPiece x0 x1 x4 7 _ fun r j => (congrFun (pay14 _ _ _) _).trans (pay4 _ _ _ r j),
    headPiece x0 x1 x4 6 _ fun r j => (congrFun (pay11 _ _ _) _).trans (pay1 _ _ _ r j),
    headPiece x0 x1 x4 5 _ fun r j => (congrFun (pay10 _ _ _) _).trans (pay1 _ _ _ r j),
    headPiece x0 x1 x4 4 _ fun r j => (congrFun (pay9 _ _ _) _).trans (pay4 _ _ _ r j),
    headPiece x0 x1 x4 3 _ fun r j => (congrFun (pay6 _ _ _) _).trans (pay1 _ _ _ r j),
    headPiece x0 x1 x4 2 _ fun r j => (congrFun (pay5 _ _ _) _).trans (pay1 _ _ _ r j),
    headPiece x0 x1 x4 1 _ fun r j => pay4 _ _ _ r j,
    headPiece x0 x1 x4 0 _ fun r j => pay1 _ _ _ r j, trivial⟩

theorem block8 (y : S512x1024.Idx) : out0_8 (F := Ideal) x0 x1 x2 x3 x4 x5 x6 y = G8 x2 x3 x5 x6 y := by
  unfold out0_8
  refine View.canon_append_of_piecesOf (Val := Elt Ideal) (e := .bf16) (G8 x2 x3 x5 x6) [] _ ?_ y (cover0_8 _ _ _ _ y)
  exact ⟨groupPiece x2 x3 x5 x6 3 _ fun r j => (congrFun (pay21 _ _ _ _) _).trans (pay15 _ _ _ _ r j),
    groupPiece x2 x3 x5 x6 2 _ fun r j => pay20 _ _ _ _ r j,
    groupPiece x2 x3 x5 x6 1 _ fun r j => (congrFun (pay16 _ _ _ _) _).trans (pay15 _ _ _ _ r j),
    groupPiece x2 x3 x5 x6 0 _ fun r j => pay15 _ _ _ _ r j, trivial⟩

end Blocks

theorem idx : ∀ t : Fin grid0.N, win0_0.index t = ![t.val, 0] ∧ win0_1.index t = ![t.val, 0] ∧ win0_2.index t = ![t.val, 0]
    ∧ win0_3.index t = ![t.val, 0] ∧ win0_4.index t = ![t.val, 8] ∧ win0_5.index t = ![t.val, 10] ∧ win0_6.index t = ![0, 0]
    ∧ win0_7.index t = ![t.val, 0] ∧ win0_8.index t = ![t.val, 0] := by
  decide +kernel

theorem weights_read (m : (ℓ : Loc nD τ sig) → Buf (Elt Ideal) ℓ) (c : Dev nD) (k : Fin 1024) :
    V m c main_v0 (ix2 0 k) = m ((c.tc : Thread nD τ).loc main_arg5) (ix1 k) := by
  entry_read
  pointwise

theorem arr7 (m : (ℓ : Loc nD τ sig) → Buf (Elt Ideal) ℓ) (c : Dev nD) :
    (dats m 0 c).arrAt 7 cfg0.N
      = fun i : S8192x1024.Idx => retained (fun k => m ((c.tc : Thread nD τ).loc main_arg0) (ix2 (i 0) k))
          (fun k => m ((c.tc : Thread nD τ).loc main_arg1) (ix2 (i 0) k))
          (fun k => m ((c.tc : Thread nD τ).loc main_arg4) (ix2 (i 0) (⟨7168 + (1024 + k.val), by omega⟩ : Fin 11264))) (i 1) := by
  refine Pipeline.Dat.arrAt_eq_of_covers _ 7 _ (by decide +kernel) fun t _ y => ?_
  blk_simp
  rw [after0_7]
  obtain ⟨e0, e1, -, -, e4, -, -, e7, -⟩ := idx t
  obtain ⟨r, k, rfl⟩ : ∃ (r : Fin 512) (k : Fin 1024), y = ix2 r k := ⟨y 0, y 1, by funext a; fin_cases a <;> rfl⟩
  refine (block7 _ _ _ _ _ _ _ _).trans (congr (congr (congrArg₂ retained ?_ ?_) ?_) ?_)
  · funext j; blk_ext! [iblk, V, e0, e7]
  · funext j; blk_ext! [iblk, V, e1, e7]
  · funext j; blk_ext! [iblk, V, e4, e7]
  · exact Fin.ext (by blk_simp [e7])

theorem arr8 (m : (ℓ : Loc nD τ sig) → Buf (Elt Ideal) ℓ) (c : Dev nD) :
    (dats m 0 c).arrAt 8 cfg0.N
      = fun i : S8192x1024.Idx => mixed (fun k => m ((c.tc : Thread nD τ).loc main_arg2) (ix2 (i 0) k))
          (fun k => m ((c.tc : Thread nD τ).loc main_arg3) (ix2 (i 0) k))
          (fun k => m ((c.tc : Thread nD τ).loc main_arg4) (ix2 (i 0) (⟨7168 + (3072 + k.val), by omega⟩ : Fin 11264)))
          (fun k => m ((c.tc : Thread nD τ).loc main_arg5) (ix1 k)) (i 1) := by
  refine Pipeline.Dat.arrAt_eq_of_covers _ 8 _ (by decide +kernel) fun t _ y => ?_
  blk_simp
  rw [after0_8]
  obtain ⟨-, -, e2, e3, -, e5, e6, -, e8⟩ := idx t
  obtain ⟨r, k, rfl⟩ : ∃ (r : Fin 512) (k : Fin 1024), y = ix2 r k := ⟨y 0, y 1, by funext a; fin_cases a <;> rfl⟩
  refine (block8 _ _ _ _ _ _ _ _).trans (congr (congr (congr (congrArg₂ mixed ?_ ?_) ?_) ?_) ?_)
  · funext j; blk_ext! [iblk, V, e2, e8]
  · funext j; blk_ext! [iblk, V, e3, e8]
  · funext j; blk_ext! [iblk, V, e5, e8]
  · funext j
    refine Eq.trans ?_ (weights_read m c j)
    blk_ext! [iblk, e6]
  · exact Fin.ext (by blk_simp [e8])

open MergeRefIdeal.Read in
theorem ref7 (x0 x1 : Vec Ideal S8192x1024 .f32) (x4 : Vec Ideal S8192x11264 .bf16) (r : Fin 8192) (h : Fin 8) (j : Fin 128) :
    val_main_v44 (F := Ideal) x0 x1 x4 (ix2 r (⟨h.val * 128 + j.val, by omega⟩ : Fin 1024))
      = head (fun j => x0 (ix2 r j)) (fun j => x1 (ix2 r j)) (fun k => x4 (ix2 r (⟨7168 + (1024 + k.val), by omega⟩ : Fin 11264))) h j := by
  have e1 : (h.val * 128 + j.val) / 128 = h.val := by omega
  have e2 : (h.val * 128 + j.val) % 128 = j.val := by omega
  unfold val_main_v44 val_main_v25 val_main_v24 val_main_v23 val_main_v22 val_main_v21 val_main_v20 val_main_v19 val_main_v18 val_main_v17
    val_main_v16 val_main_v15 val_main_v14 val_main_v13 val_main_v12 val_main_v11 val_main_v10 val_main_v9 val_main_v8 val_main_v7 val_main_v6
    val_main_v5 val_main_v4 val_main_v3 val_main_v2 val_main_call0_v5 val_main_call0_v4 val_main_call0_v3 val_main_call0_v2 val_main_call0_v1
    val_main_call0_v0 val_main_call0_cst val_main_call0_cst_0 val_main_v1 val_main_v0 val_main_cst val_main_cst_0 val_main_cst_1
    val_main_cst_2 val_main_cst_3
  pointwise
  rfl

open MergeRefIdeal.Read in
theorem ref8 (x2 x3 : Vec Ideal S8192x1024 .f32) (x4 : Vec Ideal S8192x11264 .bf16) (x5 : Vec Ideal S1024 .f32) (r : Fin 8192) (h : Fin 4)
    (j : Fin 256) :
    val_main_v45 (F := Ideal) x2 x3 x4 x5 (ix2 r (⟨h.val * 256 + j.val, by omega⟩ : Fin 1024))
      = group (fun j => x2 (ix2 r j)) (fun j => x3 (ix2 r j)) (fun k => x4 (ix2 r (⟨7168 + (3072 + k.val), by omega⟩ : Fin 11264)))
          (fun k => x5 (ix1 k)) h j := by
  have e1 : (h.val * 256 + j.val) / 256 = h.val := by omega
  have e2 : (h.val * 256 + j.val) % 256 = j.val := by omega
  unfold val_main_v45 val_main_v43 val_main_v42 val_main_v41 val_main_v40 val_main_v39 val_main_v38 val_main_v37 val_main_v36 val_main_v35
    val_main_v34 val_main_v33 val_main_v32 val_main_v31 val_main_v30 val_main_v29 val_main_v28 val_main_v27 val_main_v26 val_main_v2
    val_main_call0_v5 val_main_call0_v4 val_main_call0_v3 val_main_call0_v2 val_main_call0_v1 val_main_call0_v0 val_main_call0_cst
    val_main_call0_cst_0 val_main_v1 val_main_v0 val_main_cst_4 val_main_cst_5 val_main_cst_6
  pointwise
  rfl

/-- A column of the retention's result is a place of a head. -/
theorem of_head (k : Fin 1024) : ∃ (h : Fin 8) (j : Fin 128), k = ⟨h.val * 128 + j.val, by omega⟩ :=
  ⟨⟨k.val / 128, by omega⟩, ⟨k.val % 128, by omega⟩, Fin.ext (by dsimp only; omega)⟩

/-- A column of the state space mixer's result is a place of a group. -/
theorem of_group (k : Fin 1024) : ∃ (h : Fin 4) (j : Fin 256), k = ⟨h.val * 256 + j.val, by omega⟩ :=
  ⟨⟨k.val / 256, by omega⟩, ⟨k.val % 256, by omega⟩, Fin.ext (by dsimp only; omega)⟩

attribute [local instance] Cert.MergeIdeal.Gen.facts Cert.MergeRefIdeal.Gen.facts

theorem algebraic : algebraic_MergeIdeal_MergeRefIdeal := by
  intro m g m' g' _ harg
  refine ⟨_, _, θ_run_mono (Value.run_blocks m g) fun r hr c => ⟨(hr c).1.trans (arr7 m c), (hr c).2.1.trans (arr8 m c), (hr c).2.2⟩,
    θ_run_mono (MergeRefIdeal.Value.run m' g') fun r hr c => ?_⟩
  obtain ⟨e0, e1, e2, e3, e4, e5⟩ := harg c
  obtain ⟨r0, r1, ra⟩ := hr c
  refine ⟨r0.trans ?_, r1.trans ?_, ra⟩
  · rw [MergeRefIdeal.Read.val_main_v44_eq, e0, e1, e4]
    funext i
    obtain ⟨r, k, rfl⟩ : ∃ (r : Fin 8192) (k : Fin 1024), i = ix2 r k := ⟨i 0, i 1, by funext a; fin_cases a <;> rfl⟩
    obtain ⟨h, j, rfl⟩ := of_head k
    exact (ref7 _ _ _ r h j).trans (retained_at _ _ _ h j).symm
  · rw [MergeRefIdeal.Read.val_main_v45_eq, e2, e3, e4, e5]
    funext i
    obtain ⟨r, k, rfl⟩ : ∃ (r : Fin 8192) (k : Fin 1024), i = ix2 r k := ⟨i 0, i 1, by funext a; fin_cases a <;> rfl⟩
    obtain ⟨h, j, rfl⟩ := of_group k
    exact (ref8 _ _ _ _ r h j).trans (mixed_at _ _ _ _ h j).symm

/-- The reference leaves its arguments and declares no semaphore. -/
theorem frameRef (m : (ℓ : Loc MergeRefIdeal.nD MergeRefIdeal.τ MergeRefIdeal.sig) → Buf (Elt Ideal) ℓ) (g : Dev MergeRefIdeal.nD → PrngReg) :
    θ_run (MergeRefIdeal.defs (F := Ideal)) (onTc (τ := MergeRefIdeal.τ) (MergeRefIdeal.main (F := Ideal))) ⟨m, fun _ => 0, g⟩ (fun r => (∀ c : Dev MergeRefIdeal.nD,
      r.2.mem ((c.tc : Thread MergeRefIdeal.nD MergeRefIdeal.τ).loc MergeRefIdeal.main_arg0) = m ((c.tc : Thread MergeRefIdeal.nD MergeRefIdeal.τ).loc MergeRefIdeal.main_arg0)
      ∧ r.2.mem ((c.tc : Thread MergeRefIdeal.nD MergeRefIdeal.τ).loc MergeRefIdeal.main_arg1) = m ((c.tc : Thread MergeRefIdeal.nD MergeRefIdeal.τ).loc MergeRefIdeal.main_arg1)
      ∧ r.2.mem ((c.tc : Thread MergeRefIdeal.nD MergeRefIdeal.τ).loc MergeRefIdeal.main_arg2) = m ((c.tc : Thread MergeRefIdeal.nD MergeRefIdeal.τ).loc MergeRefIdeal.main_arg2)
      ∧ r.2.mem ((c.tc : Thread MergeRefIdeal.nD MergeRefIdeal.τ).loc MergeRefIdeal.main_arg3) = m ((c.tc : Thread MergeRefIdeal.nD MergeRefIdeal.τ).loc MergeRefIdeal.main_arg3)
      ∧ r.2.mem ((c.tc : Thread MergeRefIdeal.nD MergeRefIdeal.τ).loc MergeRefIdeal.main_arg4) = m ((c.tc : Thread MergeRefIdeal.nD MergeRefIdeal.τ).loc MergeRefIdeal.main_arg4)
      ∧ r.2.mem ((c.tc : Thread MergeRefIdeal.nD MergeRefIdeal.τ).loc MergeRefIdeal.main_arg5) = m ((c.tc : Thread MergeRefIdeal.nD MergeRefIdeal.τ).loc MergeRefIdeal.main_arg5))
      ∧ r.2.sem = fun _ => 0) :=
  θ_run_mono (MergeRefIdeal.Value.run m g) fun r h => And.intro (fun c => (h c).2.2) (sem_eq_zero_of_no_sems (by decide) r.2)

end Cert.MergeIdeal.Heads

end
-- ==== Proof.Rotary.lean ====
/-
  The rotary embedding of the retention: each grid point takes a block of rows and turns each head of the queries and of the scaled keys by
  two tables, adding the head times the one and the head rolled by half times the other; the values are kept.
-/
module

public import proofs.«01_k».proof.Proof.Norm
public import proofs.«01_k».proof.Proof.Gen.PrepRetIdeal.Value
public import proofs.«01_k».proof.Proof.Gen.PrepRetRefIdeal
public import proofs.«01_k».proof.Proof.Gen.PrepRetRefIdeal.Run
public import proofs.«01_k».proof.Proof.Gen.PrepRetRefIdeal.Read
public import Idealize.ShloMosaic.Lib.Pipeline.ValueKit
public import Idealize.ShloMosaic.Lib.Pipeline.ReadBack

@[expose] public section

set_option maxRecDepth 16384

noncomputable section

namespace Cert.PrepRetIdeal.Rotary

open Idealize.ShloMosaic Idealize.ShloMosaic.TcCoe Idealize.ShloMosaic.Tactic Idealize.SL.Sem Cert.PrepRetIdeal.Gen

/-- A head's row turned: times the one table, and rolled by half times the other. -/
def turned (z c s : Fin 128 → EReal) (j : Fin 128) : EReal := z j * c j + z ⟨(j.val + 64) % 128, by omega⟩ * s j

/-- An entry of the rows turned, by its column. -/
def rope (z : Fin 1024 → EReal) (c s : Fin 128 → EReal) (k : Fin 1024) : EReal :=
  turned (fun i => z ⟨k.val / 128 * 128 + i.val, by omega⟩) c s ⟨k.val % 128, by omega⟩

theorem rope_at (z : Fin 1024 → EReal) (c s : Fin 128 → EReal) (h : Fin 8) (j : Fin 128) :
    rope z c s ⟨h.val * 128 + j.val, by omega⟩ = turned (fun i => z ⟨h.val * 128 + i.val, by omega⟩) c s j := by
  have h1 : (h.val * 128 + j.val) / 128 = h.val := by omega
  have h2 : (⟨(h.val * 128 + j.val) % 128, by omega⟩ : Fin 128) = j := Fin.ext (by dsimp only; omega)
  simp only [rope, h1, h2]

/-- The keys' scale. -/
abbrev scale : EReal := Ideal.ofBits .f32 0x3DB504F3#32

/-- A key scaled. -/
abbrev scaled (x : EReal) : EReal := x * scale

section Payloads

variable (a c s : Vec Ideal S512x128 .f32) (b : Vec Ideal S512x128 .bf16) (r : Fin 512) (j : Fin 128)

theorem pay3 : k0_pay3 (F := Ideal) b c s (ix2 r j) = turned (fun i => b (ix2 r i)) (fun i => c (ix2 r i)) (fun i => s (ix2 r i)) j := by
  unfold k0_pay3
  pointwise
  rfl

theorem pay4 : k0_pay4 (F := Ideal) a c s (ix2 r j)
    = turned (fun i => a (ix2 r i) * scale) (fun i => c (ix2 r i)) (fun i => s (ix2 r i)) j := by
  unfold k0_pay4
  pointwise
  rfl

theorem pay8 : k0_pay8 (F := Ideal) (k0_pay6 b c) (k0_pay7 b) s = k0_pay3 (F := Ideal) b c s := rfl
theorem pay10 : k0_pay10 (F := Ideal) b c s = k0_pay3 (F := Ideal) b c s := rfl
theorem pay13 : k0_pay13 (F := Ideal) b c s = k0_pay3 (F := Ideal) b c s := rfl
theorem pay16 : k0_pay16 (F := Ideal) b c s = k0_pay3 (F := Ideal) b c s := rfl
theorem pay20 : k0_pay20 (F := Ideal) (k0_pay18 b) (k0_pay19 b c) s = k0_pay3 (F := Ideal) b c s := rfl
theorem pay22 : k0_pay22 (F := Ideal) b c s = k0_pay3 (F := Ideal) b c s := rfl
theorem pay24 : k0_pay24 (F := Ideal) b c s = k0_pay3 (F := Ideal) b c s := rfl

theorem pay9 : k0_pay9 (F := Ideal) a c s = k0_pay4 (F := Ideal) a c s := rfl
theorem pay12 : k0_pay12 (F := Ideal) a (k0_pay11 (F := Ideal)) c s = k0_pay4 (F := Ideal) a c s := rfl
theorem pay15 : k0_pay15 (F := Ideal) (k0_pay14 a c s) = k0_pay4 (F := Ideal) a c s := rfl
theorem pay17 : k0_pay17 (F := Ideal) a c s = k0_pay4 (F := Ideal) a c s := rfl
theorem pay21 : k0_pay21 (F := Ideal) a c s = k0_pay4 (F := Ideal) a c s := rfl
theorem pay23 : k0_pay23 (F := Ideal) a c s = k0_pay4 (F := Ideal) a c s := rfl
theorem pay1 : k0_pay1 (F := Ideal) (k0_pay26 a c) (k0_pay27 a) s = k0_pay4 (F := Ideal) a c s := rfl

end Payloads

/-- A row's 128 columns of one head. -/
abbrev headR (h : Fin 8) : Rect S512x1024 :=
  Rect.unit (s := S512x1024) ![0, h.val * 128] S512x128.size (by
    have hh := h.isLt
    intro a
    fin_cases a
    · show 0 + 512 ≤ 512; omega
    · show h.val * 128 + 128 ≤ 1024; omega)

theorem headR_emb (h : Fin 8) (r : Fin 512) (j : Fin 128) :
    (headR h).emb (ix2 r j) = ix2 r (⟨h.val * 128 + j.val, by omega⟩ : Fin 1024) := by
  funext a
  fin_cases a
  · exact Fin.ext (by show 0 + 1 * r.val = r.val; omega)
  · exact Fin.ext (by show h.val * 128 + 1 * j.val = h.val * 128 + j.val; omega)

theorem emb_rows (y : S512x1024.Idx) : (Rect.unit (s := S512x1024) ![0, 0] ![512, 1024] inb_S512x1024_S512x1024_0_0).emb y = y := by
  funext a
  fin_cases a
  · exact Fin.ext (by show 0 + 1 * (y 0).val = (y 0).val; omega)
  · exact Fin.ext (by show 0 + 1 * (y 1).val = (y 1).val; omega)

/-- A block of rows turned. -/
def G (Z : Fin 512 → Fin 1024 → EReal) (C S : Fin 512 → Fin 128 → EReal) (y : S512x1024.Idx) : EReal := rope (Z (y 0)) (C (y 0)) (S (y 0)) (y 1)

section Heads

variable (Z : Fin 512 → Fin 1024 → EReal) (C S : Fin 512 → Fin 128 → EReal) (h : Fin 8) (c s : Vec Ideal S512x128 .f32)
  (hc : ∀ r i, c (ix2 r i) = C r i) (hs : ∀ r i, s (ix2 r i) = S r i)

include hc hs in
theorem query (b : Vec Ideal S512x128 .bf16) (p : Vec Ideal S512x128 .bf16) (hp : p = k0_pay3 (F := Ideal) b c s)
    (hb : ∀ (r : Fin 512) (i : Fin 128), b (ix2 r i) = Z r ⟨h.val * 128 + i.val, by omega⟩) (x : S512x128.Idx) : p x = G Z C S ((headR h).emb x) := by
  obtain ⟨r, j, rfl⟩ : ∃ (r : Fin 512) (j : Fin 128), x = ix2 r j := ⟨x 0, x 1, by funext a; fin_cases a <;> rfl⟩
  rw [hp, pay3, headR_emb]
  simp only [hb, hc, hs]
  exact (rope_at (Z r) (C r) (S r) h j).symm

include hc hs in
theorem key (a : Vec Ideal S512x128 .f32) (p : Vec Ideal S512x128 .bf16) (hp : p = k0_pay4 (F := Ideal) a c s)
    (ha : ∀ (r : Fin 512) (i : Fin 128), a (ix2 r i) * scale = Z r ⟨h.val * 128 + i.val, by omega⟩) (x : S512x128.Idx) : p x = G Z C S ((headR h).emb x) := by
  obtain ⟨r, j, rfl⟩ : ∃ (r : Fin 512) (j : Fin 128), x = ix2 r j := ⟨x 0, x 1, by funext a; fin_cases a <;> rfl⟩
  rw [hp, pay4, headR_emb]
  simp only [ha, hc, hs]
  exact (rope_at (Z r) (C r) (S r) h j).symm

end Heads

section Blocks

variable (c : Dev nD) (i : grid0.Coords)
  (arg1 : Memref sig .tc .vmem S512x512 .bf16) (harg1 : arg1.IsWhole)
  (arg2 : Memref sig .tc .vmem S512x512 .bf16) (harg2 : arg2.IsWhole)
  (arg3 : Memref sig .tc .vmem S512x1024 .f32) (harg3 : arg3.IsWhole)
  (arg4 : Memref sig .tc .vmem S512x1024 .f32) (harg4 : arg4.IsWhole)
  (arg5 : Memref sig .tc .vmem S512x128 .f32) (harg5 : arg5.IsWhole)
  (arg6 : Memref sig .tc .vmem S512x128 .f32) (harg6 : arg6.IsWhole)
  (arg7 : Memref sig .tc .vmem S512x1024 .bf16) (harg7 : arg7.IsWhole)
  (arg8 : Memref sig .tc .vmem S512x1024 .bf16) (harg8 : arg8.IsWhole)
  (arg9 : Memref sig .tc .vmem S512x1024 .bf16) (harg9 : arg9.IsWhole)
  (x0 x1 : Vec Ideal S512x512 .bf16) (x2 x3 : Vec Ideal S512x1024 .f32) (x4 x5 : Vec Ideal S512x128 .f32)
  (Z : Fin 512 → Fin 1024 → EReal) (C S : Fin 512 → Fin 128 → EReal)
  (h0 : ∀ (r : Fin 512) (k : Fin 512), x0 (ix2 r k) = Z r ⟨k.val, by omega⟩) (h1 : ∀ (r : Fin 512) (k : Fin 512), x1 (ix2 r k) = Z r ⟨512 + k.val, by omega⟩)
  (h2 : ∀ (r : Fin 512) (k : Fin 1024), x2 (ix2 r k) * scale = Z r k)
  (h4 : ∀ (r : Fin 512) (k : Fin 128), x4 (ix2 r k) = C r k) (h5 : ∀ (r : Fin 512) (k : Fin 128), x5 (ix2 r k) = S r k)

include h0 h1 h4 h5 in
theorem block6 (y : S512x1024.Idx) : out0_A_6 (F := Ideal) c i arg1 harg1 arg2 harg2 arg3 harg3 arg4 harg4 arg5 harg5 arg6 harg6 arg7 harg7 arg8 harg8 arg9 harg9 x0 x1 x2 x3 x4 x5 y = G Z C S y := by
  have w1 : ∀ R : LoadRect S512x512, View.readAt (Elt Ideal) arg1.view R (harg1.unread x0) = fun y => x0 (R.idx y) :=
    fun R => funext fun y => congrFun (harg1.read_unread x0) _
  have w2 : ∀ R : LoadRect S512x512, View.readAt (Elt Ideal) arg2.view R (harg2.unread x1) = fun y => x1 (R.idx y) :=
    fun R => funext fun y => congrFun (harg2.read_unread x1) _
  have w3 : ∀ R : LoadRect S512x1024, View.readAt (Elt Ideal) arg3.view R (harg3.unread x2) = fun y => x2 (R.idx y) :=
    fun R => funext fun y => congrFun (harg3.read_unread x2) _
  have w4 : ∀ R : LoadRect S512x1024, View.readAt (Elt Ideal) arg4.view R (harg4.unread x3) = fun y => x3 (R.idx y) :=
    fun R => funext fun y => congrFun (harg4.read_unread x3) _
  have w5 : ∀ R : LoadRect S512x128, View.readAt (Elt Ideal) arg5.view R (harg5.unread x4) = fun y => x4 (R.idx y) :=
    fun R => funext fun y => congrFun (harg5.read_unread x4) _
  have w6 : ∀ R : LoadRect S512x128, View.readAt (Elt Ideal) arg6.view R (harg6.unread x5) = fun y => x5 (R.idx y) :=
    fun R => funext fun y => congrFun (harg6.read_unread x5) _
  unfold out0_A_6
  rw [View.read_writes_eq_canon _ _ _ (cover0_A_6 c i arg1 harg1 arg2 harg2 arg3 harg3 arg4 harg4 arg5 harg5 arg6 harg6 arg7 harg7 arg8 harg8 arg9 harg9 x0 x1 x2 x3 x4 x5), ← List.append_nil (kernelRun0_A (F := Ideal) c i arg1 harg1 arg2 harg2 arg3 harg3 arg4 harg4 arg5 harg5 arg6 harg6 arg7 harg7 arg8 harg8 arg9 harg9 x0 x1 x2 x3 x4 x5).1]
  refine View.canon_append_of_piecesOf (Val := Elt Ideal) (e := .bf16) (G Z C S) [] _ ?_ y (cover0_A_6 c i arg1 harg1 arg2 harg2 arg3 harg3 arg4 harg4 arg5 harg5 arg6 harg6 arg7 harg7 arg8 harg8 arg9 harg9 x0 x1 x2 x3 x4 x5 y)
  unfold kernelRun0_A
  dsimp only
  sl_unfold_words
  simp only [w1, w2, w3, w4, w5, w6]
  refine ⟨?_, ?_, ?_, ?_, ?_, ?_, ?_, ?_, trivial⟩
  · refine query Z C S 7 _ _ ?_ ?_ _ _ (pay24 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg x1 (by
        funext a
        fin_cases a
        · exact Fin.ext (by show 0 + 1 * r.val = r.val; omega)
        · exact Fin.ext (by show 384 + 1 * i.val = 384 + i.val; omega))).trans ((h1 r ⟨384 + i.val, by omega⟩).trans (congrArg (Z r) (Fin.ext (by show 512 + (384 + i.val) = 7 * 128 + i.val; omega))))
  · refine query Z C S 6 _ _ ?_ ?_ _ _ (pay22 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg x1 (by
        funext a
        fin_cases a
        · exact Fin.ext (by show 0 + 1 * r.val = r.val; omega)
        · exact Fin.ext (by show 256 + 1 * i.val = 256 + i.val; omega))).trans ((h1 r ⟨256 + i.val, by omega⟩).trans (congrArg (Z r) (Fin.ext (by show 512 + (256 + i.val) = 6 * 128 + i.val; omega))))
  · refine query Z C S 5 _ _ ?_ ?_ _ _ (pay20 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg x1 (by
        funext a
        fin_cases a
        · exact Fin.ext (by show 0 + 1 * r.val = r.val; omega)
        · exact Fin.ext (by show 128 + 1 * i.val = 128 + i.val; omega))).trans ((h1 r ⟨128 + i.val, by omega⟩).trans (congrArg (Z r) (Fin.ext (by show 512 + (128 + i.val) = 5 * 128 + i.val; omega))))
  · refine query Z C S 4 _ _ ?_ ?_ _ _ (pay16 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg x1 (by
        funext a
        fin_cases a
        · exact Fin.ext (by show 0 + 1 * r.val = r.val; omega)
        · exact Fin.ext (by show 0 + 1 * i.val = 0 + i.val; omega))).trans ((h1 r ⟨0 + i.val, by omega⟩).trans (congrArg (Z r) (Fin.ext (by show 512 + (0 + i.val) = 4 * 128 + i.val; omega))))
  · refine query Z C S 3 _ _ ?_ ?_ _ _ (pay13 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg x0 (by
        funext a
        fin_cases a
        · exact Fin.ext (by show 0 + 1 * r.val = r.val; omega)
        · exact Fin.ext (by show 384 + 1 * i.val = 384 + i.val; omega))).trans ((h0 r ⟨384 + i.val, by omega⟩).trans (congrArg (Z r) (Fin.ext (by show 384 + i.val = 3 * 128 + i.val; omega))))
  · refine query Z C S 2 _ _ ?_ ?_ _ _ (pay10 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg x0 (by
        funext a
        fin_cases a
        · exact Fin.ext (by show 0 + 1 * r.val = r.val; omega)
        · exact Fin.ext (by show 256 + 1 * i.val = 256 + i.val; omega))).trans ((h0 r ⟨256 + i.val, by omega⟩).trans (congrArg (Z r) (Fin.ext (by show 256 + i.val = 2 * 128 + i.val; omega))))
  · refine query Z C S 1 _ _ ?_ ?_ _ _ (pay8 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg x0 (by
        funext a
        fin_cases a
        · exact Fin.ext (by show 0 + 1 * r.val = r.val; omega)
        · exact Fin.ext (by show 128 + 1 * i.val = 128 + i.val; omega))).trans ((h0 r ⟨128 + i.val, by omega⟩).trans (congrArg (Z r) (Fin.ext (by show 128 + i.val = 1 * 128 + i.val; omega))))
  · refine query Z C S 0 _ _ ?_ ?_ _ _ rfl ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg x0 (by
        funext a
        fin_cases a
        · exact Fin.ext (by show 0 + 1 * r.val = r.val; omega)
        · exact Fin.ext (by show 0 + 1 * i.val = 0 + i.val; omega))).trans ((h0 r ⟨0 + i.val, by omega⟩).trans (congrArg (Z r) (Fin.ext (by show 0 + i.val = 0 * 128 + i.val; omega))))

include h2 h4 h5 in
theorem block7 (y : S512x1024.Idx) : out0_A_7 (F := Ideal) c i arg1 harg1 arg2 harg2 arg3 harg3 arg4 harg4 arg5 harg5 arg6 harg6 arg7 harg7 arg8 harg8 arg9 harg9 x0 x1 x2 x3 x4 x5 y = G Z C S y := by
  have w1 : ∀ R : LoadRect S512x512, View.readAt (Elt Ideal) arg1.view R (harg1.unread x0) = fun y => x0 (R.idx y) :=
    fun R => funext fun y => congrFun (harg1.read_unread x0) _
  have w2 : ∀ R : LoadRect S512x512, View.readAt (Elt Ideal) arg2.view R (harg2.unread x1) = fun y => x1 (R.idx y) :=
    fun R => funext fun y => congrFun (harg2.read_unread x1) _
  have w3 : ∀ R : LoadRect S512x1024, View.readAt (Elt Ideal) arg3.view R (harg3.unread x2) = fun y => x2 (R.idx y) :=
    fun R => funext fun y => congrFun (harg3.read_unread x2) _
  have w4 : ∀ R : LoadRect S512x1024, View.readAt (Elt Ideal) arg4.view R (harg4.unread x3) = fun y => x3 (R.idx y) :=
    fun R => funext fun y => congrFun (harg4.read_unread x3) _
  have w5 : ∀ R : LoadRect S512x128, View.readAt (Elt Ideal) arg5.view R (harg5.unread x4) = fun y => x4 (R.idx y) :=
    fun R => funext fun y => congrFun (harg5.read_unread x4) _
  have w6 : ∀ R : LoadRect S512x128, View.readAt (Elt Ideal) arg6.view R (harg6.unread x5) = fun y => x5 (R.idx y) :=
    fun R => funext fun y => congrFun (harg6.read_unread x5) _
  unfold out0_A_7
  rw [View.read_writes_eq_canon _ _ _ (cover0_A_7 c i arg1 harg1 arg2 harg2 arg3 harg3 arg4 harg4 arg5 harg5 arg6 harg6 arg7 harg7 arg8 harg8 arg9 harg9 x0 x1 x2 x3 x4 x5), ← List.append_nil (kernelRun0_A (F := Ideal) c i arg1 harg1 arg2 harg2 arg3 harg3 arg4 harg4 arg5 harg5 arg6 harg6 arg7 harg7 arg8 harg8 arg9 harg9 x0 x1 x2 x3 x4 x5).2.1]
  refine View.canon_append_of_piecesOf (Val := Elt Ideal) (e := .bf16) (G Z C S) [] _ ?_ y (cover0_A_7 c i arg1 harg1 arg2 harg2 arg3 harg3 arg4 harg4 arg5 harg5 arg6 harg6 arg7 harg7 arg8 harg8 arg9 harg9 x0 x1 x2 x3 x4 x5 y)
  unfold kernelRun0_A
  dsimp only
  sl_unfold_words
  simp only [w1, w2, w3, w4, w5, w6]
  refine ⟨?_, ?_, ?_, ?_, ?_, ?_, ?_, ?_, trivial⟩
  · refine key Z C S 7 _ _ ?_ ?_ _ _ (pay1 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg (· * scale) (congrArg x2 (by
        funext a
        fin_cases a
        · exact Fin.ext (by show 0 + 1 * r.val = r.val; omega)
        · exact Fin.ext (by show 896 + 1 * i.val = 896 + i.val; omega)))).trans ((h2 r ⟨896 + i.val, by omega⟩).trans (congrArg (Z r) (Fin.ext (by show 896 + i.val = 7 * 128 + i.val; omega))))
  · refine key Z C S 6 _ _ ?_ ?_ _ _ (pay23 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg (· * scale) (congrArg x2 (by
        funext a
        fin_cases a
        · exact Fin.ext (by show 0 + 1 * r.val = r.val; omega)
        · exact Fin.ext (by show 768 + 1 * i.val = 768 + i.val; omega)))).trans ((h2 r ⟨768 + i.val, by omega⟩).trans (congrArg (Z r) (Fin.ext (by show 768 + i.val = 6 * 128 + i.val; omega))))
  · refine key Z C S 5 _ _ ?_ ?_ _ _ (pay21 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg (· * scale) (congrArg x2 (by
        funext a
        fin_cases a
        · exact Fin.ext (by show 0 + 1 * r.val = r.val; omega)
        · exact Fin.ext (by show 640 + 1 * i.val = 640 + i.val; omega)))).trans ((h2 r ⟨640 + i.val, by omega⟩).trans (congrArg (Z r) (Fin.ext (by show 640 + i.val = 5 * 128 + i.val; omega))))
  · refine key Z C S 4 _ _ ?_ ?_ _ _ (pay17 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg (· * scale) (congrArg x2 (by
        funext a
        fin_cases a
        · exact Fin.ext (by show 0 + 1 * r.val = r.val; omega)
        · exact Fin.ext (by show 512 + 1 * i.val = 512 + i.val; omega)))).trans ((h2 r ⟨512 + i.val, by omega⟩).trans (congrArg (Z r) (Fin.ext (by show 512 + i.val = 4 * 128 + i.val; omega))))
  · refine key Z C S 3 _ _ ?_ ?_ _ _ (pay15 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg (· * scale) (congrArg x2 (by
        funext a
        fin_cases a
        · exact Fin.ext (by show 0 + 1 * r.val = r.val; omega)
        · exact Fin.ext (by show 384 + 1 * i.val = 384 + i.val; omega)))).trans ((h2 r ⟨384 + i.val, by omega⟩).trans (congrArg (Z r) (Fin.ext (by show 384 + i.val = 3 * 128 + i.val; omega))))
  · refine key Z C S 2 _ _ ?_ ?_ _ _ (pay12 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg (· * scale) (congrArg x2 (by
        funext a
        fin_cases a
        · exact Fin.ext (by show 0 + 1 * r.val = r.val; omega)
        · exact Fin.ext (by show 256 + 1 * i.val = 256 + i.val; omega)))).trans ((h2 r ⟨256 + i.val, by omega⟩).trans (congrArg (Z r) (Fin.ext (by show 256 + i.val = 2 * 128 + i.val; omega))))
  · refine key Z C S 1 _ _ ?_ ?_ _ _ (pay9 _ _ _) ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg (· * scale) (congrArg x2 (by
        funext a
        fin_cases a
        · exact Fin.ext (by show 0 + 1 * r.val = r.val; omega)
        · exact Fin.ext (by show 128 + 1 * i.val = 128 + i.val; omega)))).trans ((h2 r ⟨128 + i.val, by omega⟩).trans (congrArg (Z r) (Fin.ext (by show 128 + i.val = 1 * 128 + i.val; omega))))
  · refine key Z C S 0 _ _ ?_ ?_ _ _ rfl ?_
    · exact fun r i => (congrArg x4 (by
        funext a
        fin_cases a
        · exact Fin.ext (by show 0 + 1 * r.val = r.val; omega)
        · exact Fin.ext (by show 0 + 1 * i.val = i.val; omega))).trans (h4 r i)
    · exact fun r i => (congrArg x5 (by
        funext a
        fin_cases a
        · exact Fin.ext (by show 0 + 1 * r.val = r.val; omega)
        · exact Fin.ext (by show 0 + 1 * i.val = i.val; omega))).trans (h5 r i)
    · exact fun r i => (congrArg (· * scale) (congrArg x2 (by
        funext a
        fin_cases a
        · exact Fin.ext (by show 0 + 1 * r.val = r.val; omega)
        · exact Fin.ext (by show 0 + 1 * i.val = 0 + i.val; omega)))).trans ((h2 r ⟨0 + i.val, by omega⟩).trans (congrArg (Z r) (Fin.ext (by show 0 + i.val = 0 * 128 + i.val; omega))))

theorem block8 (y : S512x1024.Idx) : out0_A_8 (F := Ideal) c i arg1 harg1 arg2 harg2 arg3 harg3 arg4 harg4 arg5 harg5 arg6 harg6 arg7 harg7 arg8 harg8 arg9 harg9 x0 x1 x2 x3 x4 x5 y = x3 y := by
  have w1 : ∀ R : LoadRect S512x512, View.readAt (Elt Ideal) arg1.view R (harg1.unread x0) = fun y => x0 (R.idx y) :=
    fun R => funext fun y => congrFun (harg1.read_unread x0) _
  have w2 : ∀ R : LoadRect S512x512, View.readAt (Elt Ideal) arg2.view R (harg2.unread x1) = fun y => x1 (R.idx y) :=
    fun R => funext fun y => congrFun (harg2.read_unread x1) _
  have w3 : ∀ R : LoadRect S512x1024, View.readAt (Elt Ideal) arg3.view R (harg3.unread x2) = fun y => x2 (R.idx y) :=
    fun R => funext fun y => congrFun (harg3.read_unread x2) _
  have w4 : ∀ R : LoadRect S512x1024, View.readAt (Elt Ideal) arg4.view R (harg4.unread x3) = fun y => x3 (R.idx y) :=
    fun R => funext fun y => congrFun (harg4.read_unread x3) _
  have w5 : ∀ R : LoadRect S512x128, View.readAt (Elt Ideal) arg5.view R (harg5.unread x4) = fun y => x4 (R.idx y) :=
    fun R => funext fun y => congrFun (harg5.read_unread x4) _
  have w6 : ∀ R : LoadRect S512x128, View.readAt (Elt Ideal) arg6.view R (harg6.unread x5) = fun y => x5 (R.idx y) :=
    fun R => funext fun y => congrFun (harg6.read_unread x5) _
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5), ← List.append_nil (kernelRun0_A (F := Ideal) c i arg1 harg1 arg2 harg2 arg3 harg3 arg4 harg4 arg5 harg5 arg6 harg6 arg7 harg7 arg8 harg8 arg9 harg9 x0 x1 x2 x3 x4 x5).2.2.1]
  refine View.canon_append_of_piecesOf (Val := Elt Ideal) (e := .bf16) (x3) [] _ ?_ y (cover0_A_8 c i arg1 harg1 arg2 harg2 arg3 harg3 arg4 harg4 arg5 harg5 arg6 harg6 arg7 harg7 arg8 harg8 arg9 harg9 x0 x1 x2 x3 x4 x5 y)
  unfold kernelRun0_A
  dsimp only
  sl_unfold_words
  simp only [w1, w2, w3, w4, w5, w6]
  refine ⟨fun y => ?_, trivial⟩
  exact congrArg x3 (by
    funext a
    fin_cases a
    · exact Fin.ext (by show 0 + 1 * (y 0).val = 0 + 1 * (y 0).val; omega)
    · exact Fin.ext (by show 0 + 1 * (y 1).val = 0 + 1 * (y 1).val; omega))

end Blocks

/-! ## The arrays -/

/-- The cosines of a table. -/
abbrev cosV (A : FVec Ideal S8192x64 .f32) : FVec Ideal S8192x64 .f32 := Host.cos A

/-- The sines of a table. -/
abbrev sinV (A : FVec Ideal S8192x64 .f32) : FVec Ideal S8192x64 .f32 := Host.sin A

/-- A table negated. -/
abbrev negV (A : FVec Ideal S8192x64 .f32) : FVec Ideal S8192x64 .f32 := Host.negf A

/-- The angles. -/
def angle : FVec Ideal S8192x64 .f32 := PrepRetRefIdeal.Read.val_main_v28 (F := Ideal)

/-- The first table: the cosines, twice. -/
def cosT (A : FVec Ideal S8192x64 .f32) (R : Fin 8192) (j : Fin 128) : EReal := cosV A (ix2 R (⟨j.val % 64, by omega⟩ : Fin 64))

/-- The second table: the sines, negated in the first half. -/
def sinT (A : FVec Ideal S8192x64 .f32) (R : Fin 8192) (j : Fin 128) : EReal :=
  if j.val < 64 then -(sinV A (ix2 R (⟨j.val % 64, by omega⟩ : Fin 64)) : EReal) else sinV A (ix2 R (⟨j.val % 64, by omega⟩ : Fin 64))

theorem twice (a : FVec Ideal S8192x64 .f32) (b : FVec Ideal S8192x64 .f32) (R : Fin 8192) (j : Fin 128) :
    concatenate S8192x128 1 [⟨S8192x64, a⟩, ⟨S8192x64, b⟩] concatenates_S8192x64_S8192x64_S8192x128_d1 (ix2 R j)
      = if j.val < 64 then a (ix2 R (⟨j.val % 64, by omega⟩ : Fin 64)) else b (ix2 R (⟨j.val % 64, by omega⟩ : Fin 64)) := by
  pointwise
  by_cases h : j.val < 64
  · rw [dif_pos h, if_pos h]
    exact congrArg a (congrArg (ix2 R) (Fin.ext (by dsimp only; omega)))
  · rw [dif_neg h, if_neg h]
    exact congrArg b (congrArg (ix2 R) (Fin.ext (by dsimp only; omega)))

theorem cos_read (m : (ℓ : Loc nD τ sig) → Buf (Elt Ideal) ℓ) (c : Dev nD) (R : Fin 8192) (j : Fin 128) :
    V m c main_v28 (ix2 R j) = cosT angle R j := by
  have e : V m c main_v28 = concatenate S8192x128 1 [⟨S8192x64, cosV angle⟩, ⟨S8192x64, cosV angle⟩] concatenates_S8192x64_S8192x64_S8192x128_d1 := by
    entry_read
    rfl
  refine (congrFun e _).trans ((twice _ _ R j).trans ?_)
  unfold cosT
  exact ite_self _

theorem sin_read (m : (ℓ : Loc nD τ sig) → Buf (Elt Ideal) ℓ) (c : Dev nD) (R : Fin 8192) (j : Fin 128) :
    V m c main_v30 (ix2 R j) = sinT angle R j := by
  have e : V m c main_v30 = concatenate S8192x128 1 [⟨S8192x64, negV (sinV angle)⟩, ⟨S8192x64, sinV angle⟩] concatenates_S8192x64_S8192x64_S8192x128_d1 := by
    entry_read
    rfl
  refine (congrFun e _).trans ((twice _ _ R j).trans ?_)
  unfold sinT
  rfl

theorem idx : ∀ t : Fin grid0.N, win0_0.index t = ![t.val, 3] ∧ win0_1.index t = ![t.val, 4] ∧ win0_2.index t = ![t.val, 0]
    ∧ win0_3.index t = ![t.val, 1] ∧ win0_4.index t = ![t.val, 0] ∧ win0_5.index t = ![t.val, 0]
    ∧ win0_6.index t = ![t.val, 0] ∧ win0_7.index t = ![t.val, 0] ∧ win0_8.index t = ![t.val, 0] ∧ (grid0.coords t 0).val = t.val := by
  decide +kernel

/-- A block's row in the array. -/
abbrev row (i : grid0.Coords) (r : Fin 512) : Fin 8192 := ⟨512 * (i 0).val + r.val, by have h : (i 0).val < 16 := (i 0).isLt; omega⟩

theorem outs6 (m : (ℓ : Loc nD τ sig) → Buf (Elt Ideal) ℓ) (c : Dev nD) (t : Fin cfg0.N) :
    (outsAt0 (F := Ideal) m c t).1 = out0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (X0_2 m c t) (X0_3 m c t) (iblk m c 4 t) (iblk m c 5 t) := by
  simp only [outsAt0]

theorem outs7 (m : (ℓ : Loc nD τ sig) → Buf (Elt Ideal) ℓ) (c : Dev nD) (t : Fin cfg0.N) :
    (outsAt0 (F := Ideal) m c t).2.1 = out0_A_7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (X0_2 m c t) (X0_3 m c t) (iblk m c 4 t) (iblk m c 5 t) := by
  simp only [outsAt0]

theorem outs8 (m : (ℓ : Loc nD τ sig) → Buf (Elt Ideal) ℓ) (c : Dev nD) (t : Fin cfg0.N) :
    (outsAt0 (F := Ideal) m c t).2.2 = out0_A_8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (X0_2 m c t) (X0_3 m c t) (iblk m c 4 t) (iblk m c 5 t) := by
  simp only [outsAt0]

section Holds

variable (m : (ℓ : Loc nD τ sig) → Buf (Elt Ideal) ℓ) (c : Dev nD) (t : Fin cfg0.N)

/-- The queries, by row and column. -/
def q (R : Fin 8192) (k : Fin 1024) : EReal := m ((c.tc : Thread nD τ).loc main_arg1) (ix2 R (⟨1536 + k.val, by omega⟩ : Fin 11264))

/-- The scaled keys, by row and column. -/
def kk (R : Fin 8192) (k : Fin 1024) : EReal := scaled (m ((c.tc : Thread nD τ).loc main_arg0) (ix2 R (⟨k.val, by omega⟩ : Fin 2176)))

/-- The values, by row and column. -/
def v (R : Fin 8192) (k : Fin 1024) : EReal := m ((c.tc : Thread nD τ).loc main_arg0) (ix2 R (⟨1024 + k.val, by omega⟩ : Fin 2176))

theorem holds0 (r : Fin 512) (k : Fin 512) : (iblk m c 0 t : Vec Ideal S512x512 .bf16) (ix2 r k) = q m c (row (grid0.coords t) r) ⟨k.val, by omega⟩ := by
  obtain ⟨e0, e1, e2, e3, e4, e5, e6, e7, e8, et⟩ := idx t
  unfold q
  blk_ext! [iblk, V, e0]

theorem holds1 (r : Fin 512) (k : Fin 512) : (iblk m c 1 t : Vec Ideal S512x512 .bf16) (ix2 r k) = q m c (row (grid0.coords t) r) ⟨512 + k.val, by omega⟩ := by
  obtain ⟨e0, e1, e2, e3, e4, e5, e6, e7, e8, et⟩ := idx t
  unfold q
  blk_ext! [iblk, V, e1]

theorem holds2 (r : Fin 512) (k : Fin 1024) : scaled ((X0_2 m c t : Vec Ideal S512x1024 .f32) (ix2 r k)) = kk m c (row (grid0.coords t) r) k := by
  obtain ⟨e0, e1, e2, e3, e4, e5, e6, e7, e8, et⟩ := idx t
  unfold kk X0_2 Pipeline.Window.fill
  rw [dif_pos (moved0_2 t (ix2 r k))]
  refine congrArg scaled ?_
  blk_ext! [iblk, V, e2]

theorem holds3 (r : Fin 512) (k : Fin 1024) : (X0_3 m c t : Vec Ideal S512x1024 .f32) (ix2 r k) = v m c (row (grid0.coords t) r) k := by
  obtain ⟨e0, e1, e2, e3, e4, e5, e6, e7, e8, et⟩ := idx t
  unfold v X0_3 Pipeline.Window.fill
  rw [dif_pos (moved0_3 t (ix2 r k))]
  blk_ext! [iblk, V, e3]

theorem holds4 (r : Fin 512) (k : Fin 128) : (iblk m c 4 t : Vec Ideal S512x128 .f32) (ix2 r k) = cosT angle (row (grid0.coords t) r) k := by
  obtain ⟨e0, e1, e2, e3, e4, e5, e6, e7, e8, et⟩ := idx t
  refine Eq.trans ?_ (cos_read m c (row (grid0.coords t) r) k)
  blk_ext! [iblk, e4]

theorem holds5 (r : Fin 512) (k : Fin 128) : (iblk m c 5 t : Vec Ideal S512x128 .f32) (ix2 r k) = sinT angle (row (grid0.coords t) r) k := by
  obtain ⟨e0, e1, e2, e3, e4, e5, e6, e7, e8, et⟩ := idx t
  refine Eq.trans ?_ (sin_read m c (row (grid0.coords t) r) k)
  blk_ext! [iblk, e5]

end Holds

theorem arr6 (m : (ℓ : Loc nD τ sig) → Buf (Elt Ideal) ℓ) (c : Dev nD) :
    (dats m 0 c).arrAt 6 cfg0.N = fun i : S8192x1024.Idx => rope (q m c (i 0)) (cosT angle (i 0)) (sinT angle (i 0)) (i 1) := by
  refine Pipeline.Dat.arrAt_eq_of_covers _ 6 _ (by decide +kernel) fun t _ y => ?_
  blk_simp
  rw [after0_6]
  rw [outs6]
  obtain ⟨r, k, rfl⟩ : ∃ (r : Fin 512) (k : Fin 1024), y = ix2 r k := ⟨y 0, y 1, by funext a; fin_cases a <;> rfl⟩
  refine (block6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (X0_2 m c t) (X0_3 m c t) (iblk m c 4 t) (iblk m c 5 t) (fun r => q m c (row (grid0.coords t) r)) (fun r => cosT angle (row (grid0.coords t) r)) (fun r => sinT angle (row (grid0.coords t) r)) (holds0 m c t) (holds1 m c t) (holds4 m c t) (holds5 m c t) _).trans ?_
  obtain ⟨e0, e1, e2, e3, e4, e5, e6, e7, e8, et⟩ := idx t
  have a : row (grid0.coords t) r = (win0_6.blk t).view.emb (ix2 r k) 0 := Fin.ext (by blk_simp [e6]; dsimp only; omega)
  have b : k = (win0_6.blk t).view.emb (ix2 r k) 1 := Fin.ext (by blk_simp [e6])
  exact congrArg₂ (fun (R : Fin 8192) (k : Fin 1024) => rope (q m c R) (cosT angle R) (sinT angle R) k) a b

theorem arr7 (m : (ℓ : Loc nD τ sig) → Buf (Elt Ideal) ℓ) (c : Dev nD) :
    (dats m 0 c).arrAt 7 cfg0.N = fun i : S8192x1024.Idx => rope (kk m c (i 0)) (cosT angle (i 0)) (sinT angle (i 0)) (i 1) := by
  refine Pipeline.Dat.arrAt_eq_of_covers _ 7 _ (by decide +kernel) fun t _ y => ?_
  blk_simp
  rw [after0_7]
  rw [outs7]
  obtain ⟨r, k, rfl⟩ : ∃ (r : Fin 512) (k : Fin 1024), y = ix2 r k := ⟨y 0, y 1, by funext a; fin_cases a <;> rfl⟩
  refine (block7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (X0_2 m c t) (X0_3 m c t) (iblk m c 4 t) (iblk m c 5 t) (fun r => kk m c (row (grid0.coords t) r)) (fun r => cosT angle (row (grid0.coords t) r)) (fun r => sinT angle (row (grid0.coords t) r)) (holds2 m c t) (holds4 m c t) (holds5 m c t) _).trans ?_
  obtain ⟨e0, e1, e2, e3, e4, e5, e6, e7, e8, et⟩ := idx t
  have a : row (grid0.coords t) r = (win0_7.blk t).view.emb (ix2 r k) 0 := Fin.ext (by blk_simp [e7]; dsimp only; omega)
  have b : k = (win0_7.blk t).view.emb (ix2 r k) 1 := Fin.ext (by blk_simp [e7])
  exact congrArg₂ (fun (R : Fin 8192) (k : Fin 1024) => rope (kk m c R) (cosT angle R) (sinT angle R) k) a b

theorem arr8 (m : (ℓ : Loc nD τ sig) → Buf (Elt Ideal) ℓ) (c : Dev nD) :
    (dats m 0 c).arrAt 8 cfg0.N = fun i : S8192x1024.Idx => v m c (i 0) (i 1) := by
  refine Pipeline.Dat.arrAt_eq_of_covers _ 8 _ (by decide +kernel) fun t _ y => ?_
  blk_simp
  rw [after0_8]
  rw [outs8]
  obtain ⟨r, k, rfl⟩ : ∃ (r : Fin 512) (k : Fin 1024), y = ix2 r k := ⟨y 0, y 1, by funext a; fin_cases a <;> rfl⟩
  refine (block8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (X0_2 m c t) (X0_3 m c t) (iblk m c 4 t) (iblk m c 5 t) _).trans ?_
  obtain ⟨e0, e1, e2, e3, e4, e5, e6, e7, e8, et⟩ := idx t
  have a : row (grid0.coords t) r = (win0_8.blk t).view.emb (ix2 r k) 0 := Fin.ext (by blk_simp [e8]; dsimp only; omega)
  have b : k = (win0_8.blk t).view.emb (ix2 r k) 1 := Fin.ext (by blk_simp [e8])
  refine (holds3 m c t r k).trans ?_
  exact congrArg₂ (fun (R : Fin 8192) (k : Fin 1024) => v m c R k) a b

section Reference

open PrepRetRefIdeal.Read

variable (R : Fin 8192) (h : Fin 8) (j : Fin 128)

/-- A head's row turned as the reference does: the halves apart. -/
theorem halves (z : Fin 128 → EReal) (A : FVec Ideal S8192x64 .f32) :
    turned z (cosT A R) (sinT A R) j = if h0 : j.val < 64
      then z ⟨j.val, by omega⟩ * cosV A (ix2 R (⟨j.val, h0⟩ : Fin 64)) - z ⟨64 + j.val, by omega⟩ * sinV A (ix2 R (⟨j.val, h0⟩ : Fin 64))
      else z ⟨j.val - 64, by omega⟩ * sinV A (ix2 R (⟨j.val - 64, by omega⟩ : Fin 64))
        + z ⟨64 + (j.val - 64), by omega⟩ * cosV A (ix2 R (⟨j.val - 64, by omega⟩ : Fin 64)) := by
  unfold turned cosT sinT
  by_cases h0 : j.val < 64
  · have e1 : j.val % 64 = j.val := by omega
    have e2 : (j.val + 64) % 128 = 64 + j.val := by omega
    rw [dif_pos h0, if_pos h0]
    simp only [e1, e2]
    rw [mul_neg, ← sub_eq_add_neg]
  · have e1 : j.val % 64 = j.val - 64 := by omega
    have e2 : (j.val + 64) % 128 = j.val - 64 := by omega
    have e3 : 64 + (j.val - 64) = j.val := by omega
    rw [dif_neg h0, if_neg h0]
    simp only [e1, e2, e3]
    exact add_comm _ _

theorem ref95 (x1 : Vec Ideal S8192x11264 .bf16) : val_main_v95 (F := Ideal) x1 (ix2 R (⟨h.val * 128 + j.val, by omega⟩ : Fin 1024))
    = turned (fun i => x1 (ix2 R (⟨1536 + (h.val * 128 + i.val), by omega⟩ : Fin 11264))) (cosT angle R) (sinT angle R) j := by
  have e1 : (h.val * 128 + j.val) / 128 = h.val := by omega
  have e2 : (h.val * 128 + j.val) % 128 = j.val := by omega
  rw [halves]
  unfold angle val_main_v95 val_main_v94 val_main_v45 val_main_v44 val_main_v43 val_main_v42 val_main_v41 val_main_v40 val_main_v39 val_main_v38 val_main_v37 val_main_v36 val_main_v35 val_main_v34 val_main_v33 val_main_v32 val_main_v31 val_main_v30 val_main_v29 val_main_v2 val_main_v1 val_main_v0
  generalize val_main_v28 (F := Ideal) = A
  pointwise

theorem ref97 (x0 : Vec Ideal S8192x2176 .f32) : val_main_v97 (F := Ideal) x0 (ix2 R (⟨h.val * 128 + j.val, by omega⟩ : Fin 1024))
    = turned (fun i => x0 (ix2 R (⟨h.val * 128 + i.val, by omega⟩ : Fin 2176)) * scale) (cosT angle R) (sinT angle R) j := by
  have e1 : (h.val * 128 + j.val) / 128 = h.val := by omega
  have e2 : (h.val * 128 + j.val) % 128 = j.val := by omega
  have e : angle = val_main_v75 (F := Ideal) := rfl
  rw [halves, e]
  unfold val_main_v97 val_main_v96 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v49 val_main_v48 val_main_v47 val_main_v46 val_main_cst_1
  generalize val_main_v75 (F := Ideal) = A
  pointwise

theorem ref98 (x0 : Vec Ideal S8192x2176 .f32) (k : Fin 1024) :
    val_main_v98 (F := Ideal) x0 (ix2 R k) = x0 (ix2 R (⟨1024 + k.val, by omega⟩ : Fin 2176)) := by
  unfold val_main_v98 val_main_v93
  pointwise

end Reference

/-- A column is a place of a head. -/
theorem of_head (k : Fin 1024) : ∃ (h : Fin 8) (j : Fin 128), k = ⟨h.val * 128 + j.val, by omega⟩ :=
  ⟨⟨k.val / 128, by omega⟩, ⟨k.val % 128, by omega⟩, Fin.ext (by dsimp only; omega)⟩

attribute [local instance] Cert.PrepRetIdeal.Gen.facts Cert.PrepRetRefIdeal.Gen.facts

theorem algebraic : algebraic_PrepRetIdeal_PrepRetRefIdeal := by
  intro m g m' g' _ harg
  refine ⟨_, _, _, θ_run_mono (Value.run_blocks m g) fun r hr c =>
      ⟨(hr c).1.trans (arr6 m c), (hr c).2.1.trans (arr7 m c), (hr c).2.2.1.trans (arr8 m c), (hr c).2.2.2⟩,
    θ_run_mono (PrepRetRefIdeal.Value.run m' g') fun r hr c => ?_⟩
  obtain ⟨a0, a1⟩ := harg c
  obtain ⟨r0, r1, r2, ra⟩ := hr c
  refine ⟨r0.trans ?_, r1.trans ?_, r2.trans ?_, ra⟩
  · rw [PrepRetRefIdeal.Read.val_main_v95_eq, a1]
    funext i
    obtain ⟨r, k, rfl⟩ : ∃ (r : Fin 8192) (k : Fin 1024), i = ix2 r k := ⟨i 0, i 1, by funext a; fin_cases a <;> rfl⟩
    obtain ⟨h, j, rfl⟩ := of_head k
    exact (ref95 r h j _).trans (rope_at (q m c r) _ _ h j).symm
  · rw [PrepRetRefIdeal.Read.val_main_v97_eq, a0]
    funext i
    obtain ⟨r, k, rfl⟩ : ∃ (r : Fin 8192) (k : Fin 1024), i = ix2 r k := ⟨i 0, i 1, by funext a; fin_cases a <;> rfl⟩
    obtain ⟨h, j, rfl⟩ := of_head k
    exact (ref97 r h j _).trans (rope_at (kk m c r) _ _ h j).symm
  · rw [PrepRetRefIdeal.Read.val_main_v98_eq, a0]
    funext i
    obtain ⟨r, k, rfl⟩ : ∃ (r : Fin 8192) (k : Fin 1024), i = ix2 r k := ⟨i 0, i 1, by funext a; fin_cases a <;> rfl⟩
    exact ref98 r _ k

/-- The reference leaves its arguments and declares no semaphore. -/
theorem frameRef (m : (ℓ : Loc PrepRetRefIdeal.nD PrepRetRefIdeal.τ PrepRetRefIdeal.sig) → Buf (Elt Ideal) ℓ) (g : Dev PrepRetRefIdeal.nD → PrngReg) :
    θ_run (PrepRetRefIdeal.defs (F := Ideal)) (onTc (τ := PrepRetRefIdeal.τ) (PrepRetRefIdeal.main (F := Ideal))) ⟨m, fun _ => 0, g⟩ (fun r => (∀ c : Dev PrepRetRefIdeal.nD,
      r.2.mem ((c.tc : Thread PrepRetRefIdeal.nD PrepRetRefIdeal.τ).loc PrepRetRefIdeal.main_arg0) = m ((c.tc : Thread PrepRetRefIdeal.nD PrepRetRefIdeal.τ).loc PrepRetRefIdeal.main_arg0)
      ∧ r.2.mem ((c.tc : Thread PrepRetRefIdeal.nD PrepRetRefIdeal.τ).loc PrepRetRefIdeal.main_arg1) = m ((c.tc : Thread PrepRetRefIdeal.nD PrepRetRefIdeal.τ).loc PrepRetRefIdeal.main_arg1))
      ∧ r.2.sem = fun _ => 0) :=
  θ_run_mono (PrepRetRefIdeal.Value.run m g) fun r h => And.intro (fun c => (h c).2.2.2) (sem_eq_zero_of_no_sems (by decide) r.2)

end Cert.PrepRetIdeal.Rotary

end
-- ==== Proof.Casts.lean ====
/-
  The weights' casts: each grid point stores a block of the weights, and the blocks tile the result.
-/
module

public import proofs.«01_k».proof.Proof.Norm
public import proofs.«01_k».proof.Proof.Gen.CastKvIdeal.Value
public import proofs.«01_k».proof.Proof.Gen.CastKvRefIdeal
public import proofs.«01_k».proof.Proof.Gen.CastKvRefIdeal.Run
public import proofs.«01_k».proof.Proof.Gen.CastKvRefIdeal.Read
public import Idealize.ShloMosaic.Lib.Pipeline.ValueKit
public import Idealize.ShloMosaic.Lib.Pipeline.ReadBack
public import proofs.«01_k».proof.Proof.Gen.CastOutIdeal.Value
public import proofs.«01_k».proof.Proof.Gen.CastOutRefIdeal
public import proofs.«01_k».proof.Proof.Gen.CastOutRefIdeal.Run
public import proofs.«01_k».proof.Proof.Gen.CastOutRefIdeal.Read

@[expose] public section

set_option maxRecDepth 16384

noncomputable section

namespace Cert.CastOutIdeal.Weights

open Idealize.ShloMosaic Idealize.ShloMosaic.TcCoe Idealize.ShloMosaic.Tactic Idealize.SL.Sem Cert.CastOutIdeal.Gen

/-- The first layer of the weights. -/
def layer (w : S2x4096x4096.Idx → EReal) (i : S1x4096x4096.Idx) : EReal := w (ix3 0 (i 1) (i 2))

theorem idx : ∀ t : Fin grid0.N, win0_0.index t = ![0, t.val / 2, t.val % 2] ∧ win0_1.index t = ![0, t.val / 2, t.val % 2] := by
  decide +kernel

theorem arr (m : (ℓ : Loc nD τ sig) → Buf (Elt Ideal) ℓ) (c : Dev nD) :
    (dats m 0 c).arrAt 1 cfg0.N = layer (m ((c.tc : Thread nD τ).loc main_arg0)) := by
  refine Pipeline.Dat.arrAt_eq_of_covers _ 1 _ (by decide +kernel) fun t _ y => ?_
  blk_simp
  rw [after0_1]
  frame_out
  obtain ⟨e0, e1⟩ := idx t
  obtain ⟨z, r, k, rfl⟩ : ∃ (z : Fin 1) (r : Fin 1024) (k : Fin 2048), y = ix3 z r k := ⟨y 0, y 1, y 2, by funext a; fin_cases a <;> rfl⟩
  obtain rfl : z = 0 := Subsingleton.elim _ _
  unfold layer k0_pay1
  blk_ext! [iblk, V, e0, e1]

theorem ref_apply (w : Vec Ideal S2x4096x4096 .f32) (r k : Fin 4096) :
    CastOutRefIdeal.Read.val_main_v1 (F := Ideal) w (ix3 0 r k) = layer w (ix3 0 r k) := by
  unfold CastOutRefIdeal.Read.val_main_v1 CastOutRefIdeal.Read.val_main_v0
  pointwise
  rfl

attribute [local instance] Cert.CastOutIdeal.Gen.facts Cert.CastOutRefIdeal.Gen.facts

theorem algebraic : algebraic_CastOutIdeal_CastOutRefIdeal := by
  intro m g m' g' _ harg
  refine ⟨_, θ_run_mono (Value.run_blocks m g) fun r hr c => ⟨(hr c).1.trans (arr m c), (hr c).2⟩,
    θ_run_mono (CastOutRefIdeal.Value.run m' g') fun r hr c => ?_⟩
  obtain ⟨r0, ra⟩ := hr c
  refine ⟨r0.trans ?_, ra⟩
  rw [CastOutRefIdeal.Read.val_main_v1_eq, harg c]
  funext i
  obtain ⟨z, r, k, rfl⟩ : ∃ (z : Fin 1) (r k : Fin 4096), i = ix3 z r k := ⟨i 0, i 1, i 2, by funext a; fin_cases a <;> rfl⟩
  obtain rfl : z = 0 := Subsingleton.elim _ _
  exact ref_apply _ r k

/-- The reference leaves its arguments and declares no semaphore. -/
theorem frameRef (m : (ℓ : Loc CastOutRefIdeal.nD CastOutRefIdeal.τ CastOutRefIdeal.sig) → Buf (Elt Ideal) ℓ) (g : Dev CastOutRefIdeal.nD → PrngReg) :
    θ_run (CastOutRefIdeal.defs (F := Ideal)) (onTc (τ := CastOutRefIdeal.τ) (CastOutRefIdeal.main (F := Ideal))) ⟨m, fun _ => 0, g⟩ (fun r => (∀ c : Dev CastOutRefIdeal.nD,
      r.2.mem ((c.tc : Thread CastOutRefIdeal.nD CastOutRefIdeal.τ).loc CastOutRefIdeal.main_arg0) = m ((c.tc : Thread CastOutRefIdeal.nD CastOutRefIdeal.τ).loc CastOutRefIdeal.main_arg0))
      ∧ r.2.sem = fun _ => 0) :=
  θ_run_mono (CastOutRefIdeal.Value.run m g) fun r h => And.intro (fun c => (h c).2) (sem_eq_zero_of_no_sems (by decide) r.2)

end Cert.CastOutIdeal.Weights

namespace Cert.CastKvIdeal.Weights

open Idealize.ShloMosaic Idealize.ShloMosaic.TcCoe Idealize.ShloMosaic.Tactic Idealize.SL.Sem Cert.CastKvIdeal.Gen

/-- The first columns of the first layer of the weights, transposed. -/
def layer (w : S2x4096x13344.Idx → EReal) (i : S1x2176x4096.Idx) : EReal :=
  w (ix3 0 (i 2) (⟨(i 1).val, by have h : (i 1).val < 2176 := (i 1).isLt; omega⟩ : Fin 13344))

theorem idx : ∀ t : Fin grid0.N, win0_0.index t = ![0, t.val / 8, t.val % 8] ∧ win0_1.index t = ![0, t.val / 8, t.val % 8] := by
  decide +kernel

theorem pay_eq (x : Vec Ideal S1x1088x512 .f32) : k0_pay1 (F := Ideal) x = x := by
  unfold k0_pay1
  simp only [shapeCast_self]
  rfl

theorem block (c : Dev nD) (i : grid0.Coords) (arg2 : Memref sig .tc .vmem S1x1088x512 .f32) (harg2 : arg2.IsWhole)
    (arg3 : Memref sig .tc .vmem S1x1088x512 .bf16) (harg3 : arg3.IsWhole) (x0 : Vec Ideal S1x1088x512 .f32) (y : S1x1088x512.Idx) :
    out0_A_1 (F := Ideal) c i arg2 harg2 arg3 harg3 x0 y = x0 y := by
  have w : ∀ R : LoadRect S1x1088x512, View.readAt (Elt Ideal) arg2.view R (harg2.unread x0) = fun y => x0 (R.idx y) :=
    fun R => funext fun y => congrFun (harg2.read_unread x0) _
  unfold out0_A_1
  rw [View.read_writes_eq_canon _ _ _ (cover0_A_1 c i arg2 harg2 arg3 harg3 x0), ← List.append_nil (kernelRun0_A (F := Ideal) c i arg2 harg2 arg3 harg3 x0).1]
  refine View.canon_append_of_piecesOf (Val := Elt Ideal) (e := .bf16) x0 [] _ ?_ y (cover0_A_1 c i arg2 harg2 arg3 harg3 x0 y)
  unfold kernelRun0_A
  dsimp only
  sl_unfold_words
  simp only [w]
  refine ⟨fun y => ?_, trivial⟩
  refine (congrFun (pay_eq _) y).trans ?_
  exact congrArg x0 (by
    funext a
    fin_cases a
    · exact Fin.ext (by show 0 + 1 * (y 0).val = 0 + 1 * (y 0).val; omega)
    · exact Fin.ext (by show 0 + 1 * (y 1).val = 0 + 1 * (y 1).val; omega)
    · exact Fin.ext (by show 0 + 1 * (y 2).val = 0 + 1 * (y 2).val; omega))

theorem turned_read (m : (ℓ : Loc nD τ sig) → Buf (Elt Ideal) ℓ) (c : Dev nD) (r : Fin 13344) (k : Fin 4096) :
    V m c main_v0 (ix3 0 r k) = m ((c.tc : Thread nD τ).loc main_arg0) (ix3 0 k r) := by
  entry_read
  pointwise

theorem outs (m : (ℓ : Loc nD τ sig) → Buf (Elt Ideal) ℓ) (c : Dev nD) (t : Fin cfg0.N) :
    outsAt0 (F := Ideal) m c t = out0_A_1 c (grid0.coords t) (ms0_0 t) (hs0_0 t) (ms0_1 t) (hs0_1 t) (X0_0 m c t) := by
  simp only [outsAt0]

theorem arr (m : (ℓ : Loc nD τ sig) → Buf (Elt Ideal) ℓ) (c : Dev nD) :
    (dats m 0 c).arrAt 1 cfg0.N = layer (m ((c.tc : Thread nD τ).loc main_arg0)) := by
  refine Pipeline.Dat.arrAt_eq_of_covers _ 1 _ (by decide +kernel) fun t _ y => ?_
  blk_simp
  rw [after0_1]
  rw [outs]
  obtain ⟨e0, e1⟩ := idx t
  obtain ⟨z, r, k, rfl⟩ : ∃ (z : Fin 1) (r : Fin 1088) (k : Fin 512), y = ix3 z r k := ⟨y 0, y 1, y 2, by funext a; fin_cases a <;> rfl⟩
  obtain rfl : z = 0 := Subsingleton.elim _ _
  refine (block c (grid0.coords t) (ms0_0 t) (hs0_0 t) (ms0_1 t) (hs0_1 t) (X0_0 m c t) _).trans ?_
  unfold layer X0_0 Pipeline.Window.fill
  rw [dif_pos (moved0_0 t (ix3 0 r k))]
  refine Eq.trans ?_ (turned_read m c _ _)
  blk_ext! [iblk, e0, e1]

theorem ref_apply (w : Vec Ideal S2x4096x13344 .f32) (r : Fin 2176) (k : Fin 4096) :
    CastKvRefIdeal.Read.val_main_v2 (F := Ideal) w (ix3 0 r k) = layer w (ix3 0 r k) := by
  unfold CastKvRefIdeal.Read.val_main_v2 CastKvRefIdeal.Read.val_main_v1 CastKvRefIdeal.Read.val_main_v0
  pointwise
  rfl

attribute [local instance] Cert.CastKvIdeal.Gen.facts Cert.CastKvRefIdeal.Gen.facts

theorem algebraic : algebraic_CastKvIdeal_CastKvRefIdeal := by
  intro m g m' g' _ harg
  refine ⟨_, θ_run_mono (Value.run_blocks m g) fun r hr c => ⟨(hr c).1.trans (arr m c), (hr c).2⟩,
    θ_run_mono (CastKvRefIdeal.Value.run m' g') fun r hr c => ?_⟩
  obtain ⟨r0, ra⟩ := hr c
  refine ⟨r0.trans ?_, ra⟩
  rw [CastKvRefIdeal.Read.val_main_v2_eq, harg c]
  funext i
  obtain ⟨z, r, k, rfl⟩ : ∃ (z : Fin 1) (r : Fin 2176) (k : Fin 4096), i = ix3 z r k := ⟨i 0, i 1, i 2, by funext a; fin_cases a <;> rfl⟩
  obtain rfl : z = 0 := Subsingleton.elim _ _
  exact ref_apply _ r k

/-- The reference leaves its arguments and declares no semaphore. -/
theorem frameRef (m : (ℓ : Loc CastKvRefIdeal.nD CastKvRefIdeal.τ CastKvRefIdeal.sig) → Buf (Elt Ideal) ℓ) (g : Dev CastKvRefIdeal.nD → PrngReg) :
    θ_run (CastKvRefIdeal.defs (F := Ideal)) (onTc (τ := CastKvRefIdeal.τ) (CastKvRefIdeal.main (F := Ideal))) ⟨m, fun _ => 0, g⟩ (fun r => (∀ c : Dev CastKvRefIdeal.nD,
      r.2.mem ((c.tc : Thread CastKvRefIdeal.nD CastKvRefIdeal.τ).loc CastKvRefIdeal.main_arg0) = m ((c.tc : Thread CastKvRefIdeal.nD CastKvRefIdeal.τ).loc CastKvRefIdeal.main_arg0))
      ∧ r.2.sem = fun _ => 0) :=
  θ_run_mono (CastKvRefIdeal.Value.run m g) fun r h => And.intro (fun c => (h c).2) (sem_eq_zero_of_no_sems (by decide) r.2)

end Cert.CastKvIdeal.Weights

end
-- ==== Proof.Pieces.lean ====
/-
  What one grid point of the scan stores, case by case, as one list of blocks. A point works through four sub-chunks of 128 rows, each through
  eight heads; `Pt` holds what the point reads (its rows in both directions and the nine scratch buffers, head by head), `sfAt` and `sbAt` the
  two states after some sub-chunks. Every store of the body is then a block `yaP`, `ybP`, `sfAt` or `sbAt` at its sub-chunk and head.
-/
module

public import proofs.«01_k».proof.Proof.Gen.KernelIdeal.Frame
public import Idealize.ShloMosaic.Lib.Pipeline.ReadBack

@[expose] public section

set_option maxRecDepth 16384

noncomputable section

namespace Cert.KernelIdeal.Scan

open Idealize.ShloMosaic Idealize.ShloMosaic.TcCoe Idealize.ShloMosaic.Tactic Cert.KernelIdeal.Gen

variable {F : FTy → Type} [FloatOps F]

/-- The rectangle of sub-chunk `u` and head `h` in a block of 512 rows. -/
def rowsR (u : Fin 4) (h : Fin 8) : Rect S512x1024 :=
  Rect.unit (s := S512x1024) ![128 * u.val, 128 * h.val] S128x128.size (by
    intro a; obtain ⟨u, hu⟩ := u; obtain ⟨h, hh⟩ := h
    fin_cases a
    · show 128 * u + 128 ≤ 512; omega
    · show 128 * h + 128 ≤ 1024; omega)

/-- The rectangle of head `h` in a state. -/
def headR (h : Fin 8) : Rect S8x128x128 :=
  Rect.unit (s := S8x128x128) ![h.val, 0, 0] S1x128x128.size (by
    intro a; obtain ⟨h, hh⟩ := h
    fin_cases a
    · show h + 1 ≤ 8; omega
    · show 0 + 128 ≤ 128; omega
    · show 0 + 128 ≤ 128; omega)

/-- A block's rows of sub-chunk `u`, columns of head `h`. -/
def blk (x : Vec F S512x1024 .bf16) (u : Fin 4) (h : Fin 8) : Vec F S128x128 .bf16 := View.ld x (rowsR u h)

/-- A state's head `h`. -/
def hd (x : Vec F S8x128x128 .f32) (h : Fin 8) : Vec F S1x128x128 .f32 := View.ld x (headR h)

/-- What a grid point reads. -/
structure Pt (F : FTy → Type) [FloatOps F] where
  qi : Vec F S512x1024 .bf16
  ki : Vec F S512x1024 .bf16
  vi : Vec F S512x1024 .bf16
  qj : Vec F S512x1024 .bf16
  kj : Vec F S512x1024 .bf16
  vj : Vec F S512x1024 .bf16
  sf : Fin 8 → Vec F S1x128x128 .f32
  sb : Fin 8 → Vec F S1x128x128 .f32
  dm : Fin 8 → Vec F S1x128x128 .f32
  fo : Fin 8 → Vec F S1x128x128 .f32
  fu : Fin 8 → Vec F S1x128x128 .f32
  fa : Fin 8 → Vec F S1x128x128 .f32
  bo : Fin 8 → Vec F S1x128x128 .f32
  bu : Fin 8 → Vec F S1x128x128 .f32
  ba : Fin 8 → Vec F S1x128x128 .f32

/-- The sub-chunk the reverse direction works on while the forward one is at `u`. -/
def rev (u : Fin 4) : Fin 4 := ⟨3 - u.val, by omega⟩

/-- The sub-chunk of a step. -/
def sub (n : ℕ) : Fin 4 := ⟨n % 4, Nat.mod_lt _ (by decide)⟩

/-- The forward state of head `h` after `n` sub-chunks of the point. -/
def sfAt (D : Pt F) : ℕ → Fin 8 → Vec F S1x128x128 .f32
  | 0, h => D.sf h
  | n + 1, h => k0_pay136 (k0_pay95 (blk D.ki (sub n) h) (D.fu h) (blk D.vi (sub n) h)) (D.fa h) (sfAt D n h)

/-- The backward state of head `h` after `n` sub-chunks of the point. -/
def sbAt (D : Pt F) : ℕ → Fin 8 → Vec F S1x128x128 .f32
  | 0, h => D.sb h
  | n + 1, h => k0_pay136 (k0_pay95 (blk D.kj (rev (sub n)) h) (D.bu h) (blk D.vj (rev (sub n)) h)) (D.ba h) (sbAt D n h)

/-- The rows of the first output at sub-chunk `u`, head `h`: the part within the chunk and the part from the forward state. -/
def yaP (D : Pt F) (u : Fin 4) (h : Fin 8) : Vec F S128x128 .f32 :=
  k0_pay115 (k0_pay87 (blk D.qi u h) (blk D.ki u h)) (D.dm h) (blk D.qi u h) (D.fo h) (blk D.vi u h) (sfAt D u.val h)

/-- The rows of the second output at sub-chunk `u` of the reverse block, head `h`: the part from the backward state. -/
def ybP (D : Pt F) (u : Fin 4) (h : Fin 8) : Vec F S128x128 .f32 :=
  k0_pay116 (blk D.qj u h) (D.bo h) (sbAt D (3 - u.val) h)

/-- The heads, the last stored first. -/
def heads : List (Fin 8) := [7, 6, 5, 4, 3, 2, 1, 0]

/-- The stores into the first output, last first. -/
def yaL (D : Pt F) : List (View.Piece (Elt F) S512x1024 .f32) :=
  [3, 2, 1, 0].flatMap fun u => heads.map fun h => ⟨rowsR u h, yaP D u h⟩

/-- The stores into the second output, last first. -/
def ybL (D : Pt F) : List (View.Piece (Elt F) S512x1024 .f32) :=
  [0, 1, 2, 3].flatMap fun u => heads.map fun h => ⟨rowsR u h, ybP D u h⟩

/-- One store per head, last first. -/
def headsL (x : Fin 8 → Vec F S1x128x128 .f32) : List (View.Piece (Elt F) S8x128x128 .f32) :=
  heads.map fun h => ⟨headR h, x h⟩

/-- The log decay rates of direction `a`, head `h`, in one tile of the rates. -/
def rateR (a : Fin 2) (h : Fin 8) : Rect S2x8x8x128 :=
  Rect.unit (s := S2x8x8x128) ![a.val, h.val, 0, 0] S1x1x8x128.size (by
    intro x; obtain ⟨a, ha⟩ := a; obtain ⟨h, hh⟩ := h
    fin_cases x
    · show a + 1 ≤ 2; omega
    · show h + 1 ≤ 8; omega
    · show 0 + 8 ≤ 8; omega
    · show 0 + 128 ≤ 128; omega)

/-- The log decay of direction `a` and head `h`, over a tile. -/
def lg (x0 : Vec F S2x8x8x128 .f32) (a : Fin 2) (h : Fin 8) : FVec F S128x128 .f32 := k0_pay7 (View.ld x0 (rateR a h))

variable (c : Dev nD) (i : grid0.Coords)
  (arg1 : Memref sig .tc .vmem S2x8x8x128 .f32) (harg1 : arg1.IsWhole) (arg2 : Memref sig .tc .vmem S512x1024 .bf16) (harg2 : arg2.IsWhole)
  (arg3 : Memref sig .tc .vmem S512x1024 .bf16) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S512x1024 .bf16) (harg6 : arg6.IsWhole)
  (arg7 : Memref sig .tc .vmem S512x1024 .bf16) (harg7 : arg7.IsWhole) (arg8 : Memref sig .tc .vmem S8x128x128 .f32) (harg8 : arg8.IsWhole)
  (arg9 : Memref sig .tc .vmem S8x128x128 .f32) (harg9 : arg9.IsWhole) (arg10 : Memref sig .tc .vmem S512x1024 .f32) (harg10 : arg10.IsWhole)
  (arg11 : Memref sig .tc .vmem S512x1024 .f32) (harg11 : arg11.IsWhole) (arg12 : Memref sig .tc .vmem S8x128x128 .f32) (harg12 : arg12.IsWhole)
  (arg13 : Memref sig .tc .vmem S8x128x128 .f32) (harg13 : arg13.IsWhole) (arg14 : Memref sig .tc .vmem S8x128x128 .f32) (harg14 : arg14.IsWhole)
  (arg15 : Memref sig .tc .vmem S8x128x128 .f32) (harg15 : arg15.IsWhole) (arg16 : Memref sig .tc .vmem S8x128x128 .f32) (harg16 : arg16.IsWhole)
  (arg17 : Memref sig .tc .vmem S8x128x128 .f32) (harg17 : arg17.IsWhole) (arg18 : Memref sig .tc .vmem S8x128x128 .f32) (harg18 : arg18.IsWhole)
  (arg19 : Memref sig .tc .vmem S8x128x128 .f32) (harg19 : arg19.IsWhole) (arg20 : Memref sig .tc .vmem S8x128x128 .f32) (harg20 : arg20.IsWhole)
  (arg21 : Memref sig .tc .vmem S8x128x128 .f32) (harg21 : arg21.IsWhole) (arg22 : Memref sig .tc .vmem S8x128x128 .f32) (harg22 : arg22.IsWhole)
  (x0 : Vec F S2x8x8x128 .f32) (x1 x2 x3 x4 x5 x6 : Vec F S512x1024 .bf16) (x7 x8 xs0 xs1 xs2 xs3 xs4 xs5 xs6 xs7 xs8 : Vec F S8x128x128 .f32)

/-- A later point's reads: the scratch as the point before left it. -/
def ptB : Pt F := ⟨x1, x2, x3, x4, x5, x6, hd xs0, hd xs1, hd xs2, hd xs3, hd xs4, hd xs5, hd xs6, hd xs7, hd xs8⟩

/-- The first point's reads: the states are the two initial ones, the other scratch what the point itself has just stored. -/
def ptA : Pt F :=
  ⟨x1, x2, x3, x4, x5, x6, hd x7, hd x8, fun h => k0_pay9 k0_pay5 k0_pay6 (lg x0 0 h) (lg x0 1 h),
    fun h => k0_pay10 k0_pay5 (lg x0 0 h), fun h => k0_pay11 k0_pay5 (lg x0 0 h), fun h => k0_pay12 (lg x0 0 h),
    fun h => k0_pay14 (k0_pay13 k0_pay5 (lg x0 1 h)), fun h => k0_pay15 k0_pay5 (lg x0 1 h), fun h => k0_pay16 (lg x0 1 h)⟩

/-- A copy of a state is the state. -/
theorem pay3_eq (x : Vec F S8x128x128 .f32) : k0_pay3 x = x := shapeCast_self _ _

theorem ld_all (x : Vec F S8x128x128 .f32) :
    View.ld x (Rect.unit (s := S8x128x128) ![0, 0, 0] ![8, 128, 128] inb_S8x128x128_S8x128x128_0_0_0) = x :=
  View.ld_unit_zero (S := S8x128x128) (off := ![0, 0, 0]) (by funext a; fin_cases a <;> rfl) inb_S8x128x128_S8x128x128_0_0_0 x

theorem pay4_eq (x : Vec F S8x128x128 .f32) : k0_pay4 x = x := shapeCast_self _ _

/-- The first output at the first point. -/
theorem ya_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).1 = yaL (ptA x0 x1 x2 x3 x4 x5 x6 x7 x8) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  simp only [pay3_eq, pay4_eq, ld_all]
  rfl

/-- The second output at the first point. -/
theorem yb_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.1 = ybL (ptA x0 x1 x2 x3 x4 x5 x6 x7 x8) := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  simp only [pay3_eq, pay4_eq, ld_all]
  rfl

/-- The forward state at the first point. -/
theorem sf_A (hc0 : cond0_0 i) (hc1 : ¬cond0_1 i) :
    ∃ rest, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.1 = headsL (sfAt (ptA x0 x1 x2 x3 x4 x5 x6 x7 x8) 4) ++ rest := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  simp only [pay3_eq, pay4_eq, ld_all]
  exact ⟨_, rfl⟩

/-- The backward state at the first point. -/
theorem sb_A (hc0 : cond0_0 i) (hc1 : ¬cond0_1 i) :
    ∃ rest, (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.2.1 = headsL (sbAt (ptA x0 x1 x2 x3 x4 x5 x6 x7 x8) 4) ++ rest := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  simp only [pay3_eq, pay4_eq, ld_all]
  exact ⟨_, rfl⟩

/-- The first output at a middle point. -/
theorem ya_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).1 = yaL (ptB x1 x2 x3 x4 x5 x6 xs0 xs1 xs2 xs3 xs4 xs5 xs6 xs7 xs8) := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  rfl

/-- The second output at a middle point. -/
theorem yb_B (hc0 : ¬cond0_0 i) (hc1 : ¬cond0_1 i) :
    (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).2.1 = ybL (ptB x1 x2 x3 x4 x5 x6 xs0 xs1 xs2 xs3 xs4 xs5 xs6 xs7 xs8) := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  rfl

/-- The forward state at a middle point. -/
theorem sf_B (hc0 : ¬cond0_0 i) (hc1 : ¬cond0_1 i) :
    ∃ rest, (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).2.2.2.2.1 = headsL (sfAt (ptB x1 x2 x3 x4 x5 x6 xs0 xs1 xs2 xs3 xs4 xs5 xs6 xs7 xs8) 4) ++ rest := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  exact ⟨_, rfl⟩

/-- The backward state at a middle point. -/
theorem sb_B (hc0 : ¬cond0_0 i) (hc1 : ¬cond0_1 i) :
    ∃ rest, (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).2.2.2.2.2.1 = headsL (sbAt (ptB x1 x2 x3 x4 x5 x6 xs0 xs1 xs2 xs3 xs4 xs5 xs6 xs7 xs8) 4) ++ rest := by
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  exact ⟨_, rfl⟩

/-- The first output at the last point. -/
theorem ya_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).1 = yaL (ptB x1 x2 x3 x4 x5 x6 xs0 xs1 xs2 xs3 xs4 xs5 xs6 xs7 xs8) := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  rfl

/-- The second output at the last point. -/
theorem yb_C (hc0 : ¬cond0_0 i) (hc1 : cond0_1 i) :
    (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).2.1 = ybL (ptB x1 x2 x3 x4 x5 x6 xs0 xs1 xs2 xs3 xs4 xs5 xs6 xs7 xs8) := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  rfl

/-- The forward state at the last point. -/
theorem sf_C (hc0 : ¬cond0_0 i) (hc1 : cond0_1 i) :
    ∃ rest, (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).2.2.2.2.1 = headsL (sfAt (ptB x1 x2 x3 x4 x5 x6 xs0 xs1 xs2 xs3 xs4 xs5 xs6 xs7 xs8) 4) ++ rest := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  exact ⟨_, rfl⟩

/-- The backward state at the last point. -/
theorem sb_C (hc0 : ¬cond0_0 i) (hc1 : cond0_1 i) :
    ∃ rest, (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).2.2.2.2.2.1 = headsL (sbAt (ptB x1 x2 x3 x4 x5 x6 xs0 xs1 xs2 xs3 xs4 xs5 xs6 xs7 xs8) 4) ++ rest := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  exact ⟨_, rfl⟩

/-- The forward state given out by the last point. -/
theorem finf_C (hc0 : ¬cond0_0 i) (hc1 : cond0_1 i) :
    ∃ rest, (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).2.2.1 =
      [⟨Rect.unit (s := S8x128x128) ![0, 0, 0] S8x128x128.size inb_S8x128x128_S8x128x128_0_0_0,
        arg14.view.readCov (headsL (sfAt (ptB x1 x2 x3 x4 x5 x6 xs0 xs1 xs2 xs3 xs4 xs5 xs6 xs7 xs8) 4) ++ rest)
          (Rect.unit (s := S8x128x128) ![0, 0, 0] S8x128x128.size inb_S8x128x128_S8x128x128_0_0_0).toLoadRect⟩] := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  exact ⟨_, rfl⟩

/-- The backward state given out by the last point. -/
theorem finb_C (hc0 : ¬cond0_0 i) (hc1 : cond0_1 i) :
    ∃ rest, (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8 xs0 xs1 xs2 xs3 xs4 xs5 xs6 xs7 xs8).2.2.2.1 =
      [⟨Rect.unit (s := S8x128x128) ![0, 0, 0] S8x128x128.size inb_S8x128x128_S8x128x128_0_0_0,
        arg15.view.readCov (headsL (sbAt (ptB x1 x2 x3 x4 x5 x6 xs0 xs1 xs2 xs3 xs4 xs5 xs6 xs7 xs8) 4) ++ rest)
          (Rect.unit (s := S8x128x128) ![0, 0, 0] S8x128x128.size inb_S8x128x128_S8x128x128_0_0_0).toLoadRect⟩] := by
  unfold kernelRun0_C
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  simp (disch := decide) only [↓View.readCov_cons_toLoadRect, ↓View.readCov_skip, ↓View.readCov_fill]
  exact ⟨_, rfl⟩

/-- Scratch 2 at the first point. -/
theorem dm_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.2.2.1 = headsL (ptA x0 x1 x2 x3 x4 x5 x6 x7 x8).dm := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  rfl

/-- Scratch 3 at the first point. -/
theorem fo_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.2.2.2.1 = headsL (ptA x0 x1 x2 x3 x4 x5 x6 x7 x8).fo := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  rfl

/-- Scratch 4 at the first point. -/
theorem fu_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.2.2.2.2.1 = headsL (ptA x0 x1 x2 x3 x4 x5 x6 x7 x8).fu := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  rfl

/-- Scratch 5 at the first point. -/
theorem fa_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.2.2.2.2.2.1 = headsL (ptA x0 x1 x2 x3 x4 x5 x6 x7 x8).fa := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  rfl

/-- Scratch 6 at the first point. -/
theorem bo_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.2.2.2.2.2.2.1 = headsL (ptA x0 x1 x2 x3 x4 x5 x6 x7 x8).bo := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  rfl

/-- Scratch 7 at the first point. -/
theorem bu_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.2.2.2.2.2.2.2.1 = headsL (ptA x0 x1 x2 x3 x4 x5 x6 x7 x8).bu := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  rfl

/-- Scratch 8 at the first point. -/
theorem ba_A (hc0 : cond0_0 i) (hc1 : ¬cond0_1 i) :
    (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 hc0 hc1 x0 x1 x2 x3 x4 x5 x6 x7 x8).2.2.2.2.2.2.2.2.2.2.2.2.1 = headsL (ptA x0 x1 x2 x3 x4 x5 x6 x7 x8).ba := by
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg14.read_unread, harg15.read_unread, harg16.read_unread, harg17.read_unread, harg18.read_unread, harg19.read_unread, harg20.read_unread, harg21.read_unread, harg22.read_unread]
  rfl

end Cert.KernelIdeal.Scan

end
-- ==== Proof.Chunks.lean ====
/-
  The chunked recurrence and the whole sum, over the real numbers. A retention's state is carried from chunk to chunk of 128 rows; unrolled,
  it is one sum over all rows before (forward) or after (backward) the chunk, each with the decay of its distance. From this the two outputs
  of a row — the part within its chunk, the part from the state before it and the part from the state after it — add up to the two sums over
  the whole sequence.
-/
module

public import Mathlib.Analysis.SpecialFunctions.Exp
public import Mathlib.Algebra.BigOperators.Intervals
public import Mathlib.Algebra.BigOperators.Fin
public import Mathlib.Tactic.Ring
public import Mathlib.Tactic.Linarith

@[expose] public section

set_option maxRecDepth 16384

noncomputable section

namespace Cert.Retention

open scoped BigOperators

/-- The forward state of one entry before chunk `n`, as the chunks carry it. -/
def fwd (g s0 : ℝ) (k v : ℕ → ℝ) : ℕ → ℝ
  | 0 => s0
  | n + 1 => Real.exp (g * 128) * fwd g s0 k v n + ∑ r : Fin 128, (k (128 * n + r) * Real.exp (g * (127 - (r : ℕ)))) * v (128 * n + r)

/-- The backward state of one entry before the `n`-th chunk from the end of `64`: chunk `63 - n` is the next one it takes in. -/
def bwd (g s0 : ℝ) (k v : ℕ → ℝ) : ℕ → ℝ
  | 0 => s0
  | n + 1 => Real.exp (g * 128) * bwd g s0 k v n
      + ∑ r : Fin 128, (k (128 * (63 - n) + r) * Real.exp (g * (r : ℕ))) * v (128 * (63 - n) + r)

/-- The forward state unrolled. -/
theorem fwd_eq (g s0 : ℝ) (k v : ℕ → ℝ) (n : ℕ) :
    fwd g s0 k v n = Real.exp (g * (128 * n : ℕ)) * s0
      + ∑ s ∈ Finset.range (128 * n), Real.exp (g * ((128 * n : ℕ) - 1 - s)) * (k s * v s) := by
  induction n with
  | zero => simp [fwd]
  | succ n ih =>
    rw [fwd, ih, mul_add, Finset.mul_sum, show 128 * (n + 1) = 128 * n + 128 by ring, Finset.sum_range_add, ← add_assoc, ← mul_assoc,
      ← Real.exp_add, Finset.sum_range (n := 128)]
    congr 1
    · congr 1
      · congr 2; push_cast; ring
      · refine Finset.sum_congr rfl fun s _ => ?_
        rw [← mul_assoc, ← Real.exp_add]; congr 2; push_cast; ring
    · refine Finset.sum_congr rfl fun r _ => ?_
      rw [mul_right_comm, mul_comm]; congr 2; push_cast; ring

/-- The backward state unrolled. -/
theorem bwd_eq (g s0 : ℝ) (k v : ℕ → ℝ) (n : ℕ) (hn : n ≤ 64) :
    bwd g s0 k v n = Real.exp (g * (128 * n : ℕ)) * s0
      + ∑ x ∈ Finset.range (128 * n), Real.exp (g * x) * (k (128 * (64 - n) + x) * v (128 * (64 - n) + x)) := by
  induction n with
  | zero => simp [bwd]
  | succ n ih =>
    have e1 : 63 - n = 64 - (n + 1) := by omega
    have e2 : 64 - n = 64 - (n + 1) + 1 := by omega
    rw [bwd, ih (by omega), mul_add, Finset.mul_sum, show 128 * (n + 1) = 128 + 128 * n by ring, Finset.sum_range_add, ← mul_assoc,
      ← Real.exp_add, Finset.sum_range (n := 128), e1, e2, add_assoc]
    congr 1
    · congr 2; push_cast; ring
    · rw [add_comm]
      congr 1
      · refine Finset.sum_congr rfl fun r _ => ?_
        ring
      · refine Finset.sum_congr rfl fun x _ => ?_
        rw [← mul_assoc, ← Real.exp_add]
        rw [show 128 * (64 - (n + 1) + 1) + x = 128 * (64 - (n + 1)) + (128 + x) by ring]
        congr 2; push_cast; ring

/-- The rows before a chunk, seen by row `r` of the chunk: scores against each row, or the query against the unrolled state. -/
theorem before_chunk (g : ℝ) (q : Fin 128 → ℝ) (k : ℕ → Fin 128 → ℝ) (v : ℕ → ℝ) (N r : ℕ) :
    ∑ s ∈ Finset.range N, (∑ d, q d * k s d) * Real.exp (g * ((N + r : ℕ) - s)) * v s
      = ∑ d, (q d * Real.exp (g * (r + 1))) * ∑ s ∈ Finset.range N, Real.exp (g * ((N : ℕ) - 1 - s)) * (k s d * v s) := by
  simp only [Finset.mul_sum, Finset.sum_mul]
  rw [Finset.sum_comm]
  refine Finset.sum_congr rfl fun d _ => Finset.sum_congr rfl fun s _ => ?_
  rw [show g * ((N + r : ℕ) - s) = g * (r + 1) + g * ((N : ℕ) - 1 - s) by push_cast; ring, Real.exp_add]
  ring

/-- The rows after a chunk of 128, seen by row `r` of the chunk. -/
theorem after_chunk (g : ℝ) (q : Fin 128 → ℝ) (k : ℕ → Fin 128 → ℝ) (v : ℕ → ℝ) (N M r : ℕ) :
    ∑ x ∈ Finset.range M, (∑ d, q d * k (N + 128 + x) d) * Real.exp (g * ((N + 128 + x : ℕ) - (N + r : ℕ))) * v (N + 128 + x)
      = ∑ d, (q d * Real.exp (g * (128 - r))) * ∑ x ∈ Finset.range M, Real.exp (g * x) * (k (N + 128 + x) d * v (N + 128 + x)) := by
  simp only [Finset.mul_sum, Finset.sum_mul]
  rw [Finset.sum_comm]
  refine Finset.sum_congr rfl fun d _ => Finset.sum_congr rfl fun s _ => ?_
  rw [show g * ((N + 128 + s : ℕ) - (N + r : ℕ) : ℝ) = g * (128 - r) + g * s by push_cast; ring, Real.exp_add]
  ring

/-- The decay of a pair of rows within a chunk, both directions at once: each row meets itself twice. -/
def mask (gf gb : ℝ) (i j : ℕ) : ℝ := if j < i then Real.exp (gf * (i - j)) else if i < j then Real.exp (gb * (j - i)) else 2

/-- What a row receives, chunk by chunk, is what it receives from the whole sequence in the two directions. -/
theorem row_eq (gf gb : ℝ) (q : Fin 128 → ℝ) (k : ℕ → Fin 128 → ℝ) (v : ℕ → ℝ) (sf sb : Fin 128 → ℝ) (n r : ℕ) (hn : n < 64) (hr : r < 128) :
    (∑ j : Fin 128, (∑ d, q d * k (128 * n + j) d) * mask gf gb r j * v (128 * n + j)
        + ∑ d, (q d * Real.exp (gf * (r + 1))) * fwd gf (sf d) (fun s => k s d) v n)
      + ∑ d, (q d * Real.exp (gb * (128 - r))) * bwd gb (sb d) (fun s => k s d) v (63 - n)
    = (∑ s ∈ Finset.range 8192, (∑ d, q d * k s d) * (if s ≤ 128 * n + r then Real.exp (gf * ((128 * n + r : ℕ) - s)) else 0) * v s
        + ∑ d, (q d * Real.exp (gf * ((128 * n + r : ℕ) + 1))) * sf d)
      + (∑ s ∈ Finset.range 8192, (∑ d, q d * k s d) * (if 128 * n + r ≤ s then Real.exp (gb * (s - (128 * n + r : ℕ))) else 0) * v s
        + ∑ d, (q d * Real.exp (gb * (8192 - (128 * n + r : ℕ)))) * sb d) := by
  have hM : 8192 = 128 * n + 128 + 128 * (63 - n) := by omega
  have hB : 64 - (63 - n) = n + 1 := by omega
  have hf : ∑ d, (q d * Real.exp (gf * (r + 1))) * fwd gf (sf d) (fun s => k s d) v n
      = ∑ d, (q d * Real.exp (gf * ((128 * n + r : ℕ) + 1))) * sf d
        + ∑ s ∈ Finset.range (128 * n), (∑ d, q d * k s d) * Real.exp (gf * ((128 * n + r : ℕ) - s)) * v s := by
    rw [before_chunk, ← Finset.sum_add_distrib]
    refine Finset.sum_congr rfl fun d _ => ?_
    rw [fwd_eq, mul_add, ← mul_assoc, mul_assoc (q d), ← Real.exp_add]
    congr 4; push_cast; ring
  have hb : ∑ d, (q d * Real.exp (gb * (128 - r))) * bwd gb (sb d) (fun s => k s d) v (63 - n)
      = ∑ d, (q d * Real.exp (gb * (8192 - (128 * n + r : ℕ)))) * sb d
        + ∑ x ∈ Finset.range (128 * (63 - n)), (∑ d, q d * k (128 * n + 128 + x) d)
            * Real.exp (gb * ((128 * n + 128 + x : ℕ) - (128 * n + r : ℕ))) * v (128 * n + 128 + x) := by
    rw [after_chunk, ← Finset.sum_add_distrib]
    refine Finset.sum_congr rfl fun d _ => ?_
    rw [bwd_eq _ _ _ _ _ (by omega), mul_add, ← mul_assoc, mul_assoc (q d), ← Real.exp_add, hB,
      show 128 * (n + 1) = 128 * n + 128 by ring]
    congr 4
    have : ((63 - n : ℕ) : ℝ) = 63 - n := by rw [Nat.cast_sub (by omega)]; norm_num
    push_cast [this]; ring
  have h1 : ∑ s ∈ Finset.range 8192, (∑ d, q d * k s d) * (if s ≤ 128 * n + r then Real.exp (gf * ((128 * n + r : ℕ) - s)) else 0) * v s
      = ∑ s ∈ Finset.range (128 * n), (∑ d, q d * k s d) * Real.exp (gf * ((128 * n + r : ℕ) - s)) * v s
        + ∑ j ∈ Finset.range 128, (∑ d, q d * k (128 * n + j) d) * (if j ≤ r then Real.exp (gf * (r - j)) else 0) * v (128 * n + j) := by
    rw [hM, Finset.sum_range_add, Finset.sum_range_add]
    conv_rhs => rw [← add_zero (_ + _)]
    congr 1
    · congr 1
      · refine Finset.sum_congr rfl fun s hs => ?_
        rw [Finset.mem_range] at hs
        rw [if_pos (by omega)]
      · refine Finset.sum_congr rfl fun j _ => ?_
        by_cases h : j ≤ r
        · rw [if_pos h, if_pos (by omega)]; congr 3; push_cast; ring
        · rw [if_neg h, if_neg (by omega)]
    · refine Finset.sum_eq_zero fun x _ => ?_
      rw [if_neg (by omega)]; ring
  have h2 : ∑ s ∈ Finset.range 8192, (∑ d, q d * k s d) * (if 128 * n + r ≤ s then Real.exp (gb * (s - (128 * n + r : ℕ))) else 0) * v s
      = ∑ j ∈ Finset.range 128, (∑ d, q d * k (128 * n + j) d) * (if r ≤ j then Real.exp (gb * (j - r)) else 0) * v (128 * n + j)
        + ∑ x ∈ Finset.range (128 * (63 - n)), (∑ d, q d * k (128 * n + 128 + x) d)
            * Real.exp (gb * ((128 * n + 128 + x : ℕ) - (128 * n + r : ℕ))) * v (128 * n + 128 + x) := by
    rw [hM, Finset.sum_range_add, Finset.sum_range_add]
    congr 1
    · conv_rhs => rw [← zero_add (Finset.sum _ _)]
      congr 1
      · refine Finset.sum_eq_zero fun x hx => ?_
        rw [Finset.mem_range] at hx
        rw [if_neg (by omega)]; ring
      · refine Finset.sum_congr rfl fun j _ => ?_
        by_cases h : r ≤ j
        · rw [if_pos h, if_pos (by omega)]; congr 3; push_cast; ring
        · rw [if_neg h, if_neg (by omega)]
    · refine Finset.sum_congr rfl fun x _ => ?_
      rw [if_pos (by omega)]
  have h3 : ∑ j : Fin 128, (∑ d, q d * k (128 * n + j) d) * mask gf gb r j * v (128 * n + j)
      = ∑ j ∈ Finset.range 128, (∑ d, q d * k (128 * n + j) d) * (if j ≤ r then Real.exp (gf * (r - j)) else 0) * v (128 * n + j)
        + ∑ j ∈ Finset.range 128, (∑ d, q d * k (128 * n + j) d) * (if r ≤ j then Real.exp (gb * (j - r)) else 0) * v (128 * n + j) := by
    rw [← Finset.sum_add_distrib, Finset.sum_range (n := 128)]
    refine Finset.sum_congr rfl fun j _ => ?_
    rw [← add_mul, ← mul_add]
    congr 2
    rcases lt_trichotomy (j : ℕ) r with h | h | h
    · rw [mask, if_pos h, if_pos h.le, if_neg (by omega), add_zero]
    · rw [mask, h, if_neg (lt_irrefl _), if_neg (lt_irrefl _), if_pos le_rfl, if_pos le_rfl]; norm_num
    · rw [mask, if_neg (by omega), if_pos h, if_neg (by omega), if_pos h.le, zero_add]
  rw [hf, hb, h1, h2, h3]
  ring

end Cert.Retention

end
-- ==== Proof.Payloads.lean ====
/-
  The blocks one grid point stores, over the reals: when what the point reads is real numbers, so is each block, and its entries are the
  within-chunk sums and the states of the chunked recurrence.
-/
module

public import proofs.«01_k».proof.Proof.Pieces
public import proofs.«01_k».proof.Proof.Chunks
public import Idealize.ShloMosaic.Lib.Pointwise

@[expose] public section

set_option maxRecDepth 16384

noncomputable section

namespace Cert.KernelIdeal.Scan

open Idealize.ShloMosaic Idealize.ShloMosaic.TcCoe Idealize.ShloMosaic.Tactic Cert.KernelIdeal.Gen Cert.Retention

/-- The log decay rate of a logit: minus the softplus of minus it. -/
def rate (x : ℝ) : ℝ := -Real.log (1 + Real.exp (-x))

theorem coe_sum {ι : Type*} (s : Finset ι) (f : ι → ℝ) : ((∑ i ∈ s, f i : ℝ) : EReal) = ∑ i ∈ s, (f i : EReal) :=
  map_sum (⟨⟨Real.toEReal, rfl⟩, EReal.coe_add⟩ : ℝ →+ EReal) f s

theorem log1p_exp (x : ℝ) : (0 : EReal) - Ideal.log1p (Ideal.exp (0 - (x : EReal))) = ((rate x : ℝ) : EReal) := by
  have h : (0 : EReal) - (x : EReal) = ((-x : ℝ) : EReal) := by rw [zero_sub]; rfl
  have hp : ¬ (1 + Real.exp (-x) ≤ 0) := not_le.mpr (by positivity)
  rw [h, Ideal.exp_coe, Ideal.log1p, show (1 : EReal) + ((Real.exp (-x) : ℝ) : EReal) = ((1 + Real.exp (-x) : ℝ) : EReal) by push_cast; rfl,
    Ideal.log_coe, if_neg hp, zero_sub, ← EReal.coe_neg]
  rfl

theorem pay5_apply (i j : Fin 128) : k0_pay5 (F := Ideal) (ix2 i j) = ((i.val : ℝ) : EReal) := by
  have h : (BitVec.ofNat 32 i.val).toInt = i.val := by
    rw [BitVec.toInt_eq_toNat_of_lt (by rw [BitVec.toNat_ofNat]; omega), BitVec.toNat_ofNat]; omega
  unfold k0_pay5
  pointwise
  show (((BitVec.ofNat 32 i.val).toInt : ℝ) : EReal) = _
  rw [h]; norm_cast

theorem pay6_apply (i j : Fin 128) : k0_pay6 (F := Ideal) (ix2 i j) = ((j.val : ℝ) : EReal) := by
  have h : (BitVec.ofNat 32 j.val).toInt = j.val := by
    rw [BitVec.toInt_eq_toNat_of_lt (by rw [BitVec.toNat_ofNat]; omega), BitVec.toNat_ofNat]; omega
  unfold k0_pay6
  pointwise
  show (((BitVec.ofNat 32 j.val).toInt : ℝ) : EReal) = _
  rw [h]; norm_cast

theorem lit1 : Ideal.ofBits .f32 0x3F800000#32 = ((1 : ℝ) : EReal) := by
  simp [Ideal.ofBits, Ideal.ieee]; rw [← EReal.coe_mul]; norm_num
theorem lit2 : Ideal.ofBits .f32 0x40000000#32 = ((2 : ℝ) : EReal) := by
  simp [Ideal.ofBits, Ideal.ieee, -EReal.coe_mul]; norm_num
theorem lit127 : Ideal.ofBits .f32 0x42FE0000#32 = ((127 : ℝ) : EReal) := by
  simp [Ideal.ofBits, Ideal.ieee]; rw [← EReal.coe_mul]; norm_num
theorem lit128 : Ideal.ofBits .f32 0x43000000#32 = ((128 : ℝ) : EReal) := by
  simp [Ideal.ofBits, Ideal.ieee]; rw [← EReal.coe_mul]; norm_num

theorem blk_apply (x : Vec Ideal S512x1024 .bf16) (u : Fin 4) (h : Fin 8) (i j : Fin 128) :
    blk x u h (ix2 i j) = x (ix2 ⟨128 * u.val + i.val, by omega⟩ ⟨128 * h.val + j.val, by omega⟩) := by
  unfold blk rowsR
  pointwise

theorem hd_apply (x : Vec Ideal S8x128x128 .f32) (h : Fin 8) (i j : Fin 128) : hd x h (ix3 0 i j) = x (ix3 h i j) := by
  unfold hd headR
  pointwise

theorem lg_apply (x0 : Vec Ideal S2x8x8x128 .f32) (a : Fin 2) (h : Fin 8) (i j : Fin 128) (t : ℝ) (ht : x0 (ix4 a h 0 j) = (t : EReal)) :
    lg x0 a h (ix2 i j) = ((rate t : ℝ) : EReal) := by
  unfold lg rateR k0_pay7
  pointwise
  rw [ht, log1p_exp]

/-- The call's arguments as real numbers. -/
structure Src where
  q : ℕ → ℕ → ℝ
  k : ℕ → ℕ → ℝ
  v : ℕ → ℕ → ℝ
  lr : Fin 2 → Fin 8 → ℝ
  sf : Fin 8 → Fin 128 → Fin 128 → ℝ
  sb : Fin 8 → Fin 128 → Fin 128 → ℝ

namespace Src

variable (S : Src)

/-- The log decay of direction `a`, head `h`. -/
def g (a : Fin 2) (h : Fin 8) : ℝ := rate (S.lr a h)

/-- An entry of the forward state before chunk `n`. -/
def fw (h : Fin 8) (d e : Fin 128) (n : ℕ) : ℝ :=
  fwd (S.g 0 h) (S.sf h d e) (fun s => S.k s (128 * h.val + d.val)) (fun s => S.v s (128 * h.val + e.val)) n

/-- An entry of the backward state before the `n`-th chunk from the end. -/
def bw (h : Fin 8) (d e : Fin 128) (n : ℕ) : ℝ :=
  bwd (S.g 1 h) (S.sb h d e) (fun s => S.k s (128 * h.val + d.val)) (fun s => S.v s (128 * h.val + e.val)) n

theorem fw_succ (h : Fin 8) (d e : Fin 128) (n : ℕ) :
    S.fw h d e (n + 1) = Real.exp (S.g 0 h * 128) * S.fw h d e n
      + ∑ r : Fin 128, (S.k (128 * n + r) (128 * h.val + d.val) * Real.exp (S.g 0 h * (127 - (r : ℕ)))) * S.v (128 * n + r) (128 * h.val + e.val) := rfl

theorem bw_succ (h : Fin 8) (d e : Fin 128) (n : ℕ) :
    S.bw h d e (n + 1) = Real.exp (S.g 1 h * 128) * S.bw h d e n
      + ∑ r : Fin 128, (S.k (128 * (63 - n) + r) (128 * h.val + d.val) * Real.exp (S.g 1 h * (r : ℕ)))
          * S.v (128 * (63 - n) + r) (128 * h.val + e.val) := rfl

/-- What row `i` of chunk `n` receives from its own chunk and from the forward state. -/
def ya (h : Fin 8) (n : ℕ) (i j : Fin 128) : ℝ :=
  ∑ s : Fin 128, (∑ d : Fin 128, S.q (128 * n + i.val) (128 * h.val + d.val) * S.k (128 * n + s.val) (128 * h.val + d.val))
      * mask (S.g 0 h) (S.g 1 h) i.val s.val * S.v (128 * n + s.val) (128 * h.val + j.val)
    + ∑ d : Fin 128, (S.q (128 * n + i.val) (128 * h.val + d.val) * Real.exp (S.g 0 h * (i.val + 1))) * S.fw h d j n

/-- What row `i` of chunk `n` receives from the backward state. -/
def yb (h : Fin 8) (n : ℕ) (i j : Fin 128) : ℝ :=
  ∑ d : Fin 128, (S.q (128 * n + i.val) (128 * h.val + d.val) * Real.exp (S.g 1 h * (128 - i.val))) * S.bw h d j (63 - n)

/-- The point's reads are those of grid point `t`. -/
structure Reads (t : ℕ) (D : Pt Ideal) : Prop where
  qi : ∀ (r : Fin 512) (c : Fin 1024), D.qi (ix2 r c) = ((S.q (512 * t + r.val) c.val : ℝ) : EReal)
  ki : ∀ (r : Fin 512) (c : Fin 1024), D.ki (ix2 r c) = ((S.k (512 * t + r.val) c.val : ℝ) : EReal)
  vi : ∀ (r : Fin 512) (c : Fin 1024), D.vi (ix2 r c) = ((S.v (512 * t + r.val) c.val : ℝ) : EReal)
  qj : ∀ (r : Fin 512) (c : Fin 1024), D.qj (ix2 r c) = ((S.q (512 * (15 - t) + r.val) c.val : ℝ) : EReal)
  kj : ∀ (r : Fin 512) (c : Fin 1024), D.kj (ix2 r c) = ((S.k (512 * (15 - t) + r.val) c.val : ℝ) : EReal)
  vj : ∀ (r : Fin 512) (c : Fin 1024), D.vj (ix2 r c) = ((S.v (512 * (15 - t) + r.val) c.val : ℝ) : EReal)
  sf : ∀ (h : Fin 8) (d e : Fin 128), D.sf h (ix3 0 d e) = ((S.fw h d e (4 * t) : ℝ) : EReal)
  sb : ∀ (h : Fin 8) (d e : Fin 128), D.sb h (ix3 0 d e) = ((S.bw h d e (4 * t) : ℝ) : EReal)
  dm : ∀ (h : Fin 8) (i j : Fin 128), D.dm h (ix3 0 i j) = ((mask (S.g 0 h) (S.g 1 h) i.val j.val : ℝ) : EReal)
  fo : ∀ (h : Fin 8) (i j : Fin 128), D.fo h (ix3 0 i j) = ((Real.exp (S.g 0 h * (i.val + 1)) : ℝ) : EReal)
  fu : ∀ (h : Fin 8) (i j : Fin 128), D.fu h (ix3 0 i j) = ((Real.exp (S.g 0 h * (127 - i.val)) : ℝ) : EReal)
  fa : ∀ (h : Fin 8) (i j : Fin 128), D.fa h (ix3 0 i j) = ((Real.exp (S.g 0 h * 128) : ℝ) : EReal)
  bo : ∀ (h : Fin 8) (i j : Fin 128), D.bo h (ix3 0 i j) = ((Real.exp (S.g 1 h * (128 - i.val)) : ℝ) : EReal)
  bu : ∀ (h : Fin 8) (i j : Fin 128), D.bu h (ix3 0 i j) = ((Real.exp (S.g 1 h * i.val) : ℝ) : EReal)
  ba : ∀ (h : Fin 8) (i j : Fin 128), D.ba h (ix3 0 i j) = ((Real.exp (S.g 1 h * 128) : ℝ) : EReal)

variable {S} {t : ℕ} {D : Pt Ideal}

/-- The forward state after `n` sub-chunks. -/
theorem Reads.sfAt (H : S.Reads t D) (h : Fin 8) (d e : Fin 128) :
    ∀ n, n ≤ 4 → Scan.sfAt D n h (ix3 0 d e) = ((S.fw h d e (4 * t + n) : ℝ) : EReal)
  | 0, _ => H.sf h d e
  | n + 1, hn => by
    have hs : (sub n).val = n := Nat.mod_eq_of_lt (by omega)
    rw [Scan.sfAt, k0_pay136, k0_pay95]
    pointwise
    simp only [blk_apply, H.ki, H.vi, H.fu, H.fa, H.sfAt h d e n (by omega), hs]
    rw [← add_assoc, S.fw_succ]
    simp only [EReal.coe_add, EReal.coe_mul, coe_sum]
    refine congrArg₂ (· + ·) rfl (Finset.sum_congr rfl fun r _ => ?_)
    rw [show 512 * t + (128 * n + r.val) = 128 * (4 * t + n) + r.val by ring]

/-- The backward state after `n` sub-chunks. -/
theorem Reads.sbAt (H : S.Reads t D) (ht : t < 16) (h : Fin 8) (d e : Fin 128) :
    ∀ n, n ≤ 4 → Scan.sbAt D n h (ix3 0 d e) = ((S.bw h d e (4 * t + n) : ℝ) : EReal)
  | 0, _ => H.sb h d e
  | n + 1, hn => by
    have hs : (rev (sub n)).val = 3 - n := congrArg (3 - ·) (Nat.mod_eq_of_lt (by omega))
    rw [Scan.sbAt, k0_pay136, k0_pay95]
    pointwise
    simp only [blk_apply, H.kj, H.vj, H.bu, H.ba, H.sbAt ht h d e n (by omega), hs]
    rw [← add_assoc, S.bw_succ]
    simp only [EReal.coe_add, EReal.coe_mul, coe_sum]
    refine congrArg₂ (· + ·) rfl (Finset.sum_congr rfl fun r _ => ?_)
    rw [show 512 * (15 - t) + (128 * (3 - n) + r.val) = 128 * (63 - (4 * t + n)) + r.val by omega]

/-- The rows of the first output. -/
theorem Reads.yaP (H : S.Reads t D) (u : Fin 4) (h : Fin 8) (i j : Fin 128) :
    Scan.yaP D u h (ix2 i j) = ((S.ya h (4 * t + u.val) i j : ℝ) : EReal) := by
  rw [Scan.yaP, k0_pay115, k0_pay87]
  pointwise
  simp only [blk_apply, H.qi, H.ki, H.vi, H.dm, H.fo, H.sfAt _ _ _ u.val (by omega)]
  rw [ya]
  simp only [EReal.coe_add, EReal.coe_mul, coe_sum]
  simp only [show ∀ r : ℕ, 512 * t + (128 * u.val + r) = 128 * (4 * t + u.val) + r by intro r; ring]

/-- The rows of the second output. -/
theorem Reads.ybP (H : S.Reads t D) (ht : t < 16) (u : Fin 4) (h : Fin 8) (i j : Fin 128) :
    Scan.ybP D u h (ix2 i j) = ((S.yb h (4 * (15 - t) + u.val) i j : ℝ) : EReal) := by
  rw [Scan.ybP, k0_pay116]
  pointwise
  simp only [blk_apply, H.qj, H.bo, H.sbAt ht _ _ _ (3 - u.val) (by omega)]
  rw [yb]
  simp only [EReal.coe_add, EReal.coe_mul, coe_sum]
  simp only [show ∀ r : ℕ, 512 * (15 - t) + (128 * u.val + r) = 128 * (4 * (15 - t) + u.val) + r by intro r; ring,
    show 63 - (4 * (15 - t) + u.val) = 4 * t + (3 - u.val) by omega]

/-- The first point's reads. -/
theorem reads_first {x0 : Vec Ideal S2x8x8x128 .f32} {x1 x2 x3 x4 x5 x6 : Vec Ideal S512x1024 .bf16} {x7 x8 : Vec Ideal S8x128x128 .f32}
    (h0 : ∀ a h r l, x0 (ix4 a h r l) = ((S.lr a h : ℝ) : EReal))
    (h1 : ∀ (r : Fin 512) (c : Fin 1024), x1 (ix2 r c) = ((S.q (512 * 0 + r.val) c.val : ℝ) : EReal))
    (h2 : ∀ (r : Fin 512) (c : Fin 1024), x2 (ix2 r c) = ((S.k (512 * 0 + r.val) c.val : ℝ) : EReal))
    (h3 : ∀ (r : Fin 512) (c : Fin 1024), x3 (ix2 r c) = ((S.v (512 * 0 + r.val) c.val : ℝ) : EReal))
    (h4 : ∀ (r : Fin 512) (c : Fin 1024), x4 (ix2 r c) = ((S.q (512 * (15 - 0) + r.val) c.val : ℝ) : EReal))
    (h5 : ∀ (r : Fin 512) (c : Fin 1024), x5 (ix2 r c) = ((S.k (512 * (15 - 0) + r.val) c.val : ℝ) : EReal))
    (h6 : ∀ (r : Fin 512) (c : Fin 1024), x6 (ix2 r c) = ((S.v (512 * (15 - 0) + r.val) c.val : ℝ) : EReal))
    (h7 : ∀ (h : Fin 8) (d e : Fin 128), x7 (ix3 h d e) = ((S.sf h d e : ℝ) : EReal))
    (h8 : ∀ (h : Fin 8) (d e : Fin 128), x8 (ix3 h d e) = ((S.sb h d e : ℝ) : EReal)) :
    S.Reads 0 (ptA x0 x1 x2 x3 x4 x5 x6 x7 x8) where
  qi := h1
  ki := h2
  vi := h3
  qj := h4
  kj := h5
  vj := h6
  sf h d e := (hd_apply x7 h d e).trans (h7 h d e)
  sb h d e := (hd_apply x8 h d e).trans (h8 h d e)
  dm h i j := by
    show k0_pay9 k0_pay5 k0_pay6 (lg x0 0 h) (lg x0 1 h) (ix3 0 i j) = _
    rw [k0_pay9]
    pointwise
    simp only [pay5_apply, pay6_apply, lg_apply x0 _ h i j _ (h0 _ h 0 j), lit2, EReal.coe_lt_coe_iff, Nat.cast_lt, ← EReal.coe_sub,
      ← EReal.coe_mul, Ideal.exp_coe]
    rw [mask]
    split_ifs <;> rfl
  fo h i j := by
    show k0_pay10 k0_pay5 (lg x0 0 h) (ix3 0 i j) = _
    rw [k0_pay10]
    pointwise
    simp only [pay5_apply, lg_apply x0 _ h i j _ (h0 _ h 0 j), lit1, ← EReal.coe_add, ← EReal.coe_mul, Ideal.exp_coe]
    rfl
  fu h i j := by
    show k0_pay11 k0_pay5 (lg x0 0 h) (ix3 0 i j) = _
    rw [k0_pay11]
    pointwise
    simp only [pay5_apply, lg_apply x0 _ h i j _ (h0 _ h 0 j), lit127, ← EReal.coe_sub, ← EReal.coe_mul, Ideal.exp_coe]
    rfl
  fa h i j := by
    show k0_pay12 (lg x0 0 h) (ix3 0 i j) = _
    rw [k0_pay12]
    pointwise
    simp only [lg_apply x0 _ h i j _ (h0 _ h 0 j), lit128, ← EReal.coe_mul, Ideal.exp_coe]
    rfl
  bo h i j := by
    show k0_pay14 (k0_pay13 k0_pay5 (lg x0 1 h)) (ix3 0 i j) = _
    rw [k0_pay14, k0_pay13]
    pointwise
    simp only [pay5_apply, lg_apply x0 _ h i j _ (h0 _ h 0 j), lit128, ← EReal.coe_sub, ← EReal.coe_mul, Ideal.exp_coe]
    rfl
  bu h i j := by
    show k0_pay15 k0_pay5 (lg x0 1 h) (ix3 0 i j) = _
    rw [k0_pay15]
    pointwise
    simp only [pay5_apply, lg_apply x0 _ h i j _ (h0 _ h 0 j), ← EReal.coe_mul, Ideal.exp_coe]
    rfl
  ba h i j := by
    show k0_pay16 (lg x0 1 h) (ix3 0 i j) = _
    rw [k0_pay16]
    pointwise
    simp only [lg_apply x0 _ h i j _ (h0 _ h 0 j), lit128, ← EReal.coe_mul, Ideal.exp_coe]
    rfl

end Src

end Cert.KernelIdeal.Scan
-- ==== Proof.Blocks.lean ====
/-
  What a grid point leaves in its buffers, entry by entry: the stores tile a buffer, so an entry holds what the store over it wrote.
-/
module

public import proofs.«01_k».proof.Proof.Payloads
public import Idealize.ShloMosaic.Lib.Pipeline.Value
public import Idealize.ShloMosaic.Lib.Pipeline.CanonAppend

@[expose] public section

set_option maxRecDepth 16384

noncomputable section

namespace Cert.KernelIdeal.Scan

open Idealize.ShloMosaic Idealize.ShloMosaic.TcCoe Idealize.ShloMosaic.Tactic Cert.KernelIdeal.Gen Cert.Retention

namespace Src

variable (S : Src)

/-- The first output at a row and a column of the whole array. -/
def YA (r c : ℕ) : ℝ :=
  S.ya ⟨c / 128 % 8, Nat.mod_lt _ (by decide)⟩ (r / 128) ⟨r % 128, Nat.mod_lt _ (by decide)⟩ ⟨c % 128, Nat.mod_lt _ (by decide)⟩

/-- The second output at a row and a column of the whole array. -/
def YB (r c : ℕ) : ℝ :=
  S.yb ⟨c / 128 % 8, Nat.mod_lt _ (by decide)⟩ (r / 128) ⟨r % 128, Nat.mod_lt _ (by decide)⟩ ⟨c % 128, Nat.mod_lt _ (by decide)⟩

theorem YA_at (n : ℕ) (h : Fin 8) (i j : Fin 128) : S.YA (128 * n + i.val) (128 * h.val + j.val) = S.ya h n i j := by
  have h1 : (128 * n + i.val) / 128 = n := by omega
  have h2 : (128 * n + i.val) % 128 = i.val := by omega
  have h3 : (128 * h.val + j.val) / 128 % 8 = h.val := by omega
  have h4 : (128 * h.val + j.val) % 128 = j.val := by omega
  simp only [YA, h1, h2, h3, h4]

theorem YB_at (n : ℕ) (h : Fin 8) (i j : Fin 128) : S.YB (128 * n + i.val) (128 * h.val + j.val) = S.yb h n i j := by
  have h1 : (128 * n + i.val) / 128 = n := by omega
  have h2 : (128 * n + i.val) % 128 = i.val := by omega
  have h3 : (128 * h.val + j.val) / 128 % 8 = h.val := by omega
  have h4 : (128 * h.val + j.val) % 128 = j.val := by omega
  simp only [YB, h1, h2, h3, h4]

end Src

theorem rowsR_emb (u : Fin 4) (h : Fin 8) (i j : Fin 128) :
    (rowsR u h).emb (ix2 i j) = ix2 (⟨128 * u.val + i.val, by omega⟩ : Fin 512) (⟨128 * h.val + j.val, by omega⟩ : Fin 1024) := by
  funext a
  fin_cases a
  · exact Fin.ext (congrArg (128 * u.val + ·) (Nat.one_mul i.val))
  · exact Fin.ext (congrArg (128 * h.val + ·) (Nat.one_mul j.val))

theorem headR_emb (h : Fin 8) (i j : Fin 128) : (headR h).emb (ix3 (0 : Fin 1) i j) = ix3 h i j := by
  funext a
  fin_cases a
  · exact Fin.ext (by show h.val + 1 * 0 = h.val; omega)
  · exact Fin.ext (by show 0 + 1 * i.val = i.val; omega)
  · exact Fin.ext (by show 0 + 1 * j.val = j.val; omega)

/-- An entry of a block of rows, by its sub-chunk and head. -/
theorem rows_split (r : Fin 512) (c : Fin 1024) :
    ∃ (u : Fin 4) (h : Fin 8) (i j : Fin 128), r.val = 128 * u.val + i.val ∧ c.val = 128 * h.val + j.val :=
  ⟨⟨r.val / 128, by omega⟩, ⟨c.val / 128, by omega⟩, ⟨r.val % 128, by omega⟩, ⟨c.val % 128, by omega⟩, by dsimp only; omega, by dsimp only; omega⟩

theorem mem_heads (h : Fin 8) : h ∈ heads := by revert h; decide

/-- Stores over the sub-chunks and heads, whatever their order: an entry is the block of its sub-chunk and head. -/
theorem canon_rows (us : List (Fin 4)) (hus : ∀ u, u ∈ us) (P : Fin 4 → Fin 8 → Vec Ideal S128x128 .f32) (G : S512x1024.Idx → EReal)
    (hG : ∀ u h i j, P u h (ix2 i j) = G ((rowsR u h).emb (ix2 i j))) (y : S512x1024.Idx) :
    View.canon (Val := Elt Ideal) (e := .f32) (us.flatMap fun u => heads.map fun h => (⟨rowsR u h, P u h⟩ : View.Piece (Elt Ideal) S512x1024 .f32)) y = G y := by
  refine View.canon_apply_of_pieces (Val := Elt Ideal) (e := .f32) G _ ?_ y ?_
  · intro p hp x
    simp only [List.mem_flatMap, List.mem_map] at hp
    obtain ⟨u, -, h, -, rfl⟩ := hp
    rw [eq_ix2 (n0 := 128) (n1 := 128) x]
    exact hG u h _ _
  · obtain ⟨u, h, i, j, hr, hc⟩ := rows_split (y 0) (y 1)
    refine ⟨⟨rowsR u h, P u h⟩, ?_, ?_⟩
    · simp only [List.mem_flatMap, List.mem_map]
      exact ⟨u, hus u, h, mem_heads h, rfl⟩
    · have : y = (rowsR u h).emb (ix2 i j) := by
        rw [rowsR_emb, eq_ix2 (n0 := 512) (n1 := 1024) y]
        exact congrArg₂ ix2 (Fin.ext hr) (Fin.ext hc)
      rw [this]
      exact (rowsR u h).idx_mem (ix2 i j)

/-- One store per head, last: an entry is its head's store. -/
theorem canon_heads (x : Fin 8 → Vec Ideal S1x128x128 .f32) (rest : List (View.Piece (Elt Ideal) S8x128x128 .f32)) (h : Fin 8) (i j : Fin 128) :
    View.canon (headsL x ++ rest) (ix3 h i j) = x h (ix3 0 i j) := by
  refine View.canon_append_of_pieces (Val := Elt Ideal) (e := .f32) (fun y : S8x128x128.Idx => x (y 0) (ix3 0 (y 1) (y 2))) rest (headsL x) ?_ _ ?_
  · intro p hp z
    simp only [headsL, List.mem_map] at hp
    obtain ⟨h, -, rfl⟩ := hp
    have hz : z = (ix3 (0 : Fin 1) (z 1 : Fin 128) (z 2 : Fin 128) : S1x128x128.Idx) := by
      funext a; fin_cases a
      · exact Fin.fin_one_eq_zero _
      · rfl
      · rfl
    have key : ∀ z' : S1x128x128.Idx, z' = ix3 (0 : Fin 1) (z' 1) (z' 2) →
        x h z' = x ((headR h).emb z' 0) (ix3 0 ((headR h).emb z' 1) ((headR h).emb z' 2)) := by
      intro z' hz'
      rw [show (headR h).emb z' = ix3 h (z' 1) (z' 2) from (congrArg (headR h).emb hz').trans (headR_emb h _ _)]
      exact congrArg (x h) hz'
    exact key z hz
  · refine ⟨⟨headR h, x h⟩, List.mem_map.mpr ⟨h, mem_heads h, rfl⟩, ?_⟩
    rw [← headR_emb]
    exact (headR h).idx_mem (ix3 (0 : Fin 1) i j)

variable {S : Src} {t : ℕ} {D : Pt Ideal}

theorem canon_ya (H : S.Reads t D) (r : Fin 512) (c : Fin 1024) :
    View.canon (yaL D) (ix2 r c) = ((S.YA (512 * t + r.val) c.val : ℝ) : EReal) :=
  canon_rows [3, 2, 1, 0] (by decide) (yaP D) (fun y => ((S.YA (512 * t + (y 0).val) (y 1).val : ℝ) : EReal)) (fun u h i j => by
    rw [H.yaP, rowsR_emb]
    show _ = ((S.YA (512 * t + (128 * u.val + i.val)) (128 * h.val + j.val) : ℝ) : EReal)
    rw [show 512 * t + (128 * u.val + i.val) = 128 * (4 * t + u.val) + i.val by ring, S.YA_at]) (ix2 r c)

theorem canon_yb (H : S.Reads t D) (ht : t < 16) (r : Fin 512) (c : Fin 1024) :
    View.canon (ybL D) (ix2 r c) = ((S.YB (512 * (15 - t) + r.val) c.val : ℝ) : EReal) :=
  canon_rows [0, 1, 2, 3] (by decide) (ybP D) (fun y => ((S.YB (512 * (15 - t) + (y 0).val) (y 1).val : ℝ) : EReal)) (fun u h i j => by
    rw [H.ybP ht, rowsR_emb]
    show _ = ((S.YB (512 * (15 - t) + (128 * u.val + i.val)) (128 * h.val + j.val) : ℝ) : EReal)
    rw [show 512 * (15 - t) + (128 * u.val + i.val) = 128 * (4 * (15 - t) + u.val) + i.val by ring, S.YB_at]) (ix2 r c)

theorem canon_sf (H : S.Reads t D) (rest : List (View.Piece (Elt Ideal) S8x128x128 .f32)) (h : Fin 8) (d e : Fin 128) :
    View.canon (headsL (sfAt D 4) ++ rest) (ix3 h d e) = ((S.fw h d e (4 * (t + 1)) : ℝ) : EReal) :=
  (canon_heads _ rest h d e).trans (H.sfAt h d e 4 le_rfl)

theorem canon_sb (H : S.Reads t D) (ht : t < 16) (rest : List (View.Piece (Elt Ideal) S8x128x128 .f32)) (h : Fin 8) (d e : Fin 128) :
    View.canon (headsL (sbAt D 4) ++ rest) (ix3 h d e) = ((S.bw h d e (4 * (t + 1)) : ℝ) : EReal) :=
  (canon_heads _ rest h d e).trans (H.sbAt ht h d e 4 le_rfl)

end Cert.KernelIdeal.Scan
-- ==== Proof.Inputs.lean ====
/-
  What a grid point reads of the call's arguments, entry by entry.
-/
module

public import proofs.«01_k».proof.Proof.Blocks
public import Idealize.ShloMosaic.Lib.Pipeline.ValueKit

@[expose] public section

set_option maxRecDepth 16384

noncomputable section

namespace Cert.KernelIdeal.Scan

open Idealize.ShloMosaic Idealize.ShloMosaic.TcCoe Idealize.ShloMosaic.Tactic Cert.KernelIdeal.Gen Cert.Retention

variable (m : (ℓ : Loc nD τ sig) → Buf (Elt Ideal) ℓ) (c : Dev nD)

/-- The arguments a device holds are the real numbers `S`. -/
structure Args (S : Src) : Prop where
  q : ∀ (r : Fin 8192) (k : Fin 1024), m ((c.tc : Thread nD τ).loc main_arg0) (ix2 r k) = ((S.q r.val k.val : ℝ) : EReal)
  k : ∀ (r : Fin 8192) (k : Fin 1024), m ((c.tc : Thread nD τ).loc main_arg1) (ix2 r k) = ((S.k r.val k.val : ℝ) : EReal)
  v : ∀ (r : Fin 8192) (k : Fin 1024), m ((c.tc : Thread nD τ).loc main_arg2) (ix2 r k) = ((S.v r.val k.val : ℝ) : EReal)
  lr : ∀ (a : Fin 2) (h : Fin 8), m ((c.tc : Thread nD τ).loc main_arg3) (ix2 a h) = ((S.lr a h : ℝ) : EReal)
  sf : ∀ (h : Fin 8) (d e : Fin 128), m ((c.tc : Thread nD τ).loc main_arg4) (ix3 h d e) = ((S.sf h d e : ℝ) : EReal)
  sb : ∀ (h : Fin 8) (d e : Fin 128), m ((c.tc : Thread nD τ).loc main_arg5) (ix3 h d e) = ((S.sb h d e : ℝ) : EReal)

theorem idx_fwd : ∀ t : Fin grid0.N, win0_1.index t = ![t.val, 0] ∧ win0_2.index t = ![t.val, 0] ∧ win0_3.index t = ![t.val, 0]
    ∧ win0_9.index t = ![t.val, 0] := by decide +kernel

theorem idx_bwd : ∀ t : Fin grid0.N, win0_4.index t = ![15 - t.val, 0] ∧ win0_5.index t = ![15 - t.val, 0]
    ∧ win0_6.index t = ![15 - t.val, 0] ∧ win0_10.index t = ![15 - t.val, 0] := by decide +kernel

theorem idx_whole : ∀ t : Fin grid0.N, win0_0.index t = ![0, 0, 0, 0] ∧ win0_7.index t = ![0, 0, 0] ∧ win0_8.index t = ![0, 0, 0]
    ∧ win0_11.index t = ![0, 0, 0] ∧ win0_12.index t = ![0, 0, 0] := by decide +kernel

variable {m c} {S : Src}

theorem in1 (H : Args m c S) (t : Fin cfg0.N) (r : Fin 512) (k : Fin 1024) :
    iblk m c 1 t (ix2 r k) = ((S.q (512 * t.val + r.val) k.val : ℝ) : EReal) := by
  have ht : t.val < 16 := Nat.lt_of_lt_of_eq t.isLt N_0
  have e := (idx_fwd t).1
  rw [← H.q ⟨512 * t.val + r.val, by omega⟩ k]
  blk_ext! [iblk, V_main_arg0, e]

theorem in4 (H : Args m c S) (t : Fin cfg0.N) (r : Fin 512) (k : Fin 1024) :
    iblk m c 4 t (ix2 r k) = ((S.q (512 * (15 - t.val) + r.val) k.val : ℝ) : EReal) := by
  have ht : t.val < 16 := Nat.lt_of_lt_of_eq t.isLt N_0
  have e := (idx_bwd t).1
  rw [← H.q ⟨512 * (15 - t.val) + r.val, by omega⟩ k]
  blk_ext! [iblk, V_main_arg0, e]

theorem in7 (H : Args m c S) (t : Fin cfg0.N) (h : Fin 8) (d e : Fin 128) :
    iblk m c 7 t (ix3 h d e) = ((S.sf h d e : ℝ) : EReal) := by
  have e' := (idx_whole t).2.1
  rw [← H.sf h d e]
  blk_ext! [iblk, V_main_arg4, e']

/-- The rates the call is given are the logits, repeated over a tile. -/
theorem rates_entry (a : Fin 2) (h r : Fin 8) (l : Fin 128) :
    V m c main_v1 (ix4 a h r l) = m ((c.tc : Thread nD τ).loc main_arg3) (ix2 a h) := by
  show StableHlo.after hostOps0 (fun b => m (c, b)) (Proc.tc.devRef main_v1) (ix4 a h r l) = _
  entry_read
  pointwise

theorem in0 (H : Args m c S) (t : Fin cfg0.N) (a : Fin 2) (h r : Fin 8) (l : Fin 128) :
    iblk m c 0 t (ix4 a h r l) = ((S.lr a h : ℝ) : EReal) := by
  have e' := (idx_whole t).1
  rw [← H.lr a h, ← rates_entry (m := m) (c := c) a h r l]
  blk_ext! [iblk, e']

theorem in2 (H : Args m c S) (t : Fin cfg0.N) (r : Fin 512) (k : Fin 1024) :
    iblk m c 2 t (ix2 r k) = ((S.k (512 * t.val + r.val) k.val : ℝ) : EReal) := by
  have ht : t.val < 16 := Nat.lt_of_lt_of_eq t.isLt N_0
  have e := (idx_fwd t).2.1
  rw [← H.k ⟨512 * t.val + r.val, by omega⟩ k]
  blk_ext! [iblk, V_main_arg1, e]

theorem in3 (H : Args m c S) (t : Fin cfg0.N) (r : Fin 512) (k : Fin 1024) :
    iblk m c 3 t (ix2 r k) = ((S.v (512 * t.val + r.val) k.val : ℝ) : EReal) := by
  have ht : t.val < 16 := Nat.lt_of_lt_of_eq t.isLt N_0
  have e := (idx_fwd t).2.2.1
  rw [← H.v ⟨512 * t.val + r.val, by omega⟩ k]
  blk_ext! [iblk, V_main_arg2, e]

theorem in5 (H : Args m c S) (t : Fin cfg0.N) (r : Fin 512) (k : Fin 1024) :
    iblk m c 5 t (ix2 r k) = ((S.k (512 * (15 - t.val) + r.val) k.val : ℝ) : EReal) := by
  have ht : t.val < 16 := Nat.lt_of_lt_of_eq t.isLt N_0
  have e := (idx_bwd t).2.1
  rw [← H.k ⟨512 * (15 - t.val) + r.val, by omega⟩ k]
  blk_ext! [iblk, V_main_arg1, e]

theorem in6 (H : Args m c S) (t : Fin cfg0.N) (r : Fin 512) (k : Fin 1024) :
    iblk m c 6 t (ix2 r k) = ((S.v (512 * (15 - t.val) + r.val) k.val : ℝ) : EReal) := by
  have ht : t.val < 16 := Nat.lt_of_lt_of_eq t.isLt N_0
  have e := (idx_bwd t).2.2.1
  rw [← H.v ⟨512 * (15 - t.val) + r.val, by omega⟩ k]
  blk_ext! [iblk, V_main_arg2, e]

theorem in8 (H : Args m c S) (t : Fin cfg0.N) (h : Fin 8) (d e : Fin 128) :
    iblk m c 8 t (ix3 h d e) = ((S.sb h d e : ℝ) : EReal) := by
  have e' := (idx_whole t).2.2.1
  rw [← H.sb h d e]
  blk_ext! [iblk, V_main_arg5, e']

end Cert.KernelIdeal.Scan

end
-- ==== Proof.Cases.lean ====
/-
  What each case of a grid point leaves in each buffer, as the contents its stores add up to.
-/
module

public import proofs.«01_k».proof.Proof.Pieces
public import Idealize.ShloMosaic.Lib.Pipeline.Value

@[expose] public section

set_option maxRecDepth 16384

noncomputable section

namespace Cert.KernelIdeal.Scan

open Idealize.ShloMosaic Idealize.ShloMosaic.TcCoe Idealize.ShloMosaic.Tactic Cert.KernelIdeal.Gen

variable {F : FTy → Type} [FloatOps F]

variable (c : Dev nD) (i : grid0.Coords)
  (arg1 : Memref sig .tc .vmem S2x8x8x128 .f32) (harg1 : arg1.IsWhole) (arg2 : Memref sig .tc .vmem S512x1024 .bf16) (harg2 : arg2.IsWhole)
  (arg3 : Memref sig .tc .vmem S512x1024 .bf16) (harg3 : arg3.IsWhole) (arg4 : Memref sig .tc .vmem S512x1024 .bf16) (harg4 : arg4.IsWhole)
  (arg5 : Memref sig .tc .vmem S512x1024 .bf16) (harg5 : arg5.IsWhole) (arg6 : Memref sig .tc .vmem S512x1024 .bf16) (harg6 : arg6.IsWhole)
  (arg7 : Memref sig .tc .vmem S512x1024 .bf16) (harg7 : arg7.IsWhole) (arg8 : Memref sig .tc .vmem S8x128x128 .f32) (harg8 : arg8.IsWhole)
  (arg9 : Memref sig .tc .vmem S8x128x128 .f32) (harg9 : arg9.IsWhole) (arg10 : Memref sig .tc .vmem S512x1024 .f32) (harg10 : arg10.IsWhole)
  (arg11 : Memref sig .tc .vmem S512x1024 .f32) (harg11 : arg11.IsWhole) (arg12 : Memref sig .tc .vmem S8x128x128 .f32) (harg12 : arg12.IsWhole)
  (arg13 : Memref sig .tc .vmem S8x128x128 .f32) (harg13 : arg13.IsWhole) (arg14 : Memref sig .tc .vmem S8x128x128 .f32) (harg14 : arg14.IsWhole)
  (arg15 : Memref sig .tc .vmem S8x128x128 .f32) (harg15 : arg15.IsWhole) (arg16 : Memref sig .tc .vmem S8x128x128 .f32) (harg16 : arg16.IsWhole)
  (arg17 : Memref sig .tc .vmem S8x128x128 .f32) (harg17 : arg17.IsWhole) (arg18 : Memref sig .tc .vmem S8x128x128 .f32) (harg18 : arg18.IsWhole)
  (arg19 : Memref sig .tc .vmem S8x128x128 .f32) (harg19 : arg19.IsWhole) (arg20 : Memref sig .tc .vmem S8x128x128 .f32) (harg20 : arg20.IsWhole)
  (arg21 : Memref sig .tc .vmem S8x128x128 .f32) (harg21 : arg21.IsWhole) (arg22 : Memref sig .tc .vmem S8x128x128 .f32) (harg22 : arg22.IsWhole)
  (x0 : Vec F S2x8x8x128 .f32) (x1 x2 x3 x4 x5 x6 : Vec F S512x1024 .bf16) (x7 x8 xs0 xs1 xs2 xs3 xs4 xs5 xs6 xs7 xs8 : Vec F S8x128x128 .f32)

/-- Output 9 at the first point. -/
theorem out_A_9 (hc0 : cond0_0 i) (hc1 : ¬cond0_1 i) : out0_A_9 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18 arg19 harg19
    arg20 harg20 arg21 harg21 arg22 harg22 hc0 hc1 x0 x1 x2 x3 x4 x5 x6 x7 x8 = View.canon (yaL (ptA x0 x1 x2 x3 x4 x5 x6 x7 x8)) := by
  unfold out0_A_9
  rw [View.read_writes_eq_canon _ _ _ (cover0_A_9 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (ya_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1)]

/-- Output 10 at the first point. -/
theorem out_A_10 (hc0 : cond0_0 i) (hc1 : ¬cond0_1 i) : out0_A_10 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 = View.canon (ybL (ptA x0 x1 x2 x3 x4 x5 x6 x7 x8)) := by
  unfold out0_A_10
  rw [View.read_writes_eq_canon _ _ _ (cover0_A_10 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (yb_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1)]

/-- Scratch 0 at the first point. -/
theorem sout_A_0 (hc0 : cond0_0 i) (hc1 : ¬cond0_1 i) : ∃ rest, sout0_A_0 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17 harg17 arg18 harg18
    arg19 harg19 arg20 harg20 arg21 harg21 arg22 harg22 hc0 hc1 x0 x1 x2 x3 x4 x5 x6 x7 x8 = View.canon (headsL (sfAt (ptA x0 x1 x2 x3 x4 x5 x6 x7 x8)
    4) ++ rest) := by
  obtain ⟨rest, h⟩ := (sf_A c i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20 harg20 arg21 harg21 arg22
      harg22 x0 x1 x2 x3 x4 x5 x6 x7 x8 hc0 hc1)
  refine ⟨rest, ?_⟩
  unfold sout0_A_0
  rw [View.read_writes_eq_canon _ _ _ (scover0_A_0 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), h]

/-- Scratch 1 at the first point. -/
theorem sout_A_1 (hc0 : cond0_0 i) (hc1 : ¬cond0_1 i) : ∃ rest, sout0_A_1 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17 harg17 arg18 harg18
    arg19 harg19 arg20 harg20 arg21 harg21 arg22 harg22 hc0 hc1 x0 x1 x2 x3 x4 x5 x6 x7 x8 = View.canon (headsL (sbAt (ptA x0 x1 x2 x3 x4 x5 x6 x7 x8)
    4) ++ rest) := by
  obtain ⟨rest, h⟩ := (sb_A c i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20 harg20 arg21 harg21 arg22
      harg22 x0 x1 x2 x3 x4 x5 x6 x7 x8 hc0 hc1)
  refine ⟨rest, ?_⟩
  unfold sout0_A_1
  rw [View.read_writes_eq_canon _ _ _ (scover0_A_1 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), h]

/-- Scratch 2 at the first point. -/
theorem sout_A_2 (hc0 : cond0_0 i) (hc1 : ¬cond0_1 i) : sout0_A_2 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 = View.canon (headsL (ptA x0 x1 x2 x3 x4 x5 x6 x7 x8).dm ++ [])
    := by
  unfold sout0_A_2
  rw [View.read_writes_eq_canon _ _ _ (scover0_A_2 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (dm_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1), List.append_nil]

/-- Scratch 3 at the first point. -/
theorem sout_A_3 (hc0 : cond0_0 i) (hc1 : ¬cond0_1 i) : sout0_A_3 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 = View.canon (headsL (ptA x0 x1 x2 x3 x4 x5 x6 x7 x8).fo ++ [])
    := by
  unfold sout0_A_3
  rw [View.read_writes_eq_canon _ _ _ (scover0_A_3 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (fo_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1), List.append_nil]

/-- Scratch 4 at the first point. -/
theorem sout_A_4 (hc0 : cond0_0 i) (hc1 : ¬cond0_1 i) : sout0_A_4 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 = View.canon (headsL (ptA x0 x1 x2 x3 x4 x5 x6 x7 x8).fu ++ [])
    := by
  unfold sout0_A_4
  rw [View.read_writes_eq_canon _ _ _ (scover0_A_4 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (fu_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1), List.append_nil]

/-- Scratch 5 at the first point. -/
theorem sout_A_5 (hc0 : cond0_0 i) (hc1 : ¬cond0_1 i) : sout0_A_5 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 = View.canon (headsL (ptA x0 x1 x2 x3 x4 x5 x6 x7 x8).fa ++ [])
    := by
  unfold sout0_A_5
  rw [View.read_writes_eq_canon _ _ _ (scover0_A_5 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (fa_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1), List.append_nil]

/-- Scratch 6 at the first point. -/
theorem sout_A_6 (hc0 : cond0_0 i) (hc1 : ¬cond0_1 i) : sout0_A_6 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 = View.canon (headsL (ptA x0 x1 x2 x3 x4 x5 x6 x7 x8).bo ++ [])
    := by
  unfold sout0_A_6
  rw [View.read_writes_eq_canon _ _ _ (scover0_A_6 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (bo_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1), List.append_nil]

/-- Scratch 7 at the first point. -/
theorem sout_A_7 (hc0 : cond0_0 i) (hc1 : ¬cond0_1 i) : sout0_A_7 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 = View.canon (headsL (ptA x0 x1 x2 x3 x4 x5 x6 x7 x8).bu ++ [])
    := by
  unfold sout0_A_7
  rw [View.read_writes_eq_canon _ _ _ (scover0_A_7 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (bu_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1), List.append_nil]

/-- Scratch 8 at the first point. -/
theorem sout_A_8 (hc0 : cond0_0 i) (hc1 : ¬cond0_1 i) : sout0_A_8 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 = View.canon (headsL (ptA x0 x1 x2 x3 x4 x5 x6 x7 x8).ba ++ [])
    := by
  unfold sout0_A_8
  rw [View.read_writes_eq_canon _ _ _ (scover0_A_8 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8), (ba_A c i arg1 harg1 arg2 harg2 arg3 harg3 arg4 harg4 arg5 harg5 arg6 harg6 arg7
      harg7 arg8 harg8 arg9 harg9 arg10 harg10 arg11 harg11 arg12 harg12 arg13 harg13 arg14 harg14 arg15 harg15 arg16 harg16 arg17 harg17 arg18 harg18
      arg19 harg19 arg20 harg20 arg21 harg21 arg22 harg22 x0 x1 x2 x3 x4 x5 x6 x7 x8 hc0 hc1), List.append_nil]

/-- Output 9 at the middle point. -/
theorem out_B_9 (hc0 : ¬cond0_0 i) (hc1 : ¬cond0_1 i) : out0_B_9 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18 arg19 harg19
    arg20 harg20 arg21 harg21 arg22 harg22 hc0 hc1 x0 x1 x2 x3 x4 x5 x6 x7 x8 xs0 xs1 xs2 xs3 xs4 xs5 xs6 xs7 xs8 = View.canon (yaL (ptB x1 x2 x3 x4
    x5 x6 xs0 xs1 xs2 xs3 xs4 xs5 xs6 xs7 xs8)) := by
  unfold out0_B_9
  rw [View.read_writes_eq_canon _ _ _ (cover0_B_9 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), (ya_B c i arg1 harg1 arg2 harg2 arg3 harg3 arg4
      harg4 arg5 harg5 arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 arg22 harg22 x0 x1 x2 x3 x4 x5 x6 x7 x8 xs0 xs1 xs2 xs3 xs4 xs5 xs6 xs7 xs8
      hc0 hc1)]

/-- Output 10 at the middle point. -/
theorem out_B_10 (hc0 : ¬cond0_0 i) (hc1 : ¬cond0_1 i) : out0_B_10 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 xs0 xs1 xs2 xs3 xs4 xs5 xs6 xs7 xs8 = View.canon (ybL (ptB x1 x2
    x3 x4 x5 x6 xs0 xs1 xs2 xs3 xs4 xs5 xs6 xs7 xs8)) := by
  unfold out0_B_10
  rw [View.read_writes_eq_canon _ _ _ (cover0_B_10 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), (yb_B c i arg1 harg1 arg2 harg2 arg3 harg3 arg4
      harg4 arg5 harg5 arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 arg22 harg22 x0 x1 x2 x3 x4 x5 x6 x7 x8 xs0 xs1 xs2 xs3 xs4 xs5 xs6 xs7 xs8
      hc0 hc1)]

/-- Scratch 0 at the middle point. -/
theorem sout_B_0 (hc0 : ¬cond0_0 i) (hc1 : ¬cond0_1 i) : ∃ rest, sout0_B_0 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17 harg17 arg18 harg18
    arg19 harg19 arg20 harg20 arg21 harg21 arg22 harg22 hc0 hc1 x0 x1 x2 x3 x4 x5 x6 x7 x8 xs0 xs1 xs2 xs3 xs4 xs5 xs6 xs7 xs8 = View.canon (headsL
    (sfAt (ptB x1 x2 x3 x4 x5 x6 xs0 xs1 xs2 xs3 xs4 xs5 xs6 xs7 xs8) 4) ++ rest) := by
  obtain ⟨rest, h⟩ := (sf_B c i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20 harg20 arg21 harg21 arg22
      harg22 x0 x1 x2 x3 x4 x5 x6 x7 x8 xs0 xs1 xs2 xs3 xs4 xs5 xs6 xs7 xs8 hc0 hc1)
  refine ⟨rest, ?_⟩
  unfold sout0_B_0
  rw [View.read_writes_eq_canon _ _ _ (scover0_B_0 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), h]

/-- Scratch 1 at the middle point. -/
theorem sout_B_1 (hc0 : ¬cond0_0 i) (hc1 : ¬cond0_1 i) : ∃ rest, sout0_B_1 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17 harg17 arg18 harg18
    arg19 harg19 arg20 harg20 arg21 harg21 arg22 harg22 hc0 hc1 x0 x1 x2 x3 x4 x5 x6 x7 x8 xs0 xs1 xs2 xs3 xs4 xs5 xs6 xs7 xs8 = View.canon (headsL
    (sbAt (ptB x1 x2 x3 x4 x5 x6 xs0 xs1 xs2 xs3 xs4 xs5 xs6 xs7 xs8) 4) ++ rest) := by
  obtain ⟨rest, h⟩ := (sb_B c i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20 harg20 arg21 harg21 arg22
      harg22 x0 x1 x2 x3 x4 x5 x6 x7 x8 xs0 xs1 xs2 xs3 xs4 xs5 xs6 xs7 xs8 hc0 hc1)
  refine ⟨rest, ?_⟩
  unfold sout0_B_1
  rw [View.read_writes_eq_canon _ _ _ (scover0_B_1 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), h]

/-- Output 9 at the last point. -/
theorem out_C_9 (hc0 : ¬cond0_0 i) (hc1 : cond0_1 i) : out0_C_9 c i arg1 harg1 arg2 harg2 arg3 harg3 arg4 harg4 arg5 harg5 arg6 harg6 arg7 harg7 arg8
    harg8 arg9 harg9 arg10 harg10 arg11 harg11 arg12 harg12 arg13 harg13 arg14 harg14 arg15 harg15 arg16 harg16 arg17 harg17 arg18 harg18 arg19 harg19
    arg20 harg20 arg21 harg21 arg22 harg22 hc0 hc1 x0 x1 x2 x3 x4 x5 x6 x7 x8 xs0 xs1 xs2 xs3 xs4 xs5 xs6 xs7 xs8 = View.canon (yaL (ptB x1 x2 x3 x4
    x5 x6 xs0 xs1 xs2 xs3 xs4 xs5 xs6 xs7 xs8)) := by
  unfold out0_C_9
  rw [View.read_writes_eq_canon _ _ _ (cover0_C_9 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), (ya_C c i arg1 harg1 arg2 harg2 arg3 harg3 arg4
      harg4 arg5 harg5 arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 arg22 harg22 x0 x1 x2 x3 x4 x5 x6 x7 x8 xs0 xs1 xs2 xs3 xs4 xs5 xs6 xs7 xs8
      hc0 hc1)]

/-- Output 10 at the last point. -/
theorem out_C_10 (hc0 : ¬cond0_0 i) (hc1 : cond0_1 i) : out0_C_10 c i arg1 harg1 arg2 harg2 arg3 harg3 arg4 harg4 arg5 harg5 arg6 harg6 arg7 harg7
    arg8 harg8 arg9 harg9 arg10 harg10 arg11 harg11 arg12 harg12 arg13 harg13 arg14 harg14 arg15 harg15 arg16 harg16 arg17 harg17 arg18 harg18 arg19
    harg19 arg20 harg20 arg21 harg21 arg22 harg22 hc0 hc1 x0 x1 x2 x3 x4 x5 x6 x7 x8 xs0 xs1 xs2 xs3 xs4 xs5 xs6 xs7 xs8 = View.canon (ybL (ptB x1 x2
    x3 x4 x5 x6 xs0 xs1 xs2 xs3 xs4 xs5 xs6 xs7 xs8)) := by
  unfold out0_C_10
  rw [View.read_writes_eq_canon _ _ _ (cover0_C_10 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), (yb_C c i arg1 harg1 arg2 harg2 arg3 harg3 arg4
      harg4 arg5 harg5 arg6 harg6 arg7 harg7 arg8 harg8 arg9 harg9 arg10 harg10 arg11 harg11 arg12 harg12 arg13 harg13 arg14 harg14 arg15 harg15 arg16
      harg16 arg17 harg17 arg18 harg18 arg19 harg19 arg20 harg20 arg21 harg21 arg22 harg22 x0 x1 x2 x3 x4 x5 x6 x7 x8 xs0 xs1 xs2 xs3 xs4 xs5 xs6 xs7 xs8
      hc0 hc1)]

/-- Scratch 0 at the last point. -/
theorem sout_C_0 (hc0 : ¬cond0_0 i) (hc1 : cond0_1 i) : ∃ rest, sout0_C_0 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17 harg17 arg18 harg18
    arg19 harg19 arg20 harg20 arg21 harg21 arg22 harg22 hc0 hc1 x0 x1 x2 x3 x4 x5 x6 x7 x8 xs0 xs1 xs2 xs3 xs4 xs5 xs6 xs7 xs8 = View.canon (headsL
    (sfAt (ptB x1 x2 x3 x4 x5 x6 xs0 xs1 xs2 xs3 xs4 xs5 xs6 xs7 xs8) 4) ++ rest) := by
  obtain ⟨rest, h⟩ := (sf_C c i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20 harg20 arg21 harg21 arg22
      harg22 x0 x1 x2 x3 x4 x5 x6 x7 x8 xs0 xs1 xs2 xs3 xs4 xs5 xs6 xs7 xs8 hc0 hc1)
  refine ⟨rest, ?_⟩
  unfold sout0_C_0
  rw [View.read_writes_eq_canon _ _ _ (scover0_C_0 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), h]

/-- Scratch 1 at the last point. -/
theorem sout_C_1 (hc0 : ¬cond0_0 i) (hc1 : cond0_1 i) : ∃ rest, sout0_C_1 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17 harg17 arg18 harg18
    arg19 harg19 arg20 harg20 arg21 harg21 arg22 harg22 hc0 hc1 x0 x1 x2 x3 x4 x5 x6 x7 x8 xs0 xs1 xs2 xs3 xs4 xs5 xs6 xs7 xs8 = View.canon (headsL
    (sbAt (ptB x1 x2 x3 x4 x5 x6 xs0 xs1 xs2 xs3 xs4 xs5 xs6 xs7 xs8) 4) ++ rest) := by
  obtain ⟨rest, h⟩ := (sb_C c i arg1 harg1 arg2 harg2 arg3 harg3 arg4 harg4 arg5 harg5 arg6 harg6 arg7 harg7 arg8 harg8 arg9 harg9 arg10 harg10 arg11
      harg11 arg12 harg12 arg13 harg13 arg14 harg14 arg15 harg15 arg16 harg16 arg17 harg17 arg18 harg18 arg19 harg19 arg20 harg20 arg21 harg21 arg22
      harg22 x0 x1 x2 x3 x4 x5 x6 x7 x8 xs0 xs1 xs2 xs3 xs4 xs5 xs6 xs7 xs8 hc0 hc1)
  refine ⟨rest, ?_⟩
  unfold sout0_C_1
  rw [View.read_writes_eq_canon _ _ _ (scover0_C_1 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), h]

/-- Output 11 at the last point: the state it leaves. -/
theorem out_C_11 (hc0 : ¬cond0_0 i) (hc1 : cond0_1 i) : ∃ rest, out0_C_11 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17 harg17 arg18 harg18
    arg19 harg19 arg20 harg20 arg21 harg21 arg22 harg22 hc0 hc1 x0 x1 x2 x3 x4 x5 x6 x7 x8 xs0 xs1 xs2 xs3 xs4 xs5 xs6 xs7 xs8 = View.canon (headsL
    (sfAt (ptB x1 x2 x3 x4 x5 x6 xs0 xs1 xs2 xs3 xs4 xs5 xs6 xs7 xs8) 4) ++ rest) := by
  obtain ⟨rest, h⟩ := (finf_C c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20 arg21 harg21 arg22
      harg22 x0 x1 x2 x3 x4 x5 x6 x7 x8 xs0 xs1 xs2 xs3 xs4 xs5 xs6 xs7 xs8 hc0 hc1)
  refine ⟨rest, ?_⟩
  unfold out0_C_11
  rw [View.read_writes_eq_canon _ _ _ (cover0_C_11 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), h,
    View.canon_unit_zero (S := S8x128x128) (off := ![0, 0, 0]) (by funext a; fin_cases a <;> rfl) inb_S8x128x128_S8x128x128_0_0_0,
    View.readCov_eq_canon']
  exact ld_all (View.canon (headsL (sfAt (ptB x1 x2 x3 x4 x5 x6 xs0 xs1 xs2 xs3 xs4 xs5 xs6 xs7 xs8) 4) ++ rest))

/-- Output 12 at the last point: the state it leaves. -/
theorem out_C_12 (hc0 : ¬cond0_0 i) (hc1 : cond0_1 i) : ∃ rest, out0_C_12 c i arg1 harg1 arg2 harg2 arg3 harg3 arg4 harg4 arg5 harg5 arg6 harg6 arg7
    harg7 arg8 harg8 arg9 harg9 arg10 harg10 arg11 harg11 arg12 harg12 arg13 harg13 arg14 harg14 arg15 harg15 arg16 harg16 arg17 harg17 arg18 harg18
    arg19 harg19 arg20 harg20 arg21 harg21 arg22 harg22 hc0 hc1 x0 x1 x2 x3 x4 x5 x6 x7 x8 xs0 xs1 xs2 xs3 xs4 xs5 xs6 xs7 xs8 = View.canon (headsL
    (sbAt (ptB x1 x2 x3 x4 x5 x6 xs0 xs1 xs2 xs3 xs4 xs5 xs6 xs7 xs8) 4) ++ rest) := by
  obtain ⟨rest, h⟩ := (finb_C c i arg1 harg1 arg2 harg2 arg3 harg3 arg4 harg4 arg5 harg5 arg6 harg6 arg7 harg7 arg8 harg8 arg9 harg9 arg10 harg10
      arg11 harg11 arg12 harg12 arg13 harg13 arg14 harg14 arg15 harg15 arg16 harg16 arg17 harg17 arg18 harg18 arg19 harg19 arg20 harg20 arg21 harg21 arg22
      harg22 x0 x1 x2 x3 x4 x5 x6 x7 x8 xs0 xs1 xs2 xs3 xs4 xs5 xs6 xs7 xs8 hc0 hc1)
  refine ⟨rest, ?_⟩
  unfold out0_C_12
  rw [View.read_writes_eq_canon _ _ _ (cover0_C_12 c i arg1 harg1 arg2 harg2 arg3 harg3 arg4 harg4 arg5 harg5 arg6 harg6 arg7 harg7 arg8 harg8 arg9
      harg9 arg10 harg10 arg11 harg11 arg12 harg12 arg13 harg13 arg14 harg14 arg15 harg15 arg16 harg16 arg17 harg17 arg18 harg18 arg19 harg19 arg20 harg20
      arg21 harg21 arg22 harg22 hc0 hc1 x0 x1 x2 x3 x4 x5 x6 x7 x8 xs0 xs1 xs2 xs3 xs4 xs5 xs6 xs7 xs8), h,
    View.canon_unit_zero (S := S8x128x128) (off := ![0, 0, 0]) (by funext a; fin_cases a <;> rfl) inb_S8x128x128_S8x128x128_0_0_0,
    View.readCov_eq_canon']
  exact ld_all (View.canon (headsL (sbAt (ptB x1 x2 x3 x4 x5 x6 xs0 xs1 xs2 xs3 xs4 xs5 xs6 xs7 xs8) 4) ++ rest))

end Cert.KernelIdeal.Scan

end
-- ==== Proof.Grid.lean ====
/-
  What the grid points leave, by induction over the points.
-/
module

public import proofs.«01_k».proof.Proof.Inputs
public import proofs.«01_k».proof.Proof.Cases

@[expose] public section

set_option maxRecDepth 16384

noncomputable section

namespace Cert.KernelIdeal.Scan

open Idealize.ShloMosaic Idealize.ShloMosaic.TcCoe Idealize.ShloMosaic.Tactic Cert.KernelIdeal.Gen Cert.Retention

/-- The four outputs' blocks and the nine scratch buffers. -/
abbrev Left : Type :=
  Vec Ideal S512x1024 .f32 × Vec Ideal S512x1024 .f32 × Vec Ideal S8x128x128 .f32 × Vec Ideal S8x128x128 .f32 × Vec Ideal S8x128x128 .f32 × Vec Ideal S8x128x128 .f32 × Vec Ideal S8x128x128 .f32 × Vec Ideal S8x128x128 .f32 × Vec Ideal S8x128x128 .f32 × Vec Ideal S8x128x128 .f32 × Vec Ideal S8x128x128 .f32 × Vec Ideal S8x128x128 .f32 × Vec Ideal S8x128x128 .f32

/-- What grid point `n` leaves, as real numbers. -/
structure After (S : Src) (n : ℕ) (o : Left) : Prop where
  ya : ∀ (r : Fin 512) (k : Fin 1024), o.1 (ix2 r k) = ((S.YA (512 * n + r.val) k.val : ℝ) : EReal)
  yb : ∀ (r : Fin 512) (k : Fin 1024), o.2.1 (ix2 r k) = ((S.YB (512 * (15 - n) + r.val) k.val : ℝ) : EReal)
  ff : n = 15 → ∀ (h : Fin 8) (d e : Fin 128), o.2.2.1 (ix3 h d e) = ((S.fw h d e (4 * (n + 1)) : ℝ) : EReal)
  fb : n = 15 → ∀ (h : Fin 8) (d e : Fin 128), o.2.2.2.1 (ix3 h d e) = ((S.bw h d e (4 * (n + 1)) : ℝ) : EReal)
  sf : ∀ (h : Fin 8) (d e : Fin 128), o.2.2.2.2.1 (ix3 h d e) = ((S.fw h d e (4 * (n + 1)) : ℝ) : EReal)
  sb : ∀ (h : Fin 8) (d e : Fin 128), o.2.2.2.2.2.1 (ix3 h d e) = ((S.bw h d e (4 * (n + 1)) : ℝ) : EReal)
  dm : ∀ (h : Fin 8) (i j : Fin 128), o.2.2.2.2.2.2.1 (ix3 h i j) = ((mask (S.g 0 h) (S.g 1 h) i.val j.val : ℝ) : EReal)
  fo : ∀ (h : Fin 8) (i j : Fin 128), o.2.2.2.2.2.2.2.1 (ix3 h i j) = ((Real.exp (S.g 0 h * (i.val + 1)) : ℝ) : EReal)
  fu : ∀ (h : Fin 8) (i j : Fin 128), o.2.2.2.2.2.2.2.2.1 (ix3 h i j) = ((Real.exp (S.g 0 h * (127 - i.val)) : ℝ) : EReal)
  fa : ∀ (h : Fin 8) (i j : Fin 128), o.2.2.2.2.2.2.2.2.2.1 (ix3 h i j) = ((Real.exp (S.g 0 h * 128) : ℝ) : EReal)
  bo : ∀ (h : Fin 8) (i j : Fin 128), o.2.2.2.2.2.2.2.2.2.2.1 (ix3 h i j) = ((Real.exp (S.g 1 h * (128 - i.val)) : ℝ) : EReal)
  bu : ∀ (h : Fin 8) (i j : Fin 128), o.2.2.2.2.2.2.2.2.2.2.2.1 (ix3 h i j) = ((Real.exp (S.g 1 h * i.val) : ℝ) : EReal)
  ba : ∀ (h : Fin 8) (i j : Fin 128), o.2.2.2.2.2.2.2.2.2.2.2.2 (ix3 h i j) = ((Real.exp (S.g 1 h * 128) : ℝ) : EReal)

variable {S : Src}

theorem of_sf {t : ℕ} {D : Pt Ideal} (H : S.Reads t D) {y : Vec Ideal S8x128x128 .f32}
    (hy : ∃ rest, y = View.canon (headsL (sfAt D 4) ++ rest)) (h : Fin 8) (d e : Fin 128) :
    y (ix3 h d e) = ((S.fw h d e (4 * (t + 1)) : ℝ) : EReal) := by
  obtain ⟨rest, rfl⟩ := hy
  exact canon_sf H rest h d e

theorem of_sb {t : ℕ} {D : Pt Ideal} (H : S.Reads t D) (ht : t < 16) {y : Vec Ideal S8x128x128 .f32}
    (hy : ∃ rest, y = View.canon (headsL (sbAt D 4) ++ rest)) (h : Fin 8) (d e : Fin 128) :
    y (ix3 h d e) = ((S.bw h d e (4 * (t + 1)) : ℝ) : EReal) := by
  obtain ⟨rest, rfl⟩ := hy
  exact canon_sb H ht rest h d e

theorem of_heads {x : Fin 8 → Vec Ideal S1x128x128 .f32} {y : Vec Ideal S8x128x128 .f32} (hy : y = View.canon (headsL x ++ []))
    (h : Fin 8) (i j : Fin 128) : y (ix3 h i j) = x h (ix3 0 i j) := by
  rw [hy, canon_heads]

/-- A point leaves what its reads say: its stores, and the decays it found or stored. -/
theorem After.of {t : ℕ} {D : Pt Ideal} (R : S.Reads t D) (ht : t < 16) {a9 a10 : Vec Ideal S512x1024 .f32}
    {a11 a12 b0 b1 b2 b3 b4 b5 b6 b7 b8 : Vec Ideal S8x128x128 .f32}
    (h9 : a9 = View.canon (yaL D)) (h10 : a10 = View.canon (ybL D))
    (h11 : t = 15 → ∃ rest, a11 = View.canon (headsL (sfAt D 4) ++ rest))
    (h12 : t = 15 → ∃ rest, a12 = View.canon (headsL (sbAt D 4) ++ rest))
    (h0 : ∃ rest, b0 = View.canon (headsL (sfAt D 4) ++ rest)) (h1 : ∃ rest, b1 = View.canon (headsL (sbAt D 4) ++ rest))
    (h2 : ∀ h i j, b2 (ix3 h i j) = D.dm h (ix3 0 i j))
    (h3 : ∀ h i j, b3 (ix3 h i j) = D.fo h (ix3 0 i j))
    (h4 : ∀ h i j, b4 (ix3 h i j) = D.fu h (ix3 0 i j))
    (h5 : ∀ h i j, b5 (ix3 h i j) = D.fa h (ix3 0 i j))
    (h6 : ∀ h i j, b6 (ix3 h i j) = D.bo h (ix3 0 i j))
    (h7 : ∀ h i j, b7 (ix3 h i j) = D.bu h (ix3 0 i j))
    (h8 : ∀ h i j, b8 (ix3 h i j) = D.ba h (ix3 0 i j)) :
    After S t (a9, a10, a11, a12, b0, b1, b2, b3, b4, b5, b6, b7, b8) where
  ya r k := (congrFun h9 _).trans (canon_ya R r k)
  yb r k := (congrFun h10 _).trans (canon_yb R ht r k)
  ff e := of_sf R (h11 e)
  fb e := of_sb R ht (h12 e)
  sf := of_sf R h0
  sb := of_sb R ht h1
  dm h i j := (h2 h i j).trans (R.dm h i j)
  fo h i j := (h3 h i j).trans (R.fo h i j)
  fu h i j := (h4 h i j).trans (R.fu h i j)
  fa h i j := (h5 h i j).trans (R.fa h i j)
  bo h i j := (h6 h i j).trans (R.bo h i j)
  bu h i j := (h7 h i j).trans (R.bu h i j)
  ba h i j := (h8 h i j).trans (R.ba h i j)

variable {m : (ℓ : Loc nD τ sig) → Buf (Elt Ideal) ℓ} {c : Dev nD}

/-- A later point reads what the point before it left. -/
theorem reads_next (H : Args m c S) (t : Fin cfg0.N) (h0 : t.val ≠ 0) {o : Left} (P : After S (t.val - 1) o) :
    S.Reads t.val (ptB (iblk m c 1 t) (iblk m c 2 t) (iblk m c 3 t) (iblk m c 4 t) (iblk m c 5 t) (iblk m c 6 t)
      o.2.2.2.2.1 o.2.2.2.2.2.1 o.2.2.2.2.2.2.1 o.2.2.2.2.2.2.2.1 o.2.2.2.2.2.2.2.2.1 o.2.2.2.2.2.2.2.2.2.1 o.2.2.2.2.2.2.2.2.2.2.1 o.2.2.2.2.2.2.2.2.2.2.2.1 o.2.2.2.2.2.2.2.2.2.2.2.2) where
  qi := in1 H t
  ki := in2 H t
  vi := in3 H t
  qj := in4 H t
  kj := in5 H t
  vj := in6 H t
  sf h d e := (hd_apply _ h d e).trans ((P.sf h d e).trans (by rw [show t.val - 1 + 1 = t.val by omega]))
  sb h d e := (hd_apply _ h d e).trans ((P.sb h d e).trans (by rw [show t.val - 1 + 1 = t.val by omega]))
  dm h i j := (hd_apply _ h i j).trans (P.dm h i j)
  fo h i j := (hd_apply _ h i j).trans (P.fo h i j)
  fu h i j := (hd_apply _ h i j).trans (P.fu h i j)
  fa h i j := (hd_apply _ h i j).trans (P.fa h i j)
  bo h i j := (hd_apply _ h i j).trans (P.bo h i j)
  bu h i j := (hd_apply _ h i j).trans (P.bu h i j)
  ba h i j := (hd_apply _ h i j).trans (P.ba h i j)

/-- The first point. -/
theorem after_first (H : Args m c S) (t : Fin cfg0.N) (h : t.val = 0) : After S t.val (outsAt0 m c t.val t.isLt) := by
  have ht : t.val < 16 := Nat.lt_of_lt_of_eq t.isLt N_0
  have h0 : t.val % 16 = 0 := by omega
  have h1 : ¬t.val % 16 = 15 := by omega
  have R : S.Reads t.val (ptA (iblk m c 0 t) (iblk m c 1 t) (iblk m c 2 t) (iblk m c 3 t) (iblk m c 4 t) (iblk m c 5 t) (iblk m c 6 t)
      (iblk m c 7 t) (iblk m c 8 t)) := by
    have i1 := in1 H t
    have i2 := in2 H t
    have i3 := in3 H t
    have i4 := in4 H t
    have i5 := in5 H t
    have i6 := in6 H t
    rw [h] at i1 i2 i3 i4 i5 i6 ⊢
    exact Src.reads_first (in0 H t) i1 i2 i3 i4 i5 i6 (in7 H t) (in8 H t)
  rw [outsAt0_A m c t h0 h1]
  refine After.of R ht ?_ ?_ ?_ ?_ ?_ ?_ ?_ ?_ ?_ ?_ ?_ ?_ ?_
  · exact out_A_9 ..
  · exact out_A_10 ..
  · exact fun e => absurd e (by omega)
  · exact fun e => absurd e (by omega)
  · exact sout_A_0 ..
  · exact sout_A_1 ..
  · exact of_heads (sout_A_2 ..)
  · exact of_heads (sout_A_3 ..)
  · exact of_heads (sout_A_4 ..)
  · exact of_heads (sout_A_5 ..)
  · exact of_heads (sout_A_6 ..)
  · exact of_heads (sout_A_7 ..)
  · exact of_heads (sout_A_8 ..)

/-- A point in the middle. -/
theorem after_middle (H : Args m c S) (t : Fin cfg0.N) (h0 : ¬t.val % 16 = 0) (h1 : ¬t.val % 16 = 15)
    (P : After S (t.val - 1) (outsAt0 m c (t.val - 1) (Nat.lt_of_le_of_lt (Nat.sub_le _ _) t.isLt))) : After S t.val (outsAt0 m c t.val t.isLt) := by
  have ht : t.val < 16 := Nat.lt_of_lt_of_eq t.isLt N_0
  have R := reads_next H t (by omega) P
  rw [outsAt0_B m c t h0 h1]
  refine After.of R ht ?_ ?_ ?_ ?_ ?_ ?_ ?_ ?_ ?_ ?_ ?_ ?_ ?_
  · exact out_B_9 ..
  · exact out_B_10 ..
  · exact fun e => absurd e (by omega)
  · exact fun e => absurd e (by omega)
  · exact sout_B_0 ..
  · exact sout_B_1 ..
  · exact fun h i j => (hd_apply _ h i j).symm
  · exact fun h i j => (hd_apply _ h i j).symm
  · exact fun h i j => (hd_apply _ h i j).symm
  · exact fun h i j => (hd_apply _ h i j).symm
  · exact fun h i j => (hd_apply _ h i j).symm
  · exact fun h i j => (hd_apply _ h i j).symm
  · exact fun h i j => (hd_apply _ h i j).symm

/-- The last point. -/
theorem after_last (H : Args m c S) (t : Fin cfg0.N) (h0 : ¬t.val % 16 = 0) (h1 : t.val % 16 = 15)
    (P : After S (t.val - 1) (outsAt0 m c (t.val - 1) (Nat.lt_of_le_of_lt (Nat.sub_le _ _) t.isLt))) : After S t.val (outsAt0 m c t.val t.isLt) := by
  have ht : t.val < 16 := Nat.lt_of_lt_of_eq t.isLt N_0
  have R := reads_next H t (by omega) P
  rw [outsAt0_C m c t h0 h1]
  refine After.of R ht ?_ ?_ ?_ ?_ ?_ ?_ ?_ ?_ ?_ ?_ ?_ ?_ ?_
  · exact out_C_9 ..
  · exact out_C_10 ..
  · exact fun _ => out_C_11 ..
  · exact fun _ => out_C_12 ..
  · exact sout_C_0 ..
  · exact sout_C_1 ..
  · exact fun h i j => (hd_apply _ h i j).symm
  · exact fun h i j => (hd_apply _ h i j).symm
  · exact fun h i j => (hd_apply _ h i j).symm
  · exact fun h i j => (hd_apply _ h i j).symm
  · exact fun h i j => (hd_apply _ h i j).symm
  · exact fun h i j => (hd_apply _ h i j).symm
  · exact fun h i j => (hd_apply _ h i j).symm

/-- Every point leaves what the recurrence says. -/
theorem after_point (H : Args m c S) : ∀ (n : ℕ) (hn : n < cfg0.N), After S n (outsAt0 m c n hn)
  | 0, hn => after_first H ⟨0, hn⟩ rfl
  | n + 1, hn => by
    have hn' : n + 1 < 16 := Nat.lt_of_lt_of_eq hn N_0
    have P := after_point H n (Nat.lt_of_succ_lt hn)
    by_cases h1 : (n + 1) % 16 = 15
    · exact after_last H ⟨n + 1, hn⟩ (by show ¬(n + 1) % 16 = 0; omega) h1 P
    · exact after_middle H ⟨n + 1, hn⟩ (by show ¬(n + 1) % 16 = 0; omega) h1 P

end Cert.KernelIdeal.Scan

end
-- ==== Proof.Arrays.lean ====
/-
  The call's results: the arrays the grid points fill, and the sum of the two halves after the call.
-/
module

public import proofs.«01_k».proof.Proof.Grid

@[expose] public section

set_option maxRecDepth 16384

noncomputable section

namespace Cert.KernelIdeal.Scan

open Idealize.ShloMosaic Idealize.ShloMosaic.TcCoe Idealize.ShloMosaic.Tactic Idealize.SL.Sem Cert.KernelIdeal.Gen Cert.Retention

variable {S : Src} {m : (ℓ : Loc nD τ sig) → Buf (Elt Ideal) ℓ} {c : Dev nD}

/-- The forward half of the outputs. -/
theorem arr_ya (H : Args m c S) : (dats m 0 c).arrAt 9 cfg0.N = fun i => ((S.YA (i 0).val (i 1).val : ℝ) : EReal) := by
  refine Pipeline.Dat.arrAt_eq_of_covers _ 9 _ (by decide +kernel) fun t _ y => ?_
  have e := (idx_fwd t).2.2.2
  rw [after0_9]
  obtain ⟨r, k, rfl⟩ : ∃ (r : Fin 512) (k : Fin 1024), y = ix2 r k := ⟨y 0, y 1, by funext a; fin_cases a <;> rfl⟩
  refine ((after_point H t.val t.isLt).ya r k).trans ?_
  show ((S.YA (512 * t.val + r.val) k.val : ℝ) : EReal) = ((S.YA _ _ : ℝ) : EReal)
  congr 2
  · blk_simp [e]
    omega
  · blk_simp [e]

/-- The backward half of the outputs. -/
theorem arr_yb (H : Args m c S) : (dats m 0 c).arrAt 10 cfg0.N = fun i => ((S.YB (i 0).val (i 1).val : ℝ) : EReal) := by
  refine Pipeline.Dat.arrAt_eq_of_covers _ 10 _ (by decide +kernel) fun t _ y => ?_
  have e := (idx_bwd t).2.2.2
  rw [after0_10]
  obtain ⟨r, k, rfl⟩ : ∃ (r : Fin 512) (k : Fin 1024), y = ix2 r k := ⟨y 0, y 1, by funext a; fin_cases a <;> rfl⟩
  refine ((after_point H t.val t.isLt).yb r k).trans ?_
  show ((S.YB (512 * (15 - t.val) + r.val) k.val : ℝ) : EReal) = ((S.YB _ _ : ℝ) : EReal)
  congr 2
  · blk_simp [e]
    omega
  · blk_simp [e]

/-- The forward state after the last row. -/
theorem arr_sf (H : Args m c S) : (dats m 0 c).arrAt 11 cfg0.N = fun i => ((S.fw (i 0) (i 1) (i 2) 64 : ℝ) : EReal) := by
  refine Pipeline.Dat.arrAt_eq_of_after_last _ 11 (⟨15, by decide⟩ : Fin grid0.N) (by decide +kernel) _ fun i => ?_
  rw [after0_11]
  obtain ⟨h, d, e, rfl⟩ : ∃ (h : Fin 8) (d e : Fin 128), i = ix3 h d e := ⟨i 0, i 1, i 2, by funext a; fin_cases a <;> rfl⟩
  refine ((after_point H 15 (by decide)).ff rfl h d e).trans ?_
  rfl

/-- The backward state before the first row. -/
theorem arr_sb (H : Args m c S) : (dats m 0 c).arrAt 12 cfg0.N = fun i => ((S.bw (i 0) (i 1) (i 2) 64 : ℝ) : EReal) := by
  refine Pipeline.Dat.arrAt_eq_of_after_last _ 12 (⟨15, by decide⟩ : Fin grid0.N) (by decide +kernel) _ fun i => ?_
  rw [after0_12]
  obtain ⟨h, d, e, rfl⟩ : ∃ (h : Fin 8) (d e : Fin 128), i = ix3 h d e := ⟨i 0, i 1, i 2, by funext a; fin_cases a <;> rfl⟩
  refine ((after_point H 15 (by decide)).fb rfl h d e).trans ?_
  blk_simp
  rfl

/-- The sum after the call. -/
theorem tail_eq (H : Args m c S) :
    Pipeline.afterTail₀ cfgs (dats m) 0 (V0 m) [hostOps1] c main_v3
      = fun i : S8192x1024.Idx => ((S.YA (i 0).val (i 1).val + S.YB (i 0).val (i 1).val : ℝ) : EReal) := by
  have e9 := ((dats m 0 c).withArrays_arrAt sharedIn0 (V0 m c) (A_eq m c) 9).trans (arr_ya H)
  have e10 := ((dats m 0 c).withArrays_arrAt sharedIn0 (V0 m c) (A_eq m c) 10).trans (arr_yb H)
  refine Eq.trans (b := addf (F := Ideal) (φ := .f32)
    (Pipeline.withArrays spec0 c (V0 m c) (fun w => (dats m 0 c).arrAt w cfg0.N) (Proc.tc.devRef main_v2_0))
    (Pipeline.withArrays spec0 c (V0 m c) (fun w => (dats m 0 c).arrAt w cfg0.N) (Proc.tc.devRef main_v2_1))) ?_ ?_
  · show StableHlo.after hostOps1 _ (Proc.tc.devRef main_v3) = _
    unfold_abbrev_sides
    after_results
  · funext i
    exact congrArg₂ (fun x y : EReal => x + y) (congrFun e9 i) (congrFun e10 i)

/-- The run: its results as real numbers, its arguments unchanged. -/
theorem run (S : Dev nD → Src) (H : ∀ c, Args m c (S c)) (g : Dev nD → PrngReg) :
    θ_run (defs (F := Ideal)) (onTc (τ := τ) (main (F := Ideal))) ⟨m, fun _ => 0, g⟩ (fun r => ∀ c : Dev nD,
      r.2.mem ((c.tc : Thread nD τ).loc main_v3)
          = (fun i : S8192x1024.Idx => (((S c).YA (i 0).val (i 1).val + (S c).YB (i 0).val (i 1).val : ℝ) : EReal))
      ∧ r.2.mem ((c.tc : Thread nD τ).loc main_v2_2) = (fun i : S8x128x128.Idx => (((S c).fw (i 0) (i 1) (i 2) 64 : ℝ) : EReal))
      ∧ r.2.mem ((c.tc : Thread nD τ).loc main_v2_3) = (fun i : S8x128x128.Idx => (((S c).bw (i 0) (i 1) (i 2) 64 : ℝ) : EReal))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) := by
  refine θ_run_mono (θ_run_and (run_main m g) (unchanged m g)) fun r hr c => ⟨?_, ?_, ?_, hr.2 c⟩
  · exact (hr.1.rest_eq c main_v3 (by decide)).trans (tail_eq (H c))
  · exact (hr.1.out_eq c 11).trans (arr_sf (H c))
  · exact (hr.1.out_eq c 12).trans (arr_sb (H c))

end Cert.KernelIdeal.Scan

end
-- ==== Proof.Reference.lean ====
/-
  The reference over the reals: one direction of the retention over the whole sequence, and the other direction as the same on the sequence
  turned round.
-/
module

public import proofs.«01_k».proof.Proof.Payloads
public import proofs.«01_k».proof.Proof.Gen.ReferenceIdeal.Read
public import Idealize.ShloMosaic.Lib.Routing.OpsOne

@[expose] public section

set_option maxRecDepth 16384

noncomputable section

namespace Cert.ReferenceIdeal.Whole

open Idealize.ShloMosaic Idealize.ShloMosaic.TcCoe Idealize.ShloMosaic.Tactic Cert.ReferenceIdeal Cert.ReferenceIdeal.Gen
  Cert.ReferenceIdeal.Read
open Cert.KernelIdeal.Scan (coe_sum rate log1p_exp)
open Idealize.ShloMosaic.Routing (symm_col numel_col shape2)

/-- Adding to an accumulator, over a list, adds the list's sum. -/
theorem foldl_real {ι : Type*} (l : List ι) (f : ι → ℝ) (g : EReal → ι → EReal) (hg : ∀ a n, n ∈ l → g a n = a + (f n : EReal)) (a : ℝ) :
    l.foldl g (a : EReal) = ((a + (l.map f).sum : ℝ) : EReal) := by
  induction l generalizing a with
  | nil => simp
  | cons n l ih =>
    rw [List.foldl_cons, hg _ _ (List.mem_cons_self ..), ← EReal.coe_add, ih (fun a k hk => hg a k (List.mem_cons_of_mem _ hk)),
      List.map_cons, List.sum_cons, add_assoc]

/-- The window over row `r` holds `r + 1` rows. -/
theorem window_sum {M L r : ℕ} (hL : L = M + 1) (hr : r ≤ M) (g : ℝ) :
    ((List.finRange L).map fun n : Fin L => if M ≤ r + n.val then g else 0).sum = (r + 1) * g := by
  subst hL
  rw [← List.ofFn_eq_map, List.sum_ofFn, Fin.sum_univ_eq_sum_range (fun n => if M ≤ r + n then g else 0) (M + 1), ← Finset.sum_filter,
    Finset.sum_const, nsmul_eq_mul]
  have e : Finset.filter (fun n => M ≤ r + n) (Finset.range (M + 1)) = Finset.Ico (M - r) (M + 1) := by
    ext n; simp only [Finset.mem_filter, Finset.mem_range, Finset.mem_Ico]; omega
  rw [e, Nat.card_Ico, show M + 1 - (M - r) = r + 1 by omega]
  push_cast
  ring

/-- The running sum down the rows, of rows that are all alike. -/
theorem cumsum_const {M N C : ℕ} (hN : M + 1 = N) (x : (shape2 N C).Idx → EReal) (init : EReal) (g : Fin C → ℝ)
    (hx : ∀ (r : Fin N) (h : Fin C), x (ix2 r h) = ((g h : ℝ) : EReal)) (hi : init = 0)
    (hw : (shape2 N C).ReduceWindows (![N, 1] : Fin 2 → Nat) ![1, 1] ![M, 0] ![0, 0] (shape2 N C)) (r : Fin N) (h : Fin C) :
    Ideal.hostReduceWindowAdd ![N, 1] ![1, 1] ![M, 0] ![0, 0] hw x init (ix2 r h) = (((r.val + 1) * g h : ℝ) : EReal) := by
  subst hN hi
  have hr := r.isLt
  have hh := h.isLt
  unfold Ideal.hostReduceWindowAdd Host.reduceWindow
  refine (foldl_real _ (fun n => if M ≤ r.val + n.val then g h else 0) _ (fun a n _ => ?_) 0).trans ?_
  · have hw0 : ((shape2 (M + 1) 1).rowMajor.symm n 0).val = n.val := by rw [symm_col]; rfl
    have hw1 : ((shape2 (M + 1) 1).rowMajor.symm n 1).val = 0 := by rw [symm_col]; rfl
    have hn : n.val < M + 1 := (n.cast (numel_col _)).isLt
    dsimp only
    congr 1
    by_cases hle : M ≤ r.val + n.val
    · rw [if_pos hle, dif_pos]
      · refine (congrArg x (funext fun a => Fin.ext ?_)).trans (hx ⟨r.val + n.val - M, by omega⟩ h)
        match a with
        | ⟨0, _⟩ =>
          show r.val * 1 + ((shape2 (M + 1) 1).rowMajor.symm n 0).val - M = r.val + n.val - M
          omega
        | ⟨1, _⟩ =>
          show h.val * 1 + ((shape2 (M + 1) 1).rowMajor.symm n 1).val - 0 = h.val
          omega
      · intro a
        match a with
        | ⟨0, _⟩ =>
          show M ≤ r.val * 1 + ((shape2 (M + 1) 1).rowMajor.symm n 0).val ∧ r.val * 1 + ((shape2 (M + 1) 1).rowMajor.symm n 0).val - M < M + 1
          omega
        | ⟨1, _⟩ =>
          show 0 ≤ h.val * 1 + ((shape2 (M + 1) 1).rowMajor.symm n 1).val ∧ h.val * 1 + ((shape2 (M + 1) 1).rowMajor.symm n 1).val - 0 < C
          omega
    · rw [if_neg hle, dif_neg]
      · rfl
      · intro hin
        have h0 : M ≤ r.val * 1 + ((shape2 (M + 1) 1).rowMajor.symm n 0).val := (hin 0).1
        omega
  · rw [zero_add]
    exact congrArg _ (window_sum (numel_col (M + 1)) (by omega) (g h))

theorem coe_max (a b : ℝ) : ((max a b : ℝ) : EReal) = max (a : EReal) (b : EReal) := EReal.coe_strictMono.monotone.map_max

variable (x0 x1 x2 : (⟨S8192x1024, .bf16⟩ : BufTy).Contents (Elt Ideal)) (x3 : (⟨S2x8, .f32⟩ : BufTy).Contents (Elt Ideal))
  (x4 : (⟨S8x128x128, .f32⟩ : BufTy).Contents (Elt Ideal))

/-- The log of the logistic function, as the reference computes it. -/
theorem log_sigmoid (x : ℝ) :
    (-if -(x : EReal) ≠ -(x : EReal) then -(x : EReal)
      else max (-(x : EReal)) 0 + Ideal.log1p (Ideal.exp (-FloatOps.absf (F := Ideal) (φ := .f32) (-(x : EReal))))) = ((rate x : ℝ) : EReal) := by
  have ha : FloatOps.absf (F := Ideal) (φ := .f32) (-(x : EReal)) = ((|x| : ℝ) : EReal) := by
    show max (-(x : EReal)) (-(-(x : EReal))) = _
    rw [neg_neg, ← EReal.coe_neg, ← coe_max, abs_eq_max_neg, max_comm]
  have hl : ∀ y : ℝ, Ideal.log1p (Ideal.exp (-((y : ℝ) : EReal))) = ((Real.log (1 + Real.exp (-y)) : ℝ) : EReal) := fun y => by
    rw [← EReal.coe_neg, Ideal.exp_coe, Ideal.log1p, show (1 : EReal) + ((Real.exp (-y) : ℝ) : EReal) = ((1 + Real.exp (-y) : ℝ) : EReal) by
      push_cast; rfl, Ideal.log_coe, if_neg (not_le.mpr (by positivity))]
  rw [if_neg (not_not.mpr rfl), ha, hl, ← EReal.coe_neg, show (0 : EReal) = ((0 : ℝ) : EReal) from rfl, ← coe_max, ← EReal.coe_add, ← EReal.coe_neg]
  congr 1
  rw [rate, neg_inj]
  rcases le_total 0 x with hx | hx
  · rw [abs_of_nonneg hx, max_eq_right (by linarith), zero_add]
  · rw [abs_of_nonpos hx, max_eq_left (by linarith), neg_neg, show 1 + Real.exp (-x) = Real.exp (-x) * (1 + Real.exp x) by
      rw [mul_add, ← Real.exp_add, mul_one, neg_add_cancel, Real.exp_zero, add_comm], Real.log_mul (Real.exp_pos _).ne' (by positivity), Real.log_exp]

variable {x0 x1 x2 x3 x4} {lr : Fin 2 → Fin 8 → ℝ}

theorem rate_fwd (h3 : ∀ (a : Fin 2) (h : Fin 8), x3 (ix2 a h) = ((lr a h : ℝ) : EReal)) (t : Fin 8192) (h : Fin 8) :
    val_main_v9 (F := Ideal) x3 (ix2 t h) = ((rate (lr 0 h) : ℝ) : EReal) := by
  unfold val_main_v9 val_main_v8 val_main_v7 val_main_v6 val_main_call0_v1 val_main_call0_call0_v4 val_main_call0_call0_v6
    val_main_call0_call0_v11 val_main_call0_call0_v5 val_main_call0_call0_v1 val_main_call0_call0_v10 val_main_call0_call0_v9
    val_main_call0_call0_v8 val_main_call0_call0_v7 val_main_call0_call0_v3 val_main_call0_call0_v2 val_main_call0_call0_v0
    val_main_call0_call0_cst val_main_call0_v0
  pointwise
  rw [h3, log_sigmoid]

theorem cum_fwd (h3 : ∀ (a : Fin 2) (h : Fin 8), x3 (ix2 a h) = ((lr a h : ℝ) : EReal)) (t : Fin 8192) (h : Fin 8) :
    val_main_v13 (F := Ideal) x3 (ix2 t h) = (((t.val + 1) * rate (lr 0 h) : ℝ) : EReal) := by
  unfold val_main_v13 Host.reduceWindowAdd
  show Ideal.hostReduceWindowAdd _ _ _ _ _ _ _ _ = _
  refine cumsum_const (M := 8191) (N := 8192) (C := 8) (by norm_num) _ _ (fun h => rate (lr 0 h)) (rate_fwd h3) ?_ _ t h
  obtain e : Shape.Idx.first h_S_ = ix0 := Subsingleton.elim _ _
  rw [e]
  unfold val_main_call1_call0_v0 val_main_call1_call0_cst
  pointwise

/-- A step of the mask: `-∞` above the diagonal. -/
theorem exp_masked (t s : Fin 8192) (a b : ℝ) :
    Ideal.exp (Scalar.select (Scalar.select (IntOp.cmpi CmpIPredicate.sge (IntOp.addi (BitVec.ofNat 32 t.val) 0#32) (BitVec.ofNat 32 s.val)) 1#1 0#1)
      ((a : EReal) - (b : EReal)) (id (constant (F := Ideal) S_ FTy.f32 4286578688#32) ix0))
      = (((if s.val ≤ t.val then Real.exp (a - b) else 0 : ℝ)) : EReal) := by
  have ht := t.isLt
  have hs := s.isLt
  have e : ∀ n : ℕ, n < 8192 → (BitVec.ofNat 32 n).toInt = n := fun n hn => by
    rw [BitVec.toInt_eq_toNat_of_lt (by rw [BitVec.toNat_ofNat]; omega), BitVec.toNat_ofNat]; omega
  have hc : IntOp.cmpi CmpIPredicate.sge (IntOp.addi (BitVec.ofNat 32 t.val) 0#32) (BitVec.ofNat 32 s.val) = if s.val ≤ t.val then 1#1 else 0#1 := by
    show BitVec.ofBool ((BitVec.ofNat 32 s.val).sle (BitVec.ofNat 32 t.val + 0#32)) = _
    rw [BitVec.add_zero, BitVec.sle, e _ hs, e _ ht]
    by_cases h : s.val ≤ t.val
    · rw [if_pos h, decide_eq_true (by exact_mod_cast h)]; rfl
    · rw [if_neg h, decide_eq_false (by exact_mod_cast h)]; rfl
  have hb : constant (F := Ideal) S_ FTy.f32 4286578688#32 ix0 = (⊥ : EReal) := by
    show Ideal.ofBits .f32 4286578688#32 = ⊥
    simp [Ideal.ofBits, Ideal.ieee]
  rw [hc, id, hb]
  split_ifs
  · show Ideal.exp ((a : EReal) - (b : EReal)) = _
    rw [← EReal.coe_sub, Ideal.exp_coe]
  · show Ideal.exp ⊥ = _
    simp

variable {q k v : ℕ → Fin 8 → Fin 128 → ℝ} {g : Fin 8 → ℝ} {s0 : Fin 8 → Fin 128 → Fin 128 → ℝ}

/-- One direction's rows. -/
theorem rows (hq : ∀ (t : Fin 8192) h d, val_main_v1 (F := Ideal) x0 (ix3 t h d) = ((q t.val h d : ℝ) : EReal))
    (hk : ∀ (t : Fin 8192) h d, val_main_v3 (F := Ideal) x1 (ix3 t h d) = ((k t.val h d : ℝ) : EReal))
    (hv : ∀ (t : Fin 8192) h d, val_main_v5 (F := Ideal) x2 (ix3 t h d) = ((v t.val h d : ℝ) : EReal))
    (hc : ∀ (t : Fin 8192) h, val_main_v13 (F := Ideal) x3 (ix2 t h) = (((t.val + 1) * g h : ℝ) : EReal))
    (hs : ∀ h d e, x4 (ix3 h d e) = ((s0 h d e : ℝ) : EReal)) (t : Fin 8192) (h : Fin 8) (e : Fin 128) :
    val_main_v50 (F := Ideal) x0 x1 x2 x3 x4 (ix3 t h e)
      = ((∑ s ∈ Finset.range 8192, (∑ d, q t.val h d * k s h d) * (if s ≤ t.val then Real.exp (g h * (t.val - s)) else 0) * v s h e
          + ∑ d, (q t.val h d * Real.exp (g h * (t.val + 1))) * s0 h d e : ℝ) : EReal) := by
  unfold val_main_v50 val_main_v49 val_main_v48 val_main_v47 val_main_v46 val_main_v45 val_main_v44 val_main_v43 val_main_v42 val_main_v41
    val_main_v40 val_main_v39 val_main_v38 val_main_v37 val_main_v33 val_main_v32 val_main_v31 val_main_v30 val_main_v29 val_main_call3_v1
    val_main_call3_v2 val_main_call3_v0 val_main_cst val_main_v36 val_main_v35 val_main_v34 val_main_c val_main_call2_v4 val_main_call2_v2
    val_main_call2_v3 val_main_call2_v5 val_main_call2_c_0 val_main_call2_v1 val_main_call2_c val_main_call2_v0
  pointwise
  simp only [hq, hk, hv, hc, hs, Ideal.exp_coe, ← EReal.coe_mul, ← coe_sum]
  refine (congrArg₂ (· + ·) (Finset.sum_congr rfl fun s _ => congrArg (fun z : EReal => _ * (_ * z)) (exp_masked t s _ _)) rfl).trans ?_
  simp only [← EReal.coe_mul, ← coe_sum, ← EReal.coe_add]
  rw [Finset.sum_range (n := 8192) (f := fun s => (∑ d, q t.val h d * k s h d) * (if s ≤ t.val then Real.exp (g h * (t.val - s)) else 0) * v s h e)]
  refine congrArg _ (congrArg₂ (· + ·) ?_ ?_)
  · refine Finset.sum_congr rfl fun s _ => ?_
    rw [mul_comm, show (∑ d, k s.val h d * q t.val h d) = ∑ d, q t.val h d * k s.val h d from Finset.sum_congr rfl fun d _ => mul_comm _ _,
      show (t.val + 1) * g h - (s.val + 1) * g h = g h * ((t.val : ℝ) - s.val) by ring]
  · refine Finset.sum_congr rfl fun d _ => ?_
    rw [mul_comm]
    congr 3; ring

/-- One direction's last state. -/
theorem last (hk : ∀ (t : Fin 8192) h d, val_main_v3 (F := Ideal) x1 (ix3 t h d) = ((k t.val h d : ℝ) : EReal))
    (hv : ∀ (t : Fin 8192) h d, val_main_v5 (F := Ideal) x2 (ix3 t h d) = ((v t.val h d : ℝ) : EReal))
    (hc : ∀ (t : Fin 8192) h, val_main_v13 (F := Ideal) x3 (ix2 t h) = (((t.val + 1) * g h : ℝ) : EReal))
    (hs : ∀ h d e, x4 (ix3 h d e) = ((s0 h d e : ℝ) : EReal)) (h : Fin 8) (d e : Fin 128) :
    val_main_v28 (F := Ideal) x1 x2 x3 x4 (ix3 h d e)
      = ((Real.exp (g h * 8192) * s0 h d e + ∑ s ∈ Finset.range 8192, Real.exp (g h * (8191 - s)) * (k s h d * v s h e) : ℝ) : EReal) := by
  unfold val_main_v28 val_main_v27 val_main_v26 val_main_v25 val_main_v24 val_main_v23 val_main_v22 val_main_v21 val_main_v20 val_main_v19
    val_main_v18 val_main_v17 val_main_v16 val_main_v15 val_main_v14
  pointwise
  have h8 : ((8191 : Fin 8192).val : ℝ) = 8191 := by norm_num
  simp only [hk, hv, hc, hs, Ideal.exp_coe, ← EReal.coe_sub, ← EReal.coe_mul, ← coe_sum, ← EReal.coe_add, h8]
  rw [Finset.sum_range (n := 8192) (f := fun s : ℕ => Real.exp (g h * (8191 - s)) * (k s h d * v s h e))]
  refine congrArg _ (congrArg₂ (· + ·) ?_ ?_)
  · congr 2; ring
  · refine Finset.sum_congr rfl fun s _ => ?_
    rw [mul_comm (k _ _ _), mul_assoc]
    congr 2; ring

end Cert.ReferenceIdeal.Whole

end
-- ==== Proof.Turned.lean ====
/-
  The reference's other direction, read as the first one on the sequence turned round, and its three results over the reals.
-/
module

public import proofs.«01_k».proof.Proof.Reference
public import proofs.«01_k».proof.Proof.Blocks

@[expose] public section

set_option maxRecDepth 16384

noncomputable section

namespace Cert.ReferenceIdeal.Whole

open Idealize.ShloMosaic Idealize.ShloMosaic.TcCoe Idealize.ShloMosaic.Tactic Cert.ReferenceIdeal Cert.ReferenceIdeal.Gen
  Cert.ReferenceIdeal.Read
open Cert.KernelIdeal.Scan (Src coe_sum rate)
open Cert.Retention (row_eq fwd_eq bwd_eq)

/-- The rows in the opposite order. -/
def turn (x : (⟨S8192x1024, .bf16⟩ : BufTy).Contents (Elt Ideal)) : (⟨S8192x1024, .bf16⟩ : BufTy).Contents (Elt Ideal) :=
  fun i => x (ix2 (i 0).rev (i 1))

/-- The two directions' logits exchanged. -/
def swap (x : (⟨S2x8, .f32⟩ : BufTy).Contents (Elt Ideal)) : (⟨S2x8, .f32⟩ : BufTy).Contents (Elt Ideal) :=
  fun i => x (ix2 (i 0).rev (i 1))

variable (x0 x1 x2 : (⟨S8192x1024, .bf16⟩ : BufTy).Contents (Elt Ideal)) (x3 : (⟨S2x8, .f32⟩ : BufTy).Contents (Elt Ideal))
  (x4 x5 : (⟨S8x128x128, .f32⟩ : BufTy).Contents (Elt Ideal))

theorem v1_at (t : Fin 8192) (h : Fin 8) (d : Fin 128) :
    val_main_v1 (F := Ideal) x0 (ix3 t h d) = x0 (ix2 t ⟨128 * h.val + d.val, by omega⟩) := by
  unfold val_main_v1 val_main_v0
  pointwise
  simp only [Nat.mul_comm]

/-- Reversing the first axis reads the row from the other end. -/
theorem reverse_at (x : (⟨S8192x8x128, .f32⟩ : BufTy).Contents (Elt Ideal)) (t : Fin 8192) (h : Fin 8) (d : Fin 128) :
    Host.reverse (s := S8192x8x128) [0] x (ix3 t h d) = x (ix3 t.rev h d) := by
  pointwise
  rfl

theorem v51_eq : val_main_v51 (F := Ideal) x0 = val_main_v1 (F := Ideal) (turn x0) := by
  funext i
  obtain ⟨t, h, d, rfl⟩ : ∃ (t : Fin 8192) (h : Fin 8) (d : Fin 128), i = ix3 t h d := ⟨i 0, i 1, i 2, ValueIdx.eq_ix3 i⟩
  unfold val_main_v51
  rw [reverse_at, v1_at, v1_at]
  rfl

theorem v52_eq : val_main_v52 (F := Ideal) x1 = val_main_v3 (F := Ideal) (turn x1) := v51_eq x1

theorem v53_eq : val_main_v53 (F := Ideal) x2 = val_main_v5 (F := Ideal) (turn x2) := v51_eq x2

theorem v54_eq : val_main_v54 (F := Ideal) x3 = val_main_v9 (F := Ideal) (swap x3) := by
  funext i
  rw [ValueIdx.eq_ix2 i]
  unfold val_main_v54 val_main_v12 val_main_v11 val_main_v10 val_main_v9 val_main_v8 val_main_v7 val_main_v6 val_main_call0_v1
    val_main_call0_call0_v4 val_main_call0_call0_v6
    val_main_call0_call0_v11 val_main_call0_call0_v5 val_main_call0_call0_v1 val_main_call0_call0_v10 val_main_call0_call0_v9
    val_main_call0_call0_v8 val_main_call0_call0_v7 val_main_call0_call0_v3 val_main_call0_call0_v2 val_main_call0_call0_v0
    val_main_call0_call0_cst val_main_call0_v0
  pointwise
  rfl

theorem v55_eq : val_main_v55 (F := Ideal) x3 = val_main_v13 (F := Ideal) (swap x3) := by
  unfold val_main_v55 val_main_v13
  rw [v54_eq]
  rfl

theorem v70_eq : val_main_v70 (F := Ideal) x1 x2 x3 x5 = val_main_v28 (F := Ideal) (turn x1) (turn x2) (swap x3) x5 := by
  unfold val_main_v70 val_main_v69 val_main_v68 val_main_v67 val_main_v66 val_main_v65 val_main_v64 val_main_v63 val_main_v62 val_main_v61
    val_main_v60 val_main_v59 val_main_v58 val_main_v57 val_main_v56
  rw [v52_eq, v53_eq, v55_eq]
  rfl

theorem v92_eq : val_main_v92 (F := Ideal) x0 x1 x2 x3 x5 = val_main_v50 (F := Ideal) (turn x0) (turn x1) (turn x2) (swap x3) x5 := by
  unfold val_main_v92 val_main_v91 val_main_v90 val_main_v89 val_main_v88 val_main_v87 val_main_v86 val_main_v85 val_main_v84 val_main_v83
    val_main_v82 val_main_v81 val_main_v80 val_main_v79 val_main_v75 val_main_v74 val_main_v73 val_main_v72 val_main_v71
  rw [v51_eq, v52_eq, v53_eq, v55_eq]
  rfl

variable {x0 x1 x2 x3 x4 x5} {S : Src}

/-- The reference's arguments hold the reals of `S`. -/
structure Holds (x0 x1 x2 : (⟨S8192x1024, .bf16⟩ : BufTy).Contents (Elt Ideal)) (x3 : (⟨S2x8, .f32⟩ : BufTy).Contents (Elt Ideal))
    (x4 x5 : (⟨S8x128x128, .f32⟩ : BufTy).Contents (Elt Ideal)) (S : Src) : Prop where
  q : ∀ (r : Fin 8192) (c : Fin 1024), x0 (ix2 r c) = ((S.q r.val c.val : ℝ) : EReal)
  k : ∀ (r : Fin 8192) (c : Fin 1024), x1 (ix2 r c) = ((S.k r.val c.val : ℝ) : EReal)
  v : ∀ (r : Fin 8192) (c : Fin 1024), x2 (ix2 r c) = ((S.v r.val c.val : ℝ) : EReal)
  lr : ∀ (a : Fin 2) (h : Fin 8), x3 (ix2 a h) = ((S.lr a h : ℝ) : EReal)
  sf : ∀ h d e, x4 (ix3 h d e) = ((S.sf h d e : ℝ) : EReal)
  sb : ∀ h d e, x5 (ix3 h d e) = ((S.sb h d e : ℝ) : EReal)

theorem head {f : ℕ → ℕ → ℝ} (H : ∀ (r : Fin 8192) (c : Fin 1024), x0 (ix2 r c) = ((f r.val c.val : ℝ) : EReal)) (t : Fin 8192) (h : Fin 8)
    (d : Fin 128) : val_main_v1 (F := Ideal) x0 (ix3 t h d) = ((f t.val (128 * h.val + d.val) : ℝ) : EReal) := by
  rw [v1_at, H]

theorem head_turned {f : ℕ → ℕ → ℝ} (H : ∀ (r : Fin 8192) (c : Fin 1024), x0 (ix2 r c) = ((f r.val c.val : ℝ) : EReal)) (t : Fin 8192)
    (h : Fin 8) (d : Fin 128) : val_main_v1 (F := Ideal) (turn x0) (ix3 t h d) = ((f (8191 - t.val) (128 * h.val + d.val) : ℝ) : EReal) := by
  rw [v1_at]
  refine (H t.rev _).trans ?_
  rw [Fin.val_rev, show 8192 - (t.val + 1) = 8191 - t.val by omega]
  rfl

theorem swap_at (H : ∀ (a : Fin 2) (h : Fin 8), x3 (ix2 a h) = ((S.lr a h : ℝ) : EReal)) (a : Fin 2) (h : Fin 8) :
    swap x3 (ix2 a h) = ((S.lr a.rev h : ℝ) : EReal) := H a.rev h

theorem front (H : Holds x0 x1 x2 x3 x4 x5 S) (t : Fin 8192) (h : Fin 8) (e : Fin 128) :
    val_main_v50 (F := Ideal) x0 x1 x2 x3 x4 (ix3 t h e)
      = ((∑ s ∈ Finset.range 8192, (∑ d : Fin 128, S.q t.val (128 * h.val + d.val) * S.k s (128 * h.val + d.val))
            * (if s ≤ t.val then Real.exp (S.g 0 h * (t.val - s)) else 0) * S.v s (128 * h.val + e.val)
          + ∑ d : Fin 128, (S.q t.val (128 * h.val + d.val) * Real.exp (S.g 0 h * (t.val + 1))) * S.sf h d e : ℝ) : EReal) :=
  rows (q := fun r h d => S.q r (128 * h.val + d.val)) (k := fun r h d => S.k r (128 * h.val + d.val)) (v := fun r h d => S.v r (128 * h.val + d.val))
    (g := S.g 0) (s0 := S.sf) (head H.q) (head H.k) (head H.v) (cum_fwd H.lr) H.sf t h e

/-- A sum over the sequence from its other end. -/
theorem sum_turned (f : ℕ → ℝ) : ∑ s ∈ Finset.range 8192, f s = ∑ s ∈ Finset.range 8192, f (8191 - s) :=
  (Finset.sum_range_reflect f 8192).symm

theorem back (H : Holds x0 x1 x2 x3 x4 x5 S) (t : Fin 8192) (h : Fin 8) (e : Fin 128) :
    val_main_v93 (F := Ideal) x0 x1 x2 x3 x5 (ix3 t h e)
      = ((∑ s ∈ Finset.range 8192, (∑ d : Fin 128, S.q t.val (128 * h.val + d.val) * S.k s (128 * h.val + d.val))
            * (if t.val ≤ s then Real.exp (S.g 1 h * (s - t.val)) else 0) * S.v s (128 * h.val + e.val)
          + ∑ d : Fin 128, (S.q t.val (128 * h.val + d.val) * Real.exp (S.g 1 h * (8192 - t.val))) * S.sb h d e : ℝ) : EReal) := by
  have ht := t.isLt
  have hr : t.rev.val = 8191 - t.val := by rw [Fin.val_rev]; omega
  have hc : ((8191 - t.val : ℕ) : ℝ) = 8191 - t.val := by rw [Nat.cast_sub (by omega)]; norm_num
  unfold val_main_v93
  rw [reverse_at, v92_eq]
  refine (rows (q := fun r h d => S.q (8191 - r) (128 * h.val + d.val)) (k := fun r h d => S.k (8191 - r) (128 * h.val + d.val))
    (v := fun r h d => S.v (8191 - r) (128 * h.val + d.val)) (g := S.g 1) (s0 := S.sb) (head_turned H.q) (head_turned H.k) (head_turned H.v)
    (cum_fwd (lr := fun a => S.lr a.rev) (swap_at H.lr)) H.sb t.rev h e).trans ?_
  rw [sum_turned fun s => (∑ d : Fin 128, S.q t.val (128 * h.val + d.val) * S.k s (128 * h.val + d.val))
            * (if t.val ≤ s then Real.exp (S.g 1 h * (s - t.val)) else 0) * S.v s (128 * h.val + e.val)]
  rw [hr, show 8191 - (8191 - t.val) = t.val by omega, hc]
  refine congrArg _ (congrArg₂ (· + ·) (Finset.sum_congr rfl fun s hs => ?_) (Finset.sum_congr rfl fun d _ => ?_))
  · have hs' : s < 8192 := Finset.mem_range.mp hs
    have hcs : ((8191 - s : ℕ) : ℝ) = 8191 - s := by rw [Nat.cast_sub (by omega)]; norm_num
    by_cases hle : s ≤ 8191 - t.val
    · rw [if_pos hle, if_pos (by omega), hcs, show (8191 : ℝ) - t.val - s = 8191 - s - t.val by ring]
    · rw [if_neg hle, if_neg (by omega)]
  · rw [show (8191 : ℝ) - t.val + 1 = 8192 - t.val by ring]

theorem res_y (H : Holds x0 x1 x2 x3 x4 x5 S) :
    val_main_v95 (F := Ideal) x0 x1 x2 x3 x4 x5 = fun i : S8192x1024.Idx => ((S.YA (i 0).val (i 1).val + S.YB (i 0).val (i 1).val : ℝ) : EReal) := by
  funext i
  obtain ⟨r, c, rfl⟩ : ∃ (r : Fin 8192) (c : Fin 1024), i = ix2 r c := ⟨i 0, i 1, ValueIdx.eq_ix2 i⟩
  obtain ⟨n, j, hn, rfl⟩ : ∃ (n : ℕ) (j : Fin 128) (hn : 128 * n + j.val < 8192), r = ⟨128 * n + j.val, hn⟩ :=
    ⟨r.val / 128, ⟨r.val % 128, by omega⟩, by dsimp only; omega, Fin.ext (by dsimp only; omega)⟩
  obtain ⟨h, e, rfl⟩ : ∃ (h : Fin 8) (e : Fin 128), c = ⟨128 * h.val + e.val, by omega⟩ :=
    ⟨⟨c.val / 128, by omega⟩, ⟨c.val % 128, by omega⟩, Fin.ext (by dsimp only; omega)⟩
  show _ = ((S.YA (128 * n + j.val) (128 * h.val + e.val) + S.YB (128 * n + j.val) (128 * h.val + e.val) : ℝ) : EReal)
  rw [S.YA_at, S.YB_at, Src.ya, Src.yb]
  refine Eq.trans ?_ (congrArg _ (row_eq (S.g 0 h) (S.g 1 h) (fun d => S.q (128 * n + j.val) (128 * h.val + d.val))
    (fun s d => S.k s (128 * h.val + d.val)) (fun s => S.v s (128 * h.val + e.val)) (fun d => S.sf h d e) (fun d => S.sb h d e) n j.val
    (by omega) j.isLt).symm)
  have hf := front H ⟨128 * n + j.val, hn⟩ h e
  have hb := back H ⟨128 * n + j.val, hn⟩ h e
  rw [EReal.coe_add]
  refine Eq.trans ?_ (congrArg₂ (· + ·) hf hb)
  unfold val_main_v95 val_main_v94
  pointwise

theorem res_sf (H : Holds x0 x1 x2 x3 x4 x5 S) :
    val_main_v28 (F := Ideal) x1 x2 x3 x4 = fun i : S8x128x128.Idx => ((S.fw (i 0) (i 1) (i 2) 64 : ℝ) : EReal) := by
  funext i
  obtain ⟨h, d, e, rfl⟩ : ∃ (h : Fin 8) (d e : Fin 128), i = ix3 h d e := ⟨i 0, i 1, i 2, ValueIdx.eq_ix3 i⟩
  refine (last (k := fun r h d => S.k r (128 * h.val + d.val)) (v := fun r h d => S.v r (128 * h.val + d.val))
    (g := S.g 0) (s0 := S.sf) (head H.k) (head H.v) (cum_fwd H.lr) H.sf h d e).trans (congrArg _ ?_)
  show _ = S.fw h d e 64
  rw [Src.fw, fwd_eq]
  norm_num

theorem res_sb (H : Holds x0 x1 x2 x3 x4 x5 S) :
    val_main_v70 (F := Ideal) x1 x2 x3 x5 = fun i : S8x128x128.Idx => ((S.bw (i 0) (i 1) (i 2) 64 : ℝ) : EReal) := by
  funext i
  obtain ⟨h, d, e, rfl⟩ : ∃ (h : Fin 8) (d e : Fin 128), i = ix3 h d e := ⟨i 0, i 1, i 2, ValueIdx.eq_ix3 i⟩
  rw [v70_eq]
  refine (last (k := fun r h d => S.k (8191 - r) (128 * h.val + d.val)) (v := fun r h d => S.v (8191 - r) (128 * h.val + d.val))
    (g := S.g 1) (s0 := S.sb) (head_turned H.k) (head_turned H.v) (cum_fwd (lr := fun a => S.lr a.rev) (swap_at H.lr)) H.sb h d e).trans
    (congrArg _ ?_)
  show _ = S.bw h d e 64
  rw [Src.bw, bwd_eq _ _ _ _ _ (le_refl 64)]
  have e1 : ((128 * 64 : ℕ) : ℝ) = 8192 := by norm_num
  rw [e1, show 128 * 64 = 8192 from rfl, sum_turned fun x => Real.exp (S.g 1 h * x)
    * (S.k (128 * (64 - 64) + x) (128 * h.val + d.val) * S.v (128 * (64 - 64) + x) (128 * h.val + e.val))]
  refine congrArg₂ (· + ·) rfl (Finset.sum_congr rfl fun s hs => ?_)
  have hs' : s < 8192 := Finset.mem_range.mp hs
  have hcs : ((8191 - s : ℕ) : ℝ) = 8191 - s := by rw [Nat.cast_sub (by omega)]; norm_num
  rw [hcs, show 128 * (64 - 64) + (8191 - s) = 8191 - s by omega]

end Cert.ReferenceIdeal.Whole

end
-- ==== Proof.Finite.lean ====
/-
  The precondition: finite arguments hold real numbers.
-/
module

public import proofs.«01_k».proof.Pre_finite
public import proofs.«01_k».proof.Proof.Payloads
public import Idealize.ShloMosaic.Lib.Pipeline.ValueKit
public import Idealize.ShloMosaic.Lib.ReduceAll

@[expose] public section

set_option maxRecDepth 16384

noncomputable section

namespace Cert.Pre_finite

open Idealize.ShloMosaic Idealize.ShloMosaic.TcCoe Idealize.ShloMosaic.Tactic
open Cert.KernelIdeal.Scan (Src)

theorem facts : Facts where
  bitsLt_bf16_f32 := by decide
  bcast_S_S8192x1024 := by decide
  reducesTo_S8192x1024_S_d0_1 := by decide
  h_S_ := by decide
  bcast_S_S2x8 := by decide
  reducesTo_S2x8_S_d0_1 := by decide
  bcast_S_S8x128x128 := by decide
  reducesTo_S8x128x128_S_d0_1_2 := by decide

/-- An array whose entries are all below infinity in magnitude holds real numbers. -/
theorem real_of_below {s : Shape} {axes : List (Fin s.rank)} (x : FVec Ideal s .f32) (hb : S_.BroadcastsInDim s (![] : Fin 0 → Fin s.rank))
    (hr : s.ReducesTo axes S_) (hu : 0 < S_.numel)
    (e : Host.reduce IntOp.andi (cmpf .olt (Host.absf x) (broadcastInDim s ![] hb (constant (F := Ideal) S_ .f32 0x7F800000#32)))
      (constantI S_ 1 1#1) hr hu ix0 = 1#1) (i : s.Idx) : x i = (((x i : EReal).toReal : ℝ) : EReal) := by
  have h := Host.reduce_andi_all _ _ hr hu ix0 e i
  have h2 : BitVec.ofBool (decide (max (x i : EReal) (-(x i : EReal)) < Ideal.ofBits .f32 0x7F800000#32)) = 1#1 := h
  have ht : Ideal.ofBits .f32 0x7F800000#32 = (⊤ : EReal) := by simp [Ideal.ofBits, Ideal.ieee]
  rw [ht] at h2
  have h3 : max (x i : EReal) (-(x i : EReal)) < ⊤ := by
    by_contra hc
    rw [decide_eq_false hc] at h2
    exact absurd h2 (by decide)
  refine (EReal.coe_toReal (fun hx => ?_) (fun hx => ?_)).symm
  · rw [hx] at h3; exact absurd h3 (by simp)
  · rw [hx] at h3; exact absurd h3 (by simp)

attribute [local instance] facts

/-- The reals of an array of the sequence, zero outside it. -/
def ext (x : FVec Ideal S8192x1024 .bf16) (r c : ℕ) : ℝ :=
  if h : r < 8192 ∧ c < 1024 then (x (ix2 ⟨r, h.1⟩ ⟨c, h.2⟩) : EReal).toReal else 0

theorem within (x : FVec Ideal S8192x1024 .bf16) (r : Fin 8192) (c : Fin 1024) : ext x r.val c.val = (x (ix2 r c) : EReal).toReal :=
  dif_pos ⟨r.isLt, c.isLt⟩

/-- The reals six finite arguments hold. -/
def src (x0 x1 x2 : FVec Ideal S8192x1024 .bf16) (x3 : FVec Ideal S2x8 .f32) (x4 x5 : FVec Ideal S8x128x128 .f32) : Src where
  q := ext x0
  k := ext x1
  v := ext x2
  lr a h := (x3 (ix2 a h) : EReal).toReal
  sf h d e := (x4 (ix3 h d e) : EReal).toReal
  sb h d e := (x5 (ix3 h d e) : EReal).toReal

/-- The six parts of the precondition. -/
theorem reals {x0 x1 x2 : FVec Ideal S8192x1024 .bf16} {x3 : FVec Ideal S2x8 .f32} {x4 x5 : FVec Ideal S8x128x128 .f32}
    (h : fn (F := Ideal) x0 x1 x2 x3 x4 x5 = fun _ => 1#1) :
    (∀ i, x0 i = (((x0 i : EReal).toReal : ℝ) : EReal)) ∧ (∀ i, x1 i = (((x1 i : EReal).toReal : ℝ) : EReal))
      ∧ (∀ i, x2 i = (((x2 i : EReal).toReal : ℝ) : EReal)) ∧ (∀ i, x3 i = (((x3 i : EReal).toReal : ℝ) : EReal))
      ∧ (∀ i, x4 i = (((x4 i : EReal).toReal : ℝ) : EReal)) ∧ (∀ i, x5 i = (((x5 i : EReal).toReal : ℝ) : EReal)) := by
  have h0 := congrFun h ix0
  unfold fn fn_part1 at h0
  obtain ⟨h1, e5⟩ := IntOp.andi_eq_one.1 h0
  obtain ⟨h2, e4⟩ := IntOp.andi_eq_one.1 h1
  obtain ⟨h3, e3⟩ := IntOp.andi_eq_one.1 h2
  obtain ⟨h4, e2⟩ := IntOp.andi_eq_one.1 h3
  obtain ⟨e0, e1⟩ := IntOp.andi_eq_one.1 h4
  exact ⟨real_of_below (extf .f32 x0 _) _ _ _ e0, real_of_below (extf .f32 x1 _) _ _ _ e1, real_of_below (extf .f32 x2 _) _ _ _ e2,
    real_of_below x3 _ _ _ e3, real_of_below x4 _ _ _ e4, real_of_below x5 _ _ _ e5⟩

end Cert.Pre_finite

end
-- ==== Proof.lean ====
/-
  The certificate: the frames are the generated ones; the retention call's three results, as real-valued functions of its arguments
  (Proof/Arrays), are the reference's (Proof/Turned); the modulation (Proof/Modulated), the projections (Proof/ProjIn, Proof/ProjKv,
  Proof/ProjOut), the short convolution of the long-convolution mixer (Proof/ShortConv), the pooling mixer (Proof/Pooled), the norms
  and gates of the two scans (Proof/Merged), the rotary embedding (Proof/Rotary) and the weights' casts (Proof/Casts) store the blocks of their references' results.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.InProj
public import proofs.«01_k».proof.Proof.Gen.InProj.Frame
public import proofs.«01_k».proof.Proof.Gen.InProjIdeal
public import proofs.«01_k».proof.Proof.Gen.InProjIdeal.Frame
public import proofs.«01_k».proof.Proof.Gen.InProjIdeal.Value
public import proofs.«01_k».proof.Proof.Gen.InProjRefIdeal
public import proofs.«01_k».proof.Proof.Gen.InProjRefIdeal.Run
public import proofs.«01_k».proof.Proof.Gen.InProjRefIdeal.Read
public import proofs.«01_k».proof.Proof.Gen.OutProj
public import proofs.«01_k».proof.Proof.Gen.OutProj.Frame
public import proofs.«01_k».proof.Proof.Gen.OutProjIdeal
public import proofs.«01_k».proof.Proof.Gen.OutProjIdeal.Frame
public import proofs.«01_k».proof.Proof.Gen.OutProjIdeal.Value
public import proofs.«01_k».proof.Proof.Gen.OutProjRefIdeal
public import proofs.«01_k».proof.Proof.Gen.OutProjRefIdeal.Run
public import proofs.«01_k».proof.Proof.Gen.OutProjRefIdeal.Read
public import proofs.«01_k».proof.Proof.Gen.InProjKv
public import proofs.«01_k».proof.Proof.Gen.InProjKv.Frame
public import proofs.«01_k».proof.Proof.Gen.InProjKvIdeal
public import proofs.«01_k».proof.Proof.Gen.InProjKvIdeal.Frame
public import proofs.«01_k».proof.Proof.Gen.InProjKvIdeal.Value
public import proofs.«01_k».proof.Proof.Gen.InProjKvRefIdeal
public import proofs.«01_k».proof.Proof.Gen.InProjKvRefIdeal.Run
public import proofs.«01_k».proof.Proof.Gen.InProjKvRefIdeal.Read
public import proofs.«01_k».proof.Proof.Gen.Modulate
public import proofs.«01_k».proof.Proof.Gen.Modulate.Frame
public import proofs.«01_k».proof.Proof.Gen.ModulateIdeal
public import proofs.«01_k».proof.Proof.Gen.ModulateIdeal.Frame
public import proofs.«01_k».proof.Proof.Gen.ModulateIdeal.Value
public import proofs.«01_k».proof.Proof.Gen.ModulateRefIdeal
public import proofs.«01_k».proof.Proof.Gen.ModulateRefIdeal.Run
public import proofs.«01_k».proof.Proof.Gen.ModulateRefIdeal.Read
public import proofs.«01_k».proof.Proof.Gen.PrepHy
public import proofs.«01_k».proof.Proof.Gen.PrepHy.Frame
public import proofs.«01_k».proof.Proof.Gen.PrepHyIdeal
public import proofs.«01_k».proof.Proof.Gen.PrepHyIdeal.Frame
public import proofs.«01_k».proof.Proof.Gen.PrepHyIdeal.Value
public import proofs.«01_k».proof.Proof.Gen.PrepHyRefIdeal
public import proofs.«01_k».proof.Proof.Gen.PrepHyRefIdeal.Run
public import proofs.«01_k».proof.Proof.Gen.PrepHyRefIdeal.Read
public import proofs.«01_k».proof.Proof.Gen.Pool
public import proofs.«01_k».proof.Proof.Gen.Pool.Frame
public import proofs.«01_k».proof.Proof.Gen.PoolIdeal
public import proofs.«01_k».proof.Proof.Gen.PoolIdeal.Frame
public import proofs.«01_k».proof.Proof.Gen.PoolIdeal.Value
public import proofs.«01_k».proof.Proof.Gen.PoolRefIdeal
public import proofs.«01_k».proof.Proof.Gen.PoolRefIdeal.Run
public import proofs.«01_k».proof.Proof.Gen.PoolRefIdeal.Read
public import proofs.«01_k».proof.Proof.Gen.Merge
public import proofs.«01_k».proof.Proof.Gen.Merge.Frame
public import proofs.«01_k».proof.Proof.Gen.MergeIdeal
public import proofs.«01_k».proof.Proof.Gen.MergeIdeal.Frame
public import proofs.«01_k».proof.Proof.Gen.MergeIdeal.Value
public import proofs.«01_k».proof.Proof.Gen.MergeRefIdeal
public import proofs.«01_k».proof.Proof.Gen.MergeRefIdeal.Run
public import proofs.«01_k».proof.Proof.Gen.MergeRefIdeal.Read
public import proofs.«01_k».proof.Proof.Gen.PrepRet
public import proofs.«01_k».proof.Proof.Gen.PrepRet.Frame
public import proofs.«01_k».proof.Proof.Gen.PrepRetIdeal
public import proofs.«01_k».proof.Proof.Gen.PrepRetIdeal.Frame
public import proofs.«01_k».proof.Proof.Gen.PrepRetIdeal.Value
public import proofs.«01_k».proof.Proof.Gen.PrepRetRefIdeal
public import proofs.«01_k».proof.Proof.Gen.PrepRetRefIdeal.Run
public import proofs.«01_k».proof.Proof.Gen.PrepRetRefIdeal.Read
public import proofs.«01_k».proof.Proof.Gen.CastKv
public import proofs.«01_k».proof.Proof.Gen.CastKv.Frame
public import proofs.«01_k».proof.Proof.Gen.CastKvIdeal
public import proofs.«01_k».proof.Proof.Gen.CastKvIdeal.Frame
public import proofs.«01_k».proof.Proof.Gen.CastKvIdeal.Value
public import proofs.«01_k».proof.Proof.Gen.CastKvRefIdeal
public import proofs.«01_k».proof.Proof.Gen.CastKvRefIdeal.Run
public import proofs.«01_k».proof.Proof.Gen.CastKvRefIdeal.Read
public import proofs.«01_k».proof.Proof.Gen.CastOut
public import proofs.«01_k».proof.Proof.Gen.CastOut.Frame
public import proofs.«01_k».proof.Proof.Gen.CastOutIdeal
public import proofs.«01_k».proof.Proof.Gen.CastOutIdeal.Frame
public import proofs.«01_k».proof.Proof.Gen.CastOutIdeal.Value
public import proofs.«01_k».proof.Proof.Gen.CastOutRefIdeal
public import proofs.«01_k».proof.Proof.Gen.CastOutRefIdeal.Run
public import proofs.«01_k».proof.Proof.Gen.CastOutRefIdeal.Read
public import proofs.«01_k».proof.Proof.ProjIn
public import proofs.«01_k».proof.Proof.ProjOut
public import proofs.«01_k».proof.Proof.ProjKv
public import proofs.«01_k».proof.Proof.Modulated
public import proofs.«01_k».proof.Proof.ShortConv
public import proofs.«01_k».proof.Proof.Pooled
public import proofs.«01_k».proof.Proof.Merged
public import proofs.«01_k».proof.Proof.Rotary
public import proofs.«01_k».proof.Proof.Casts
public import proofs.«01_k».proof.Proof.Arrays
public import proofs.«01_k».proof.Proof.Turned
public import proofs.«01_k».proof.Proof.Finite

@[expose] public section

noncomputable section

namespace Cert.Proof

open Idealize.ShloMosaic Idealize.ShloMosaic.TcCoe Idealize.SL.Sem
open Cert.KernelIdeal.Scan (Src Args)

attribute [local instance] Cert.Kernel.Gen.facts Cert.KernelIdeal.Gen.facts Cert.ReferenceIdeal.Gen.facts Cert.Pre_finite.facts

/-- The reals a device's arguments hold. -/
def src (m : (ℓ : Loc KernelIdeal.nD KernelIdeal.τ KernelIdeal.sig) → Buf (Elt Ideal) ℓ) (c : Dev KernelIdeal.nD) : Src :=
  Pre_finite.src (m ((c.tc : Thread KernelIdeal.nD KernelIdeal.τ).loc KernelIdeal.main_arg0)) (m ((c.tc : Thread KernelIdeal.nD KernelIdeal.τ).loc KernelIdeal.main_arg1))
    (m ((c.tc : Thread KernelIdeal.nD KernelIdeal.τ).loc KernelIdeal.main_arg2)) (m ((c.tc : Thread KernelIdeal.nD KernelIdeal.τ).loc KernelIdeal.main_arg3))
    (m ((c.tc : Thread KernelIdeal.nD KernelIdeal.τ).loc KernelIdeal.main_arg4)) (m ((c.tc : Thread KernelIdeal.nD KernelIdeal.τ).loc KernelIdeal.main_arg5))

theorem args {m : (ℓ : Loc KernelIdeal.nD KernelIdeal.τ KernelIdeal.sig) → Buf (Elt Ideal) ℓ} (h : Pre_KernelIdeal_finite m) (c : Dev KernelIdeal.nD) :
    Args m c (src m c) := by
  obtain ⟨h0, h1, h2, h3, h4, h5⟩ := Pre_finite.reals (h c)
  exact ⟨fun r k => (h0 (ValueIdx.ix2 r k)).trans (congrArg Real.toEReal (Pre_finite.within _ r k).symm),
    fun r k => (h1 (ValueIdx.ix2 r k)).trans (congrArg Real.toEReal (Pre_finite.within _ r k).symm),
    fun r k => (h2 (ValueIdx.ix2 r k)).trans (congrArg Real.toEReal (Pre_finite.within _ r k).symm),
    fun a h => h3 (ValueIdx.ix2 a h), fun h d e => h4 (ValueIdx.ix3 h d e), fun h d e => h5 (ValueIdx.ix3 h d e)⟩

theorem algebraic : algebraic_KernelIdeal_ReferenceIdeal_pre_finite := by
  intro m g m' g' hpre harg
  refine ⟨_, _, _, KernelIdeal.Scan.run (src m) (args hpre) g, θ_run_mono (ReferenceIdeal.Value.run m' g') fun r hr c => ?_⟩
  obtain ⟨e0, e1, e2, e3, e4, e5⟩ := harg c
  obtain ⟨r0, r1, r2, ra⟩ := hr c
  have A := args hpre c
  have H : ReferenceIdeal.Whole.Holds _ _ _ _ _ _ (src m c) := ⟨A.q, A.k, A.v, A.lr, A.sf, A.sb⟩
  refine ⟨r0.trans ?_, r1.trans ?_, r2.trans ?_, ra⟩
  · rw [ReferenceIdeal.Read.val_main_v95_eq, e0, e1, e2, e3, e4, e5]
    exact ReferenceIdeal.Whole.res_y H
  · rw [ReferenceIdeal.Read.val_main_v28_eq, e1, e2, e3, e4]
    exact ReferenceIdeal.Whole.res_sf H
  · rw [ReferenceIdeal.Read.val_main_v70_eq, e1, e2, e3, e5]
    exact ReferenceIdeal.Whole.res_sb H

/-- The reference leaves its arguments and declares no semaphore. -/
theorem frameRef (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r => (∀ c : Dev ReferenceIdeal.nD,
      r.2.mem ((c.tc : Thread ReferenceIdeal.nD ReferenceIdeal.τ).loc ReferenceIdeal.main_arg0) = m ((c.tc : Thread ReferenceIdeal.nD ReferenceIdeal.τ).loc ReferenceIdeal.main_arg0)
      ∧ r.2.mem ((c.tc : Thread ReferenceIdeal.nD ReferenceIdeal.τ).loc ReferenceIdeal.main_arg1) = m ((c.tc : Thread ReferenceIdeal.nD ReferenceIdeal.τ).loc ReferenceIdeal.main_arg1)
      ∧ r.2.mem ((c.tc : Thread ReferenceIdeal.nD ReferenceIdeal.τ).loc ReferenceIdeal.main_arg2) = m ((c.tc : Thread ReferenceIdeal.nD ReferenceIdeal.τ).loc ReferenceIdeal.main_arg2)
      ∧ r.2.mem ((c.tc : Thread ReferenceIdeal.nD ReferenceIdeal.τ).loc ReferenceIdeal.main_arg3) = m ((c.tc : Thread ReferenceIdeal.nD ReferenceIdeal.τ).loc ReferenceIdeal.main_arg3)
      ∧ r.2.mem ((c.tc : Thread ReferenceIdeal.nD ReferenceIdeal.τ).loc ReferenceIdeal.main_arg4) = m ((c.tc : Thread ReferenceIdeal.nD ReferenceIdeal.τ).loc ReferenceIdeal.main_arg4)
      ∧ r.2.mem ((c.tc : Thread ReferenceIdeal.nD ReferenceIdeal.τ).loc ReferenceIdeal.main_arg5) = m ((c.tc : Thread ReferenceIdeal.nD ReferenceIdeal.τ).loc ReferenceIdeal.main_arg5))
      ∧ r.2.sem = fun _ => 0) :=
  θ_run_mono (ReferenceIdeal.Value.run m g) fun r h => And.intro (fun c => (h c).2.2.2) (sem_eq_zero_of_no_sems (by decide) r.2)

theorem claim : Cert.Claim :=
  ⟨Cert.Kernel.Gen.facts, Cert.KernelIdeal.Gen.facts, Cert.ReferenceIdeal.Gen.facts,
    Cert.InProj.Gen.facts, Cert.InProjIdeal.Gen.facts, Cert.InProjRefIdeal.Gen.facts, Cert.OutProj.Gen.facts, Cert.OutProjIdeal.Gen.facts,
    Cert.OutProjRefIdeal.Gen.facts, Cert.InProjKv.Gen.facts, Cert.InProjKvIdeal.Gen.facts, Cert.InProjKvRefIdeal.Gen.facts,
    Cert.Modulate.Gen.facts, Cert.ModulateIdeal.Gen.facts, Cert.ModulateRefIdeal.Gen.facts,
    Cert.PrepHy.Gen.facts, Cert.PrepHyIdeal.Gen.facts, Cert.PrepHyRefIdeal.Gen.facts,
    Cert.Pool.Gen.facts, Cert.PoolIdeal.Gen.facts, Cert.PoolRefIdeal.Gen.facts,
    Cert.Merge.Gen.facts, Cert.MergeIdeal.Gen.facts, Cert.MergeRefIdeal.Gen.facts,
    Cert.PrepRet.Gen.facts, Cert.PrepRetIdeal.Gen.facts, Cert.PrepRetRefIdeal.Gen.facts,
    Cert.CastKv.Gen.facts, Cert.CastKvIdeal.Gen.facts, Cert.CastKvRefIdeal.Gen.facts,
    Cert.CastOut.Gen.facts, Cert.CastOutIdeal.Gen.facts, Cert.CastOutRefIdeal.Gen.facts,
    Cert.Pre_finite.facts,
    fun m g _ => Cert.Kernel.Gen.frame m g, fun m g _ => Cert.KernelIdeal.Gen.frame m g, fun m g _ => Cert.KernelIdeal.Gen.frame m g,
    fun m g _ => frameRef m g, fun m g _ => frameRef m g,
    fun m g _ => Cert.InProj.Gen.frame m g, fun m g _ => Cert.InProjIdeal.Gen.frame m g, fun m g _ => Cert.InProjIdeal.Columns.frameRef m g,
    fun m g _ => Cert.OutProj.Gen.frame m g, fun m g _ => Cert.OutProjIdeal.Gen.frame m g, fun m g _ => Cert.OutProjIdeal.Layer.frameRef m g,
    fun m g _ => Cert.InProjKv.Gen.frame m g, fun m g _ => Cert.InProjKvIdeal.Gen.frame m g, fun m g _ => Cert.InProjKvIdeal.Columns.frameRef m g,
    fun m g _ => Cert.Modulate.Gen.frame m g, fun m g _ => Cert.ModulateIdeal.Gen.frame m g, fun m g _ => Cert.ModulateIdeal.Layer.frameRef m g,
    fun m g _ => Cert.PrepHy.Gen.frame m g, fun m g _ => Cert.PrepHyIdeal.Gen.frame m g, fun m g _ => Cert.PrepHyIdeal.Conv.frameRef m g,
    fun m g _ => Cert.Pool.Gen.frame m g, fun m g _ => Cert.PoolIdeal.Gen.frame m g, fun m g _ => Cert.PoolIdeal.Windows.frameRef m g,
    fun m g _ => Cert.Merge.Gen.frame m g, fun m g _ => Cert.MergeIdeal.Gen.frame m g, fun m g _ => Cert.MergeIdeal.Heads.frameRef m g,
    fun m g _ => Cert.PrepRet.Gen.frame m g, fun m g _ => Cert.PrepRetIdeal.Gen.frame m g, fun m g _ => Cert.PrepRetIdeal.Rotary.frameRef m g,
    fun m g _ => Cert.CastKv.Gen.frame m g, fun m g _ => Cert.CastKvIdeal.Gen.frame m g, fun m g _ => Cert.CastKvIdeal.Weights.frameRef m g,
    fun m g _ => Cert.CastOut.Gen.frame m g, fun m g _ => Cert.CastOutIdeal.Gen.frame m g, fun m g _ => Cert.CastOutIdeal.Weights.frameRef m g,
    trivial, algebraic,
    trivial, Cert.InProjIdeal.Columns.algebraic, trivial, Cert.OutProjIdeal.Layer.algebraic, trivial, Cert.InProjKvIdeal.Columns.algebraic,
    trivial, Cert.ModulateIdeal.Layer.algebraic, trivial, Cert.PrepHyIdeal.Conv.algebraic,
    trivial, Cert.PoolIdeal.Windows.algebraic, trivial, Cert.MergeIdeal.Heads.algebraic,
    trivial, Cert.PrepRetIdeal.Rotary.algebraic, trivial, Cert.CastKvIdeal.Weights.algebraic,
    trivial, Cert.CastOutIdeal.Weights.algebraic⟩

end Cert.Proof

end
